-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6)
      ∧ r.2.mem ((c.tc : Thread Cert.Kernel14.nD Cert.Kernel14.τ).loc Cert.Kernel14.main_arg7) = m ((c.tc : Thread Cert.Kernel14.nD Cert.Kernel14.τ).loc Cert.Kernel14.main_arg7)
      ∧ r.2.mem ((c.tc : Thread Cert.Kernel14.nD Cert.Kernel14.τ).loc Cert.Kernel14.main_arg8) = m ((c.tc : Thread Cert.Kernel14.nD Cert.Kernel14.τ).loc Cert.Kernel14.main_arg8)
      ∧ r.2.mem ((c.tc : Thread Cert.Kernel14.nD Cert.Kernel14.τ).loc Cert.Kernel14.main_arg9) = m ((c.tc : Thread Cert.Kernel14.nD Cert.Kernel14.τ).loc Cert.Kernel14.main_arg9)
      ∧ r.2.mem ((c.tc : Thread Cert.Kernel14.nD Cert.Kernel14.τ).loc Cert.Kernel14.main_arg10) = m ((c.tc : Thread Cert.Kernel14.nD Cert.Kernel14.τ).loc Cert.Kernel14.main_arg10)
      ∧ r.2.mem ((c.tc : Thread Cert.Kernel14.nD Cert.Kernel14.τ).loc Cert.Kernel14.main_arg11) = m ((c.tc : Thread Cert.Kernel14.nD Cert.Kernel14.τ).loc Cert.Kernel14.main_arg11)
      ∧ r.2.mem ((c.tc : Thread Cert.Kernel14.nD Cert.Kernel14.τ).loc Cert.Kernel14.main_arg12) = m ((c.tc : Thread Cert.Kernel14.nD Cert.Kernel14.τ).loc Cert.Kernel14.main_arg12)
      ∧ r.2.mem ((c.tc : Thread Cert.Kernel14.nD Cert.Kernel14.τ).loc Cert.Kernel14.main_arg13) = m ((c.tc : Thread Cert.Kernel14.nD Cert.Kernel14.τ).loc Cert.Kernel14.main_arg13))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
      ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
      ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8)
      ∧ r.2.mem ((c.tc : Thread Cert.Kernel14Ideal.nD Cert.Kernel14Ideal.τ).loc Cert.Kernel14Ideal.main_arg9) = m ((c.tc : Thread Cert.Kernel14Ideal.nD Cert.Kernel14Ideal.τ).loc Cert.Kernel14Ideal.main_arg9)
      ∧ r.2.mem ((c.tc : Thread Cert.Kernel14Ideal.nD Cert.Kernel14Ideal.τ).loc Cert.Kernel14Ideal.main_arg10) = m ((c.tc : Thread Cert.Kernel14Ideal.nD Cert.Kernel14Ideal.τ).loc Cert.Kernel14Ideal.main_arg10)
      ∧ r.2.mem ((c.tc : Thread Cert.Kernel14Ideal.nD Cert.Kernel14Ideal.τ).loc Cert.Kernel14Ideal.main_arg11) = m ((c.tc : Thread Cert.Kernel14Ideal.nD Cert.Kernel14Ideal.τ).loc Cert.Kernel14Ideal.main_arg11)
      ∧ r.2.mem ((c.tc : Thread Cert.Kernel14Ideal.nD Cert.Kernel14Ideal.τ).loc Cert.Kernel14Ideal.main_arg12) = m ((c.tc : Thread Cert.Kernel14Ideal.nD Cert.Kernel14Ideal.τ).loc Cert.Kernel14Ideal.main_arg12)
      ∧ r.2.mem ((c.tc : Thread Cert.Kernel14Ideal.nD Cert.Kernel14Ideal.τ).loc Cert.Kernel14Ideal.main_arg13) = m ((c.tc : Thread Cert.Kernel14Ideal.nD Cert.Kernel14Ideal.τ).loc Cert.Kernel14Ideal.main_arg13))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6)
      ∧ r.2.mem ((c.tc : Thread Cert.Reference14Ideal.nD Cert.Reference14Ideal.τ).loc Cert.Reference14Ideal.main_arg7) = m ((c.tc : Thread Cert.Reference14Ideal.nD Cert.Reference14Ideal.τ).loc Cert.Reference14Ideal.main_arg7)
      ∧ r.2.mem ((c.tc : Thread Cert.Reference14Ideal.nD Cert.Reference14Ideal.τ).loc Cert.Reference14Ideal.main_arg8) = m ((c.tc : Thread Cert.Reference14Ideal.nD Cert.Reference14Ideal.τ).loc Cert.Reference14Ideal.main_arg8)
      ∧ r.2.mem ((c.tc : Thread Cert.Reference14Ideal.nD Cert.Reference14Ideal.τ).loc Cert.Reference14Ideal.main_arg9) = m ((c.tc : Thread Cert.Reference14Ideal.nD Cert.Reference14Ideal.τ).loc Cert.Reference14Ideal.main_arg9)
      ∧ r.2.mem ((c.tc : Thread Cert.Reference14Ideal.nD Cert.Reference14Ideal.τ).loc Cert.Reference14Ideal.main_arg10) = m ((c.tc : Thread Cert.Reference14Ideal.nD Cert.Reference14Ideal.τ).loc Cert.Reference14Ideal.main_arg10)
      ∧ r.2.mem ((c.tc : Thread Cert.Reference14Ideal.nD Cert.Reference14Ideal.τ).loc Cert.Reference14Ideal.main_arg11) = m ((c.tc : Thread Cert.Reference14Ideal.nD Cert.Reference14Ideal.τ).loc Cert.Reference14Ideal.main_arg11)
      ∧ r.2.mem ((c.tc : Thread Cert.Reference14Ideal.nD Cert.Reference14Ideal.τ).loc Cert.Reference14Ideal.main_arg12) = m ((c.tc : Thread Cert.Reference14Ideal.nD Cert.Reference14Ideal.τ).loc Cert.Reference14Ideal.main_arg12)
      ∧ r.2.mem ((c.tc : Thread Cert.Reference14Ideal.nD Cert.Reference14Ideal.τ).loc Cert.Reference14Ideal.main_arg13) = m ((c.tc : Thread Cert.Reference14Ideal.nD Cert.Reference14Ideal.τ).loc Cert.Reference14Ideal.main_arg13))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_v12) = v1 c
          ∧ r.2.mem ((c.tc : Thread Cert.Reference2Ideal.nD Cert.Reference2Ideal.τ).loc Cert.Reference2Ideal.main_v18) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_v16) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_v5) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v43_0)) (v1 : (c : Dev Cert.Kernel5Ideal.nD) → Buf (Elt Ideal) ((c.tc : Thread Cert.Kernel5Ideal.nD Cert.Kernel5Ideal.τ).loc Cert.Kernel5Ideal.main_v43_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v43_0) = v0 c
          ∧ r.2.mem ((c.tc : Thread Cert.Kernel5Ideal.nD Cert.Kernel5Ideal.τ).loc Cert.Kernel5Ideal.main_v43_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v69) = v0 c
          ∧ r.2.mem ((c.tc : Thread Cert.Reference5Ideal.nD Cert.Reference5Ideal.τ).loc Cert.Reference5Ideal.main_v70) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v9) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v1_0)) (v1 : (c : Dev Cert.Kernel7Ideal.nD) → Buf (Elt Ideal) ((c.tc : Thread Cert.Kernel7Ideal.nD Cert.Kernel7Ideal.τ).loc Cert.Kernel7Ideal.main_v1_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1_0) = v0 c
          ∧ r.2.mem ((c.tc : Thread Cert.Kernel7Ideal.nD Cert.Kernel7Ideal.τ).loc Cert.Kernel7Ideal.main_v1_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v21) = v0 c
          ∧ r.2.mem ((c.tc : Thread Cert.Reference7Ideal.nD Cert.Reference7Ideal.τ).loc Cert.Reference7Ideal.main_v20) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v1_0)) (v1 : (c : Dev Cert.Kernel8Ideal.nD) → Buf (Elt Ideal) ((c.tc : Thread Cert.Kernel8Ideal.nD Cert.Kernel8Ideal.τ).loc Cert.Kernel8Ideal.main_v1_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1_0) = v0 c
          ∧ r.2.mem ((c.tc : Thread Cert.Kernel8Ideal.nD Cert.Kernel8Ideal.τ).loc Cert.Kernel8Ideal.main_v1_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v19) = v0 c
          ∧ r.2.mem ((c.tc : Thread Cert.Reference8Ideal.nD Cert.Reference8Ideal.τ).loc Cert.Reference8Ideal.main_v18) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v12) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v12) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_v5) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)) →
    ∃ (v0 : (c : Dev Cert.Kernel12Ideal.nD) → Buf (Elt Ideal) ((c.tc : Thread Cert.Kernel12Ideal.nD Cert.Kernel12Ideal.τ).loc Cert.Kernel12Ideal.main_v10_0)) (v1 : (c : Dev Cert.Kernel12Ideal.nD) → Buf (Elt Ideal) ((c.tc : Thread Cert.Kernel12Ideal.nD Cert.Kernel12Ideal.τ).loc Cert.Kernel12Ideal.main_v10_1)) (v2 : (c : Dev Cert.Kernel12Ideal.nD) → Buf (Elt Ideal) ((c.tc : Thread Cert.Kernel12Ideal.nD Cert.Kernel12Ideal.τ).loc Cert.Kernel12Ideal.main_v10_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v10_0) = v0 c
          ∧ r.2.mem ((c.tc : Thread Cert.Kernel12Ideal.nD Cert.Kernel12Ideal.τ).loc Cert.Kernel12Ideal.main_v10_1) = v1 c
          ∧ r.2.mem ((c.tc : Thread Cert.Kernel12Ideal.nD Cert.Kernel12Ideal.τ).loc Cert.Kernel12Ideal.main_v10_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v40) = v0 c
          ∧ r.2.mem ((c.tc : Thread Cert.Reference12Ideal.nD Cert.Reference12Ideal.τ).loc Cert.Reference12Ideal.main_v41) = v1 c
          ∧ r.2.mem ((c.tc : Thread Cert.Reference12Ideal.nD Cert.Reference12Ideal.τ).loc Cert.Reference12Ideal.main_v42) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v5)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v5) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v8) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)
      ∧ m' ((c.tc : Thread Cert.Reference14Ideal.nD Cert.Reference14Ideal.τ).loc Cert.Reference14Ideal.main_arg7) = m ((c.tc : Thread Cert.Kernel14Ideal.nD Cert.Kernel14Ideal.τ).loc Cert.Kernel14Ideal.main_arg7)
      ∧ m' ((c.tc : Thread Cert.Reference14Ideal.nD Cert.Reference14Ideal.τ).loc Cert.Reference14Ideal.main_arg8) = m ((c.tc : Thread Cert.Kernel14Ideal.nD Cert.Kernel14Ideal.τ).loc Cert.Kernel14Ideal.main_arg8)
      ∧ m' ((c.tc : Thread Cert.Reference14Ideal.nD Cert.Reference14Ideal.τ).loc Cert.Reference14Ideal.main_arg9) = m ((c.tc : Thread Cert.Kernel14Ideal.nD Cert.Kernel14Ideal.τ).loc Cert.Kernel14Ideal.main_arg9)
      ∧ m' ((c.tc : Thread Cert.Reference14Ideal.nD Cert.Reference14Ideal.τ).loc Cert.Reference14Ideal.main_arg10) = m ((c.tc : Thread Cert.Kernel14Ideal.nD Cert.Kernel14Ideal.τ).loc Cert.Kernel14Ideal.main_arg10)
      ∧ m' ((c.tc : Thread Cert.Reference14Ideal.nD Cert.Reference14Ideal.τ).loc Cert.Reference14Ideal.main_arg11) = m ((c.tc : Thread Cert.Kernel14Ideal.nD Cert.Kernel14Ideal.τ).loc Cert.Kernel14Ideal.main_arg11)
      ∧ m' ((c.tc : Thread Cert.Reference14Ideal.nD Cert.Reference14Ideal.τ).loc Cert.Reference14Ideal.main_arg12) = m ((c.tc : Thread Cert.Kernel14Ideal.nD Cert.Kernel14Ideal.τ).loc Cert.Kernel14Ideal.main_arg12)
      ∧ m' ((c.tc : Thread Cert.Reference14Ideal.nD Cert.Reference14Ideal.τ).loc Cert.Reference14Ideal.main_arg13) = m ((c.tc : Thread Cert.Kernel14Ideal.nD Cert.Kernel14Ideal.τ).loc Cert.Kernel14Ideal.main_arg13)) →
    ∃ (v0 : (c : Dev Cert.Kernel14Ideal.nD) → Buf (Elt Ideal) ((c.tc : Thread Cert.Kernel14Ideal.nD Cert.Kernel14Ideal.τ).loc Cert.Kernel14Ideal.main_v23_0)) (v1 : (c : Dev Cert.Kernel14Ideal.nD) → Buf (Elt Ideal) ((c.tc : Thread Cert.Kernel14Ideal.nD Cert.Kernel14Ideal.τ).loc Cert.Kernel14Ideal.main_v23_1)) (v2 : (c : Dev Cert.Kernel14Ideal.nD) → Buf (Elt Ideal) ((c.tc : Thread Cert.Kernel14Ideal.nD Cert.Kernel14Ideal.τ).loc Cert.Kernel14Ideal.main_v23_2)) (v3 : (c : Dev Cert.Kernel14Ideal.nD) → Buf (Elt Ideal) ((c.tc : Thread Cert.Kernel14Ideal.nD Cert.Kernel14Ideal.τ).loc Cert.Kernel14Ideal.main_v23_3)) (v4 : (c : Dev Cert.Kernel14Ideal.nD) → Buf (Elt Ideal) ((c.tc : Thread Cert.Kernel14Ideal.nD Cert.Kernel14Ideal.τ).loc Cert.Kernel14Ideal.main_v23_6)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v23_0) = v0 c
          ∧ r.2.mem ((c.tc : Thread Cert.Kernel14Ideal.nD Cert.Kernel14Ideal.τ).loc Cert.Kernel14Ideal.main_v23_1) = v1 c
          ∧ r.2.mem ((c.tc : Thread Cert.Kernel14Ideal.nD Cert.Kernel14Ideal.τ).loc Cert.Kernel14Ideal.main_v23_2) = v2 c
          ∧ r.2.mem ((c.tc : Thread Cert.Kernel14Ideal.nD Cert.Kernel14Ideal.τ).loc Cert.Kernel14Ideal.main_v23_3) = v3 c
          ∧ r.2.mem ((c.tc : Thread Cert.Kernel14Ideal.nD Cert.Kernel14Ideal.τ).loc Cert.Kernel14Ideal.main_v23_6) = v4 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
          ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
          ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8)
          ∧ r.2.mem ((c.tc : Thread Cert.Kernel14Ideal.nD Cert.Kernel14Ideal.τ).loc Cert.Kernel14Ideal.main_arg9) = m ((c.tc : Thread Cert.Kernel14Ideal.nD Cert.Kernel14Ideal.τ).loc Cert.Kernel14Ideal.main_arg9)
          ∧ r.2.mem ((c.tc : Thread Cert.Kernel14Ideal.nD Cert.Kernel14Ideal.τ).loc Cert.Kernel14Ideal.main_arg10) = m ((c.tc : Thread Cert.Kernel14Ideal.nD Cert.Kernel14Ideal.τ).loc Cert.Kernel14Ideal.main_arg10)
          ∧ r.2.mem ((c.tc : Thread Cert.Kernel14Ideal.nD Cert.Kernel14Ideal.τ).loc Cert.Kernel14Ideal.main_arg11) = m ((c.tc : Thread Cert.Kernel14Ideal.nD Cert.Kernel14Ideal.τ).loc Cert.Kernel14Ideal.main_arg11)
          ∧ r.2.mem ((c.tc : Thread Cert.Kernel14Ideal.nD Cert.Kernel14Ideal.τ).loc Cert.Kernel14Ideal.main_arg12) = m ((c.tc : Thread Cert.Kernel14Ideal.nD Cert.Kernel14Ideal.τ).loc Cert.Kernel14Ideal.main_arg12)
          ∧ r.2.mem ((c.tc : Thread Cert.Kernel14Ideal.nD Cert.Kernel14Ideal.τ).loc Cert.Kernel14Ideal.main_arg13) = m ((c.tc : Thread Cert.Kernel14Ideal.nD Cert.Kernel14Ideal.τ).loc Cert.Kernel14Ideal.main_arg13))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v11) = v0 c
          ∧ r.2.mem ((c.tc : Thread Cert.Reference14Ideal.nD Cert.Reference14Ideal.τ).loc Cert.Reference14Ideal.main_v45) = v1 c
          ∧ r.2.mem ((c.tc : Thread Cert.Reference14Ideal.nD Cert.Reference14Ideal.τ).loc Cert.Reference14Ideal.main_v54) = v2 c
          ∧ r.2.mem ((c.tc : Thread Cert.Reference14Ideal.nD Cert.Reference14Ideal.τ).loc Cert.Reference14Ideal.main_v13) = v3 c
          ∧ r.2.mem ((c.tc : Thread Cert.Reference14Ideal.nD Cert.Reference14Ideal.τ).loc Cert.Reference14Ideal.main_v43) = v4 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6)
          ∧ r.2.mem ((c.tc : Thread Cert.Reference14Ideal.nD Cert.Reference14Ideal.τ).loc Cert.Reference14Ideal.main_arg7) = m' ((c.tc : Thread Cert.Reference14Ideal.nD Cert.Reference14Ideal.τ).loc Cert.Reference14Ideal.main_arg7)
          ∧ r.2.mem ((c.tc : Thread Cert.Reference14Ideal.nD Cert.Reference14Ideal.τ).loc Cert.Reference14Ideal.main_arg8) = m' ((c.tc : Thread Cert.Reference14Ideal.nD Cert.Reference14Ideal.τ).loc Cert.Reference14Ideal.main_arg8)
          ∧ r.2.mem ((c.tc : Thread Cert.Reference14Ideal.nD Cert.Reference14Ideal.τ).loc Cert.Reference14Ideal.main_arg9) = m' ((c.tc : Thread Cert.Reference14Ideal.nD Cert.Reference14Ideal.τ).loc Cert.Reference14Ideal.main_arg9)
          ∧ r.2.mem ((c.tc : Thread Cert.Reference14Ideal.nD Cert.Reference14Ideal.τ).loc Cert.Reference14Ideal.main_arg10) = m' ((c.tc : Thread Cert.Reference14Ideal.nD Cert.Reference14Ideal.τ).loc Cert.Reference14Ideal.main_arg10)
          ∧ r.2.mem ((c.tc : Thread Cert.Reference14Ideal.nD Cert.Reference14Ideal.τ).loc Cert.Reference14Ideal.main_arg11) = m' ((c.tc : Thread Cert.Reference14Ideal.nD Cert.Reference14Ideal.τ).loc Cert.Reference14Ideal.main_arg11)
          ∧ r.2.mem ((c.tc : Thread Cert.Reference14Ideal.nD Cert.Reference14Ideal.τ).loc Cert.Reference14Ideal.main_arg12) = m' ((c.tc : Thread Cert.Reference14Ideal.nD Cert.Reference14Ideal.τ).loc Cert.Reference14Ideal.main_arg12)
          ∧ r.2.mem ((c.tc : Thread Cert.Reference14Ideal.nD Cert.Reference14Ideal.τ).loc Cert.Reference14Ideal.main_arg13) = m' ((c.tc : Thread Cert.Reference14Ideal.nD Cert.Reference14Ideal.τ).loc Cert.Reference14Ideal.main_arg13))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
-- ==== Kernel.lean ====
abbrev S32x2048 : Shape := ⟨2, ![32, 2048]⟩
abbrev S32x32x64x64 : Shape := ⟨4, ![32, 32, 64, 64]⟩
abbrev S32x16x2x64x64 : Shape := ⟨5, ![32, 16, 2, 64, 64]⟩
abbrev S32x16x64x2x64 : Shape := ⟨5, ![32, 16, 64, 2, 64]⟩
abbrev S32x16x64x128 : Shape := ⟨4, ![32, 16, 64, 128]⟩
abbrev S32x1x2048 : Shape := ⟨3, ![32, 1, 2048]⟩
abbrev S1x1x2048 : Shape := ⟨3, ![1, 1, 2048]⟩
abbrev S1x16x64x128 : Shape := ⟨4, ![1, 16, 64, 128]⟩
abbrev S256x256 : Shape := ⟨2, ![256, 256]⟩
abbrev S64x128 : Shape := ⟨2, ![64, 128]⟩
abbrev S1x1x64x128 : Shape := ⟨4, ![1, 1, 64, 128]⟩
abbrev S1x1x128 : Shape := ⟨3, ![1, 1, 128]⟩
abbrev S1x128 : Shape := ⟨2, ![1, 128]⟩
abbrev S64x256 : Shape := ⟨2, ![64, 256]⟩
abbrev S512x256 : Shape := ⟨2, ![512, 256]⟩
abbrev S128 : Shape := ⟨1, ![128]⟩

abbrev nBuf : Space → Nat
  | .hbm => 18
  | .vmem => 18
  | .smem => 0
  | _ => 0

abbrev bufTy : (tb : Table) → Fin (tcTables nBuf tb) → BufTy
  | .hbm, ⟨0, _⟩ => ⟨S32x2048, .f32⟩
  | .hbm, ⟨1, _⟩ => ⟨S32x2048, .f32⟩
  | .hbm, ⟨2, _⟩ => ⟨S32x2048, .f32⟩
  | .hbm, ⟨3, _⟩ => ⟨S32x2048, .f32⟩
  | .hbm, ⟨4, _⟩ => ⟨S32x2048, .f32⟩
  | .hbm, ⟨5, _⟩ => ⟨S32x2048, .f32⟩
  | .hbm, ⟨6, _⟩ => ⟨S32x32x64x64, .f32⟩
  | .hbm, ⟨7, _⟩ => ⟨S32x16x2x64x64, .f32⟩
  | .hbm, ⟨8, _⟩ => ⟨S32x16x64x2x64, .f32⟩
  | .hbm, ⟨9, _⟩ => ⟨S32x16x64x128, .f32⟩
  | .hbm, ⟨10, _⟩ => ⟨S32x1x2048, .f32⟩
  | .hbm, ⟨11, _⟩ => ⟨S32x1x2048, .f32⟩
  | .hbm, ⟨12, _⟩ => ⟨S32x1x2048, .f32⟩
  | .hbm, ⟨13, _⟩ => ⟨S32x1x2048, .f32⟩
  | .hbm, ⟨14, _⟩ => ⟨S32x1x2048, .f32⟩
  | .hbm, ⟨15, _⟩ => ⟨S32x1x2048, .f32⟩
  | .hbm, ⟨16, _⟩ => ⟨S32x1x2048, .f32⟩
  | .hbm, ⟨17, _⟩ => ⟨S32x16x64x128, .f32⟩
  | .local _ .vmem, ⟨0, _⟩ => ⟨S1x1x2048, .f32⟩
  | .local _ .vmem, ⟨1, _⟩ => ⟨S1x1x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x16x64x128, .f32⟩
  | .local _ .vmem, ⟨13, _⟩ => ⟨S1x16x64x128, .f32⟩
  | .local _ .vmem, ⟨14, _⟩ => ⟨S1x1x2048, .f32⟩
  | .local _ .vmem, ⟨15, _⟩ => ⟨S1x1x2048, .f32⟩
  | .local _ .vmem, ⟨16, _⟩ => ⟨S1x16x64x128, .f32⟩
  | .local _ .vmem, ⟨17, _⟩ => ⟨S1x16x64x128, .f32⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![32, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x16x64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x16x64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S32x2048 : Shape := ⟨2, ![32, 2048]⟩
abbrev S32x32x64x64 : Shape := ⟨4, ![32, 32, 64, 64]⟩
abbrev S32x32x64 : Shape := ⟨3, ![32, 32, 64]⟩
abbrev S32x32x1x64 : Shape := ⟨4, ![32, 32, 1, 64]⟩
abbrev S32x32x64x1 : Shape := ⟨4, ![32, 32, 64, 1]⟩
abbrev S32x16x2x64x64 : Shape := ⟨5, ![32, 16, 2, 64, 64]⟩
abbrev S32x16x64x2x64 : Shape := ⟨5, ![32, 16, 64, 2, 64]⟩
abbrev S32x16x64x128 : Shape := ⟨4, ![32, 16, 64, 128]⟩
abbrev S32x1x2048 : Shape := ⟨3, ![32, 1, 2048]⟩

abbrev nBuf : Space → Nat
  | .hbm => 35
  | .vmem => 0
  | .smem => 0
  | _ => 0

abbrev bufTy : (tb : Table) → Fin (tcTables nBuf tb) → BufTy
  | .hbm, ⟨0, _⟩ => ⟨S32x2048, .f32⟩
  | .hbm, ⟨1, _⟩ => ⟨S32x2048, .f32⟩
  | .hbm, ⟨2, _⟩ => ⟨S32x2048, .f32⟩
  | .hbm, ⟨3, _⟩ => ⟨S32x2048, .f32⟩
  | .hbm, ⟨4, _⟩ => ⟨S32x2048, .f32⟩
  | .hbm, ⟨5, _⟩ => ⟨S32x2048, .f32⟩
  | .hbm, ⟨6, _⟩ => ⟨S32x32x64x64, .f32⟩
  | .hbm, ⟨7, _⟩ => ⟨S32x32x64, .f32⟩
  | .hbm, ⟨8, _⟩ => ⟨S32x2048, .f32⟩
  | .hbm, ⟨9, _⟩ => ⟨S32x32x64, .f32⟩
  | .hbm, ⟨10, _⟩ => ⟨S32x32x64, .f32⟩
  | .hbm, ⟨11, _⟩ => ⟨S32x32x64, .f32⟩
  | .hbm, ⟨12, _⟩ => ⟨S32x32x64, .f32⟩
  | .hbm, ⟨13, _⟩ => ⟨S32x32x64, .f32⟩
  | .hbm, ⟨14, _⟩ => ⟨S32x32x64, .f32⟩
  | .hbm, ⟨15, _⟩ => ⟨S32x32x1x64, .f32⟩
  | .hbm, ⟨16, _⟩ => ⟨S32x32x64x64, .f32⟩
  | .hbm, ⟨17, _⟩ => ⟨S32x32x64x64, .f32⟩
  | .hbm, ⟨18, _⟩ => ⟨S32x32x64x1, .f32⟩
  | .hbm, ⟨19, _⟩ => ⟨S32x32x1x64, .f32⟩
  | .hbm, ⟨20, _⟩ => ⟨S32x32x64x64, .f32⟩
  | .hbm, ⟨21, _⟩ => ⟨S32x32x64x64, .f32⟩
  | .hbm, ⟨22, _⟩ => ⟨S32x32x64x64, .f32⟩
  | .hbm, ⟨23, _⟩ => ⟨S32x32x64x64, .f32⟩
  | .hbm, ⟨24, _⟩ => ⟨S32x32x64x1, .f32⟩
  | .hbm, ⟨25, _⟩ => ⟨S32x32x1x64, .f32⟩
  | .hbm, ⟨26, _⟩ => ⟨S32x32x64x64, .f32⟩
  | .hbm, ⟨27, _⟩ => ⟨S32x32x64x64, .f32⟩
  | .hbm, ⟨28, _⟩ => ⟨S32x32x64x64, .f32⟩
  | .hbm, ⟨29, _⟩ => ⟨S32x32x64x64, .f32⟩
  | .hbm, ⟨30, _⟩ => ⟨S32x32x64, .f32⟩
  | .hbm, ⟨31, _⟩ => ⟨S32x16x2x64x64, .f32⟩
  | .hbm, ⟨32, _⟩ => ⟨S32x16x64x2x64, .f32⟩
  | .hbm, ⟨33, _⟩ => ⟨S32x16x64x128, .f32⟩
  | .hbm, ⟨34, _⟩ => ⟨S32x1x2048, .f32⟩
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== Kernel2.lean ====
abbrev S8192x4096 : Shape := ⟨2, ![8192, 4096]⟩
abbrev S1x2x4096x11008 : Shape := ⟨4, ![1, 2, 4096, 11008]⟩
abbrev S1x2x11008x4096 : Shape := ⟨4, ![1, 2, 11008, 4096]⟩
abbrev S32x4096 : Shape := ⟨2, ![32, 4096]⟩
abbrev S8192x11008 : Shape := ⟨2, ![8192, 11008]⟩
abbrev S11008x4096 : Shape := ⟨2, ![11008, 4096]⟩
abbrev S32x11008 : Shape := ⟨2, ![32, 11008]⟩
abbrev S1024x4096 : Shape := ⟨2, ![1024, 4096]⟩
abbrev S1x1x4096x256 : Shape := ⟨4, ![1, 1, 4096, 256]⟩
abbrev S1x1x256x4096 : Shape := ⟨4, ![1, 1, 256, 4096]⟩
abbrev S1024x256 : Shape := ⟨2, ![1024, 256]⟩
abbrev S256x4096 : Shape := ⟨2, ![256, 4096]⟩
abbrev S32x256 : Shape := ⟨2, ![32, 256]⟩
abbrev S4096x256 : Shape := ⟨2, ![4096, 256]⟩

abbrev nBuf : Space → Nat
  | .hbm => 8
  | .vmem => 15
  | .smem => 0
  | _ => 0

abbrev bufTy : (tb : Table) → Fin (tcTables nBuf tb) → BufTy
  | .hbm, ⟨0, _⟩ => ⟨S8192x4096, .bf16⟩
  | .hbm, ⟨1, _⟩ => ⟨S1x2x4096x11008, .f32⟩
  | .hbm, ⟨2, _⟩ => ⟨S1x2x4096x11008, .f32⟩
  | .hbm, ⟨3, _⟩ => ⟨S1x2x11008x4096, .f32⟩
  | .hbm, ⟨4, _⟩ => ⟨S32x4096, .bf16⟩
  | .hbm, ⟨5, _⟩ => ⟨S8192x11008, .bf16⟩
  | .hbm, ⟨6, _⟩ => ⟨S11008x4096, .bf16⟩
  | .hbm, ⟨7, _⟩ => ⟨S32x11008, .bf16⟩
  | .local _ .vmem, ⟨0, _⟩ => ⟨S1024x4096, .bf16⟩
  | .local _ .vmem, ⟨1, _⟩ => ⟨S1024x4096, .bf16⟩
  | .local _ .vmem, ⟨2, _⟩ => ⟨S1x1x4096x256, .f32⟩
  | .local _ .vmem, ⟨3, _⟩ => ⟨S1x1x4096x256, .f32⟩
  | .local _ .vmem, ⟨4, _⟩ => ⟨S1x1x4096x256, .f32⟩
  | .local _ .vmem, ⟨5, _⟩ => ⟨S1x1x4096x256, .f32⟩
  | .local _ .vmem, ⟨6, _⟩ => ⟨S1x1x256x4096, .f32⟩
  | .local _ .vmem, ⟨7, _⟩ => ⟨S1x1x256x4096, .f32⟩
  | .local _ .vmem, ⟨8, _⟩ => ⟨S32x4096, .bf16⟩
  | .local _ .vmem, ⟨9, _⟩ => ⟨S1024x256, .bf16⟩
  | .local _ .vmem, ⟨10, _⟩ => ⟨S1024x256, .bf16⟩
  | .local _ .vmem, ⟨11, _⟩ => ⟨S256x4096, .bf16⟩
  | .local _ .vmem, ⟨12, _⟩ => ⟨S256x4096, .bf16⟩
  | .local _ .vmem, ⟨13, _⟩ => ⟨S32x256, .bf16⟩
  | .local _ .vmem, ⟨14, _⟩ => ⟨S32x256, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 43], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c42_i32 : BitVec 32 := 42#32
  let v1 : BitVec 32 := Scalar.select v0 arg1 c42_i32
  let c0_i32_0 : BitVec 32 := 0#32
  let c0_i32_1 : BitVec 32 := 0#32
  let c0_i32_2 : BitVec 32 := 0#32
  let c0_i32_3 : BitVec 32 := 0#32
  ![c0_i32_0.toNat, c0_i32_1.toNat, v1.toNat, c0_i32_2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c42_i32 : BitVec 32 := 42#32
  let v1 : BitVec 32 := Scalar.select v0 arg1 c42_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c42_i32 : BitVec 32 := 42#32
  let v1 : BitVec 32 := Scalar.select v0 arg1 c42_i32
  let c0_i32_0 : BitVec 32 := 0#32
  let c0_i32_1 : BitVec 32 := 0#32
  ![c0_i32_0.toNat, v1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S32x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference2Ideal.lean ====
abbrev S8192x4096 : Shape := ⟨2, ![8192, 4096]⟩
abbrev S1x2x4096x11008 : Shape := ⟨4, ![1, 2, 4096, 11008]⟩
abbrev S1x2x11008x4096 : Shape := ⟨4, ![1, 2, 11008, 4096]⟩
abbrev S32x4096 : Shape := ⟨2, ![32, 4096]⟩
abbrev S1x1x4096x11008 : Shape := ⟨4, ![1, 1, 4096, 11008]⟩
abbrev S4096x11008 : Shape := ⟨2, ![4096, 11008]⟩
abbrev S8192x11008 : Shape := ⟨2, ![8192, 11008]⟩
abbrev S_ : Shape := ⟨0, ![]⟩
abbrev S1x1x11008x4096 : Shape := ⟨4, ![1, 1, 11008, 4096]⟩
abbrev S11008x4096 : Shape := ⟨2, ![11008, 4096]⟩
abbrev S32x11008 : Shape := ⟨2, ![32, 11008]⟩

abbrev nBuf : Space → Nat
  | .hbm => 40
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x2x4096x11008, .f32⟩
  | .hbm, ⟨2, _⟩ => ⟨S1x2x4096x11008, .f32⟩
  | .hbm, ⟨3, _⟩ => ⟨S1x2x11008x4096, .f32⟩
  | .hbm, ⟨4, _⟩ => ⟨S32x4096, .bf16⟩
  | .hbm, ⟨5, _⟩ => ⟨S1x1x4096x11008, .f32⟩
  | .hbm, ⟨6, _⟩ => ⟨S4096x11008, .f32⟩
  | .hbm, ⟨7, _⟩ => ⟨S1x1x4096x11008, .f32⟩
  | .hbm, ⟨8, _⟩ => ⟨S4096x11008, .f32⟩
  | .hbm, ⟨9, _⟩ => ⟨S8192x4096, .f32⟩
  | .hbm, ⟨10, _⟩ => ⟨S8192x11008, .f32⟩
  | .hbm, ⟨11, _⟩ => ⟨S8192x11008, .f32⟩
  | .hbm, ⟨12, _⟩ => ⟨S8192x11008, .f32⟩
  | .hbm, ⟨13, _⟩ => ⟨S_, .f32⟩
  | .hbm, ⟨14, _⟩ => ⟨S8192x11008, .f32⟩
  | .hbm, ⟨15, _⟩ => ⟨S8192x11008, .f32⟩
  | .hbm, ⟨16, _⟩ => ⟨S_, .f32⟩
  | .hbm, ⟨17, _⟩ => ⟨S8192x11008, .f32⟩
  | .hbm, ⟨18, _⟩ => ⟨S8192x11008, .f32⟩
  | .hbm, ⟨19, _⟩ => ⟨S8192x11008, .f32⟩
  | .hbm, ⟨20, _⟩ => ⟨S8192x11008, .f32⟩
  | .hbm, ⟨21, _⟩ => ⟨S8192x11008, .f32⟩
  | .hbm, ⟨22, _⟩ => ⟨S8192x11008, .bf16⟩
  | .hbm, ⟨23, _⟩ => ⟨S1x1x11008x4096, .f32⟩
  | .hbm, ⟨24, _⟩ => ⟨S11008x4096, .f32⟩
  | .hbm, ⟨25, _⟩ => ⟨S11008x4096, .bf16⟩
  | .hbm, ⟨26, _⟩ => ⟨S32x4096, .f32⟩
  | .hbm, ⟨27, _⟩ => ⟨S32x11008, .f32⟩
  | .hbm, ⟨28, _⟩ => ⟨S32x11008, .f32⟩
  | .hbm, ⟨29, _⟩ => ⟨S32x11008, .f32⟩
  | .hbm, ⟨30, _⟩ => ⟨S_, .f32⟩
  | .hbm, ⟨31, _⟩ => ⟨S32x11008, .f32⟩
  | .hbm, ⟨32, _⟩ => ⟨S32x11008, .f32⟩
  | .hbm, ⟨33, _⟩ => ⟨S_, .f32⟩
  | .hbm, ⟨34, _⟩ => ⟨S32x11008, .f32⟩
  | .hbm, ⟨35, _⟩ => ⟨S32x11008, .f32⟩
  | .hbm, ⟨36, _⟩ => ⟨S32x11008, .f32⟩
  | .hbm, ⟨37, _⟩ => ⟨S32x11008, .f32⟩
  | .hbm, ⟨38, _⟩ => ⟨S32x11008, .f32⟩
  | .hbm, ⟨39, _⟩ => ⟨S32x11008, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_call1_v0 : Ref sig .tc := ⟨.hbm, 28, rfl⟩
abbrev main_call1_v1 : Ref sig .tc := ⟨.hbm, 29, rfl⟩
abbrev main_call1_cst : Ref sig .tc := ⟨.hbm, 30, rfl⟩
abbrev main_call1_v2 : Ref sig .tc := ⟨.hbm, 31, rfl⟩
abbrev main_call1_v3 : Ref sig .tc := ⟨.hbm, 32, rfl⟩
abbrev main_call1_cst_0 : Ref sig .tc := ⟨.hbm, 33, rfl⟩
abbrev main_call1_v4 : Ref sig .tc := ⟨.hbm, 34, rfl⟩
abbrev main_call1_v5 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩

abbrev nD : Nat := 1
abbrev τ : Topo := Topo.v7x

variable {F : FTy → Type} [FloatOps F]
-- ==== Kernel3.lean ====
abbrev S8192x11008 : Shape := ⟨2, ![8192, 11008]⟩
abbrev S11008x4096 : Shape := ⟨2, ![11008, 4096]⟩
abbrev S8192x4096 : Shape := ⟨2, ![8192, 4096]⟩
abbrev S4x1x4096 : Shape := ⟨3, ![4, 1, 4096]⟩
abbrev S32x11008 : Shape := ⟨2, ![32, 11008]⟩
abbrev S32x4096 : Shape := ⟨2, ![32, 4096]⟩
abbrev S512x11008 : Shape := ⟨2, ![512, 11008]⟩
abbrev S11008x256 : Shape := ⟨2, ![11008, 256]⟩
abbrev S512x256 : Shape := ⟨2, ![512, 256]⟩
abbrev S1x1x256 : Shape := ⟨3, ![1, 1, 256]⟩
abbrev S32x256 : Shape := ⟨2, ![32, 256]⟩
abbrev S1x256 : Shape := ⟨2, ![1, 256]⟩

abbrev nBuf : Space → Nat
  | .hbm => 9
  | .vmem => 17
  | .smem => 0
  | _ => 0

abbrev bufTy : (tb : Table) → Fin (tcTables nBuf tb) → BufTy
  | .hbm, ⟨0, _⟩ => ⟨S8192x11008, .bf16⟩
  | .hbm, ⟨1, _⟩ => ⟨S11008x4096, .bf16⟩
  | .hbm, ⟨2, _⟩ => ⟨S8192x4096, .f32⟩
  | .hbm, ⟨3, _⟩ => ⟨S4x1x4096, .f32⟩
  | .hbm, ⟨4, _⟩ => ⟨S32x11008, .bf16⟩
  | .hbm, ⟨5, _⟩ => ⟨S32x4096, .f32⟩
  | .hbm, ⟨6, _⟩ => ⟨S32x4096, .f32⟩
  | .hbm, ⟨7, _⟩ => ⟨S8192x4096, .f32⟩
  | .hbm, ⟨8, _⟩ => ⟨S32x4096, .f32⟩
  | .local _ .vmem, ⟨0, _⟩ => ⟨S512x11008, .bf16⟩
  | .local _ .vmem, ⟨1, _⟩ => ⟨S512x11008, .bf16⟩
  | .local _ .vmem, ⟨2, _⟩ => ⟨S11008x256, .bf16⟩
  | .local _ .vmem, ⟨3, _⟩ => ⟨S11008x256, .bf16⟩
  | .local _ .vmem, ⟨4, _⟩ => ⟨S512x256, .f32⟩
  | .local _ .vmem, ⟨5, _⟩ => ⟨S512x256, .f32⟩
  | .local _ .vmem, ⟨6, _⟩ => ⟨S1x1x256, .f32⟩
  | .local _ .vmem, ⟨7, _⟩ => ⟨S1x1x256, .f32⟩
  | .local _ .vmem, ⟨8, _⟩ => ⟨S32x11008, .bf16⟩
  | .local _ .vmem, ⟨9, _⟩ => ⟨S32x256, .f32⟩
  | .local _ .vmem, ⟨10, _⟩ => ⟨S32x256, .f32⟩
  | .local _ .vmem, ⟨11, _⟩ => ⟨S32x256, .f32⟩
  | .local _ .vmem, ⟨12, _⟩ => ⟨S32x256, .f32⟩
  | .local _ .vmem, ⟨13, _⟩ => ⟨S512x256, .f32⟩
  | .local _ .vmem, ⟨14, _⟩ => ⟨S512x256, .f32⟩
  | .local _ .vmem, ⟨15, _⟩ => ⟨S32x256, .f32⟩
  | .local _ .vmem, ⟨16, _⟩ => ⟨S32x256, .f32⟩
  | _, _ => ⟨S8192x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![16, 16], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c15_i32 : BitVec 32 := 15#32
  let v1 : BitVec 32 := Scalar.select v0 arg1 c15_i32
  let c0_i32_0 : BitVec 32 := 0#32
  let c0_i32_1 : BitVec 32 := 0#32
  ![c0_i32_0.toNat, v1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c15_i32 : BitVec 32 := 15#32
  let v1 : BitVec 32 := Scalar.select v0 arg1 c15_i32
  let c0_i32_0 : BitVec 32 := 0#32
  let c0_i32_1 : BitVec 32 := 0#32
  ![c0_i32_0.toNat, v1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c15_i32 : BitVec 32 := 15#32
  let v1 : BitVec 32 := Scalar.select v0 arg1 c15_i32
  let c0_i32_0 : BitVec 32 := 0#32
  let c0_i32_1 : BitVec 32 := 0#32
  ![c0_i32_0.toNat, v1.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S11008x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S32x11008 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S32x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S32x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference3Ideal.lean ====
abbrev S8192x11008 : Shape := ⟨2, ![8192, 11008]⟩
abbrev S11008x4096 : Shape := ⟨2, ![11008, 4096]⟩
abbrev S8192x4096 : Shape := ⟨2, ![8192, 4096]⟩
abbrev S4x1x4096 : Shape := ⟨3, ![4, 1, 4096]⟩
abbrev S32x11008 : Shape := ⟨2, ![32, 11008]⟩
abbrev S32x4096 : Shape := ⟨2, ![32, 4096]⟩
abbrev S4x2048x4096 : Shape := ⟨3, ![4, 2048, 4096]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S8192x11008, .bf16⟩
  | .hbm, ⟨1, _⟩ => ⟨S11008x4096, .bf16⟩
  | .hbm, ⟨2, _⟩ => ⟨S8192x4096, .f32⟩
  | .hbm, ⟨3, _⟩ => ⟨S4x1x4096, .f32⟩
  | .hbm, ⟨4, _⟩ => ⟨S32x11008, .bf16⟩
  | .hbm, ⟨5, _⟩ => ⟨S32x4096, .f32⟩
  | .hbm, ⟨6, _⟩ => ⟨S32x4096, .f32⟩
  | .hbm, ⟨7, _⟩ => ⟨S11008x4096, .f32⟩
  | .hbm, ⟨8, _⟩ => ⟨S4x2048x4096, .f32⟩
  | .hbm, ⟨9, _⟩ => ⟨S_, .f32⟩
  | .hbm, ⟨10, _⟩ => ⟨S4x1x4096, .f32⟩
  | .hbm, ⟨11, _⟩ => ⟨S4x1x4096, .f32⟩
  | .hbm, ⟨12, _⟩ => ⟨S8192x11008, .f32⟩
  | .hbm, ⟨13, _⟩ => ⟨S8192x4096, .f32⟩
  | .hbm, ⟨14, _⟩ => ⟨S4x2048x4096, .f32⟩
  | .hbm, ⟨15, _⟩ => ⟨S4x2048x4096, .f32⟩
  | .hbm, ⟨16, _⟩ => ⟨S4x2048x4096, .f32⟩
  | .hbm, ⟨17, _⟩ => ⟨S4x2048x4096, .f32⟩
  | .hbm, ⟨18, _⟩ => ⟨S8192x4096, .f32⟩
  | .hbm, ⟨19, _⟩ => ⟨S_, .f32⟩
  | .hbm, ⟨20, _⟩ => ⟨S32x4096, .f32⟩
  | .hbm, ⟨21, _⟩ => ⟨S32x4096, .f32⟩
  | .hbm, ⟨22, _⟩ => ⟨S32x11008, .f32⟩
  | .hbm, ⟨23, _⟩ => ⟨S32x4096, .f32⟩
  | .hbm, ⟨24, _⟩ => ⟨S32x4096, .f32⟩
  | .hbm, ⟨25, _⟩ => ⟨S32x4096, .f32⟩
  | _, _ => ⟨S8192x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== Kernel4.lean ====
abbrev S8192x4096 : Shape := ⟨2, ![8192, 4096]⟩
abbrev S1x4096x12288 : Shape := ⟨3, ![1, 4096, 12288]⟩
abbrev S80x4096 : Shape := ⟨2, ![80, 4096]⟩
abbrev S8192x2048 : Shape := ⟨2, ![8192, 2048]⟩
abbrev S80x2048 : Shape := ⟨2, ![80, 2048]⟩
abbrev S1024x4096 : Shape := ⟨2, ![1024, 4096]⟩
abbrev S1x4096x512 : Shape := ⟨3, ![1, 4096, 512]⟩
abbrev S1024x512 : Shape := ⟨2, ![1024, 512]⟩
abbrev S80x512 : Shape := ⟨2, ![80, 512]⟩
abbrev S4096x512 : Shape := ⟨2, ![4096, 512]⟩

abbrev nBuf : Space → Nat
  | .hbm => 5
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S1x4096x12288, .f32⟩
  | .hbm, ⟨2, _⟩ => ⟨S80x4096, .bf16⟩
  | .hbm, ⟨3, _⟩ => ⟨S8192x2048, .f32⟩
  | .hbm, ⟨4, _⟩ => ⟨S80x2048, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S80x4096, .bf16⟩
  | .local _ .vmem, ⟨5, _⟩ => ⟨S1024x512, .f32⟩
  | .local _ .vmem, ⟨6, _⟩ => ⟨S1024x512, .f32⟩
  | .local _ .vmem, ⟨7, _⟩ => ⟨S80x512, .f32⟩
  | .local _ .vmem, ⟨8, _⟩ => ⟨S80x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  ![c0_i32_0.toNat, v1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S80x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S80x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S8192x4096 : Shape := ⟨2, ![8192, 4096]⟩
abbrev S1x4096x12288 : Shape := ⟨3, ![1, 4096, 12288]⟩
abbrev S80x4096 : Shape := ⟨2, ![80, 4096]⟩
abbrev S4096x12288 : Shape := ⟨2, ![4096, 12288]⟩
abbrev S4096x2048 : Shape := ⟨2, ![4096, 2048]⟩
abbrev S8192x2048 : Shape := ⟨2, ![8192, 2048]⟩
abbrev S80x2048 : Shape := ⟨2, ![80, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x12288, .f32⟩
  | .hbm, ⟨2, _⟩ => ⟨S80x4096, .bf16⟩
  | .hbm, ⟨3, _⟩ => ⟨S4096x12288, .f32⟩
  | .hbm, ⟨4, _⟩ => ⟨S4096x2048, .f32⟩
  | .hbm, ⟨5, _⟩ => ⟨S8192x4096, .f32⟩
  | .hbm, ⟨6, _⟩ => ⟨S8192x2048, .f32⟩
  | .hbm, ⟨7, _⟩ => ⟨S80x4096, .f32⟩
  | .hbm, ⟨8, _⟩ => ⟨S80x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S8192x4096 : Shape := ⟨2, ![8192, 4096]⟩
abbrev S1x4096x12288 : Shape := ⟨3, ![1, 4096, 12288]⟩
abbrev S80x4096 : Shape := ⟨2, ![80, 4096]⟩
abbrev S2048 : Shape := ⟨1, ![2048]⟩
abbrev S64 : Shape := ⟨1, ![64]⟩
abbrev S_ : Shape := ⟨0, ![]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S1x2048x1x128 : Shape := ⟨4, ![1, 2048, 1, 128]⟩
abbrev S4x2048x1x128 : Shape := ⟨4, ![4, 2048, 1, 128]⟩
abbrev S8192x128 : Shape := ⟨2, ![8192, 128]⟩
abbrev S1 : Shape := ⟨1, ![1]⟩
abbrev S1x1 : Shape := ⟨2, ![1, 1]⟩
abbrev S1x128 : Shape := ⟨2, ![1, 128]⟩
abbrev S80x128 : Shape := ⟨2, ![80, 128]⟩
abbrev S8192x2048 : Shape := ⟨2, ![8192, 2048]⟩
abbrev S80x2048 : Shape := ⟨2, ![80, 2048]⟩
abbrev S1024x4096 : Shape := ⟨2, ![1024, 4096]⟩
abbrev S1x4096x512 : Shape := ⟨3, ![1, 4096, 512]⟩
abbrev S1024x128 : Shape := ⟨2, ![1024, 128]⟩
abbrev S1024x512 : Shape := ⟨2, ![1024, 512]⟩
abbrev S80x512 : Shape := ⟨2, ![80, 512]⟩
abbrev S4096x512 : Shape := ⟨2, ![4096, 512]⟩

abbrev nBuf : Space → Nat
  | .hbm => 53
  | .vmem => 15
  | .smem => 0
  | _ => 0

abbrev bufTy : (tb : Table) → Fin (tcTables nBuf tb) → BufTy
  | .hbm, ⟨0, _⟩ => ⟨S8192x4096, .bf16⟩
  | .hbm, ⟨1, _⟩ => ⟨S1x4096x12288, .f32⟩
  | .hbm, ⟨2, _⟩ => ⟨S80x4096, .bf16⟩
  | .hbm, ⟨3, _⟩ => ⟨S2048, .i32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S2048, .f32⟩
  | .hbm, ⟨13, _⟩ => ⟨S2048x1, .f32⟩
  | .hbm, ⟨14, _⟩ => ⟨S1x64, .f32⟩
  | .hbm, ⟨15, _⟩ => ⟨S2048x64, .f32⟩
  | .hbm, ⟨16, _⟩ => ⟨S2048x64, .f32⟩
  | .hbm, ⟨17, _⟩ => ⟨S2048x64, .f32⟩
  | .hbm, ⟨18, _⟩ => ⟨S2048x64, .f32⟩
  | .hbm, ⟨19, _⟩ => ⟨S2048x64, .f32⟩
  | .hbm, ⟨20, _⟩ => ⟨S2048x128, .f32⟩
  | .hbm, ⟨21, _⟩ => ⟨S2048x64, .f32⟩
  | .hbm, ⟨22, _⟩ => ⟨S2048x128, .f32⟩
  | .hbm, ⟨23, _⟩ => ⟨S1x2048x1x128, .f32⟩
  | .hbm, ⟨24, _⟩ => ⟨S4x2048x1x128, .f32⟩
  | .hbm, ⟨25, _⟩ => ⟨S8192x128, .f32⟩
  | .hbm, ⟨26, _⟩ => ⟨S1x2048x1x128, .f32⟩
  | .hbm, ⟨27, _⟩ => ⟨S4x2048x1x128, .f32⟩
  | .hbm, ⟨28, _⟩ => ⟨S8192x128, .f32⟩
  | .hbm, ⟨29, _⟩ => ⟨S_, .i32⟩
  | .hbm, ⟨30, _⟩ => ⟨S1, .i32⟩
  | .hbm, ⟨31, _⟩ => ⟨S64, .f32⟩
  | .hbm, ⟨32, _⟩ => ⟨S64, .f32⟩
  | .hbm, ⟨33, _⟩ => ⟨S_, .f32⟩
  | .hbm, ⟨34, _⟩ => ⟨S64, .f32⟩
  | .hbm, ⟨35, _⟩ => ⟨S64, .f32⟩
  | .hbm, ⟨36, _⟩ => ⟨S_, .f32⟩
  | .hbm, ⟨37, _⟩ => ⟨S64, .f32⟩
  | .hbm, ⟨38, _⟩ => ⟨S64, .f32⟩
  | .hbm, ⟨39, _⟩ => ⟨S1, .f32⟩
  | .hbm, ⟨40, _⟩ => ⟨S1x1, .f32⟩
  | .hbm, ⟨41, _⟩ => ⟨S1x64, .f32⟩
  | .hbm, ⟨42, _⟩ => ⟨S1x64, .f32⟩
  | .hbm, ⟨43, _⟩ => ⟨S1x64, .f32⟩
  | .hbm, ⟨44, _⟩ => ⟨S1x64, .f32⟩
  | .hbm, ⟨45, _⟩ => ⟨S1x64, .f32⟩
  | .hbm, ⟨46, _⟩ => ⟨S1x128, .f32⟩
  | .hbm, ⟨47, _⟩ => ⟨S1x64, .f32⟩
  | .hbm, ⟨48, _⟩ => ⟨S1x128, .f32⟩
  | .hbm, ⟨49, _⟩ => ⟨S80x128, .f32⟩
  | .hbm, ⟨50, _⟩ => ⟨S80x128, .f32⟩
  | .hbm, ⟨51, _⟩ => ⟨S8192x2048, .f32⟩
  | .hbm, ⟨52, _⟩ => ⟨S80x2048, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S80x4096, .bf16⟩
  | .local _ .vmem, ⟨9, _⟩ => ⟨S80x128, .f32⟩
  | .local _ .vmem, ⟨10, _⟩ => ⟨S80x128, .f32⟩
  | .local _ .vmem, ⟨11, _⟩ => ⟨S1024x512, .f32⟩
  | .local _ .vmem, ⟨12, _⟩ => ⟨S1024x512, .f32⟩
  | .local _ .vmem, ⟨13, _⟩ => ⟨S80x512, .f32⟩
  | .local _ .vmem, ⟨14, _⟩ => ⟨S80x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_c : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_1 : Ref sig .tc := ⟨.hbm, 33, rfl⟩
abbrev main_v27 : Ref sig .tc := ⟨.hbm, 34, rfl⟩
abbrev main_v28 : Ref sig .tc := ⟨.hbm, 35, rfl⟩
abbrev main_cst_2 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43_0 : Ref sig .tc := ⟨.hbm, 51, rfl⟩
abbrev main_v43_1 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  ![c0_i32_0.toNat, v1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S80x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S80x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S80x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S80x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference5Ideal.lean ====
abbrev S8192x4096 : Shape := ⟨2, ![8192, 4096]⟩
abbrev S1x4096x12288 : Shape := ⟨3, ![1, 4096, 12288]⟩
abbrev S80x4096 : Shape := ⟨2, ![80, 4096]⟩
abbrev S4096x12288 : Shape := ⟨2, ![4096, 12288]⟩
abbrev S4096x2048 : Shape := ⟨2, ![4096, 2048]⟩
abbrev S8192x2048 : Shape := ⟨2, ![8192, 2048]⟩
abbrev S4x2048x16x128 : Shape := ⟨4, ![4, 2048, 16, 128]⟩
abbrev S2048 : Shape := ⟨1, ![2048]⟩
abbrev S64 : Shape := ⟨1, ![64]⟩
abbrev S_ : Shape := ⟨0, ![]⟩
abbrev S2048x1 : Shape := ⟨2, ![2048, 1]⟩
abbrev S1x64 : Shape := ⟨2, ![1, 64]⟩
abbrev S2048x64 : Shape := ⟨2, ![2048, 64]⟩
abbrev S1x2048x1x64 : Shape := ⟨4, ![1, 2048, 1, 64]⟩
abbrev S4x2048x16x64 : Shape := ⟨4, ![4, 2048, 16, 64]⟩
abbrev S80x2048 : Shape := ⟨2, ![80, 2048]⟩
abbrev S80x1x16x128 : Shape := ⟨4, ![80, 1, 16, 128]⟩
abbrev S1 : Shape := ⟨1, ![1]⟩
abbrev S1x1 : Shape := ⟨2, ![1, 1]⟩
abbrev S1x1x1x64 : Shape := ⟨4, ![1, 1, 1, 64]⟩
abbrev S80x1x16x64 : Shape := ⟨4, ![80, 1, 16, 64]⟩

abbrev nBuf : Space → Nat
  | .hbm => 79
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x12288, .f32⟩
  | .hbm, ⟨2, _⟩ => ⟨S80x4096, .bf16⟩
  | .hbm, ⟨3, _⟩ => ⟨S4096x12288, .f32⟩
  | .hbm, ⟨4, _⟩ => ⟨S4096x2048, .f32⟩
  | .hbm, ⟨5, _⟩ => ⟨S8192x4096, .f32⟩
  | .hbm, ⟨6, _⟩ => ⟨S8192x2048, .f32⟩
  | .hbm, ⟨7, _⟩ => ⟨S4x2048x16x128, .f32⟩
  | .hbm, ⟨8, _⟩ => ⟨S2048, .i32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S2048, .f32⟩
  | .hbm, ⟨18, _⟩ => ⟨S2048x1, .f32⟩
  | .hbm, ⟨19, _⟩ => ⟨S1x64, .f32⟩
  | .hbm, ⟨20, _⟩ => ⟨S2048x64, .f32⟩
  | .hbm, ⟨21, _⟩ => ⟨S2048x64, .f32⟩
  | .hbm, ⟨22, _⟩ => ⟨S2048x64, .f32⟩
  | .hbm, ⟨23, _⟩ => ⟨S2048x64, .f32⟩
  | .hbm, ⟨24, _⟩ => ⟨S1x2048x1x64, .f32⟩
  | .hbm, ⟨25, _⟩ => ⟨S2048x64, .f32⟩
  | .hbm, ⟨26, _⟩ => ⟨S1x2048x1x64, .f32⟩
  | .hbm, ⟨27, _⟩ => ⟨S4x2048x16x64, .f32⟩
  | .hbm, ⟨28, _⟩ => ⟨S4x2048x16x64, .f32⟩
  | .hbm, ⟨29, _⟩ => ⟨S4x2048x16x64, .f32⟩
  | .hbm, ⟨30, _⟩ => ⟨S4x2048x16x64, .f32⟩
  | .hbm, ⟨31, _⟩ => ⟨S4x2048x16x64, .f32⟩
  | .hbm, ⟨32, _⟩ => ⟨S4x2048x16x64, .f32⟩
  | .hbm, ⟨33, _⟩ => ⟨S4x2048x16x64, .f32⟩
  | .hbm, ⟨34, _⟩ => ⟨S4x2048x16x64, .f32⟩
  | .hbm, ⟨35, _⟩ => ⟨S4x2048x16x64, .f32⟩
  | .hbm, ⟨36, _⟩ => ⟨S4x2048x16x64, .f32⟩
  | .hbm, ⟨37, _⟩ => ⟨S4x2048x16x64, .f32⟩
  | .hbm, ⟨38, _⟩ => ⟨S4x2048x16x64, .f32⟩
  | .hbm, ⟨39, _⟩ => ⟨S4x2048x16x128, .f32⟩
  | .hbm, ⟨40, _⟩ => ⟨S80x4096, .f32⟩
  | .hbm, ⟨41, _⟩ => ⟨S80x2048, .f32⟩
  | .hbm, ⟨42, _⟩ => ⟨S80x1x16x128, .f32⟩
  | .hbm, ⟨43, _⟩ => ⟨S1, .i32⟩
  | .hbm, ⟨44, _⟩ => ⟨S_, .i32⟩
  | .hbm, ⟨45, _⟩ => ⟨S1, .i32⟩
  | .hbm, ⟨46, _⟩ => ⟨S1, .i32⟩
  | .hbm, ⟨47, _⟩ => ⟨S64, .f32⟩
  | .hbm, ⟨48, _⟩ => ⟨S64, .f32⟩
  | .hbm, ⟨49, _⟩ => ⟨S_, .f32⟩
  | .hbm, ⟨50, _⟩ => ⟨S64, .f32⟩
  | .hbm, ⟨51, _⟩ => ⟨S64, .f32⟩
  | .hbm, ⟨52, _⟩ => ⟨S_, .f32⟩
  | .hbm, ⟨53, _⟩ => ⟨S64, .f32⟩
  | .hbm, ⟨54, _⟩ => ⟨S64, .f32⟩
  | .hbm, ⟨55, _⟩ => ⟨S1, .f32⟩
  | .hbm, ⟨56, _⟩ => ⟨S1x1, .f32⟩
  | .hbm, ⟨57, _⟩ => ⟨S1x64, .f32⟩
  | .hbm, ⟨58, _⟩ => ⟨S1x64, .f32⟩
  | .hbm, ⟨59, _⟩ => ⟨S1x64, .f32⟩
  | .hbm, ⟨60, _⟩ => ⟨S1x64, .f32⟩
  | .hbm, ⟨61, _⟩ => ⟨S1x1x1x64, .f32⟩
  | .hbm, ⟨62, _⟩ => ⟨S1x64, .f32⟩
  | .hbm, ⟨63, _⟩ => ⟨S1x1x1x64, .f32⟩
  | .hbm, ⟨64, _⟩ => ⟨S80x1x16x64, .f32⟩
  | .hbm, ⟨65, _⟩ => ⟨S80x1x16x64, .f32⟩
  | .hbm, ⟨66, _⟩ => ⟨S80x1x16x64, .f32⟩
  | .hbm, ⟨67, _⟩ => ⟨S80x1x16x64, .f32⟩
  | .hbm, ⟨68, _⟩ => ⟨S80x1x16x64, .f32⟩
  | .hbm, ⟨69, _⟩ => ⟨S80x1x16x64, .f32⟩
  | .hbm, ⟨70, _⟩ => ⟨S80x1x16x64, .f32⟩
  | .hbm, ⟨71, _⟩ => ⟨S80x1x16x64, .f32⟩
  | .hbm, ⟨72, _⟩ => ⟨S80x1x16x64, .f32⟩
  | .hbm, ⟨73, _⟩ => ⟨S80x1x16x64, .f32⟩
  | .hbm, ⟨74, _⟩ => ⟨S80x1x16x64, .f32⟩
  | .hbm, ⟨75, _⟩ => ⟨S80x1x16x64, .f32⟩
  | .hbm, ⟨76, _⟩ => ⟨S80x1x16x128, .f32⟩
  | .hbm, ⟨77, _⟩ => ⟨S8192x2048, .f32⟩
  | .hbm, ⟨78, _⟩ => ⟨S80x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_c : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_cst_1 : Ref sig .tc := ⟨.hbm, 49, rfl⟩
abbrev main_v43 : Ref sig .tc := ⟨.hbm, 50, rfl⟩
abbrev main_v44 : Ref sig .tc := ⟨.hbm, 51, rfl⟩
abbrev main_cst_2 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩

abbrev nD : Nat := 1
abbrev τ : Topo := Topo.v7x

variable {F : FTy → Type} [FloatOps F]
-- ==== Kernel6.lean ====
abbrev S8192x2048 : Shape := ⟨2, ![8192, 2048]⟩
abbrev S1x4096x4096 : Shape := ⟨3, ![1, 4096, 4096]⟩
abbrev S8192x4096 : Shape := ⟨2, ![8192, 4096]⟩
abbrev S4x1x4096 : Shape := ⟨3, ![4, 1, 4096]⟩
abbrev S4096x4096 : Shape := ⟨2, ![4096, 4096]⟩
abbrev S1024x2048 : Shape := ⟨2, ![1024, 2048]⟩
abbrev S2048x512 : Shape := ⟨2, ![2048, 512]⟩
abbrev S1024x512 : Shape := ⟨2, ![1024, 512]⟩
abbrev S1x1x512 : Shape := ⟨3, ![1, 1, 512]⟩
abbrev S1x512 : Shape := ⟨2, ![1, 512]⟩

abbrev nBuf : Space → Nat
  | .hbm => 8
  | .vmem => 14
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S1x4096x4096, .f32⟩
  | .hbm, ⟨3, _⟩ => ⟨S8192x4096, .f32⟩
  | .hbm, ⟨4, _⟩ => ⟨S4x1x4096, .f32⟩
  | .hbm, ⟨5, _⟩ => ⟨S4096x4096, .f32⟩
  | .hbm, ⟨6, _⟩ => ⟨S4096x4096, .bf16⟩
  | .hbm, ⟨7, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S1024x512, .f32⟩
  | .local _ .vmem, ⟨9, _⟩ => ⟨S1024x512, .f32⟩
  | .local _ .vmem, ⟨10, _⟩ => ⟨S1x1x512, .f32⟩
  | .local _ .vmem, ⟨11, _⟩ => ⟨S1x1x512, .f32⟩
  | .local _ .vmem, ⟨12, _⟩ => ⟨S1024x512, .f32⟩
  | .local _ .vmem, ⟨13, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference6Ideal.lean ====
abbrev S8192x2048 : Shape := ⟨2, ![8192, 2048]⟩
abbrev S1x4096x4096 : Shape := ⟨3, ![1, 4096, 4096]⟩
abbrev S8192x4096 : Shape := ⟨2, ![8192, 4096]⟩
abbrev S4x1x4096 : Shape := ⟨3, ![4, 1, 4096]⟩
abbrev S4096x4096 : Shape := ⟨2, ![4096, 4096]⟩
abbrev S4x2048x4096 : Shape := ⟨3, ![4, 2048, 4096]⟩

abbrev nBuf : Space → Nat
  | .hbm => 15
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S1x4096x4096, .f32⟩
  | .hbm, ⟨3, _⟩ => ⟨S8192x4096, .f32⟩
  | .hbm, ⟨4, _⟩ => ⟨S4x1x4096, .f32⟩
  | .hbm, ⟨5, _⟩ => ⟨S8192x4096, .bf16⟩
  | .hbm, ⟨6, _⟩ => ⟨S8192x4096, .f32⟩
  | .hbm, ⟨7, _⟩ => ⟨S4096x4096, .f32⟩
  | .hbm, ⟨8, _⟩ => ⟨S8192x4096, .f32⟩
  | .hbm, ⟨9, _⟩ => ⟨S4x2048x4096, .f32⟩
  | .hbm, ⟨10, _⟩ => ⟨S4x2048x4096, .f32⟩
  | .hbm, ⟨11, _⟩ => ⟨S4x2048x4096, .f32⟩
  | .hbm, ⟨12, _⟩ => ⟨S4x2048x4096, .f32⟩
  | .hbm, ⟨13, _⟩ => ⟨S4x2048x4096, .f32⟩
  | .hbm, ⟨14, _⟩ => ⟨S8192x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel7.lean ====
abbrev S8192x4096 : Shape := ⟨2, ![8192, 4096]⟩
abbrev S4096 : Shape := ⟨1, ![4096]⟩
abbrev S4x1x4096 : Shape := ⟨3, ![4, 1, 4096]⟩
abbrev S1x4096 : Shape := ⟨2, ![1, 4096]⟩
abbrev S512x4096 : Shape := ⟨2, ![512, 4096]⟩
abbrev S1x1x4096 : Shape := ⟨3, ![1, 1, 4096]⟩
abbrev S512 : Shape := ⟨1, ![512]⟩
abbrev S512x1 : Shape := ⟨2, ![512, 1]⟩

abbrev nBuf : Space → Nat
  | .hbm => 7
  | .vmem => 11
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4x1x4096, .f32⟩
  | .hbm, ⟨3, _⟩ => ⟨S4x1x4096, .f32⟩
  | .hbm, ⟨4, _⟩ => ⟨S1x4096, .f32⟩
  | .hbm, ⟨5, _⟩ => ⟨S8192x4096, .bf16⟩
  | .hbm, ⟨6, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S512x4096, .bf16⟩
  | .local _ .vmem, ⟨8, _⟩ => ⟨S512x4096, .bf16⟩
  | .local _ .vmem, ⟨9, _⟩ => ⟨S512x4096, .f32⟩
  | .local _ .vmem, ⟨10, _⟩ => ⟨S512x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference7Ideal.lean ====
abbrev S8192x4096 : Shape := ⟨2, ![8192, 4096]⟩
abbrev S4096 : Shape := ⟨1, ![4096]⟩
abbrev S4x1x4096 : Shape := ⟨3, ![4, 1, 4096]⟩
abbrev S4x2048x4096 : Shape := ⟨3, ![4, 2048, 4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩

abbrev nBuf : Space → Nat
  | .hbm => 30
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4x1x4096, .f32⟩
  | .hbm, ⟨3, _⟩ => ⟨S4x1x4096, .f32⟩
  | .hbm, ⟨4, _⟩ => ⟨S4x2048x4096, .f32⟩
  | .hbm, ⟨5, _⟩ => ⟨S4x2048x4096, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x4096, .f32⟩
  | .hbm, ⟨17, _⟩ => ⟨S4x2048x4096, .f32⟩
  | .hbm, ⟨18, _⟩ => ⟨S1x1x4096, .f32⟩
  | .hbm, ⟨19, _⟩ => ⟨S4x2048x4096, .f32⟩
  | .hbm, ⟨20, _⟩ => ⟨S4x2048x4096, .f32⟩
  | .hbm, ⟨21, _⟩ => ⟨S_, .f32⟩
  | .hbm, ⟨22, _⟩ => ⟨S4x1x4096, .f32⟩
  | .hbm, ⟨23, _⟩ => ⟨S4x1x4096, .f32⟩
  | .hbm, ⟨24, _⟩ => ⟨S4x2048x4096, .f32⟩
  | .hbm, ⟨25, _⟩ => ⟨S4x2048x4096, .f32⟩
  | .hbm, ⟨26, _⟩ => ⟨S4x2048x4096, .f32⟩
  | .hbm, ⟨27, _⟩ => ⟨S4x2048x4096, .f32⟩
  | .hbm, ⟨28, _⟩ => ⟨S8192x4096, .f32⟩
  | .hbm, ⟨29, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Kernel8.lean ====
abbrev S32x4096 : Shape := ⟨2, ![32, 4096]⟩
abbrev S4096 : Shape := ⟨1, ![4096]⟩
abbrev S1x32x4096 : Shape := ⟨3, ![1, 32, 4096]⟩
abbrev S1x4096 : Shape := ⟨2, ![1, 4096]⟩
abbrev S32 : Shape := ⟨1, ![32]⟩
abbrev S32x1 : Shape := ⟨2, ![32, 1]⟩

abbrev nBuf : Space → Nat
  | .hbm => 7
  | .vmem => 6
  | .smem => 0
  | _ => 0

abbrev bufTy : (tb : Table) → Fin (tcTables nBuf tb) → BufTy
  | .hbm, ⟨0, _⟩ => ⟨S32x4096, .f32⟩
  | .hbm, ⟨1, _⟩ => ⟨S4096, .f32⟩
  | .hbm, ⟨2, _⟩ => ⟨S1x32x4096, .f32⟩
  | .hbm, ⟨3, _⟩ => ⟨S1x32x4096, .f32⟩
  | .hbm, ⟨4, _⟩ => ⟨S1x4096, .f32⟩
  | .hbm, ⟨5, _⟩ => ⟨S32x4096, .bf16⟩
  | .hbm, ⟨6, _⟩ => ⟨S32x4096, .f32⟩
  | .local _ .vmem, ⟨0, _⟩ => ⟨S32x4096, .f32⟩
  | .local _ .vmem, ⟨1, _⟩ => ⟨S1x4096, .f32⟩
  | .local _ .vmem, ⟨2, _⟩ => ⟨S1x32x4096, .f32⟩
  | .local _ .vmem, ⟨3, _⟩ => ⟨S1x32x4096, .f32⟩
  | .local _ .vmem, ⟨4, _⟩ => ⟨S32x4096, .bf16⟩
  | .local _ .vmem, ⟨5, _⟩ => ⟨S32x4096, .f32⟩
  | _, _ => ⟨S32x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== Reference8Ideal.lean ====
abbrev S32x4096 : Shape := ⟨2, ![32, 4096]⟩
abbrev S4096 : Shape := ⟨1, ![4096]⟩
abbrev S1x32x4096 : Shape := ⟨3, ![1, 32, 4096]⟩
abbrev S_ : Shape := ⟨0, ![]⟩
abbrev S32 : Shape := ⟨1, ![32]⟩
abbrev S32x1 : Shape := ⟨2, ![32, 1]⟩
abbrev S1x4096 : Shape := ⟨2, ![1, 4096]⟩

abbrev nBuf : Space → Nat
  | .hbm => 28
  | .vmem => 0
  | .smem => 0
  | _ => 0

abbrev bufTy : (tb : Table) → Fin (tcTables nBuf tb) → BufTy
  | .hbm, ⟨0, _⟩ => ⟨S32x4096, .f32⟩
  | .hbm, ⟨1, _⟩ => ⟨S4096, .f32⟩
  | .hbm, ⟨2, _⟩ => ⟨S1x32x4096, .f32⟩
  | .hbm, ⟨3, _⟩ => ⟨S1x32x4096, .f32⟩
  | .hbm, ⟨4, _⟩ => ⟨S32x4096, .f32⟩
  | .hbm, ⟨5, _⟩ => ⟨S_, .f32⟩
  | .hbm, ⟨6, _⟩ => ⟨S32, .f32⟩
  | .hbm, ⟨7, _⟩ => ⟨S32x1, .f32⟩
  | .hbm, ⟨8, _⟩ => ⟨S_, .f32⟩
  | .hbm, ⟨9, _⟩ => ⟨S32x1, .f32⟩
  | .hbm, ⟨10, _⟩ => ⟨S32x1, .f32⟩
  | .hbm, ⟨11, _⟩ => ⟨S_, .f32⟩
  | .hbm, ⟨12, _⟩ => ⟨S32x1, .f32⟩
  | .hbm, ⟨13, _⟩ => ⟨S32x1, .f32⟩
  | .hbm, ⟨14, _⟩ => ⟨S32x1, .f32⟩
  | .hbm, ⟨15, _⟩ => ⟨S32x4096, .f32⟩
  | .hbm, ⟨16, _⟩ => ⟨S32x4096, .f32⟩
  | .hbm, ⟨17, _⟩ => ⟨S1x4096, .f32⟩
  | .hbm, ⟨18, _⟩ => ⟨S32x4096, .f32⟩
  | .hbm, ⟨19, _⟩ => ⟨S32x4096, .f32⟩
  | .hbm, ⟨20, _⟩ => ⟨S32x4096, .f32⟩
  | .hbm, ⟨21, _⟩ => ⟨S_, .f32⟩
  | .hbm, ⟨22, _⟩ => ⟨S32x4096, .f32⟩
  | .hbm, ⟨23, _⟩ => ⟨S32x4096, .f32⟩
  | .hbm, ⟨24, _⟩ => ⟨S32x4096, .f32⟩
  | .hbm, ⟨25, _⟩ => ⟨S32x4096, .f32⟩
  | .hbm, ⟨26, _⟩ => ⟨S32x4096, .f32⟩
  | .hbm, ⟨27, _⟩ => ⟨S32x4096, .bf16⟩
  | _, _ => ⟨S32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Kernel9.lean ====
abbrev S8192x4096 : Shape := ⟨2, ![8192, 4096]⟩
abbrev S4096 : Shape := ⟨1, ![4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x4096, .f32⟩
  | .hbm, ⟨3, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .f32⟩
  | .local _ .vmem, ⟨4, _⟩ => ⟨S512x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Kernel9Ideal.lean ====
abbrev S8192x4096 : Shape := ⟨2, ![8192, 4096]⟩
abbrev S4096 : Shape := ⟨1, ![4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x4096, .f32⟩
  | .hbm, ⟨3, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .f32⟩
  | .local _ .vmem, ⟨4, _⟩ => ⟨S512x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference9Ideal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S8192x4096, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x4096, .f32⟩
  | .hbm, ⟨14, _⟩ => ⟨S8192x4096, .f32⟩
  | .hbm, ⟨15, _⟩ => ⟨S1x4096, .f32⟩
  | .hbm, ⟨16, _⟩ => ⟨S8192x4096, .f32⟩
  | .hbm, ⟨17, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel10.lean ====
abbrev S32x4096 : Shape := ⟨2, ![32, 4096]⟩
abbrev S4096 : Shape := ⟨1, ![4096]⟩
abbrev S1x4096 : Shape := ⟨2, ![1, 4096]⟩
abbrev S32 : Shape := ⟨1, ![32]⟩
abbrev S32x1 : Shape := ⟨2, ![32, 1]⟩

abbrev nBuf : Space → Nat
  | .hbm => 4
  | .vmem => 3
  | .smem => 0
  | _ => 0

abbrev bufTy : (tb : Table) → Fin (tcTables nBuf tb) → BufTy
  | .hbm, ⟨0, _⟩ => ⟨S32x4096, .f32⟩
  | .hbm, ⟨1, _⟩ => ⟨S4096, .f32⟩
  | .hbm, ⟨2, _⟩ => ⟨S1x4096, .f32⟩
  | .hbm, ⟨3, _⟩ => ⟨S32x4096, .f32⟩
  | .local _ .vmem, ⟨0, _⟩ => ⟨S32x4096, .f32⟩
  | .local _ .vmem, ⟨1, _⟩ => ⟨S1x4096, .f32⟩
  | .local _ .vmem, ⟨2, _⟩ => ⟨S32x4096, .f32⟩
  | _, _ => ⟨S32x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference10Ideal.lean ====
abbrev S32x4096 : Shape := ⟨2, ![32, 4096]⟩
abbrev S4096 : Shape := ⟨1, ![4096]⟩
abbrev S_ : Shape := ⟨0, ![]⟩
abbrev S32 : Shape := ⟨1, ![32]⟩
abbrev S32x1 : Shape := ⟨2, ![32, 1]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S32x4096, .f32⟩
  | .hbm, ⟨1, _⟩ => ⟨S4096, .f32⟩
  | .hbm, ⟨2, _⟩ => ⟨S32x4096, .f32⟩
  | .hbm, ⟨3, _⟩ => ⟨S_, .f32⟩
  | .hbm, ⟨4, _⟩ => ⟨S32, .f32⟩
  | .hbm, ⟨5, _⟩ => ⟨S32x1, .f32⟩
  | .hbm, ⟨6, _⟩ => ⟨S_, .f32⟩
  | .hbm, ⟨7, _⟩ => ⟨S32x1, .f32⟩
  | .hbm, ⟨8, _⟩ => ⟨S32x1, .f32⟩
  | .hbm, ⟨9, _⟩ => ⟨S_, .f32⟩
  | .hbm, ⟨10, _⟩ => ⟨S32x1, .f32⟩
  | .hbm, ⟨11, _⟩ => ⟨S32x1, .f32⟩
  | .hbm, ⟨12, _⟩ => ⟨S32x1, .f32⟩
  | .hbm, ⟨13, _⟩ => ⟨S32x4096, .f32⟩
  | .hbm, ⟨14, _⟩ => ⟨S32x4096, .f32⟩
  | .hbm, ⟨15, _⟩ => ⟨S1x4096, .f32⟩
  | .hbm, ⟨16, _⟩ => ⟨S32x4096, .f32⟩
  | .hbm, ⟨17, _⟩ => ⟨S32x4096, .f32⟩
  | _, _ => ⟨S32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel11.lean ====
abbrev S8192x4096 : Shape := ⟨2, ![8192, 4096]⟩
abbrev S1x4096x12288 : Shape := ⟨3, ![1, 4096, 12288]⟩
abbrev S80x4096 : Shape := ⟨2, ![80, 4096]⟩
abbrev S8192x6144 : Shape := ⟨2, ![8192, 6144]⟩
abbrev S80x6144 : Shape := ⟨2, ![80, 6144]⟩
abbrev S1024x4096 : Shape := ⟨2, ![1024, 4096]⟩
abbrev S1x4096x512 : Shape := ⟨3, ![1, 4096, 512]⟩
abbrev S1024x512 : Shape := ⟨2, ![1024, 512]⟩
abbrev S80x512 : Shape := ⟨2, ![80, 512]⟩
abbrev S4096x512 : Shape := ⟨2, ![4096, 512]⟩

abbrev nBuf : Space → Nat
  | .hbm => 5
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S1x4096x12288, .f32⟩
  | .hbm, ⟨2, _⟩ => ⟨S80x4096, .bf16⟩
  | .hbm, ⟨3, _⟩ => ⟨S8192x6144, .f32⟩
  | .hbm, ⟨4, _⟩ => ⟨S80x6144, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S80x4096, .bf16⟩
  | .local _ .vmem, ⟨5, _⟩ => ⟨S1024x512, .f32⟩
  | .local _ .vmem, ⟨6, _⟩ => ⟨S1024x512, .f32⟩
  | .local _ .vmem, ⟨7, _⟩ => ⟨S80x512, .f32⟩
  | .local _ .vmem, ⟨8, _⟩ => ⟨S80x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 12], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi arg1 c12_i32
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c11_i32 : BitVec 32 := 11#32
  let v1 : BitVec 32 := Scalar.select v0 arg1 c11_i32
  let c0_i32_0 : BitVec 32 := 0#32
  let c0_i32_1 : BitVec 32 := 0#32
  ![c0_i32_0.toNat, v1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S80x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S80x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference11Ideal.lean ====
abbrev S8192x4096 : Shape := ⟨2, ![8192, 4096]⟩
abbrev S1x4096x12288 : Shape := ⟨3, ![1, 4096, 12288]⟩
abbrev S80x4096 : Shape := ⟨2, ![80, 4096]⟩
abbrev S4096x12288 : Shape := ⟨2, ![4096, 12288]⟩
abbrev S4096x6144 : Shape := ⟨2, ![4096, 6144]⟩
abbrev S8192x6144 : Shape := ⟨2, ![8192, 6144]⟩
abbrev S80x6144 : Shape := ⟨2, ![80, 6144]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x12288, .f32⟩
  | .hbm, ⟨2, _⟩ => ⟨S80x4096, .bf16⟩
  | .hbm, ⟨3, _⟩ => ⟨S4096x12288, .f32⟩
  | .hbm, ⟨4, _⟩ => ⟨S4096x6144, .f32⟩
  | .hbm, ⟨5, _⟩ => ⟨S8192x4096, .f32⟩
  | .hbm, ⟨6, _⟩ => ⟨S8192x6144, .f32⟩
  | .hbm, ⟨7, _⟩ => ⟨S80x4096, .f32⟩
  | .hbm, ⟨8, _⟩ => ⟨S80x6144, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S8192x4096 : Shape := ⟨2, ![8192, 4096]⟩
abbrev S4x1x4096 : Shape := ⟨3, ![4, 1, 4096]⟩
abbrev S1x3x4096 : Shape := ⟨3, ![1, 3, 4096]⟩
abbrev S1x4096x96 : Shape := ⟨3, ![1, 4096, 96]⟩
abbrev S1x4096x256 : Shape := ⟨3, ![1, 4096, 256]⟩
abbrev S3x4096 : Shape := ⟨2, ![3, 4096]⟩
abbrev S_ : Shape := ⟨0, ![]⟩
abbrev S8x4096 : Shape := ⟨2, ![8, 4096]⟩
abbrev S4096x96 : Shape := ⟨2, ![4096, 96]⟩
abbrev S4096x128 : Shape := ⟨2, ![4096, 128]⟩
abbrev S4096x256 : Shape := ⟨2, ![4096, 256]⟩
abbrev S8192x128 : Shape := ⟨2, ![8192, 128]⟩
abbrev S8192x256 : Shape := ⟨2, ![8192, 256]⟩
abbrev S256x4096 : Shape := ⟨2, ![256, 4096]⟩
abbrev S1x1x4096 : Shape := ⟨3, ![1, 1, 4096]⟩
abbrev S256x128 : Shape := ⟨2, ![256, 128]⟩
abbrev S256x256 : Shape := ⟨2, ![256, 256]⟩
abbrev S256x1 : Shape := ⟨2, ![256, 1]⟩
abbrev S1x4096 : Shape := ⟨2, ![1, 4096]⟩

abbrev nBuf : Space → Nat
  | .hbm => 25
  | .vmem => 16
  | .smem => 0
  | _ => 0

abbrev bufTy : (tb : Table) → Fin (tcTables nBuf tb) → BufTy
  | .hbm, ⟨0, _⟩ => ⟨S8192x4096, .f32⟩
  | .hbm, ⟨1, _⟩ => ⟨S4x1x4096, .f32⟩
  | .hbm, ⟨2, _⟩ => ⟨S1x3x4096, .f32⟩
  | .hbm, ⟨3, _⟩ => ⟨S1x4096x96, .f32⟩
  | .hbm, ⟨4, _⟩ => ⟨S1x4096x96, .f32⟩
  | .hbm, ⟨5, _⟩ => ⟨S1x4096x256, .f32⟩
  | .hbm, ⟨6, _⟩ => ⟨S3x4096, .f32⟩
  | .hbm, ⟨7, _⟩ => ⟨S_, .i32⟩
  | .hbm, ⟨8, _⟩ => ⟨S_, .f32⟩
  | .hbm, ⟨9, _⟩ => ⟨S8x4096, .f32⟩
  | .hbm, ⟨10, _⟩ => ⟨S4096x96, .f32⟩
  | .hbm, ⟨11, _⟩ => ⟨S_, .i32⟩
  | .hbm, ⟨12, _⟩ => ⟨S_, .f32⟩
  | .hbm, ⟨13, _⟩ => ⟨S4096x128, .f32⟩
  | .hbm, ⟨14, _⟩ => ⟨S4096x128, .bf16⟩
  | .hbm, ⟨15, _⟩ => ⟨S4096x96, .f32⟩
  | .hbm, ⟨16, _⟩ => ⟨S_, .i32⟩
  | .hbm, ⟨17, _⟩ => ⟨S_, .f32⟩
  | .hbm, ⟨18, _⟩ => ⟨S4096x128, .f32⟩
  | .hbm, ⟨19, _⟩ => ⟨S4096x128, .bf16⟩
  | .hbm, ⟨20, _⟩ => ⟨S4096x256, .f32⟩
  | .hbm, ⟨21, _⟩ => ⟨S4096x256, .bf16⟩
  | .hbm, ⟨22, _⟩ => ⟨S8192x128, .bf16⟩
  | .hbm, ⟨23, _⟩ => ⟨S8192x128, .bf16⟩
  | .hbm, ⟨24, _⟩ => ⟨S8192x256, .bf16⟩
  | .local _ .vmem, ⟨0, _⟩ => ⟨S256x4096, .f32⟩
  | .local _ .vmem, ⟨1, _⟩ => ⟨S256x4096, .f32⟩
  | .local _ .vmem, ⟨2, _⟩ => ⟨S8x4096, .f32⟩
  | .local _ .vmem, ⟨3, _⟩ => ⟨S8x4096, .f32⟩
  | .local _ .vmem, ⟨4, _⟩ => ⟨S1x1x4096, .f32⟩
  | .local _ .vmem, ⟨5, _⟩ => ⟨S1x1x4096, .f32⟩
  | .local _ .vmem, ⟨6, _⟩ => ⟨S8x4096, .f32⟩
  | .local _ .vmem, ⟨7, _⟩ => ⟨S4096x128, .bf16⟩
  | .local _ .vmem, ⟨8, _⟩ => ⟨S4096x128, .bf16⟩
  | .local _ .vmem, ⟨9, _⟩ => ⟨S4096x256, .bf16⟩
  | .local _ .vmem, ⟨10, _⟩ => ⟨S256x128, .bf16⟩
  | .local _ .vmem, ⟨11, _⟩ => ⟨S256x128, .bf16⟩
  | .local _ .vmem, ⟨12, _⟩ => ⟨S256x128, .bf16⟩
  | .local _ .vmem, ⟨13, _⟩ => ⟨S256x128, .bf16⟩
  | .local _ .vmem, ⟨14, _⟩ => ⟨S256x256, .bf16⟩
  | .local _ .vmem, ⟨15, _⟩ => ⟨S256x256, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_call1_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c_1 : Ref sig .tc := ⟨.hbm, 16, rfl⟩
abbrev main_call2_v0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev main_v10_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let c256_i32 : BitVec 32 := 256#32
  let v0 : BitVec 32 := Scalar.muli arg0 c256_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference12Ideal.lean ====
abbrev S8192x4096 : Shape := ⟨2, ![8192, 4096]⟩
abbrev S4x1x4096 : Shape := ⟨3, ![4, 1, 4096]⟩
abbrev S1x3x4096 : Shape := ⟨3, ![1, 3, 4096]⟩
abbrev S1x4096x96 : Shape := ⟨3, ![1, 4096, 96]⟩
abbrev S1x4096x256 : Shape := ⟨3, ![1, 4096, 256]⟩
abbrev S4x2048x4096 : Shape := ⟨3, ![4, 2048, 4096]⟩
abbrev S4x2047x4096 : Shape := ⟨3, ![4, 2047, 4096]⟩
abbrev S1x1x4096 : Shape := ⟨3, ![1, 1, 4096]⟩
abbrev S4096 : Shape := ⟨1, ![4096]⟩
abbrev S4096x96 : Shape := ⟨2, ![4096, 96]⟩
abbrev S4x2048x96 : Shape := ⟨3, ![4, 2048, 96]⟩
abbrev S8192x96 : Shape := ⟨2, ![8192, 96]⟩
abbrev S4096x256 : Shape := ⟨2, ![4096, 256]⟩
abbrev S4x2048x256 : Shape := ⟨3, ![4, 2048, 256]⟩
abbrev S_ : Shape := ⟨0, ![]⟩
abbrev S8192x256 : Shape := ⟨2, ![8192, 256]⟩
abbrev S8192x128 : Shape := ⟨2, ![8192, 128]⟩

abbrev nBuf : Space → Nat
  | .hbm => 55
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4x1x4096, .f32⟩
  | .hbm, ⟨2, _⟩ => ⟨S1x3x4096, .f32⟩
  | .hbm, ⟨3, _⟩ => ⟨S1x4096x96, .f32⟩
  | .hbm, ⟨4, _⟩ => ⟨S1x4096x96, .f32⟩
  | .hbm, ⟨5, _⟩ => ⟨S1x4096x256, .f32⟩
  | .hbm, ⟨6, _⟩ => ⟨S4x2048x4096, .f32⟩
  | .hbm, ⟨7, _⟩ => ⟨S4x2047x4096, .f32⟩
  | .hbm, ⟨8, _⟩ => ⟨S4x2048x4096, .f32⟩
  | .hbm, ⟨9, _⟩ => ⟨S4x2048x4096, .f32⟩
  | .hbm, ⟨10, _⟩ => ⟨S1x1x4096, .f32⟩
  | .hbm, ⟨11, _⟩ => ⟨S4096, .f32⟩
  | .hbm, ⟨12, _⟩ => ⟨S1x1x4096, .f32⟩
  | .hbm, ⟨13, _⟩ => ⟨S4x2048x4096, .f32⟩
  | .hbm, ⟨14, _⟩ => ⟨S4x2048x4096, .f32⟩
  | .hbm, ⟨15, _⟩ => ⟨S4x2048x4096, .f32⟩
  | .hbm, ⟨16, _⟩ => ⟨S4096x96, .f32⟩
  | .hbm, ⟨17, _⟩ => ⟨S4x2048x96, .f32⟩
  | .hbm, ⟨18, _⟩ => ⟨S4x2048x96, .f32⟩
  | .hbm, ⟨19, _⟩ => ⟨S8192x96, .f32⟩
  | .hbm, ⟨20, _⟩ => ⟨S1x1x4096, .f32⟩
  | .hbm, ⟨21, _⟩ => ⟨S4096, .f32⟩
  | .hbm, ⟨22, _⟩ => ⟨S1x1x4096, .f32⟩
  | .hbm, ⟨23, _⟩ => ⟨S4x2048x4096, .f32⟩
  | .hbm, ⟨24, _⟩ => ⟨S4x2048x4096, .f32⟩
  | .hbm, ⟨25, _⟩ => ⟨S4x2048x4096, .f32⟩
  | .hbm, ⟨26, _⟩ => ⟨S4096x96, .f32⟩
  | .hbm, ⟨27, _⟩ => ⟨S4x2048x96, .f32⟩
  | .hbm, ⟨28, _⟩ => ⟨S8192x96, .f32⟩
  | .hbm, ⟨29, _⟩ => ⟨S1x1x4096, .f32⟩
  | .hbm, ⟨30, _⟩ => ⟨S4096, .f32⟩
  | .hbm, ⟨31, _⟩ => ⟨S1x1x4096, .f32⟩
  | .hbm, ⟨32, _⟩ => ⟨S4x2048x4096, .f32⟩
  | .hbm, ⟨33, _⟩ => ⟨S4x2048x4096, .f32⟩
  | .hbm, ⟨34, _⟩ => ⟨S4x2048x4096, .f32⟩
  | .hbm, ⟨35, _⟩ => ⟨S4096x256, .f32⟩
  | .hbm, ⟨36, _⟩ => ⟨S4x2048x256, .f32⟩
  | .hbm, ⟨37, _⟩ => ⟨S4x2048x256, .f32⟩
  | .hbm, ⟨38, _⟩ => ⟨S4x2048x256, .f32⟩
  | .hbm, ⟨39, _⟩ => ⟨S_, .f32⟩
  | .hbm, ⟨40, _⟩ => ⟨S4x2048x256, .f32⟩
  | .hbm, ⟨41, _⟩ => ⟨S4x2048x256, .f32⟩
  | .hbm, ⟨42, _⟩ => ⟨S_, .f32⟩
  | .hbm, ⟨43, _⟩ => ⟨S4x2048x256, .f32⟩
  | .hbm, ⟨44, _⟩ => ⟨S4x2048x256, .f32⟩
  | .hbm, ⟨45, _⟩ => ⟨S8192x256, .f32⟩
  | .hbm, ⟨46, _⟩ => ⟨S_, .i32⟩
  | .hbm, ⟨47, _⟩ => ⟨S_, .f32⟩
  | .hbm, ⟨48, _⟩ => ⟨S8192x128, .f32⟩
  | .hbm, ⟨49, _⟩ => ⟨S_, .i32⟩
  | .hbm, ⟨50, _⟩ => ⟨S_, .f32⟩
  | .hbm, ⟨51, _⟩ => ⟨S8192x128, .f32⟩
  | .hbm, ⟨52, _⟩ => ⟨S8192x128, .bf16⟩
  | .hbm, ⟨53, _⟩ => ⟨S8192x128, .bf16⟩
  | .hbm, ⟨54, _⟩ => ⟨S8192x256, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_cst : Ref sig .tc := ⟨.hbm, 39, rfl⟩
abbrev main_v33 : Ref sig .tc := ⟨.hbm, 40, rfl⟩
abbrev main_v34 : Ref sig .tc := ⟨.hbm, 41, rfl⟩
abbrev main_cst_0 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_c : Ref sig .tc := ⟨.hbm, 46, rfl⟩
abbrev main_call0_v0 : Ref sig .tc := ⟨.hbm, 47, rfl⟩
abbrev main_v38 : Ref sig .tc := ⟨.hbm, 48, rfl⟩
abbrev main_c_1 : Ref sig .tc := ⟨.hbm, 49, rfl⟩
abbrev main_call1_v0 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩

abbrev nD : Nat := 1
abbrev τ : Topo := Topo.v7x

variable {F : FTy → Type} [FloatOps F]
-- ==== Kernel13.lean ====
abbrev S4x4096 : Shape := ⟨2, ![4, 4096]⟩
abbrev S32x4096 : Shape := ⟨2, ![32, 4096]⟩
abbrev S1x4096x36864 : Shape := ⟨3, ![1, 4096, 36864]⟩
abbrev S1x36864 : Shape := ⟨2, ![1, 36864]⟩
abbrev S36x4096 : Shape := ⟨2, ![36, 4096]⟩
abbrev S_ : Shape := ⟨0, ![]⟩
abbrev S40x4096 : Shape := ⟨2, ![40, 4096]⟩
abbrev S4096x36864 : Shape := ⟨2, ![4096, 36864]⟩
abbrev S36864 : Shape := ⟨1, ![36864]⟩
abbrev S40x36864 : Shape := ⟨2, ![40, 36864]⟩
abbrev S4096x512 : Shape := ⟨2, ![4096, 512]⟩
abbrev S1x512 : Shape := ⟨2, ![1, 512]⟩
abbrev S40x512 : Shape := ⟨2, ![40, 512]⟩

abbrev nBuf : Space → Nat
  | .hbm => 12
  | .vmem => 7
  | .smem => 0
  | _ => 0

abbrev bufTy : (tb : Table) → Fin (tcTables nBuf tb) → BufTy
  | .hbm, ⟨0, _⟩ => ⟨S4x4096, .f32⟩
  | .hbm, ⟨1, _⟩ => ⟨S32x4096, .f32⟩
  | .hbm, ⟨2, _⟩ => ⟨S1x4096x36864, .f32⟩
  | .hbm, ⟨3, _⟩ => ⟨S1x36864, .f32⟩
  | .hbm, ⟨4, _⟩ => ⟨S36x4096, .f32⟩
  | .hbm, ⟨5, _⟩ => ⟨S_, .i32⟩
  | .hbm, ⟨6, _⟩ => ⟨S_, .f32⟩
  | .hbm, ⟨7, _⟩ => ⟨S40x4096, .f32⟩
  | .hbm, ⟨8, _⟩ => ⟨S4096x36864, .f32⟩
  | .hbm, ⟨9, _⟩ => ⟨S36864, .f32⟩
  | .hbm, ⟨10, _⟩ => ⟨S1x36864, .f32⟩
  | .hbm, ⟨11, _⟩ => ⟨S40x36864, .f32⟩
  | .local _ .vmem, ⟨0, _⟩ => ⟨S40x4096, .f32⟩
  | .local _ .vmem, ⟨1, _⟩ => ⟨S4096x512, .f32⟩
  | .local _ .vmem, ⟨2, _⟩ => ⟨S4096x512, .f32⟩
  | .local _ .vmem, ⟨3, _⟩ => ⟨S1x512, .f32⟩
  | .local _ .vmem, ⟨4, _⟩ => ⟨S1x512, .f32⟩
  | .local _ .vmem, ⟨5, _⟩ => ⟨S40x512, .f32⟩
  | .local _ .vmem, ⟨6, _⟩ => ⟨S40x512, .f32⟩
  | _, _ => ⟨S4x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![72], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S40x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S40x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference13Ideal.lean ====
abbrev S4x4096 : Shape := ⟨2, ![4, 4096]⟩
abbrev S32x4096 : Shape := ⟨2, ![32, 4096]⟩
abbrev S1x4096x36864 : Shape := ⟨3, ![1, 4096, 36864]⟩
abbrev S1x36864 : Shape := ⟨2, ![1, 36864]⟩
abbrev S_ : Shape := ⟨0, ![]⟩
abbrev S40x4096 : Shape := ⟨2, ![40, 4096]⟩
abbrev S4096x36864 : Shape := ⟨2, ![4096, 36864]⟩
abbrev S40x36864 : Shape := ⟨2, ![40, 36864]⟩
abbrev S36864 : Shape := ⟨1, ![36864]⟩

abbrev nBuf : Space → Nat
  | .hbm => 22
  | .vmem => 0
  | .smem => 0
  | _ => 0

abbrev bufTy : (tb : Table) → Fin (tcTables nBuf tb) → BufTy
  | .hbm, ⟨0, _⟩ => ⟨S4x4096, .f32⟩
  | .hbm, ⟨1, _⟩ => ⟨S32x4096, .f32⟩
  | .hbm, ⟨2, _⟩ => ⟨S1x4096x36864, .f32⟩
  | .hbm, ⟨3, _⟩ => ⟨S1x36864, .f32⟩
  | .hbm, ⟨4, _⟩ => ⟨S_, .f32⟩
  | .hbm, ⟨5, _⟩ => ⟨S4x4096, .f32⟩
  | .hbm, ⟨6, _⟩ => ⟨S40x4096, .f32⟩
  | .hbm, ⟨7, _⟩ => ⟨S40x4096, .f32⟩
  | .hbm, ⟨8, _⟩ => ⟨S40x4096, .f32⟩
  | .hbm, ⟨9, _⟩ => ⟨S_, .f32⟩
  | .hbm, ⟨10, _⟩ => ⟨S40x4096, .f32⟩
  | .hbm, ⟨11, _⟩ => ⟨S40x4096, .f32⟩
  | .hbm, ⟨12, _⟩ => ⟨S_, .f32⟩
  | .hbm, ⟨13, _⟩ => ⟨S40x4096, .f32⟩
  | .hbm, ⟨14, _⟩ => ⟨S40x4096, .f32⟩
  | .hbm, ⟨15, _⟩ => ⟨S40x4096, .f32⟩
  | .hbm, ⟨16, _⟩ => ⟨S4096x36864, .f32⟩
  | .hbm, ⟨17, _⟩ => ⟨S40x36864, .f32⟩
  | .hbm, ⟨18, _⟩ => ⟨S36864, .f32⟩
  | .hbm, ⟨19, _⟩ => ⟨S1x36864, .f32⟩
  | .hbm, ⟨20, _⟩ => ⟨S40x36864, .f32⟩
  | .hbm, ⟨21, _⟩ => ⟨S40x36864, .f32⟩
  | _, _ => ⟨S4x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩

abbrev nD : Nat := 1
abbrev τ : Topo := Topo.v7x

variable {F : FTy → Type} [FloatOps F]
-- ==== Kernel14.lean ====
abbrev S8192x6144 : Shape := ⟨2, ![8192, 6144]⟩
abbrev S4x1x6144 : Shape := ⟨3, ![4, 1, 6144]⟩
abbrev S8192x128 : Shape := ⟨2, ![8192, 128]⟩
abbrev S8192x256 : Shape := ⟨2, ![8192, 256]⟩
abbrev S1x96x2048 : Shape := ⟨3, ![1, 96, 2048]⟩
abbrev S1x256x2048 : Shape := ⟨3, ![1, 256, 2048]⟩
abbrev S1x3x2048 : Shape := ⟨3, ![1, 3, 2048]⟩
abbrev S1x2048 : Shape := ⟨2, ![1, 2048]⟩
abbrev S1x32x64 : Shape := ⟨3, ![1, 32, 64]⟩
abbrev S96x2048 : Shape := ⟨2, ![96, 2048]⟩
abbrev S_ : Shape := ⟨0, ![]⟩
abbrev S128x2048 : Shape := ⟨2, ![128, 2048]⟩
abbrev S2048 : Shape := ⟨1, ![2048]⟩
abbrev S32x64 : Shape := ⟨2, ![32, 64]⟩
abbrev S5x2048 : Shape := ⟨2, ![5, 2048]⟩
abbrev S8x2048 : Shape := ⟨2, ![8, 2048]⟩
abbrev S3x2048 : Shape := ⟨2, ![3, 2048]⟩
abbrev S256x2048 : Shape := ⟨2, ![256, 2048]⟩
abbrev S8192x2048 : Shape := ⟨2, ![8192, 2048]⟩
abbrev S128x6144 : Shape := ⟨2, ![128, 6144]⟩
abbrev S8x6144 : Shape := ⟨2, ![8, 6144]⟩
abbrev S1x1x6144 : Shape := ⟨3, ![1, 1, 6144]⟩
abbrev S128x128 : Shape := ⟨2, ![128, 128]⟩
abbrev S128x256 : Shape := ⟨2, ![128, 256]⟩
abbrev S128x1 : Shape := ⟨2, ![128, 1]⟩
abbrev S1x6144 : Shape := ⟨2, ![1, 6144]⟩

abbrev nBuf : Space → Nat
  | .hbm => 53
  | .vmem => 33
  | .smem => 0
  | _ => 0

abbrev bufTy : (tb : Table) → Fin (tcTables nBuf tb) → BufTy
  | .hbm, ⟨0, _⟩ => ⟨S8192x6144, .f32⟩
  | .hbm, ⟨1, _⟩ => ⟨S4x1x6144, .f32⟩
  | .hbm, ⟨2, _⟩ => ⟨S8192x128, .bf16⟩
  | .hbm, ⟨3, _⟩ => ⟨S8192x128, .bf16⟩
  | .hbm, ⟨4, _⟩ => ⟨S8192x256, .bf16⟩
  | .hbm, ⟨5, _⟩ => ⟨S1x96x2048, .f32⟩
  | .hbm, ⟨6, _⟩ => ⟨S1x96x2048, .f32⟩
  | .hbm, ⟨7, _⟩ => ⟨S1x256x2048, .f32⟩
  | .hbm, ⟨8, _⟩ => ⟨S1x3x2048, .f32⟩
  | .hbm, ⟨9, _⟩ => ⟨S1x2048, .f32⟩
  | .hbm, ⟨10, _⟩ => ⟨S1x2048, .f32⟩
  | .hbm, ⟨11, _⟩ => ⟨S1x2048, .f32⟩
  | .hbm, ⟨12, _⟩ => ⟨S1x2048, .f32⟩
  | .hbm, ⟨13, _⟩ => ⟨S1x32x64, .f32⟩
  | .hbm, ⟨14, _⟩ => ⟨S96x2048, .f32⟩
  | .hbm, ⟨15, _⟩ => ⟨S_, .i32⟩
  | .hbm, ⟨16, _⟩ => ⟨S_, .f32⟩
  | .hbm, ⟨17, _⟩ => ⟨S128x2048, .f32⟩
  | .hbm, ⟨18, _⟩ => ⟨S128x2048, .bf16⟩
  | .hbm, ⟨19, _⟩ => ⟨S96x2048, .f32⟩
  | .hbm, ⟨20, _⟩ => ⟨S_, .i32⟩
  | .hbm, ⟨21, _⟩ => ⟨S_, .f32⟩
  | .hbm, ⟨22, _⟩ => ⟨S128x2048, .f32⟩
  | .hbm, ⟨23, _⟩ => ⟨S128x2048, .bf16⟩
  | .hbm, ⟨24, _⟩ => ⟨S2048, .f32⟩
  | .hbm, ⟨25, _⟩ => ⟨S2048, .f32⟩
  | .hbm, ⟨26, _⟩ => ⟨S2048, .f32⟩
  | .hbm, ⟨27, _⟩ => ⟨S2048, .f32⟩
  | .hbm, ⟨28, _⟩ => ⟨S32x64, .f32⟩
  | .hbm, ⟨29, _⟩ => ⟨S2048, .f32⟩
  | .hbm, ⟨30, _⟩ => ⟨S1x2048, .f32⟩
  | .hbm, ⟨31, _⟩ => ⟨S1x2048, .f32⟩
  | .hbm, ⟨32, _⟩ => ⟨S1x2048, .f32⟩
  | .hbm, ⟨33, _⟩ => ⟨S1x2048, .f32⟩
  | .hbm, ⟨34, _⟩ => ⟨S1x2048, .f32⟩
  | .hbm, ⟨35, _⟩ => ⟨S5x2048, .f32⟩
  | .hbm, ⟨36, _⟩ => ⟨S_, .i32⟩
  | .hbm, ⟨37, _⟩ => ⟨S_, .f32⟩
  | .hbm, ⟨38, _⟩ => ⟨S8x2048, .f32⟩
  | .hbm, ⟨39, _⟩ => ⟨S3x2048, .f32⟩
  | .hbm, ⟨40, _⟩ => ⟨S_, .i32⟩
  | .hbm, ⟨41, _⟩ => ⟨S_, .f32⟩
  | .hbm, ⟨42, _⟩ => ⟨S8x2048, .f32⟩
  | .hbm, ⟨43, _⟩ => ⟨S256x2048, .f32⟩
  | .hbm, ⟨44, _⟩ => ⟨S256x2048, .bf16⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .f32⟩
  | .local _ .vmem, ⟨0, _⟩ => ⟨S128x6144, .f32⟩
  | .local _ .vmem, ⟨1, _⟩ => ⟨S128x6144, .f32⟩
  | .local _ .vmem, ⟨2, _⟩ => ⟨S8x6144, .f32⟩
  | .local _ .vmem, ⟨3, _⟩ => ⟨S8x6144, .f32⟩
  | .local _ .vmem, ⟨4, _⟩ => ⟨S1x1x6144, .f32⟩
  | .local _ .vmem, ⟨5, _⟩ => ⟨S1x1x6144, .f32⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S128x256, .bf16⟩
  | .local _ .vmem, ⟨11, _⟩ => ⟨S128x256, .bf16⟩
  | .local _ .vmem, ⟨12, _⟩ => ⟨S128x2048, .bf16⟩
  | .local _ .vmem, ⟨13, _⟩ => ⟨S128x2048, .bf16⟩
  | .local _ .vmem, ⟨14, _⟩ => ⟨S256x2048, .bf16⟩
  | .local _ .vmem, ⟨15, _⟩ => ⟨S8x2048, .f32⟩
  | .local _ .vmem, ⟨16, _⟩ => ⟨S8x2048, .f32⟩
  | .local _ .vmem, ⟨17, _⟩ => ⟨S128x2048, .f32⟩
  | .local _ .vmem, ⟨18, _⟩ => ⟨S128x2048, .f32⟩
  | .local _ .vmem, ⟨19, _⟩ => ⟨S128x2048, .f32⟩
  | .local _ .vmem, ⟨20, _⟩ => ⟨S128x2048, .f32⟩
  | .local _ .vmem, ⟨21, _⟩ => ⟨S128x2048, .f32⟩
  | .local _ .vmem, ⟨22, _⟩ => ⟨S128x2048, .f32⟩
  | .local _ .vmem, ⟨23, _⟩ => ⟨S128x2048, .f32⟩
  | .local _ .vmem, ⟨24, _⟩ => ⟨S128x2048, .f32⟩
  | .local _ .vmem, ⟨25, _⟩ => ⟨S128x2048, .f32⟩
  | .local _ .vmem, ⟨26, _⟩ => ⟨S128x2048, .f32⟩
  | .local _ .vmem, ⟨27, _⟩ => ⟨S128x2048, .f32⟩
  | .local _ .vmem, ⟨28, _⟩ => ⟨S128x2048, .f32⟩
  | .local _ .vmem, ⟨29, _⟩ => ⟨S128x2048, .f32⟩
  | .local _ .vmem, ⟨30, _⟩ => ⟨S128x2048, .f32⟩
  | .local _ .vmem, ⟨31, _⟩ => ⟨S128x2048, .f32⟩
  | .local _ .vmem, ⟨32, _⟩ => ⟨S128x2048, .f32⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_call0_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c_0 : Ref sig .tc := ⟨.hbm, 20, rfl⟩
abbrev main_call1_v0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c_1 : Ref sig .tc := ⟨.hbm, 36, rfl⟩
abbrev main_call2_v0 : Ref sig .tc := ⟨.hbm, 37, rfl⟩
abbrev main_v18 : Ref sig .tc := ⟨.hbm, 38, rfl⟩
abbrev main_v19 : Ref sig .tc := ⟨.hbm, 39, rfl⟩
abbrev main_c_2 : Ref sig .tc := ⟨.hbm, 40, rfl⟩
abbrev main_call3_v0 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23_0 : Ref sig .tc := ⟨.hbm, 45, rfl⟩
abbrev main_v23_1 : Ref sig .tc := ⟨.hbm, 46, rfl⟩
abbrev main_v23_2 : Ref sig .tc := ⟨.hbm, 47, rfl⟩
abbrev main_v23_3 : Ref sig .tc := ⟨.hbm, 48, rfl⟩
abbrev main_v23_4 : Ref sig .tc := ⟨.hbm, 49, rfl⟩
abbrev main_v23_5 : Ref sig .tc := ⟨.hbm, 50, rfl⟩
abbrev main_v23_6 : Ref sig .tc := ⟨.hbm, 51, rfl⟩
abbrev main_v23_7 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let c128_i32 : BitVec 32 := 128#32
  let v0 : BitVec 32 := Scalar.muli arg0 c128_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x6144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S128x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S128x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S128x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S128x2048 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S128x2048 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference14Ideal.lean ====
abbrev S8192x6144 : Shape := ⟨2, ![8192, 6144]⟩
abbrev S4x1x6144 : Shape := ⟨3, ![4, 1, 6144]⟩
abbrev S8192x128 : Shape := ⟨2, ![8192, 128]⟩
abbrev S8192x256 : Shape := ⟨2, ![8192, 256]⟩
abbrev S1x96x2048 : Shape := ⟨3, ![1, 96, 2048]⟩
abbrev S1x256x2048 : Shape := ⟨3, ![1, 256, 2048]⟩
abbrev S1x3x2048 : Shape := ⟨3, ![1, 3, 2048]⟩
abbrev S1x2048 : Shape := ⟨2, ![1, 2048]⟩
abbrev S1x32x64 : Shape := ⟨3, ![1, 32, 64]⟩
abbrev S4x2048x6144 : Shape := ⟨3, ![4, 2048, 6144]⟩
abbrev S4x2047x6144 : Shape := ⟨3, ![4, 2047, 6144]⟩
abbrev S3x2048 : Shape := ⟨2, ![3, 2048]⟩
abbrev S6144 : Shape := ⟨1, ![6144]⟩
abbrev S1x1x6144 : Shape := ⟨3, ![1, 1, 6144]⟩
abbrev S8192x2048 : Shape := ⟨2, ![8192, 2048]⟩
abbrev S2048 : Shape := ⟨1, ![2048]⟩
abbrev S8192x96 : Shape := ⟨2, ![8192, 96]⟩
abbrev S96x2048 : Shape := ⟨2, ![96, 2048]⟩
abbrev S_ : Shape := ⟨0, ![]⟩
abbrev S256x2048 : Shape := ⟨2, ![256, 2048]⟩

abbrev nBuf : Space → Nat
  | .hbm => 87
  | .vmem => 0
  | .smem => 0
  | _ => 0

abbrev bufTy : (tb : Table) → Fin (tcTables nBuf tb) → BufTy
  | .hbm, ⟨0, _⟩ => ⟨S8192x6144, .f32⟩
  | .hbm, ⟨1, _⟩ => ⟨S4x1x6144, .f32⟩
  | .hbm, ⟨2, _⟩ => ⟨S8192x128, .bf16⟩
  | .hbm, ⟨3, _⟩ => ⟨S8192x128, .bf16⟩
  | .hbm, ⟨4, _⟩ => ⟨S8192x256, .bf16⟩
  | .hbm, ⟨5, _⟩ => ⟨S1x96x2048, .f32⟩
  | .hbm, ⟨6, _⟩ => ⟨S1x96x2048, .f32⟩
  | .hbm, ⟨7, _⟩ => ⟨S1x256x2048, .f32⟩
  | .hbm, ⟨8, _⟩ => ⟨S1x3x2048, .f32⟩
  | .hbm, ⟨9, _⟩ => ⟨S1x2048, .f32⟩
  | .hbm, ⟨10, _⟩ => ⟨S1x2048, .f32⟩
  | .hbm, ⟨11, _⟩ => ⟨S1x2048, .f32⟩
  | .hbm, ⟨12, _⟩ => ⟨S1x2048, .f32⟩
  | .hbm, ⟨13, _⟩ => ⟨S1x32x64, .f32⟩
  | .hbm, ⟨14, _⟩ => ⟨S4x2048x6144, .f32⟩
  | .hbm, ⟨15, _⟩ => ⟨S4x2047x6144, .f32⟩
  | .hbm, ⟨16, _⟩ => ⟨S4x2048x6144, .f32⟩
  | .hbm, ⟨17, _⟩ => ⟨S4x2048x6144, .f32⟩
  | .hbm, ⟨18, _⟩ => ⟨S3x2048, .f32⟩
  | .hbm, ⟨19, _⟩ => ⟨S6144, .f32⟩
  | .hbm, ⟨20, _⟩ => ⟨S1x1x6144, .f32⟩
  | .hbm, ⟨21, _⟩ => ⟨S4x2048x6144, .f32⟩
  | .hbm, ⟨22, _⟩ => ⟨S4x2048x6144, .f32⟩
  | .hbm, ⟨23, _⟩ => ⟨S4x2048x6144, .f32⟩
  | .hbm, ⟨24, _⟩ => ⟨S8192x6144, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S2048, .f32⟩
  | .hbm, ⟨29, _⟩ => ⟨S8192x96, .bf16⟩
  | .hbm, ⟨30, _⟩ => ⟨S8192x96, .f32⟩
  | .hbm, ⟨31, _⟩ => ⟨S96x2048, .f32⟩
  | .hbm, ⟨32, _⟩ => ⟨S8192x2048, .f32⟩
  | .hbm, ⟨33, _⟩ => ⟨S1x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S_, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x2048, .i1⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S_, .f32⟩
  | .hbm, ⟨53, _⟩ => ⟨S8192x2048, .f32⟩
  | .hbm, ⟨54, _⟩ => ⟨S8192x2048, .f32⟩
  | .hbm, ⟨55, _⟩ => ⟨S2048, .f32⟩
  | .hbm, ⟨56, _⟩ => ⟨S8192x96, .bf16⟩
  | .hbm, ⟨57, _⟩ => ⟨S8192x96, .f32⟩
  | .hbm, ⟨58, _⟩ => ⟨S96x2048, .f32⟩
  | .hbm, ⟨59, _⟩ => ⟨S8192x2048, .f32⟩
  | .hbm, ⟨60, _⟩ => ⟨S1x2048, .f32⟩
  | .hbm, ⟨61, _⟩ => ⟨S8192x2048, .f32⟩
  | .hbm, ⟨62, _⟩ => ⟨S8192x2048, .f32⟩
  | .hbm, ⟨63, _⟩ => ⟨S8192x2048, .f32⟩
  | .hbm, ⟨64, _⟩ => ⟨S8192x2048, .f32⟩
  | .hbm, ⟨65, _⟩ => ⟨S_, .f32⟩
  | .hbm, ⟨66, _⟩ => ⟨S8192x2048, .f32⟩
  | .hbm, ⟨67, _⟩ => ⟨S8192x2048, .f32⟩
  | .hbm, ⟨68, _⟩ => ⟨S_, .f32⟩
  | .hbm, ⟨69, _⟩ => ⟨S8192x2048, .f32⟩
  | .hbm, ⟨70, _⟩ => ⟨S8192x2048, .f32⟩
  | .hbm, ⟨71, _⟩ => ⟨S8192x256, .f32⟩
  | .hbm, ⟨72, _⟩ => ⟨S256x2048, .f32⟩
  | .hbm, ⟨73, _⟩ => ⟨S8192x2048, .f32⟩
  | .hbm, ⟨74, _⟩ => ⟨S8192x2048, .f32⟩
  | .hbm, ⟨75, _⟩ => ⟨S8192x2048, .f32⟩
  | .hbm, ⟨76, _⟩ => ⟨S_, .f32⟩
  | .hbm, ⟨77, _⟩ => ⟨S8192x2048, .f32⟩
  | .hbm, ⟨78, _⟩ => ⟨S8192x2048, .f32⟩
  | .hbm, ⟨79, _⟩ => ⟨S2048, .f32⟩
  | .hbm, ⟨80, _⟩ => ⟨S1x2048, .f32⟩
  | .hbm, ⟨81, _⟩ => ⟨S8192x2048, .f32⟩
  | .hbm, ⟨82, _⟩ => ⟨S8192x2048, .f32⟩
  | .hbm, ⟨83, _⟩ => ⟨S_, .f32⟩
  | .hbm, ⟨84, _⟩ => ⟨S8192x2048, .f32⟩
  | .hbm, ⟨85, _⟩ => ⟨S8192x2048, .f32⟩
  | .hbm, ⟨86, _⟩ => ⟨S8192x2048, .f32⟩
  | _, _ => ⟨S8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_call0_cst : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_v5 : Ref sig .tc := ⟨.hbm, 43, rfl⟩
abbrev main_call0_v6 : Ref sig .tc := ⟨.hbm, 44, rfl⟩
abbrev main_call0_v7 : Ref sig .tc := ⟨.hbm, 45, rfl⟩
abbrev main_call0_v8 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_v23 : Ref sig .tc := ⟨.hbm, 50, rfl⟩
abbrev main_v24 : Ref sig .tc := ⟨.hbm, 51, rfl⟩
abbrev main_cst : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_0 : Ref sig .tc := ⟨.hbm, 65, rfl⟩
abbrev main_v37 : Ref sig .tc := ⟨.hbm, 66, rfl⟩
abbrev main_v38 : Ref sig .tc := ⟨.hbm, 67, rfl⟩
abbrev main_cst_1 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_2 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_3 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩

abbrev nD : Nat := 1
abbrev τ : Topo := Topo.v7x

variable {F : FTy → Type} [FloatOps F]
-- ==== Proof.ScanParts.lean ====
/-
  ONE STEP OF THE RECURRENCE, THE KERNEL'S VECTORS READ AT AN INDEX. The kernel keeps the state of one sequence as sixteen slabs of
  64 rows and 128 lanes; a slab holds the states of two heads side by side, so that lane `l` belongs to the slab's head `l / 64` and
  is column `l % 64` of that head's state. Sums over the columns of one head are taken by one product with a 0/1 matrix whose blocks of
  64 × 64 on the diagonal are ones, on a stack of the sixteen slabs (eight rows of two). This module reads those vectors: the 0/1
  matrix, the diagonal mask, the stack, the product of a stack with the 0/1 matrix.
-/
module

public import proofs.«01_k».proof.Proof.Gen.KernelIdeal.Value
public import Idealize.ShloMosaic.Lib.Pointwise

@[expose] public section

set_option maxRecDepth 16384

noncomputable section

namespace Cert.KernelIdeal.Scan

open Cert.KernelIdeal Cert.KernelIdeal.Gen Idealize.ShloMosaic Idealize.ShloMosaic.TcCoe Idealize.SL.Sem
open Idealize.ShloMosaic.Pointwise

/-- Row and column numbers divided by 64, as the kernel computes them on words. -/
theorem block_word (k : Fin 256) :
    Scalar.select
      (IntOp.andi
        (IntOp.cmpi CmpIPredicate.ne
          (IntOp.subi (BitVec.setWidth 32 (IntOp.cmpi CmpIPredicate.sgt (BitVec.ofNat 32 k.val) 0#32))
            (BitVec.setWidth 32 (IntOp.cmpi CmpIPredicate.slt (BitVec.ofNat 32 k.val) 0#32))) 1#32)
        (IntOp.cmpi CmpIPredicate.ne (IntOp.remsi ArithUnit.vector (BitVec.ofNat 32 k.val) 64#32) 0#32))
      (IntOp.subi (IntOp.divsi ArithUnit.vector (BitVec.ofNat 32 k.val) 64#32) 1#32)
      (IntOp.divsi ArithUnit.vector (BitVec.ofNat 32 k.val) 64#32) = BitVec.ofNat 32 (k.val / 64) := by
  revert k; decide +kernel

/-- The 0/1 matrix the kernel builds from row and column numbers: one where row and column lie in the same block of 64. -/
theorem seg_apply (k c : Fin 256) :
    (kernelRun0_A.sl.r : FVec Ideal S256x256 .bf16) (ix2 k c) = if k.val / 64 = c.val / 64 then 1 else 0 := by
  unfold kernelRun0_A.sl.r
  pointwise [k0_pay6, kernelRun0_A.sl.v0, kernelRun0_A.sl.v1, kernelRun0_A.sl.v2, kernelRun0_A.sl.v3, kernelRun0_A.sl.v4,
    kernelRun0_A.sl.v6, kernelRun0_A.sl.v8, kernelRun0_A.sl.v11, kernelRun0_A.sl.v18, kernelRun0_A.sl.v19, kernelRun0_A.sl.v23,
    kernelRun0_A.sl.v26, kernelRun0_A.sl.v27, kernelRun0_A.sl.v28, kernelRun0_A.sl.v33, kernelRun0_A.sl.v36]
  have e : ∀ a b : Fin 4, IntOp.cmpi CmpIPredicate.eq (BitVec.ofNat 32 a.val) (BitVec.ofNat 32 b.val) = if a = b then 1#1 else 0#1 := by
    decide +kernel
  have h := e ⟨k.val / 64, by omega⟩ ⟨c.val / 64, by omega⟩
  simp only [block_word, Fin.mk.injEq] at h ⊢
  rw [h]
  split <;> rfl

theorem lane_word (l : Fin 128) : IntOp.remsi ArithUnit.vector (BitVec.ofNat 32 l.val) 64#32 = BitVec.ofNat 32 (l.val % 64) := by
  revert l; decide +kernel

/-- The diagonal mask: lane `l` of row `i` is kept when `l` is column `i` of its head. -/
theorem diag_apply (i : Fin 64) (l : Fin 128) :
    k0_pay7 (ix2 i l) = if l.val % 64 = i.val then 1#1 else 0#1 := by
  have h : ∀ (i : Fin 64) (l : Fin 64), IntOp.cmpi CmpIPredicate.eq
      (Scalar.select
        (IntOp.andi (IntOp.xori (IntOp.cmpi CmpIPredicate.slt (BitVec.ofNat 32 l.val) 0#32) 0#1)
          (IntOp.cmpi CmpIPredicate.ne (BitVec.ofNat 32 l.val) 0#32))
        (IntOp.addi (BitVec.ofNat 32 l.val) 64#32) (BitVec.ofNat 32 l.val)) (BitVec.ofNat 32 i.val) = if l.val = i.val then 1#1 else 0#1 := by
    decide +kernel
  pointwise [k0_pay7]
  have e : Scalar.select (Scalar.cmpi CmpIPredicate.eq 64#32 0#32) 1#32 64#32 = 64#32 := by decide
  have e' : Scalar.cmpi CmpIPredicate.slt 64#32 0#32 = 0#1 := by decide
  rw [e, e', lane_word]
  exact h i ⟨l.val % 64, Nat.mod_lt _ (by decide)⟩

/-! ## The stack of sixteen slabs -/

/-- Sixteen slabs as one matrix: eight rows of two slabs. -/
def stack (f : Fin 16 → FVec Ideal S64x128 .f32) : FVec Ideal S512x256 .f32 :=
  concatenate S512x256 0
    [⟨S64x256, concatenate S64x256 1 [⟨S64x128, f 0⟩, ⟨S64x128, f 1⟩] concatenates_S64x128_S64x128_S64x256_d1⟩,
     ⟨S64x256, concatenate S64x256 1 [⟨S64x128, f 2⟩, ⟨S64x128, f 3⟩] concatenates_S64x128_S64x128_S64x256_d1⟩,
     ⟨S64x256, concatenate S64x256 1 [⟨S64x128, f 4⟩, ⟨S64x128, f 5⟩] concatenates_S64x128_S64x128_S64x256_d1⟩,
     ⟨S64x256, concatenate S64x256 1 [⟨S64x128, f 6⟩, ⟨S64x128, f 7⟩] concatenates_S64x128_S64x128_S64x256_d1⟩,
     ⟨S64x256, concatenate S64x256 1 [⟨S64x128, f 8⟩, ⟨S64x128, f 9⟩] concatenates_S64x128_S64x128_S64x256_d1⟩,
     ⟨S64x256, concatenate S64x256 1 [⟨S64x128, f 10⟩, ⟨S64x128, f 11⟩] concatenates_S64x128_S64x128_S64x256_d1⟩,
     ⟨S64x256, concatenate S64x256 1 [⟨S64x128, f 12⟩, ⟨S64x128, f 13⟩] concatenates_S64x128_S64x128_S64x256_d1⟩,
     ⟨S64x256, concatenate S64x256 1 [⟨S64x128, f 14⟩, ⟨S64x128, f 15⟩] concatenates_S64x128_S64x128_S64x256_d1⟩]
    concatenates_S64x256_S64x256_S64x256_S64x256_S64x256_S64x256_S64x256_S64x256_S512x256_d0

/-- One row of the stack: its slab `w` at its own lanes. -/
theorem pair_apply (f : Fin 2 → FVec Ideal S64x128 .f32) (i : Fin 64) (k : Fin 256) :
    concatenate S64x256 1 [⟨S64x128, f 0⟩, ⟨S64x128, f 1⟩] concatenates_S64x128_S64x128_S64x256_d1 (ix2 i k)
      = f ⟨k.val / 128, by omega⟩ (ix2 i ⟨k.val % 128, by omega⟩) := by
  refine concatenate_ofFn_apply (t := S64x256) (s₁ := S64x128) 1 f concatenates_S64x128_S64x128_S64x256_d1 rfl 128 rfl (ix2 i k)
    ⟨k.val / 128, by omega⟩ rfl (ix2 i ⟨k.val % 128, by omega⟩) rfl ?_
  intro b hb
  match b with
  | ⟨0, _⟩ => rfl
  | ⟨1, _⟩ => exact absurd rfl hb

/-- The stack at a row and a column: slab `2 * (r / 64) + k / 128`, at its own row and lane. -/
theorem stack_apply (f : Fin 16 → FVec Ideal S64x128 .f32) (r : Fin 512) (k : Fin 256) :
    stack f (ix2 r k) = f ⟨2 * (r.val / 64) + k.val / 128, by omega⟩ (ix2 ⟨r.val % 64, by omega⟩ ⟨k.val % 128, by omega⟩) := by
  have h := concatenate_ofFn_apply (t := S512x256) (s₁ := S64x256) 0
    (fun n : Fin 8 => concatenate S64x256 1 [⟨S64x128, (fun w : Fin 2 => f ⟨2 * n.val + w.val, by omega⟩) 0⟩,
      ⟨S64x128, (fun w : Fin 2 => f ⟨2 * n.val + w.val, by omega⟩) 1⟩] concatenates_S64x128_S64x128_S64x256_d1)
    concatenates_S64x256_S64x256_S64x256_S64x256_S64x256_S64x256_S64x256_S64x256_S512x256_d0 rfl 64 rfl (ix2 r k)
    ⟨r.val / 64, by omega⟩ rfl (ix2 ⟨r.val % 64, by omega⟩ k) rfl (by
      intro b hb
      match b with
      | ⟨0, _⟩ => exact absurd rfl hb
      | ⟨1, _⟩ => rfl)
  refine Eq.trans (by rfl) (h.trans ?_)
  exact pair_apply (fun w : Fin 2 => f ⟨2 * (r.val / 64) + w.val, by omega⟩) ⟨r.val % 64, by omega⟩ k

/-- A sum over 256 columns that keeps one block of 64. -/
theorem sum_block (g : Fin 256 → EReal) (c : Fin 256) :
    (∑ k : Fin 256, g k * (if k.val / 64 = c.val / 64 then 1 else 0))
      = ∑ k : Fin 64, g ⟨64 * (c.val / 64) + k.val, by omega⟩ := by
  simp only [mul_ite, mul_one, mul_zero]
  rw [← Finset.sum_filter]
  symm
  refine Finset.sum_bij' (fun k _ => ⟨64 * (c.val / 64) + k.val, by omega⟩) (fun k _ => ⟨k.val % 64, by omega⟩) ?_ ?_ ?_ ?_ ?_
  · intro a _; simp only [Finset.mem_filter, Finset.mem_univ, true_and]; omega
  · intro a _; exact Finset.mem_univ _
  · intro a _; apply Fin.ext; show (64 * (c.val / 64) + a.val) % 64 = a.val; omega
  · intro a ha
    simp only [Finset.mem_filter, Finset.mem_univ, true_and] at ha
    apply Fin.ext; show 64 * (c.val / 64) + a.val % 64 = a.val; omega
  · intro a _; rfl

/-- The stack multiplied by the 0/1 matrix. -/
def stackDot (f : Fin 16 → FVec Ideal S64x128 .f32) : FVec Ideal S512x256 .f32 :=
  matmul dot_S512x256_S256x256_S512x256_1_0_0_1_n_n none (truncf .bf16 (stack f) bitsLt_bf16_f32)
    (kernelRun0_A.sl.r : FVec Ideal S256x256 .bf16) (constant S512x256 .f32 0x00000000#32)

/-- Slab `p` of that product: at every lane the sum over the columns of the lane's own head. -/
theorem stackDot_apply (f : Fin 16 → FVec Ideal S64x128 .f32) (r : Fin 512) (c : Fin 256) :
    stackDot f (ix2 r c) = ∑ k : Fin 64, f ⟨2 * (r.val / 64) + c.val / 128, by omega⟩
      (ix2 ⟨r.val % 64, by omega⟩ ⟨64 * (c.val % 128 / 64) + k.val, by omega⟩) := by
  have h : stackDot f (ix2 r c) = ∑ k : Fin 256, stack f (ix2 r k) * (kernelRun0_A.sl.r : FVec Ideal S256x256 .bf16) (ix2 k c) := by
    pointwise [stackDot]
  rw [h]
  simp only [seg_apply]
  rw [sum_block (fun k => stack f (ix2 r k)) c]
  refine Finset.sum_congr rfl fun k _ => ?_
  rw [stack_apply]
  have e1 : (⟨2 * (r.val / 64) + (64 * (c.val / 64) + k.val) / 128, by omega⟩ : Fin 16) = ⟨2 * (r.val / 64) + c.val / 128, by omega⟩ :=
    Fin.ext (by dsimp only; omega)
  have e2 : (⟨(64 * (c.val / 64) + k.val) % 128, by omega⟩ : Fin 128) = ⟨64 * (c.val % 128 / 64) + k.val, by omega⟩ :=
    Fin.ext (by dsimp only; omega)
  exact congr (congrArg f e1) (congrArg (ix2 _) e2)

end Cert.KernelIdeal.Scan
-- ==== Proof.ScanSlabs.lean ====
/-
  THE RUN'S TERMS IN ONE FORM FOR ALL SIXTEEN SLABS. The run names the vectors it computes slab by slab; this module gives each of
  them as one function of the slab's number: the rows and slabs loaded, the products that are summed, the new state, the row of the
  output.
-/
module

public import proofs.«01_k».proof.Proof.ScanParts
public import Idealize.ShloMosaic.Lib.Pipeline.ValueKit.Tiles
public import Idealize.ShloMosaic.Lib.Pipeline.ReadBack

@[expose] public section

set_option maxRecDepth 16384

noncomputable section

namespace Cert.KernelIdeal.Scan

open Cert.KernelIdeal Cert.KernelIdeal.Gen Idealize.ShloMosaic Idealize.ShloMosaic.TcCoe Idealize.SL.Sem
open Idealize.ShloMosaic.Pointwise

/-- Lanes `128 p … 128 p + 127` of a row. -/
def rowOf (x : Vec Ideal S1x1x2048 .f32) (p : Fin 16) : Vec Ideal S1x1x128 .f32 :=
  View.ld x (Rect.unit (s := S1x1x2048) ![0, 0, 128 * p.val] S1x1x128.size (by
    intro a; match a with
    | ⟨0, _⟩ => exact Nat.le_refl _
    | ⟨1, _⟩ => exact Nat.le_refl _
    | ⟨2, _⟩ => show 128 * p.val + 128 ≤ 2048; omega))

/-- Slab `p` of the state. -/
def slabOf (x : Vec Ideal S1x16x64x128 .f32) (p : Fin 16) : Vec Ideal S1x1x64x128 .f32 :=
  View.ld x (Rect.unit (s := S1x16x64x128) ![0, p.val, 0, 0] S1x1x64x128.size (by
    intro a; match a with
    | ⟨0, _⟩ => exact Nat.le_refl _
    | ⟨1, _⟩ => show p.val + 1 ≤ 16; omega
    | ⟨2, _⟩ => exact Nat.le_refl _
    | ⟨3, _⟩ => exact Nat.le_refl _))

theorem rowOf_apply (x : Vec Ideal S1x1x2048 .f32) (p : Fin 16) (l : Fin 128) :
    rowOf x p (ix3 0 0 l) = x (ix3 0 0 ⟨128 * p.val + l.val, by omega⟩) := by
  refine View.ld_unit_apply_of x _ _ _ (ix3 0 0 l) _ ?_
  intro a; match a with
  | ⟨0, _⟩ => rfl
  | ⟨1, _⟩ => rfl
  | ⟨2, _⟩ => rfl

theorem slabOf_apply (x : Vec Ideal S1x16x64x128 .f32) (p : Fin 16) (i : Fin 64) (l : Fin 128) :
    slabOf x p (ix4 0 0 i l) = x (ix4 0 p i l) := by
  refine View.ld_unit_apply_of x _ _ _ (ix4 0 0 i l) _ ?_
  intro a; match a with
  | ⟨0, _⟩ => rfl
  | ⟨1, _⟩ => exact (Nat.add_zero _).symm
  | ⟨2, _⟩ => exact (Nat.zero_add _).symm
  | ⟨3, _⟩ => exact (Nat.zero_add _).symm

/-- A row repeated on every row of a slab. -/
def spread (x : Vec Ideal S1x1x2048 .f32) (p : Fin 16) : FVec Ideal S64x128 .f32 :=
  broadcastTo S64x128 (shapeCast S1x128 (rowOf x p) shapeCasts_S1x1x128_S1x128) broadcasts_S1x128_S64x128

theorem spread_apply (x : Vec Ideal S1x1x2048 .f32) (p : Fin 16) (i : Fin 64) (l : Fin 128) :
    spread x p (ix2 i l) = x (ix3 0 0 ⟨128 * p.val + l.val, by omega⟩) := by
  refine Eq.trans ?_ (rowOf_apply x p l)
  pointwise [spread]

/-- Slab `p` of a stack. -/
def cut (v : FVec Ideal S512x256 .f32) (p : Fin 16) : FVec Ideal S64x128 .f32 :=
  extractStridedSlice S64x128 ![64 * (p.val / 2), 128 * (p.val % 2)] v ⟨rfl, by
    intro a; match a with
    | ⟨0, _⟩ => show 64 * (p.val / 2) + 64 ≤ 512; omega
    | ⟨1, _⟩ => show 128 * (p.val % 2) + 128 ≤ 256; omega⟩

theorem cut_apply (v : FVec Ideal S512x256 .f32) (p : Fin 16) (i : Fin 64) (l : Fin 128) :
    cut v p (ix2 i l) = v (ix2 ⟨64 * (p.val / 2) + i.val, by omega⟩ ⟨128 * (p.val % 2) + l.val, by omega⟩) := by
  pointwise [cut]

/-- Slab `p` of a stack summed over the columns of each head. -/
theorem cut_stackDot_apply (f : Fin 16 → FVec Ideal S64x128 .f32) (p : Fin 16) (i : Fin 64) (l : Fin 128) :
    cut (stackDot f) p (ix2 i l) = ∑ k : Fin 64, f p (ix2 i ⟨64 * (l.val / 64) + k.val, by omega⟩) := by
  rw [cut_apply, stackDot_apply]
  refine Finset.sum_congr rfl fun k _ => ?_
  have e0 : (⟨2 * ((64 * (p.val / 2) + i.val) / 64) + (128 * (p.val % 2) + l.val) / 128, by omega⟩ : Fin 16) = p :=
    Fin.ext (by dsimp only; omega)
  have e1 : (⟨(64 * (p.val / 2) + i.val) % 64, by omega⟩ : Fin 64) = i := Fin.ext (by dsimp only; omega)
  have e2 : (⟨64 * ((128 * (p.val % 2) + l.val) % 128 / 64) + k.val, by omega⟩ : Fin 128) = ⟨64 * (l.val / 64) + k.val, by omega⟩ :=
    Fin.ext (by dsimp only; omega)
  exact congr (congrArg f e0) (congr (congrArg ix2 e1) e2)

/-- The products of the state with the removal direction, slab by slab. -/
def prodSlab (x0 : Vec Ideal S1x1x2048 .f32) (x6 : Vec Ideal S1x16x64x128 .f32) (p : Fin 16) : FVec Ideal S64x128 .f32 :=
  mulf (shapeCast S64x128 (slabOf x6 p) shapeCasts_S1x1x64x128_S64x128) (spread x0 p)

/-- The value row laid on the diagonals. -/
def diagSlab (x5 : Vec Ideal S1x1x2048 .f32) (p : Fin 16) : FVec Ideal S64x128 .f32 :=
  select k0_pay7
    (broadcastTo S64x128 (shapeCast S1x128 (shapeCast S1x128 (rowOf x5 p) shapeCasts_S1x1x128_S1x128) shapeCasts_S1x128_S1x128)
      broadcasts_S1x128_S64x128)
    (broadcast S64x128 (Scalar.ofBits .f32 0x00000000#32))

/-- The state after the step, slab by slab. -/
def newSlab (x0 x1 x2 x3 x5 : Vec Ideal S1x1x2048 .f32) (x6 : Vec Ideal S1x16x64x128 .f32) (p : Fin 16) : FVec Ideal S64x128 .f32 :=
  addf
    (subf
      (mulf (shapeCast S64x128 (slabOf x6 p) shapeCasts_S1x1x64x128_S64x128)
        (broadcastTo S64x128 (exp (shapeCast S1x128 (rowOf x1 p) shapeCasts_S1x1x128_S1x128)) broadcasts_S1x128_S64x128))
      (mulf (cut (stackDot (prodSlab x0 x6)) p) (spread x2 p)))
    (mulf (cut (stackDot (diagSlab x5)) p) (spread x3 p))

/-- The products of the new state with the receptance row. -/
def readSlab (x0 x1 x2 x3 x4 x5 : Vec Ideal S1x1x2048 .f32) (x6 : Vec Ideal S1x16x64x128 .f32) (p : Fin 16) : FVec Ideal S64x128 .f32 :=
  mulf (newSlab x0 x1 x2 x3 x5 x6 p) (spread x4 p)

/-- Lanes `128 p … 128 p + 127` of the output row. -/
def outRow (x0 x1 x2 x3 x4 x5 : Vec Ideal S1x1x2048 .f32) (x6 : Vec Ideal S1x16x64x128 .f32) (p : Fin 16) : FVec Ideal S1x1x128 .f32 :=
  shapeCast S1x1x128
    (shapeCast S1x128
      (multiReduction .add [0] S128
        (select k0_pay7 (cut (stackDot (readSlab x0 x1 x2 x3 x4 x5 x6)) p) (broadcast S64x128 (Scalar.ofBits .f32 0x00000000#32)))
        0x00000000#32 reduces_S64x128_S128 (.inl rfl) rfl)
      shapeCasts_S128_S1x128) shapeCasts_S1x128_S1x1x128

/-- The element of a row at lane `l` of slab `p`. -/
abbrev lane (x : Vec Ideal S1x1x2048 .f32) (p : Fin 16) (l : Fin 128) : EReal := x (ix3 0 0 ⟨128 * p.val + l.val, by omega⟩)

/-- Column `k` of the head that lane `l` belongs to. -/
abbrev sameHead (l : Fin 128) (k : Fin 64) : Fin 128 := ⟨64 * (l.val / 64) + k.val, by omega⟩

theorem prodSlab_apply (x0 : Vec Ideal S1x1x2048 .f32) (x6 : Vec Ideal S1x16x64x128 .f32) (p : Fin 16) (i : Fin 64) (l : Fin 128) :
    prodSlab x0 x6 p (ix2 i l) = x6 (ix4 0 p i l) * lane x0 p l := by
  unfold prodSlab
  pointwise []
  rw [slabOf_apply, spread_apply]

theorem diagSlab_apply (x5 : Vec Ideal S1x1x2048 .f32) (p : Fin 16) (i : Fin 64) (l : Fin 128) :
    diagSlab x5 p (ix2 i l) = if l.val % 64 = i.val then lane x5 p l else 0 := by
  unfold diagSlab
  pointwise []
  rw [diag_apply, rowOf_apply]
  split <;> rfl

/-- The columns of one head hold the diagonal once. -/
theorem sum_diag (g : Fin 128 → EReal) (i : Fin 64) (l : Fin 128) :
    (∑ k : Fin 64, if (sameHead l k).val % 64 = i.val then g (sameHead l k) else 0) = g (sameHead l i) := by
  rw [Finset.sum_eq_single i]
  · rw [if_pos]; show (64 * (l.val / 64) + i.val) % 64 = i.val; omega
  · intro b _ hb
    rw [if_neg]
    show ¬ (64 * (l.val / 64) + b.val) % 64 = i.val
    intro h; exact hb (Fin.ext (by omega))
  · intro h; exact absurd (Finset.mem_univ _) h

/-- The new state at an index, in the elements of the state and of the rows. -/
def stateAt (x0 x1 x2 x3 x5 : Vec Ideal S1x1x2048 .f32) (x6 : Vec Ideal S1x16x64x128 .f32) (p : Fin 16) (i : Fin 64) (l : Fin 128) : EReal :=
  x6 (ix4 0 p i l) * Ideal.exp (lane x1 p l)
      - (∑ k : Fin 64, x6 (ix4 0 p i (sameHead l k)) * lane x0 p (sameHead l k)) * lane x2 p l
    + lane x5 p (sameHead l i) * lane x3 p l

theorem newSlab_apply (x0 x1 x2 x3 x5 : Vec Ideal S1x1x2048 .f32) (x6 : Vec Ideal S1x16x64x128 .f32) (p : Fin 16) (i : Fin 64) (l : Fin 128) :
    newSlab x0 x1 x2 x3 x5 x6 p (ix2 i l) = stateAt x0 x1 x2 x3 x5 x6 p i l := by
  unfold newSlab
  pointwise []
  rw [slabOf_apply, rowOf_apply, spread_apply, spread_apply, cut_stackDot_apply, cut_stackDot_apply]
  simp only [prodSlab_apply, diagSlab_apply]
  rw [sum_diag (fun l => lane x5 p l) i l]
  rfl

theorem readSlab_apply (x0 x1 x2 x3 x4 x5 : Vec Ideal S1x1x2048 .f32) (x6 : Vec Ideal S1x16x64x128 .f32) (p : Fin 16) (i : Fin 64) (l : Fin 128) :
    readSlab x0 x1 x2 x3 x4 x5 x6 p (ix2 i l) = stateAt x0 x1 x2 x3 x5 x6 p i l * lane x4 p l := by
  unfold readSlab
  pointwise []
  rw [newSlab_apply, spread_apply]

/-- The output at a lane: the row of the new state that the lane's head and column name, times the receptance, summed. -/
def outAt (x0 x1 x2 x3 x4 x5 : Vec Ideal S1x1x2048 .f32) (x6 : Vec Ideal S1x16x64x128 .f32) (p : Fin 16) (l : Fin 128) : EReal :=
  ∑ k : Fin 64, stateAt x0 x1 x2 x3 x5 x6 p ⟨l.val % 64, by omega⟩ (sameHead l k) * lane x4 p (sameHead l k)

theorem outRow_apply (x0 x1 x2 x3 x4 x5 : Vec Ideal S1x1x2048 .f32) (x6 : Vec Ideal S1x16x64x128 .f32) (p : Fin 16) (l : Fin 128) :
    outRow x0 x1 x2 x3 x4 x5 x6 p (ix3 0 0 l) = outAt x0 x1 x2 x3 x4 x5 x6 p l := by
  unfold outRow
  pointwise []
  simp only [diag_apply, cut_stackDot_apply, readSlab_apply]
  rw [Finset.sum_eq_single ⟨l.val % 64, by omega⟩]
  · rw [if_pos rfl]; rfl
  · intro b _ hb
    rw [if_neg]
    · rfl
    · intro h; exact hb (Fin.ext h.symm)
  · intro h; exact absurd (Finset.mem_univ _) h

end Cert.KernelIdeal.Scan
-- ==== Proof.ScanRun.lean ====
/-
  THE RUN'S NAMED TERMS ARE THE VECTORS OF ScanSlabs. A slab is read twice: once at the start, when the buffer holds the copied state,
  and once before its own new state is stored, when the slabs before it have been overwritten; both reads give the slab of the state
  that came in. With that, the two stacks, the sixteen stores of the state and the sixteen stores of the output row are the functions
  of the slab's number.
-/
module

public import proofs.«01_k».proof.Proof.ScanSlabs

@[expose] public section

set_option maxRecDepth 16384

noncomputable section

namespace Cert.KernelIdeal.Scan

open Cert.KernelIdeal Cert.KernelIdeal.Gen Idealize.ShloMosaic Idealize.ShloMosaic.TcCoe Idealize.SL.Sem
open Idealize.ShloMosaic.Pointwise

/-- A load of a rectangle of an operand's block reads the block there. -/
theorem load_eq {s : Shape} (a : Memref sig .tc .vmem s .f32) (h : a.IsWhole) (x : Vec Ideal s .f32) (r : Rect s) :
    View.readAt (Elt Ideal) a.view r.toLoadRect (h.unread x) = View.ld x r := by
  rw [View.readAt_eq_ld, h.read_unread]

section

variable (c : Dev nD) (i : grid0.Coords)
  (arg2 : Memref sig .tc .vmem S1x1x2048 .f32) (harg2 : arg2.IsWhole) (arg3 : Memref sig .tc .vmem S1x1x2048 .f32) (harg3 : arg3.IsWhole)
  (arg4 : Memref sig .tc .vmem S1x1x2048 .f32) (harg4 : arg4.IsWhole) (arg5 : Memref sig .tc .vmem S1x1x2048 .f32) (harg5 : arg5.IsWhole)
  (arg6 : Memref sig .tc .vmem S1x1x2048 .f32) (harg6 : arg6.IsWhole) (arg7 : Memref sig .tc .vmem S1x1x2048 .f32) (harg7 : arg7.IsWhole)
  (arg8 : Memref sig .tc .vmem S1x16x64x128 .f32) (harg8 : arg8.IsWhole) (arg9 : Memref sig .tc .vmem S1x1x2048 .f32) (harg9 : arg9.IsWhole)
  (arg10 : Memref sig .tc .vmem S1x16x64x128 .f32) (harg10 : arg10.IsWhole) (hc0 : cond0_0 i)
  (x0 x1 x2 x3 x4 x5 : Vec Ideal S1x1x2048 .f32) (x6 : Vec Ideal S1x16x64x128 .f32)

/-- The copy of the state into the output buffer stores the state. -/
theorem copied : kernelRun0_A.sl.v847 c arg8 harg8 x6 = x6 := by
  unfold kernelRun0_A.sl.v847
  rw [load_eq]
  simp only [k0_pay2]
  rw [View.ld_unit_zero (by funext a; fin_cases a <;> rfl)]
  funext j
  pointwise []

theorem first_0 : kernelRun0_A.sl.v77 c arg8 harg8 arg10 x6 = slabOf x6 0 := by
  unfold kernelRun0_A.sl.v77 kernelRun0_A.sl.H8_1
  rw [copied, View.readCov_fill _ _ _ _ _ (by intro a; fin_cases a <;> rfl)]
  rfl

theorem first_1 : kernelRun0_A.sl.v83 c arg8 harg8 arg10 x6 = slabOf x6 1 := by
  unfold kernelRun0_A.sl.v83 kernelRun0_A.sl.H8_1
  rw [copied, View.readCov_fill _ _ _ _ _ (by intro a; fin_cases a <;> rfl)]
  rfl

theorem first_2 : kernelRun0_A.sl.v89 c arg8 harg8 arg10 x6 = slabOf x6 2 := by
  unfold kernelRun0_A.sl.v89 kernelRun0_A.sl.H8_1
  rw [copied, View.readCov_fill _ _ _ _ _ (by intro a; fin_cases a <;> rfl)]
  rfl

theorem first_3 : kernelRun0_A.sl.v95 c arg8 harg8 arg10 x6 = slabOf x6 3 := by
  unfold kernelRun0_A.sl.v95 kernelRun0_A.sl.H8_1
  rw [copied, View.readCov_fill _ _ _ _ _ (by intro a; fin_cases a <;> rfl)]
  rfl

theorem first_4 : kernelRun0_A.sl.v101 c arg8 harg8 arg10 x6 = slabOf x6 4 := by
  unfold kernelRun0_A.sl.v101 kernelRun0_A.sl.H8_1
  rw [copied, View.readCov_fill _ _ _ _ _ (by intro a; fin_cases a <;> rfl)]
  rfl

theorem first_5 : kernelRun0_A.sl.v107 c arg8 harg8 arg10 x6 = slabOf x6 5 := by
  unfold kernelRun0_A.sl.v107 kernelRun0_A.sl.H8_1
  rw [copied, View.readCov_fill _ _ _ _ _ (by intro a; fin_cases a <;> rfl)]
  rfl

theorem first_6 : kernelRun0_A.sl.v113 c arg8 harg8 arg10 x6 = slabOf x6 6 := by
  unfold kernelRun0_A.sl.v113 kernelRun0_A.sl.H8_1
  rw [copied, View.readCov_fill _ _ _ _ _ (by intro a; fin_cases a <;> rfl)]
  rfl

theorem first_7 : kernelRun0_A.sl.v119 c arg8 harg8 arg10 x6 = slabOf x6 7 := by
  unfold kernelRun0_A.sl.v119 kernelRun0_A.sl.H8_1
  rw [copied, View.readCov_fill _ _ _ _ _ (by intro a; fin_cases a <;> rfl)]
  rfl

theorem first_8 : kernelRun0_A.sl.v125 c arg8 harg8 arg10 x6 = slabOf x6 8 := by
  unfold kernelRun0_A.sl.v125 kernelRun0_A.sl.H8_1
  rw [copied, View.readCov_fill _ _ _ _ _ (by intro a; fin_cases a <;> rfl)]
  rfl

theorem first_9 : kernelRun0_A.sl.v131 c arg8 harg8 arg10 x6 = slabOf x6 9 := by
  unfold kernelRun0_A.sl.v131 kernelRun0_A.sl.H8_1
  rw [copied, View.readCov_fill _ _ _ _ _ (by intro a; fin_cases a <;> rfl)]
  rfl

theorem first_10 : kernelRun0_A.sl.v137 c arg8 harg8 arg10 x6 = slabOf x6 10 := by
  unfold kernelRun0_A.sl.v137 kernelRun0_A.sl.H8_1
  rw [copied, View.readCov_fill _ _ _ _ _ (by intro a; fin_cases a <;> rfl)]
  rfl

theorem first_11 : kernelRun0_A.sl.v143 c arg8 harg8 arg10 x6 = slabOf x6 11 := by
  unfold kernelRun0_A.sl.v143 kernelRun0_A.sl.H8_1
  rw [copied, View.readCov_fill _ _ _ _ _ (by intro a; fin_cases a <;> rfl)]
  rfl

theorem first_12 : kernelRun0_A.sl.v149 c arg8 harg8 arg10 x6 = slabOf x6 12 := by
  unfold kernelRun0_A.sl.v149 kernelRun0_A.sl.H8_1
  rw [copied, View.readCov_fill _ _ _ _ _ (by intro a; fin_cases a <;> rfl)]
  rfl

theorem first_13 : kernelRun0_A.sl.v155 c arg8 harg8 arg10 x6 = slabOf x6 13 := by
  unfold kernelRun0_A.sl.v155 kernelRun0_A.sl.H8_1
  rw [copied, View.readCov_fill _ _ _ _ _ (by intro a; fin_cases a <;> rfl)]
  rfl

theorem first_14 : kernelRun0_A.sl.v161 c arg8 harg8 arg10 x6 = slabOf x6 14 := by
  unfold kernelRun0_A.sl.v161 kernelRun0_A.sl.H8_1
  rw [copied, View.readCov_fill _ _ _ _ _ (by intro a; fin_cases a <;> rfl)]
  rfl

theorem first_15 : kernelRun0_A.sl.v167 c arg8 harg8 arg10 x6 = slabOf x6 15 := by
  unfold kernelRun0_A.sl.v167 kernelRun0_A.sl.H8_1
  rw [copied, View.readCov_fill _ _ _ _ _ (by intro a; fin_cases a <;> rfl)]
  rfl

theorem second_1 : kernelRun0_A.sl.v317 c arg2 harg2 arg3 harg3 arg4 harg4 arg5 harg5 arg7 harg7 arg8 harg8 arg10 x0 x1 x2 x3 x5 x6
    = slabOf x6 1 := by
  unfold kernelRun0_A.sl.v317
  unfold kernelRun0_A.sl.H8_2
  rw [View.readCov_skip _ _ _ _ _ (by decide)]
  unfold kernelRun0_A.sl.H8_1
  rw [copied, View.readCov_fill _ _ _ _ _ (by intro a; fin_cases a <;> rfl)]
  rfl

theorem second_2 : kernelRun0_A.sl.v343 c arg2 harg2 arg3 harg3 arg4 harg4 arg5 harg5 arg7 harg7 arg8 harg8 arg10 x0 x1 x2 x3 x5 x6
    = slabOf x6 2 := by
  unfold kernelRun0_A.sl.v343
  unfold kernelRun0_A.sl.H8_3
  rw [View.readCov_skip _ _ _ _ _ (by decide)]
  unfold kernelRun0_A.sl.H8_2
  rw [View.readCov_skip _ _ _ _ _ (by decide)]
  unfold kernelRun0_A.sl.H8_1
  rw [copied, View.readCov_fill _ _ _ _ _ (by intro a; fin_cases a <;> rfl)]
  rfl

theorem second_3 : kernelRun0_A.sl.v369 c arg2 harg2 arg3 harg3 arg4 harg4 arg5 harg5 arg7 harg7 arg8 harg8 arg10 x0 x1 x2 x3 x5 x6
    = slabOf x6 3 := by
  unfold kernelRun0_A.sl.v369
  unfold kernelRun0_A.sl.H8_4
  rw [View.readCov_skip _ _ _ _ _ (by decide)]
  unfold kernelRun0_A.sl.H8_3
  rw [View.readCov_skip _ _ _ _ _ (by decide)]
  unfold kernelRun0_A.sl.H8_2
  rw [View.readCov_skip _ _ _ _ _ (by decide)]
  unfold kernelRun0_A.sl.H8_1
  rw [copied, View.readCov_fill _ _ _ _ _ (by intro a; fin_cases a <;> rfl)]
  rfl

theorem second_4 : kernelRun0_A.sl.v395 c arg2 harg2 arg3 harg3 arg4 harg4 arg5 harg5 arg7 harg7 arg8 harg8 arg10 x0 x1 x2 x3 x5 x6
    = slabOf x6 4 := by
  unfold kernelRun0_A.sl.v395
  unfold kernelRun0_A.sl.H8_5
  rw [View.readCov_skip _ _ _ _ _ (by decide)]
  unfold kernelRun0_A.sl.H8_4
  rw [View.readCov_skip _ _ _ _ _ (by decide)]
  unfold kernelRun0_A.sl.H8_3
  rw [View.readCov_skip _ _ _ _ _ (by decide)]
  unfold kernelRun0_A.sl.H8_2
  rw [View.readCov_skip _ _ _ _ _ (by decide)]
  unfold kernelRun0_A.sl.H8_1
  rw [copied, View.readCov_fill _ _ _ _ _ (by intro a; fin_cases a <;> rfl)]
  rfl

theorem second_5 : kernelRun0_A.sl.v421 c arg2 harg2 arg3 harg3 arg4 harg4 arg5 harg5 arg7 harg7 arg8 harg8 arg10 x0 x1 x2 x3 x5 x6
    = slabOf x6 5 := by
  unfold kernelRun0_A.sl.v421
  unfold kernelRun0_A.sl.H8_6
  rw [View.readCov_skip _ _ _ _ _ (by decide)]
  unfold kernelRun0_A.sl.H8_5
  rw [View.readCov_skip _ _ _ _ _ (by decide)]
  unfold kernelRun0_A.sl.H8_4
  rw [View.readCov_skip _ _ _ _ _ (by decide)]
  unfold kernelRun0_A.sl.H8_3
  rw [View.readCov_skip _ _ _ _ _ (by decide)]
  unfold kernelRun0_A.sl.H8_2
  rw [View.readCov_skip _ _ _ _ _ (by decide)]
  unfold kernelRun0_A.sl.H8_1
  rw [copied, View.readCov_fill _ _ _ _ _ (by intro a; fin_cases a <;> rfl)]
  rfl

theorem second_6 : kernelRun0_A.sl.v447 c arg2 harg2 arg3 harg3 arg4 harg4 arg5 harg5 arg7 harg7 arg8 harg8 arg10 x0 x1 x2 x3 x5 x6
    = slabOf x6 6 := by
  unfold kernelRun0_A.sl.v447
  unfold kernelRun0_A.sl.H8_7
  rw [View.readCov_skip _ _ _ _ _ (by decide)]
  unfold kernelRun0_A.sl.H8_6
  rw [View.readCov_skip _ _ _ _ _ (by decide)]
  unfold kernelRun0_A.sl.H8_5
  rw [View.readCov_skip _ _ _ _ _ (by decide)]
  unfold kernelRun0_A.sl.H8_4
  rw [View.readCov_skip _ _ _ _ _ (by decide)]
  unfold kernelRun0_A.sl.H8_3
  rw [View.readCov_skip _ _ _ _ _ (by decide)]
  unfold kernelRun0_A.sl.H8_2
  rw [View.readCov_skip _ _ _ _ _ (by decide)]
  unfold kernelRun0_A.sl.H8_1
  rw [copied, View.readCov_fill _ _ _ _ _ (by intro a; fin_cases a <;> rfl)]
  rfl

theorem second_7 : kernelRun0_A.sl.v473 c arg2 harg2 arg3 harg3 arg4 harg4 arg5 harg5 arg7 harg7 arg8 harg8 arg10 x0 x1 x2 x3 x5 x6
    = slabOf x6 7 := by
  unfold kernelRun0_A.sl.v473
  unfold kernelRun0_A.sl.H8_8
  rw [View.readCov_skip _ _ _ _ _ (by decide)]
  unfold kernelRun0_A.sl.H8_7
  rw [View.readCov_skip _ _ _ _ _ (by decide)]
  unfold kernelRun0_A.sl.H8_6
  rw [View.readCov_skip _ _ _ _ _ (by decide)]
  unfold kernelRun0_A.sl.H8_5
  rw [View.readCov_skip _ _ _ _ _ (by decide)]
  unfold kernelRun0_A.sl.H8_4
  rw [View.readCov_skip _ _ _ _ _ (by decide)]
  unfold kernelRun0_A.sl.H8_3
  rw [View.readCov_skip _ _ _ _ _ (by decide)]
  unfold kernelRun0_A.sl.H8_2
  rw [View.readCov_skip _ _ _ _ _ (by decide)]
  unfold kernelRun0_A.sl.H8_1
  rw [copied, View.readCov_fill _ _ _ _ _ (by intro a; fin_cases a <;> rfl)]
  rfl

theorem second_8 : kernelRun0_A.sl.v499 c arg2 harg2 arg3 harg3 arg4 harg4 arg5 harg5 arg7 harg7 arg8 harg8 arg10 x0 x1 x2 x3 x5 x6
    = slabOf x6 8 := by
  unfold kernelRun0_A.sl.v499
  unfold kernelRun0_A.sl.H8_9
  rw [View.readCov_skip _ _ _ _ _ (by decide)]
  unfold kernelRun0_A.sl.H8_8
  rw [View.readCov_skip _ _ _ _ _ (by decide)]
  unfold kernelRun0_A.sl.H8_7
  rw [View.readCov_skip _ _ _ _ _ (by decide)]
  unfold kernelRun0_A.sl.H8_6
  rw [View.readCov_skip _ _ _ _ _ (by decide)]
  unfold kernelRun0_A.sl.H8_5
  rw [View.readCov_skip _ _ _ _ _ (by decide)]
  unfold kernelRun0_A.sl.H8_4
  rw [View.readCov_skip _ _ _ _ _ (by decide)]
  unfold kernelRun0_A.sl.H8_3
  rw [View.readCov_skip _ _ _ _ _ (by decide)]
  unfold kernelRun0_A.sl.H8_2
  rw [View.readCov_skip _ _ _ _ _ (by decide)]
  unfold kernelRun0_A.sl.H8_1
  rw [copied, View.readCov_fill _ _ _ _ _ (by intro a; fin_cases a <;> rfl)]
  rfl

theorem second_9 : kernelRun0_A.sl.v525 c arg2 harg2 arg3 harg3 arg4 harg4 arg5 harg5 arg7 harg7 arg8 harg8 arg10 x0 x1 x2 x3 x5 x6
    = slabOf x6 9 := by
  unfold kernelRun0_A.sl.v525
  unfold kernelRun0_A.sl.H8_10
  rw [View.readCov_skip _ _ _ _ _ (by decide)]
  unfold kernelRun0_A.sl.H8_9
  rw [View.readCov_skip _ _ _ _ _ (by decide)]
  unfold kernelRun0_A.sl.H8_8
  rw [View.readCov_skip _ _ _ _ _ (by decide)]
  unfold kernelRun0_A.sl.H8_7
  rw [View.readCov_skip _ _ _ _ _ (by decide)]
  unfold kernelRun0_A.sl.H8_6
  rw [View.readCov_skip _ _ _ _ _ (by decide)]
  unfold kernelRun0_A.sl.H8_5
  rw [View.readCov_skip _ _ _ _ _ (by decide)]
  unfold kernelRun0_A.sl.H8_4
  rw [View.readCov_skip _ _ _ _ _ (by decide)]
  unfold kernelRun0_A.sl.H8_3
  rw [View.readCov_skip _ _ _ _ _ (by decide)]
  unfold kernelRun0_A.sl.H8_2
  rw [View.readCov_skip _ _ _ _ _ (by decide)]
  unfold kernelRun0_A.sl.H8_1
  rw [copied, View.readCov_fill _ _ _ _ _ (by intro a; fin_cases a <;> rfl)]
  rfl

theorem second_10 : kernelRun0_A.sl.v551 c arg2 harg2 arg3 harg3 arg4 harg4 arg5 harg5 arg7 harg7 arg8 harg8 arg10 x0 x1 x2 x3 x5 x6
    = slabOf x6 10 := by
  unfold kernelRun0_A.sl.v551
  unfold kernelRun0_A.sl.H8_11
  rw [View.readCov_skip _ _ _ _ _ (by decide)]
  unfold kernelRun0_A.sl.H8_10
  rw [View.readCov_skip _ _ _ _ _ (by decide)]
  unfold kernelRun0_A.sl.H8_9
  rw [View.readCov_skip _ _ _ _ _ (by decide)]
  unfold kernelRun0_A.sl.H8_8
  rw [View.readCov_skip _ _ _ _ _ (by decide)]
  unfold kernelRun0_A.sl.H8_7
  rw [View.readCov_skip _ _ _ _ _ (by decide)]
  unfold kernelRun0_A.sl.H8_6
  rw [View.readCov_skip _ _ _ _ _ (by decide)]
  unfold kernelRun0_A.sl.H8_5
  rw [View.readCov_skip _ _ _ _ _ (by decide)]
  unfold kernelRun0_A.sl.H8_4
  rw [View.readCov_skip _ _ _ _ _ (by decide)]
  unfold kernelRun0_A.sl.H8_3
  rw [View.readCov_skip _ _ _ _ _ (by decide)]
  unfold kernelRun0_A.sl.H8_2
  rw [View.readCov_skip _ _ _ _ _ (by decide)]
  unfold kernelRun0_A.sl.H8_1
  rw [copied, View.readCov_fill _ _ _ _ _ (by intro a; fin_cases a <;> rfl)]
  rfl

theorem second_11 : kernelRun0_A.sl.v577 c arg2 harg2 arg3 harg3 arg4 harg4 arg5 harg5 arg7 harg7 arg8 harg8 arg10 x0 x1 x2 x3 x5 x6
    = slabOf x6 11 := by
  unfold kernelRun0_A.sl.v577
  unfold kernelRun0_A.sl.H8_12
  rw [View.readCov_skip _ _ _ _ _ (by decide)]
  unfold kernelRun0_A.sl.H8_11
  rw [View.readCov_skip _ _ _ _ _ (by decide)]
  unfold kernelRun0_A.sl.H8_10
  rw [View.readCov_skip _ _ _ _ _ (by decide)]
  unfold kernelRun0_A.sl.H8_9
  rw [View.readCov_skip _ _ _ _ _ (by decide)]
  unfold kernelRun0_A.sl.H8_8
  rw [View.readCov_skip _ _ _ _ _ (by decide)]
  unfold kernelRun0_A.sl.H8_7
  rw [View.readCov_skip _ _ _ _ _ (by decide)]
  unfold kernelRun0_A.sl.H8_6
  rw [View.readCov_skip _ _ _ _ _ (by decide)]
  unfold kernelRun0_A.sl.H8_5
  rw [View.readCov_skip _ _ _ _ _ (by decide)]
  unfold kernelRun0_A.sl.H8_4
  rw [View.readCov_skip _ _ _ _ _ (by decide)]
  unfold kernelRun0_A.sl.H8_3
  rw [View.readCov_skip _ _ _ _ _ (by decide)]
  unfold kernelRun0_A.sl.H8_2
  rw [View.readCov_skip _ _ _ _ _ (by decide)]
  unfold kernelRun0_A.sl.H8_1
  rw [copied, View.readCov_fill _ _ _ _ _ (by intro a; fin_cases a <;> rfl)]
  rfl

theorem second_12 : kernelRun0_A.sl.v603 c arg2 harg2 arg3 harg3 arg4 harg4 arg5 harg5 arg7 harg7 arg8 harg8 arg10 x0 x1 x2 x3 x5 x6
    = slabOf x6 12 := by
  unfold kernelRun0_A.sl.v603
  unfold kernelRun0_A.sl.H8_13
  rw [View.readCov_skip _ _ _ _ _ (by decide)]
  unfold kernelRun0_A.sl.H8_12
  rw [View.readCov_skip _ _ _ _ _ (by decide)]
  unfold kernelRun0_A.sl.H8_11
  rw [View.readCov_skip _ _ _ _ _ (by decide)]
  unfold kernelRun0_A.sl.H8_10
  rw [View.readCov_skip _ _ _ _ _ (by decide)]
  unfold kernelRun0_A.sl.H8_9
  rw [View.readCov_skip _ _ _ _ _ (by decide)]
  unfold kernelRun0_A.sl.H8_8
  rw [View.readCov_skip _ _ _ _ _ (by decide)]
  unfold kernelRun0_A.sl.H8_7
  rw [View.readCov_skip _ _ _ _ _ (by decide)]
  unfold kernelRun0_A.sl.H8_6
  rw [View.readCov_skip _ _ _ _ _ (by decide)]
  unfold kernelRun0_A.sl.H8_5
  rw [View.readCov_skip _ _ _ _ _ (by decide)]
  unfold kernelRun0_A.sl.H8_4
  rw [View.readCov_skip _ _ _ _ _ (by decide)]
  unfold kernelRun0_A.sl.H8_3
  rw [View.readCov_skip _ _ _ _ _ (by decide)]
  unfold kernelRun0_A.sl.H8_2
  rw [View.readCov_skip _ _ _ _ _ (by decide)]
  unfold kernelRun0_A.sl.H8_1
  rw [copied, View.readCov_fill _ _ _ _ _ (by intro a; fin_cases a <;> rfl)]
  rfl

theorem second_13 : kernelRun0_A.sl.v629 c arg2 harg2 arg3 harg3 arg4 harg4 arg5 harg5 arg7 harg7 arg8 harg8 arg10 x0 x1 x2 x3 x5 x6
    = slabOf x6 13 := by
  unfold kernelRun0_A.sl.v629
  unfold kernelRun0_A.sl.H8_14
  rw [View.readCov_skip _ _ _ _ _ (by decide)]
  unfold kernelRun0_A.sl.H8_13
  rw [View.readCov_skip _ _ _ _ _ (by decide)]
  unfold kernelRun0_A.sl.H8_12
  rw [View.readCov_skip _ _ _ _ _ (by decide)]
  unfold kernelRun0_A.sl.H8_11
  rw [View.readCov_skip _ _ _ _ _ (by decide)]
  unfold kernelRun0_A.sl.H8_10
  rw [View.readCov_skip _ _ _ _ _ (by decide)]
  unfold kernelRun0_A.sl.H8_9
  rw [View.readCov_skip _ _ _ _ _ (by decide)]
  unfold kernelRun0_A.sl.H8_8
  rw [View.readCov_skip _ _ _ _ _ (by decide)]
  unfold kernelRun0_A.sl.H8_7
  rw [View.readCov_skip _ _ _ _ _ (by decide)]
  unfold kernelRun0_A.sl.H8_6
  rw [View.readCov_skip _ _ _ _ _ (by decide)]
  unfold kernelRun0_A.sl.H8_5
  rw [View.readCov_skip _ _ _ _ _ (by decide)]
  unfold kernelRun0_A.sl.H8_4
  rw [View.readCov_skip _ _ _ _ _ (by decide)]
  unfold kernelRun0_A.sl.H8_3
  rw [View.readCov_skip _ _ _ _ _ (by decide)]
  unfold kernelRun0_A.sl.H8_2
  rw [View.readCov_skip _ _ _ _ _ (by decide)]
  unfold kernelRun0_A.sl.H8_1
  rw [copied, View.readCov_fill _ _ _ _ _ (by intro a; fin_cases a <;> rfl)]
  rfl

theorem second_14 : kernelRun0_A.sl.v655 c arg2 harg2 arg3 harg3 arg4 harg4 arg5 harg5 arg7 harg7 arg8 harg8 arg10 x0 x1 x2 x3 x5 x6
    = slabOf x6 14 := by
  unfold kernelRun0_A.sl.v655
  unfold kernelRun0_A.sl.H8_15
  rw [View.readCov_skip _ _ _ _ _ (by decide)]
  unfold kernelRun0_A.sl.H8_14
  rw [View.readCov_skip _ _ _ _ _ (by decide)]
  unfold kernelRun0_A.sl.H8_13
  rw [View.readCov_skip _ _ _ _ _ (by decide)]
  unfold kernelRun0_A.sl.H8_12
  rw [View.readCov_skip _ _ _ _ _ (by decide)]
  unfold kernelRun0_A.sl.H8_11
  rw [View.readCov_skip _ _ _ _ _ (by decide)]
  unfold kernelRun0_A.sl.H8_10
  rw [View.readCov_skip _ _ _ _ _ (by decide)]
  unfold kernelRun0_A.sl.H8_9
  rw [View.readCov_skip _ _ _ _ _ (by decide)]
  unfold kernelRun0_A.sl.H8_8
  rw [View.readCov_skip _ _ _ _ _ (by decide)]
  unfold kernelRun0_A.sl.H8_7
  rw [View.readCov_skip _ _ _ _ _ (by decide)]
  unfold kernelRun0_A.sl.H8_6
  rw [View.readCov_skip _ _ _ _ _ (by decide)]
  unfold kernelRun0_A.sl.H8_5
  rw [View.readCov_skip _ _ _ _ _ (by decide)]
  unfold kernelRun0_A.sl.H8_4
  rw [View.readCov_skip _ _ _ _ _ (by decide)]
  unfold kernelRun0_A.sl.H8_3
  rw [View.readCov_skip _ _ _ _ _ (by decide)]
  unfold kernelRun0_A.sl.H8_2
  rw [View.readCov_skip _ _ _ _ _ (by decide)]
  unfold kernelRun0_A.sl.H8_1
  rw [copied, View.readCov_fill _ _ _ _ _ (by intro a; fin_cases a <;> rfl)]
  rfl

theorem second_15 : kernelRun0_A.sl.v681 c arg2 harg2 arg3 harg3 arg4 harg4 arg5 harg5 arg7 harg7 arg8 harg8 arg10 x0 x1 x2 x3 x5 x6
    = slabOf x6 15 := by
  unfold kernelRun0_A.sl.v681
  unfold kernelRun0_A.sl.H8_16
  rw [View.readCov_skip _ _ _ _ _ (by decide)]
  unfold kernelRun0_A.sl.H8_15
  rw [View.readCov_skip _ _ _ _ _ (by decide)]
  unfold kernelRun0_A.sl.H8_14
  rw [View.readCov_skip _ _ _ _ _ (by decide)]
  unfold kernelRun0_A.sl.H8_13
  rw [View.readCov_skip _ _ _ _ _ (by decide)]
  unfold kernelRun0_A.sl.H8_12
  rw [View.readCov_skip _ _ _ _ _ (by decide)]
  unfold kernelRun0_A.sl.H8_11
  rw [View.readCov_skip _ _ _ _ _ (by decide)]
  unfold kernelRun0_A.sl.H8_10
  rw [View.readCov_skip _ _ _ _ _ (by decide)]
  unfold kernelRun0_A.sl.H8_9
  rw [View.readCov_skip _ _ _ _ _ (by decide)]
  unfold kernelRun0_A.sl.H8_8
  rw [View.readCov_skip _ _ _ _ _ (by decide)]
  unfold kernelRun0_A.sl.H8_7
  rw [View.readCov_skip _ _ _ _ _ (by decide)]
  unfold kernelRun0_A.sl.H8_6
  rw [View.readCov_skip _ _ _ _ _ (by decide)]
  unfold kernelRun0_A.sl.H8_5
  rw [View.readCov_skip _ _ _ _ _ (by decide)]
  unfold kernelRun0_A.sl.H8_4
  rw [View.readCov_skip _ _ _ _ _ (by decide)]
  unfold kernelRun0_A.sl.H8_3
  rw [View.readCov_skip _ _ _ _ _ (by decide)]
  unfold kernelRun0_A.sl.H8_2
  rw [View.readCov_skip _ _ _ _ _ (by decide)]
  unfold kernelRun0_A.sl.H8_1
  rw [copied, View.readCov_fill _ _ _ _ _ (by intro a; fin_cases a <;> rfl)]
  rfl

/-- The stack of the removal products. -/
theorem removal : kernelRun0_A.sl.r_19 c arg2 harg2 arg8 harg8 arg10 x0 x6 = stackDot (prodSlab x0 x6) := by
  simp only [kernelRun0_A.sl.r_19, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18,
    first_0, first_1, first_2, first_3, first_4, first_5, first_6, first_7, first_8, first_9, first_10, first_11, first_12, first_13, first_14, first_15, load_eq]
  rfl

/-- The stack of the value diagonals. -/
theorem values : kernelRun0_A.sl.r_38 c arg7 harg7 x5 = stackDot (diagSlab x5) := by
  simp only [kernelRun0_A.sl.r_38, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, load_eq]
  rfl

/-- The sixteen stores of the new state, last first. -/
def stateStores : List (View.Piece (Elt Ideal) S1x16x64x128 .f32) :=
  [⟨Rect.unit (s := S1x16x64x128) ![0, 15, 0, 0] S1x1x64x128.size inb_S1x16x64x128_S1x1x64x128_0_15_0_0,
    shapeCast S1x1x64x128 (newSlab x0 x1 x2 x3 x5 x6 15) shapeCasts_S64x128_S1x1x64x128⟩,
   ⟨Rect.unit (s := S1x16x64x128) ![0, 14, 0, 0] S1x1x64x128.size inb_S1x16x64x128_S1x1x64x128_0_14_0_0,
    shapeCast S1x1x64x128 (newSlab x0 x1 x2 x3 x5 x6 14) shapeCasts_S64x128_S1x1x64x128⟩,
   ⟨Rect.unit (s := S1x16x64x128) ![0, 13, 0, 0] S1x1x64x128.size inb_S1x16x64x128_S1x1x64x128_0_13_0_0,
    shapeCast S1x1x64x128 (newSlab x0 x1 x2 x3 x5 x6 13) shapeCasts_S64x128_S1x1x64x128⟩,
   ⟨Rect.unit (s := S1x16x64x128) ![0, 12, 0, 0] S1x1x64x128.size inb_S1x16x64x128_S1x1x64x128_0_12_0_0,
    shapeCast S1x1x64x128 (newSlab x0 x1 x2 x3 x5 x6 12) shapeCasts_S64x128_S1x1x64x128⟩,
   ⟨Rect.unit (s := S1x16x64x128) ![0, 11, 0, 0] S1x1x64x128.size inb_S1x16x64x128_S1x1x64x128_0_11_0_0,
    shapeCast S1x1x64x128 (newSlab x0 x1 x2 x3 x5 x6 11) shapeCasts_S64x128_S1x1x64x128⟩,
   ⟨Rect.unit (s := S1x16x64x128) ![0, 10, 0, 0] S1x1x64x128.size inb_S1x16x64x128_S1x1x64x128_0_10_0_0,
    shapeCast S1x1x64x128 (newSlab x0 x1 x2 x3 x5 x6 10) shapeCasts_S64x128_S1x1x64x128⟩,
   ⟨Rect.unit (s := S1x16x64x128) ![0, 9, 0, 0] S1x1x64x128.size inb_S1x16x64x128_S1x1x64x128_0_9_0_0,
    shapeCast S1x1x64x128 (newSlab x0 x1 x2 x3 x5 x6 9) shapeCasts_S64x128_S1x1x64x128⟩,
   ⟨Rect.unit (s := S1x16x64x128) ![0, 8, 0, 0] S1x1x64x128.size inb_S1x16x64x128_S1x1x64x128_0_8_0_0,
    shapeCast S1x1x64x128 (newSlab x0 x1 x2 x3 x5 x6 8) shapeCasts_S64x128_S1x1x64x128⟩,
   ⟨Rect.unit (s := S1x16x64x128) ![0, 7, 0, 0] S1x1x64x128.size inb_S1x16x64x128_S1x1x64x128_0_7_0_0,
    shapeCast S1x1x64x128 (newSlab x0 x1 x2 x3 x5 x6 7) shapeCasts_S64x128_S1x1x64x128⟩,
   ⟨Rect.unit (s := S1x16x64x128) ![0, 6, 0, 0] S1x1x64x128.size inb_S1x16x64x128_S1x1x64x128_0_6_0_0,
    shapeCast S1x1x64x128 (newSlab x0 x1 x2 x3 x5 x6 6) shapeCasts_S64x128_S1x1x64x128⟩,
   ⟨Rect.unit (s := S1x16x64x128) ![0, 5, 0, 0] S1x1x64x128.size inb_S1x16x64x128_S1x1x64x128_0_5_0_0,
    shapeCast S1x1x64x128 (newSlab x0 x1 x2 x3 x5 x6 5) shapeCasts_S64x128_S1x1x64x128⟩,
   ⟨Rect.unit (s := S1x16x64x128) ![0, 4, 0, 0] S1x1x64x128.size inb_S1x16x64x128_S1x1x64x128_0_4_0_0,
    shapeCast S1x1x64x128 (newSlab x0 x1 x2 x3 x5 x6 4) shapeCasts_S64x128_S1x1x64x128⟩,
   ⟨Rect.unit (s := S1x16x64x128) ![0, 3, 0, 0] S1x1x64x128.size inb_S1x16x64x128_S1x1x64x128_0_3_0_0,
    shapeCast S1x1x64x128 (newSlab x0 x1 x2 x3 x5 x6 3) shapeCasts_S64x128_S1x1x64x128⟩,
   ⟨Rect.unit (s := S1x16x64x128) ![0, 2, 0, 0] S1x1x64x128.size inb_S1x16x64x128_S1x1x64x128_0_2_0_0,
    shapeCast S1x1x64x128 (newSlab x0 x1 x2 x3 x5 x6 2) shapeCasts_S64x128_S1x1x64x128⟩,
   ⟨Rect.unit (s := S1x16x64x128) ![0, 1, 0, 0] S1x1x64x128.size inb_S1x16x64x128_S1x1x64x128_0_1_0_0,
    shapeCast S1x1x64x128 (newSlab x0 x1 x2 x3 x5 x6 1) shapeCasts_S64x128_S1x1x64x128⟩,
   ⟨Rect.unit (s := S1x16x64x128) ![0, 0, 0, 0] S1x1x64x128.size inb_S1x16x64x128_S1x1x64x128_0_0_0_0,
    shapeCast S1x1x64x128 (newSlab x0 x1 x2 x3 x5 x6 0) shapeCasts_S64x128_S1x1x64x128⟩]

theorem store_0 : kernelRun0_A.sl.H8_2 c arg2 harg2 arg3 harg3 arg4 harg4 arg5 harg5 arg7 harg7 arg8 harg8 arg10 x0 x1 x2 x3 x5 x6
    = ⟨Rect.unit (s := S1x16x64x128) ![0, 0, 0, 0] S1x1x64x128.size inb_S1x16x64x128_S1x1x64x128_0_0_0_0,
        shapeCast S1x1x64x128 (newSlab x0 x1 x2 x3 x5 x6 0) shapeCasts_S64x128_S1x1x64x128⟩
      :: kernelRun0_A.sl.H8_1 c arg8 harg8 x6 := by
  unfold kernelRun0_A.sl.H8_2
  simp only [kernelRun0_A.sl.r_20, kernelRun0_A.sl.r_21, kernelRun0_A.sl.r_22, kernelRun0_A.sl.r_24, kernelRun0_A.sl.r_23, kernelRun0_A.sl.r_25, kernelRun0_A.sl.r_26, kernelRun0_A.sl.r_27, kernelRun0_A.sl.r_28, kernelRun0_A.sl.r_29, kernelRun0_A.sl.r_31, kernelRun0_A.sl.r_30, kernelRun0_A.sl.r_32, kernelRun0_A.sl.r_33, kernelRun0_A.sl.r_34, kernelRun0_A.sl.r_35, kernelRun0_A.sl.r_36, kernelRun0_A.sl.r_37, removal, values, first_0, load_eq]
  rfl

theorem store_1 : kernelRun0_A.sl.H8_3 c arg2 harg2 arg3 harg3 arg4 harg4 arg5 harg5 arg7 harg7 arg8 harg8 arg10 x0 x1 x2 x3 x5 x6
    = ⟨Rect.unit (s := S1x16x64x128) ![0, 1, 0, 0] S1x1x64x128.size inb_S1x16x64x128_S1x1x64x128_0_1_0_0,
        shapeCast S1x1x64x128 (newSlab x0 x1 x2 x3 x5 x6 1) shapeCasts_S64x128_S1x1x64x128⟩
      :: kernelRun0_A.sl.H8_2 c arg2 harg2 arg3 harg3 arg4 harg4 arg5 harg5 arg7 harg7 arg8 harg8 arg10 x0 x1 x2 x3 x5 x6 := by
  unfold kernelRun0_A.sl.H8_3
  simp only [load_eq, removal, values, second_1, load_eq]
  rfl

theorem store_2 : kernelRun0_A.sl.H8_4 c arg2 harg2 arg3 harg3 arg4 harg4 arg5 harg5 arg7 harg7 arg8 harg8 arg10 x0 x1 x2 x3 x5 x6
    = ⟨Rect.unit (s := S1x16x64x128) ![0, 2, 0, 0] S1x1x64x128.size inb_S1x16x64x128_S1x1x64x128_0_2_0_0,
        shapeCast S1x1x64x128 (newSlab x0 x1 x2 x3 x5 x6 2) shapeCasts_S64x128_S1x1x64x128⟩
      :: kernelRun0_A.sl.H8_3 c arg2 harg2 arg3 harg3 arg4 harg4 arg5 harg5 arg7 harg7 arg8 harg8 arg10 x0 x1 x2 x3 x5 x6 := by
  unfold kernelRun0_A.sl.H8_4
  simp only [kernelRun0_A.sl.r_43, kernelRun0_A.sl.r_44, removal, values, second_2, load_eq]
  rfl

theorem store_3 : kernelRun0_A.sl.H8_5 c arg2 harg2 arg3 harg3 arg4 harg4 arg5 harg5 arg7 harg7 arg8 harg8 arg10 x0 x1 x2 x3 x5 x6
    = ⟨Rect.unit (s := S1x16x64x128) ![0, 3, 0, 0] S1x1x64x128.size inb_S1x16x64x128_S1x1x64x128_0_3_0_0,
        shapeCast S1x1x64x128 (newSlab x0 x1 x2 x3 x5 x6 3) shapeCasts_S64x128_S1x1x64x128⟩
      :: kernelRun0_A.sl.H8_4 c arg2 harg2 arg3 harg3 arg4 harg4 arg5 harg5 arg7 harg7 arg8 harg8 arg10 x0 x1 x2 x3 x5 x6 := by
  unfold kernelRun0_A.sl.H8_5
  simp only [kernelRun0_A.sl.r_46, removal, values, second_3, load_eq]
  rfl

theorem store_4 : kernelRun0_A.sl.H8_6 c arg2 harg2 arg3 harg3 arg4 harg4 arg5 harg5 arg7 harg7 arg8 harg8 arg10 x0 x1 x2 x3 x5 x6
    = ⟨Rect.unit (s := S1x16x64x128) ![0, 4, 0, 0] S1x1x64x128.size inb_S1x16x64x128_S1x1x64x128_0_4_0_0,
        shapeCast S1x1x64x128 (newSlab x0 x1 x2 x3 x5 x6 4) shapeCasts_S64x128_S1x1x64x128⟩
      :: kernelRun0_A.sl.H8_5 c arg2 harg2 arg3 harg3 arg4 harg4 arg5 harg5 arg7 harg7 arg8 harg8 arg10 x0 x1 x2 x3 x5 x6 := by
  unfold kernelRun0_A.sl.H8_6
  simp only [kernelRun0_A.sl.r_48, removal, values, second_4, load_eq]
  rfl

theorem store_5 : kernelRun0_A.sl.H8_7 c arg2 harg2 arg3 harg3 arg4 harg4 arg5 harg5 arg7 harg7 arg8 harg8 arg10 x0 x1 x2 x3 x5 x6
    = ⟨Rect.unit (s := S1x16x64x128) ![0, 5, 0, 0] S1x1x64x128.size inb_S1x16x64x128_S1x1x64x128_0_5_0_0,
        shapeCast S1x1x64x128 (newSlab x0 x1 x2 x3 x5 x6 5) shapeCasts_S64x128_S1x1x64x128⟩
      :: kernelRun0_A.sl.H8_6 c arg2 harg2 arg3 harg3 arg4 harg4 arg5 harg5 arg7 harg7 arg8 harg8 arg10 x0 x1 x2 x3 x5 x6 := by
  unfold kernelRun0_A.sl.H8_7
  simp only [load_eq, removal, values, second_5, load_eq]
  rfl

theorem store_6 : kernelRun0_A.sl.H8_8 c arg2 harg2 arg3 harg3 arg4 harg4 arg5 harg5 arg7 harg7 arg8 harg8 arg10 x0 x1 x2 x3 x5 x6
    = ⟨Rect.unit (s := S1x16x64x128) ![0, 6, 0, 0] S1x1x64x128.size inb_S1x16x64x128_S1x1x64x128_0_6_0_0,
        shapeCast S1x1x64x128 (newSlab x0 x1 x2 x3 x5 x6 6) shapeCasts_S64x128_S1x1x64x128⟩
      :: kernelRun0_A.sl.H8_7 c arg2 harg2 arg3 harg3 arg4 harg4 arg5 harg5 arg7 harg7 arg8 harg8 arg10 x0 x1 x2 x3 x5 x6 := by
  unfold kernelRun0_A.sl.H8_8
  simp only [load_eq, removal, values, second_6, load_eq]
  rfl

theorem store_7 : kernelRun0_A.sl.H8_9 c arg2 harg2 arg3 harg3 arg4 harg4 arg5 harg5 arg7 harg7 arg8 harg8 arg10 x0 x1 x2 x3 x5 x6
    = ⟨Rect.unit (s := S1x16x64x128) ![0, 7, 0, 0] S1x1x64x128.size inb_S1x16x64x128_S1x1x64x128_0_7_0_0,
        shapeCast S1x1x64x128 (newSlab x0 x1 x2 x3 x5 x6 7) shapeCasts_S64x128_S1x1x64x128⟩
      :: kernelRun0_A.sl.H8_8 c arg2 harg2 arg3 harg3 arg4 harg4 arg5 harg5 arg7 harg7 arg8 harg8 arg10 x0 x1 x2 x3 x5 x6 := by
  unfold kernelRun0_A.sl.H8_9
  simp only [kernelRun0_A.sl.r_52, kernelRun0_A.sl.r_53, removal, values, second_7, load_eq]
  rfl

theorem store_8 : kernelRun0_A.sl.H8_10 c arg2 harg2 arg3 harg3 arg4 harg4 arg5 harg5 arg7 harg7 arg8 harg8 arg10 x0 x1 x2 x3 x5 x6
    = ⟨Rect.unit (s := S1x16x64x128) ![0, 8, 0, 0] S1x1x64x128.size inb_S1x16x64x128_S1x1x64x128_0_8_0_0,
        shapeCast S1x1x64x128 (newSlab x0 x1 x2 x3 x5 x6 8) shapeCasts_S64x128_S1x1x64x128⟩
      :: kernelRun0_A.sl.H8_9 c arg2 harg2 arg3 harg3 arg4 harg4 arg5 harg5 arg7 harg7 arg8 harg8 arg10 x0 x1 x2 x3 x5 x6 := by
  unfold kernelRun0_A.sl.H8_10
  simp only [kernelRun0_A.sl.r_55, kernelRun0_A.sl.r_56, kernelRun0_A.sl.r_57, removal, values, second_8, load_eq]
  rfl

theorem store_9 : kernelRun0_A.sl.H8_11 c arg2 harg2 arg3 harg3 arg4 harg4 arg5 harg5 arg7 harg7 arg8 harg8 arg10 x0 x1 x2 x3 x5 x6
    = ⟨Rect.unit (s := S1x16x64x128) ![0, 9, 0, 0] S1x1x64x128.size inb_S1x16x64x128_S1x1x64x128_0_9_0_0,
        shapeCast S1x1x64x128 (newSlab x0 x1 x2 x3 x5 x6 9) shapeCasts_S64x128_S1x1x64x128⟩
      :: kernelRun0_A.sl.H8_10 c arg2 harg2 arg3 harg3 arg4 harg4 arg5 harg5 arg7 harg7 arg8 harg8 arg10 x0 x1 x2 x3 x5 x6 := by
  unfold kernelRun0_A.sl.H8_11
  simp only [load_eq, removal, values, second_9, load_eq]
  rfl

theorem store_10 : kernelRun0_A.sl.H8_12 c arg2 harg2 arg3 harg3 arg4 harg4 arg5 harg5 arg7 harg7 arg8 harg8 arg10 x0 x1 x2 x3 x5 x6
    = ⟨Rect.unit (s := S1x16x64x128) ![0, 10, 0, 0] S1x1x64x128.size inb_S1x16x64x128_S1x1x64x128_0_10_0_0,
        shapeCast S1x1x64x128 (newSlab x0 x1 x2 x3 x5 x6 10) shapeCasts_S64x128_S1x1x64x128⟩
      :: kernelRun0_A.sl.H8_11 c arg2 harg2 arg3 harg3 arg4 harg4 arg5 harg5 arg7 harg7 arg8 harg8 arg10 x0 x1 x2 x3 x5 x6 := by
  unfold kernelRun0_A.sl.H8_12
  simp only [load_eq, removal, values, second_10, load_eq]
  rfl

theorem store_11 : kernelRun0_A.sl.H8_13 c arg2 harg2 arg3 harg3 arg4 harg4 arg5 harg5 arg7 harg7 arg8 harg8 arg10 x0 x1 x2 x3 x5 x6
    = ⟨Rect.unit (s := S1x16x64x128) ![0, 11, 0, 0] S1x1x64x128.size inb_S1x16x64x128_S1x1x64x128_0_11_0_0,
        shapeCast S1x1x64x128 (newSlab x0 x1 x2 x3 x5 x6 11) shapeCasts_S64x128_S1x1x64x128⟩
      :: kernelRun0_A.sl.H8_12 c arg2 harg2 arg3 harg3 arg4 harg4 arg5 harg5 arg7 harg7 arg8 harg8 arg10 x0 x1 x2 x3 x5 x6 := by
  unfold kernelRun0_A.sl.H8_13
  simp only [kernelRun0_A.sl.r_62, removal, values, second_11, load_eq]
  rfl

theorem store_12 : kernelRun0_A.sl.H8_14 c arg2 harg2 arg3 harg3 arg4 harg4 arg5 harg5 arg7 harg7 arg8 harg8 arg10 x0 x1 x2 x3 x5 x6
    = ⟨Rect.unit (s := S1x16x64x128) ![0, 12, 0, 0] S1x1x64x128.size inb_S1x16x64x128_S1x1x64x128_0_12_0_0,
        shapeCast S1x1x64x128 (newSlab x0 x1 x2 x3 x5 x6 12) shapeCasts_S64x128_S1x1x64x128⟩
      :: kernelRun0_A.sl.H8_13 c arg2 harg2 arg3 harg3 arg4 harg4 arg5 harg5 arg7 harg7 arg8 harg8 arg10 x0 x1 x2 x3 x5 x6 := by
  unfold kernelRun0_A.sl.H8_14
  simp only [kernelRun0_A.sl.r_64, kernelRun0_A.sl.r_65, kernelRun0_A.sl.r_66, removal, values, second_12, load_eq]
  rfl

theorem store_13 : kernelRun0_A.sl.H8_15 c arg2 harg2 arg3 harg3 arg4 harg4 arg5 harg5 arg7 harg7 arg8 harg8 arg10 x0 x1 x2 x3 x5 x6
    = ⟨Rect.unit (s := S1x16x64x128) ![0, 13, 0, 0] S1x1x64x128.size inb_S1x16x64x128_S1x1x64x128_0_13_0_0,
        shapeCast S1x1x64x128 (newSlab x0 x1 x2 x3 x5 x6 13) shapeCasts_S64x128_S1x1x64x128⟩
      :: kernelRun0_A.sl.H8_14 c arg2 harg2 arg3 harg3 arg4 harg4 arg5 harg5 arg7 harg7 arg8 harg8 arg10 x0 x1 x2 x3 x5 x6 := by
  unfold kernelRun0_A.sl.H8_15
  simp only [kernelRun0_A.sl.r_68, removal, values, second_13, load_eq]
  rfl

theorem store_14 : kernelRun0_A.sl.H8_16 c arg2 harg2 arg3 harg3 arg4 harg4 arg5 harg5 arg7 harg7 arg8 harg8 arg10 x0 x1 x2 x3 x5 x6
    = ⟨Rect.unit (s := S1x16x64x128) ![0, 14, 0, 0] S1x1x64x128.size inb_S1x16x64x128_S1x1x64x128_0_14_0_0,
        shapeCast S1x1x64x128 (newSlab x0 x1 x2 x3 x5 x6 14) shapeCasts_S64x128_S1x1x64x128⟩
      :: kernelRun0_A.sl.H8_15 c arg2 harg2 arg3 harg3 arg4 harg4 arg5 harg5 arg7 harg7 arg8 harg8 arg10 x0 x1 x2 x3 x5 x6 := by
  unfold kernelRun0_A.sl.H8_16
  simp only [load_eq, removal, values, second_14, load_eq]
  rfl
/-- What the run stores into the state's buffer: the sixteen slabs over the copied state. -/
theorem run_state :
    (kernelRun0_A c i arg2 harg2 arg3 harg3 arg4 harg4 arg5 harg5 arg6 harg6 arg7 harg7 arg8 harg8 arg9 harg9 arg10 harg10 hc0
      x0 x1 x2 x3 x4 x5 x6).2.1
    = stateStores x0 x1 x2 x3 x5 x6 ++ kernelRun0_A.sl.H8_1 c arg8 harg8 x6 := by
  unfold kernelRun0_A
  simp only [store_14, store_13, store_12, store_11, store_10, store_9, store_8, store_7, store_6, store_5, store_4, store_3, store_2, store_1, store_0, kernelRun0_A.sl.r_68, kernelRun0_A.sl.r_69, kernelRun0_A.sl.r_70, kernelRun0_A.sl.r_71, removal, values, second_15, load_eq]
  rfl

/-- The stack of the receptance products. -/
theorem reading :
    kernelRun0_A.sl.r_72 c arg2 harg2 arg3 harg3 arg4 harg4 arg5 harg5 arg6 harg6 arg7 harg7 arg8 harg8 arg10 x0 x1 x2 x3 x4 x5 x6
    = stackDot (readSlab x0 x1 x2 x3 x4 x5 x6) := by
  simp only [kernelRun0_A.sl.r_72, kernelRun0_A.sl.r_41, kernelRun0_A.sl.r_39, kernelRun0_A.sl.r_20, kernelRun0_A.sl.r_21, kernelRun0_A.sl.r_22, kernelRun0_A.sl.r_24, kernelRun0_A.sl.r_23, kernelRun0_A.sl.r_25, kernelRun0_A.sl.r_26, kernelRun0_A.sl.r_27, kernelRun0_A.sl.r_28, kernelRun0_A.sl.r_29, kernelRun0_A.sl.r_31, kernelRun0_A.sl.r_30, kernelRun0_A.sl.r_32, kernelRun0_A.sl.r_33, kernelRun0_A.sl.r_34, kernelRun0_A.sl.r_35, kernelRun0_A.sl.r_36, kernelRun0_A.sl.r_37, kernelRun0_A.sl.r_40, kernelRun0_A.sl.r_42, kernelRun0_A.sl.r_45, kernelRun0_A.sl.r_43, kernelRun0_A.sl.r_44, kernelRun0_A.sl.r_47, kernelRun0_A.sl.r_46, kernelRun0_A.sl.r_49, kernelRun0_A.sl.r_48, kernelRun0_A.sl.r_50, kernelRun0_A.sl.r_51, kernelRun0_A.sl.r_54, kernelRun0_A.sl.r_52, kernelRun0_A.sl.r_53, kernelRun0_A.sl.r_58, kernelRun0_A.sl.r_55, kernelRun0_A.sl.r_56, kernelRun0_A.sl.r_57, kernelRun0_A.sl.r_60, kernelRun0_A.sl.r_59, kernelRun0_A.sl.r_61, kernelRun0_A.sl.r_63, kernelRun0_A.sl.r_62, kernelRun0_A.sl.r_67, kernelRun0_A.sl.r_64, kernelRun0_A.sl.r_65, kernelRun0_A.sl.r_66, kernelRun0_A.sl.r_69, kernelRun0_A.sl.r_68, kernelRun0_A.sl.r_70, kernelRun0_A.sl.r_71, removal, values, first_0, second_1, second_2, second_3, second_4, second_5, second_6, second_7, second_8, second_9, second_10, second_11, second_12, second_13, second_14, second_15, load_eq]
  rfl

/-- The sixteen stores of the output row, last first. -/
def outStores : List (View.Piece (Elt Ideal) S1x1x2048 .f32) :=
  [⟨Rect.unit (s := S1x1x2048) ![0, 0, 1920] S1x1x128.size inb_S1x1x2048_S1x1x128_0_0_1920, outRow x0 x1 x2 x3 x4 x5 x6 15⟩,
   ⟨Rect.unit (s := S1x1x2048) ![0, 0, 1792] S1x1x128.size inb_S1x1x2048_S1x1x128_0_0_1792, outRow x0 x1 x2 x3 x4 x5 x6 14⟩,
   ⟨Rect.unit (s := S1x1x2048) ![0, 0, 1664] S1x1x128.size inb_S1x1x2048_S1x1x128_0_0_1664, outRow x0 x1 x2 x3 x4 x5 x6 13⟩,
   ⟨Rect.unit (s := S1x1x2048) ![0, 0, 1536] S1x1x128.size inb_S1x1x2048_S1x1x128_0_0_1536, outRow x0 x1 x2 x3 x4 x5 x6 12⟩,
   ⟨Rect.unit (s := S1x1x2048) ![0, 0, 1408] S1x1x128.size inb_S1x1x2048_S1x1x128_0_0_1408, outRow x0 x1 x2 x3 x4 x5 x6 11⟩,
   ⟨Rect.unit (s := S1x1x2048) ![0, 0, 1280] S1x1x128.size inb_S1x1x2048_S1x1x128_0_0_1280, outRow x0 x1 x2 x3 x4 x5 x6 10⟩,
   ⟨Rect.unit (s := S1x1x2048) ![0, 0, 1152] S1x1x128.size inb_S1x1x2048_S1x1x128_0_0_1152, outRow x0 x1 x2 x3 x4 x5 x6 9⟩,
   ⟨Rect.unit (s := S1x1x2048) ![0, 0, 1024] S1x1x128.size inb_S1x1x2048_S1x1x128_0_0_1024, outRow x0 x1 x2 x3 x4 x5 x6 8⟩,
   ⟨Rect.unit (s := S1x1x2048) ![0, 0, 896] S1x1x128.size inb_S1x1x2048_S1x1x128_0_0_896, outRow x0 x1 x2 x3 x4 x5 x6 7⟩,
   ⟨Rect.unit (s := S1x1x2048) ![0, 0, 768] S1x1x128.size inb_S1x1x2048_S1x1x128_0_0_768, outRow x0 x1 x2 x3 x4 x5 x6 6⟩,
   ⟨Rect.unit (s := S1x1x2048) ![0, 0, 640] S1x1x128.size inb_S1x1x2048_S1x1x128_0_0_640, outRow x0 x1 x2 x3 x4 x5 x6 5⟩,
   ⟨Rect.unit (s := S1x1x2048) ![0, 0, 512] S1x1x128.size inb_S1x1x2048_S1x1x128_0_0_512, outRow x0 x1 x2 x3 x4 x5 x6 4⟩,
   ⟨Rect.unit (s := S1x1x2048) ![0, 0, 384] S1x1x128.size inb_S1x1x2048_S1x1x128_0_0_384, outRow x0 x1 x2 x3 x4 x5 x6 3⟩,
   ⟨Rect.unit (s := S1x1x2048) ![0, 0, 256] S1x1x128.size inb_S1x1x2048_S1x1x128_0_0_256, outRow x0 x1 x2 x3 x4 x5 x6 2⟩,
   ⟨Rect.unit (s := S1x1x2048) ![0, 0, 128] S1x1x128.size inb_S1x1x2048_S1x1x128_0_0_128, outRow x0 x1 x2 x3 x4 x5 x6 1⟩,
   ⟨Rect.unit (s := S1x1x2048) ![0, 0, 0] S1x1x128.size inb_S1x1x2048_S1x1x128_0_0_0, outRow x0 x1 x2 x3 x4 x5 x6 0⟩]

/-- What the run stores into the output row's buffer. -/
theorem run_out :
    (kernelRun0_A c i arg2 harg2 arg3 harg3 arg4 harg4 arg5 harg5 arg6 harg6 arg7 harg7 arg8 harg8 arg9 harg9 arg10 harg10 hc0 x0 x1 x2 x3 x4 x5 x6).1 = outStores x0 x1 x2 x3 x4 x5 x6 := by
  unfold kernelRun0_A
  simp only [kernelRun0_A.sl.v801, kernelRun0_A.sl.v802, kernelRun0_A.sl.v803, kernelRun0_A.sl.v804, kernelRun0_A.sl.v805, kernelRun0_A.sl.v806, kernelRun0_A.sl.v807, kernelRun0_A.sl.v808, kernelRun0_A.sl.v809, kernelRun0_A.sl.v810, kernelRun0_A.sl.v811, kernelRun0_A.sl.v812, kernelRun0_A.sl.v813, kernelRun0_A.sl.v814, kernelRun0_A.sl.v815, kernelRun0_A.sl.v816, kernelRun0_A.sl.v817, kernelRun0_A.sl.v818, kernelRun0_A.sl.v819, kernelRun0_A.sl.v820, kernelRun0_A.sl.v821, kernelRun0_A.sl.v822, kernelRun0_A.sl.v823, kernelRun0_A.sl.v824, kernelRun0_A.sl.v825, kernelRun0_A.sl.v826, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, reading]
  rfl

/-- The state's buffer after the body. -/
def stateBlock (y : S1x16x64x128.Idx) : EReal := stateAt x0 x1 x2 x3 x5 x6 (y 1) (y 2) (y 3)

/-- The output row's buffer after the body. -/
def outBlock (y : S1x1x2048.Idx) : EReal :=
  outAt x0 x1 x2 x3 x4 x5 x6 ⟨(y 2).val / 128, by have := (y 2).isLt; change _ < 2048 at this; omega⟩ ⟨(y 2).val % 128, by omega⟩

/-- One store of the state agrees with the block. -/
theorem state_piece (p : Fin 16) (inb : ∀ a, (![0, p.val, 0, 0] : Fin 4 → Nat) a + S1x1x64x128.size a ≤ S1x16x64x128.size a)
    (x : S1x1x64x128.Idx) :
    shapeCast S1x1x64x128 (newSlab x0 x1 x2 x3 x5 x6 p) shapeCasts_S64x128_S1x1x64x128 x
      = stateBlock x0 x1 x2 x3 x5 x6 ((Rect.unit (s := S1x16x64x128) ![0, p.val, 0, 0] S1x1x64x128.size inb).emb x) := by
  idx_vars x
  pointwise []
  rw [newSlab_apply]
  unfold stateBlock
  congr 1 <;> apply Fin.ext <;> simp [Rect.emb_apply]

/-- One store of the output row agrees with the block. -/
theorem out_piece (p : Fin 16) (inb : ∀ a, (![0, 0, 128 * p.val] : Fin 3 → Nat) a + S1x1x128.size a ≤ S1x1x2048.size a)
    (x : S1x1x128.Idx) :
    outRow x0 x1 x2 x3 x4 x5 x6 p x
      = outBlock x0 x1 x2 x3 x4 x5 x6 ((Rect.unit (s := S1x1x2048) ![0, 0, 128 * p.val] S1x1x128.size inb).emb x) := by
  idx_vars x
  obtain rfl : x0 = 0 := Subsingleton.elim _ _
  obtain rfl : x1 = 0 := Subsingleton.elim _ _
  rw [outRow_apply]
  unfold outBlock
  congr 1 <;> apply Fin.ext <;> simp [Rect.emb_apply] <;> omega

/-- What the body leaves in the state's buffer. -/
theorem out_state :
    out0_A_8 c i arg2 harg2 arg3 harg3 arg4 harg4 arg5 harg5 arg6 harg6 arg7 harg7 arg8 harg8 arg9 harg9 arg10 harg10 hc0 x0 x1 x2 x3 x4 x5 x6 = stateBlock x0 x1 x2 x3 x5 x6 := by
  unfold out0_A_8
  rw [View.read_writes_junk_eq_canon, run_state]
  funext y
  refine View.canon_append_of_piecesOf _ _ _ ?_ y ?_
  · exact ⟨state_piece _ _ _ _ _ _ 15 inb_S1x16x64x128_S1x1x64x128_0_15_0_0, state_piece _ _ _ _ _ _ 14 inb_S1x16x64x128_S1x1x64x128_0_14_0_0, state_piece _ _ _ _ _ _ 13 inb_S1x16x64x128_S1x1x64x128_0_13_0_0, state_piece _ _ _ _ _ _ 12 inb_S1x16x64x128_S1x1x64x128_0_12_0_0, state_piece _ _ _ _ _ _ 11 inb_S1x16x64x128_S1x1x64x128_0_11_0_0, state_piece _ _ _ _ _ _ 10 inb_S1x16x64x128_S1x1x64x128_0_10_0_0, state_piece _ _ _ _ _ _ 9 inb_S1x16x64x128_S1x1x64x128_0_9_0_0, state_piece _ _ _ _ _ _ 8 inb_S1x16x64x128_S1x1x64x128_0_8_0_0, state_piece _ _ _ _ _ _ 7 inb_S1x16x64x128_S1x1x64x128_0_7_0_0, state_piece _ _ _ _ _ _ 6 inb_S1x16x64x128_S1x1x64x128_0_6_0_0, state_piece _ _ _ _ _ _ 5 inb_S1x16x64x128_S1x1x64x128_0_5_0_0, state_piece _ _ _ _ _ _ 4 inb_S1x16x64x128_S1x1x64x128_0_4_0_0, state_piece _ _ _ _ _ _ 3 inb_S1x16x64x128_S1x1x64x128_0_3_0_0, state_piece _ _ _ _ _ _ 2 inb_S1x16x64x128_S1x1x64x128_0_2_0_0, state_piece _ _ _ _ _ _ 1 inb_S1x16x64x128_S1x1x64x128_0_1_0_0, state_piece _ _ _ _ _ _ 0 inb_S1x16x64x128_S1x1x64x128_0_0_0_0, trivial⟩
  · exact View.cover_of_tiled_head _ _ _ (by rfl) y

/-- What the body leaves in the output row's buffer. -/
theorem out_row :
    out0_A_7 c i arg2 harg2 arg3 harg3 arg4 harg4 arg5 harg5 arg6 harg6 arg7 harg7 arg8 harg8 arg9 harg9 arg10 harg10 hc0 x0 x1 x2 x3 x4 x5 x6 = outBlock x0 x1 x2 x3 x4 x5 x6 := by
  unfold out0_A_7
  rw [View.read_writes_junk_eq_canon, run_out, ← List.append_nil (outStores _ _ _ _ _ _ _)]
  funext y
  refine View.canon_append_of_piecesOf _ _ _ ?_ y ?_
  · exact ⟨out_piece _ _ _ _ _ _ _ 15 inb_S1x1x2048_S1x1x128_0_0_1920, out_piece _ _ _ _ _ _ _ 14 inb_S1x1x2048_S1x1x128_0_0_1792, out_piece _ _ _ _ _ _ _ 13 inb_S1x1x2048_S1x1x128_0_0_1664, out_piece _ _ _ _ _ _ _ 12 inb_S1x1x2048_S1x1x128_0_0_1536, out_piece _ _ _ _ _ _ _ 11 inb_S1x1x2048_S1x1x128_0_0_1408, out_piece _ _ _ _ _ _ _ 10 inb_S1x1x2048_S1x1x128_0_0_1280, out_piece _ _ _ _ _ _ _ 9 inb_S1x1x2048_S1x1x128_0_0_1152, out_piece _ _ _ _ _ _ _ 8 inb_S1x1x2048_S1x1x128_0_0_1024, out_piece _ _ _ _ _ _ _ 7 inb_S1x1x2048_S1x1x128_0_0_896, out_piece _ _ _ _ _ _ _ 6 inb_S1x1x2048_S1x1x128_0_0_768, out_piece _ _ _ _ _ _ _ 5 inb_S1x1x2048_S1x1x128_0_0_640, out_piece _ _ _ _ _ _ _ 4 inb_S1x1x2048_S1x1x128_0_0_512, out_piece _ _ _ _ _ _ _ 3 inb_S1x1x2048_S1x1x128_0_0_384, out_piece _ _ _ _ _ _ _ 2 inb_S1x1x2048_S1x1x128_0_0_256, out_piece _ _ _ _ _ _ _ 1 inb_S1x1x2048_S1x1x128_0_0_128, out_piece _ _ _ _ _ _ _ 0 inb_S1x1x2048_S1x1x128_0_0_0, trivial⟩
  · exact View.cover_of_tiled_head _ _ _ (by rfl) y

end

end Cert.KernelIdeal.Scan
-- ==== Proof.ScanArrays.lean ====
/-
  ONE STEP OF THE RECURRENCE, THE ARRAYS. Grid point `t` works on sequence `t`: it reads row `t` of the six row arrays and the packed
  state of sequence `t`, and writes row `t` of the output and the packed new state of sequence `t`. The host has packed the states of
  heads `2 p` and `2 p + 1` side by side into slab `p`.
-/
module

public import proofs.«01_k».proof.Proof.ScanRun
public import proofs.«01_k».proof.Proof.Gen.ReferenceIdeal.Read
public import proofs.«01_k».proof.Proof.Gen.KernelIdeal.Value
public import Idealize.ShloMosaic.Lib.Claim

@[expose] public section

set_option maxRecDepth 16384

noncomputable section

namespace Cert.KernelIdeal.Scan

open Cert.KernelIdeal Cert.KernelIdeal.Gen Idealize.ShloMosaic Idealize.ShloMosaic.TcCoe Idealize.SL.Sem
open Idealize.ShloMosaic.Pipeline (Dat)
open Idealize.ShloMosaic.Pointwise

variable (m : (ℓ : Loc nD τ sig) → Buf (Elt Ideal) ℓ)

/-- Window 0 at point `t` is row `t` of the argument `arg0`. -/
theorem read_row0 (c : Dev nD) (t : Fin cfg0.N) (j : Fin 2048) :
    (iblk m c 0 t : Vec Ideal S1x1x2048 .f32) (ix3 0 0 j) = m ((c : Thread nD τ).loc main_arg0) (ix2 t j) := by
  have hi : ∀ t : Fin cfg0.N, win0_0.index t (0 : Fin 3) = t.val ∧ win0_0.index t (1 : Fin 3) = 0 ∧ win0_0.index t (2 : Fin 3) = 0 :=
    (by decide +kernel : ∀ t : Fin grid0.N, _)
  obtain ⟨h0, h1, h2⟩ := hi t
  unfold iblk
  rw [View.read_apply]
  show V m c main_v3 _ = _
  have e : (View.emb ((cfg0.win 0).blk t).view (ix3 0 0 j) : S32x1x2048.Idx) = ix3 t 0 j := by
    funext a
    apply Fin.ext
    match a with
    | ⟨0, _⟩ => show win0_0.index t 0 * 1 + 1 * 0 = t.val; rw [h0]; omega
    | ⟨1, _⟩ => show win0_0.index t 1 * 1 + 1 * 0 = 0; rw [h1]
    | ⟨2, _⟩ => show win0_0.index t 2 * 2048 + 1 * j.val = j.val; rw [h2]; omega
  refine (congrArg (V m c main_v3) e).trans ?_
  entry_read
  pointwise []

/-- Window 1 at point `t` is row `t` of the argument `arg1`. -/
theorem read_row1 (c : Dev nD) (t : Fin cfg0.N) (j : Fin 2048) :
    (iblk m c 1 t : Vec Ideal S1x1x2048 .f32) (ix3 0 0 j) = m ((c : Thread nD τ).loc main_arg1) (ix2 t j) := by
  have hi : ∀ t : Fin cfg0.N, win0_1.index t (0 : Fin 3) = t.val ∧ win0_1.index t (1 : Fin 3) = 0 ∧ win0_1.index t (2 : Fin 3) = 0 :=
    (by decide +kernel : ∀ t : Fin grid0.N, _)
  obtain ⟨h0, h1, h2⟩ := hi t
  unfold iblk
  rw [View.read_apply]
  show V m c main_v4 _ = _
  have e : (View.emb ((cfg0.win 1).blk t).view (ix3 0 0 j) : S32x1x2048.Idx) = ix3 t 0 j := by
    funext a
    apply Fin.ext
    match a with
    | ⟨0, _⟩ => show win0_1.index t 0 * 1 + 1 * 0 = t.val; rw [h0]; omega
    | ⟨1, _⟩ => show win0_1.index t 1 * 1 + 1 * 0 = 0; rw [h1]
    | ⟨2, _⟩ => show win0_1.index t 2 * 2048 + 1 * j.val = j.val; rw [h2]; omega
  refine (congrArg (V m c main_v4) e).trans ?_
  entry_read
  pointwise []

/-- Window 2 at point `t` is row `t` of the argument `arg2`. -/
theorem read_row2 (c : Dev nD) (t : Fin cfg0.N) (j : Fin 2048) :
    (iblk m c 2 t : Vec Ideal S1x1x2048 .f32) (ix3 0 0 j) = m ((c : Thread nD τ).loc main_arg2) (ix2 t j) := by
  have hi : ∀ t : Fin cfg0.N, win0_2.index t (0 : Fin 3) = t.val ∧ win0_2.index t (1 : Fin 3) = 0 ∧ win0_2.index t (2 : Fin 3) = 0 :=
    (by decide +kernel : ∀ t : Fin grid0.N, _)
  obtain ⟨h0, h1, h2⟩ := hi t
  unfold iblk
  rw [View.read_apply]
  show V m c main_v5 _ = _
  have e : (View.emb ((cfg0.win 2).blk t).view (ix3 0 0 j) : S32x1x2048.Idx) = ix3 t 0 j := by
    funext a
    apply Fin.ext
    match a with
    | ⟨0, _⟩ => show win0_2.index t 0 * 1 + 1 * 0 = t.val; rw [h0]; omega
    | ⟨1, _⟩ => show win0_2.index t 1 * 1 + 1 * 0 = 0; rw [h1]
    | ⟨2, _⟩ => show win0_2.index t 2 * 2048 + 1 * j.val = j.val; rw [h2]; omega
  refine (congrArg (V m c main_v5) e).trans ?_
  entry_read
  pointwise []

/-- Window 3 at point `t` is row `t` of the argument `arg3`. -/
theorem read_row3 (c : Dev nD) (t : Fin cfg0.N) (j : Fin 2048) :
    (iblk m c 3 t : Vec Ideal S1x1x2048 .f32) (ix3 0 0 j) = m ((c : Thread nD τ).loc main_arg3) (ix2 t j) := by
  have hi : ∀ t : Fin cfg0.N, win0_3.index t (0 : Fin 3) = t.val ∧ win0_3.index t (1 : Fin 3) = 0 ∧ win0_3.index t (2 : Fin 3) = 0 :=
    (by decide +kernel : ∀ t : Fin grid0.N, _)
  obtain ⟨h0, h1, h2⟩ := hi t
  unfold iblk
  rw [View.read_apply]
  show V m c main_v6 _ = _
  have e : (View.emb ((cfg0.win 3).blk t).view (ix3 0 0 j) : S32x1x2048.Idx) = ix3 t 0 j := by
    funext a
    apply Fin.ext
    match a with
    | ⟨0, _⟩ => show win0_3.index t 0 * 1 + 1 * 0 = t.val; rw [h0]; omega
    | ⟨1, _⟩ => show win0_3.index t 1 * 1 + 1 * 0 = 0; rw [h1]
    | ⟨2, _⟩ => show win0_3.index t 2 * 2048 + 1 * j.val = j.val; rw [h2]; omega
  refine (congrArg (V m c main_v6) e).trans ?_
  entry_read
  pointwise []

/-- Window 4 at point `t` is row `t` of the argument `arg4`. -/
theorem read_row4 (c : Dev nD) (t : Fin cfg0.N) (j : Fin 2048) :
    (iblk m c 4 t : Vec Ideal S1x1x2048 .f32) (ix3 0 0 j) = m ((c : Thread nD τ).loc main_arg4) (ix2 t j) := by
  have hi : ∀ t : Fin cfg0.N, win0_4.index t (0 : Fin 3) = t.val ∧ win0_4.index t (1 : Fin 3) = 0 ∧ win0_4.index t (2 : Fin 3) = 0 :=
    (by decide +kernel : ∀ t : Fin grid0.N, _)
  obtain ⟨h0, h1, h2⟩ := hi t
  unfold iblk
  rw [View.read_apply]
  show V m c main_v7 _ = _
  have e : (View.emb ((cfg0.win 4).blk t).view (ix3 0 0 j) : S32x1x2048.Idx) = ix3 t 0 j := by
    funext a
    apply Fin.ext
    match a with
    | ⟨0, _⟩ => show win0_4.index t 0 * 1 + 1 * 0 = t.val; rw [h0]; omega
    | ⟨1, _⟩ => show win0_4.index t 1 * 1 + 1 * 0 = 0; rw [h1]
    | ⟨2, _⟩ => show win0_4.index t 2 * 2048 + 1 * j.val = j.val; rw [h2]; omega
  refine (congrArg (V m c main_v7) e).trans ?_
  entry_read
  pointwise []

/-- Window 5 at point `t` is row `t` of the argument `arg5`. -/
theorem read_row5 (c : Dev nD) (t : Fin cfg0.N) (j : Fin 2048) :
    (iblk m c 5 t : Vec Ideal S1x1x2048 .f32) (ix3 0 0 j) = m ((c : Thread nD τ).loc main_arg5) (ix2 t j) := by
  have hi : ∀ t : Fin cfg0.N, win0_5.index t (0 : Fin 3) = t.val ∧ win0_5.index t (1 : Fin 3) = 0 ∧ win0_5.index t (2 : Fin 3) = 0 :=
    (by decide +kernel : ∀ t : Fin grid0.N, _)
  obtain ⟨h0, h1, h2⟩ := hi t
  unfold iblk
  rw [View.read_apply]
  show V m c main_v8 _ = _
  have e : (View.emb ((cfg0.win 5).blk t).view (ix3 0 0 j) : S32x1x2048.Idx) = ix3 t 0 j := by
    funext a
    apply Fin.ext
    match a with
    | ⟨0, _⟩ => show win0_5.index t 0 * 1 + 1 * 0 = t.val; rw [h0]; omega
    | ⟨1, _⟩ => show win0_5.index t 1 * 1 + 1 * 0 = 0; rw [h1]
    | ⟨2, _⟩ => show win0_5.index t 2 * 2048 + 1 * j.val = j.val; rw [h2]; omega
  refine (congrArg (V m c main_v8) e).trans ?_
  entry_read
  pointwise []

/-- Window 6 at point `t` is the state of sequence `t`, heads `2 p` and `2 p + 1` side by side in slab `p`. -/
theorem read_state (c : Dev nD) (t : Fin cfg0.N) (p : Fin 16) (i : Fin 64) (l : Fin 128) :
    (iblk m c 6 t : Vec Ideal S1x16x64x128 .f32) (ix4 0 p i l)
      = m ((c : Thread nD τ).loc main_arg6) (ix4 t ⟨2 * p.val + l.val / 64, by omega⟩ i ⟨l.val % 64, by omega⟩) := by
  have hi : ∀ t : Fin cfg0.N, win0_6.index t (0 : Fin 4) = t.val ∧ win0_6.index t (1 : Fin 4) = 0 ∧ win0_6.index t (2 : Fin 4) = 0
      ∧ win0_6.index t (3 : Fin 4) = 0 :=
    (by decide +kernel : ∀ t : Fin grid0.N, _)
  obtain ⟨h0, h1, h2, h3⟩ := hi t
  unfold iblk
  rw [View.read_apply]
  show V m c main_v2 _ = _
  have e : (View.emb ((cfg0.win 6).blk t).view (ix4 0 p i l) : S32x16x64x128.Idx) = ix4 t p i l := by
    funext a
    apply Fin.ext
    match a with
    | ⟨0, _⟩ => show win0_6.index t 0 * 1 + 1 * 0 = t.val; rw [h0]; omega
    | ⟨1, _⟩ => show win0_6.index t 1 * 16 + 1 * p.val = p.val; rw [h1]; omega
    | ⟨2, _⟩ => show win0_6.index t 2 * 64 + 1 * i.val = i.val; rw [h2]; omega
    | ⟨3, _⟩ => show win0_6.index t 3 * 128 + 1 * l.val = l.val; rw [h3]; omega
  refine (congrArg (V m c main_v2) e).trans ?_
  entry_read
  pointwise []
  exact congrArg (fun h => m ((c : Thread nD τ).loc main_arg6) (ix4 t h i ⟨l.val % 64, by omega⟩)) (Fin.ext (Nat.add_right_cancel_iff.mpr (Nat.mul_comm _ _)))

/-- The word of a row that head `h` keeps at its lane `j`. -/
abbrev word (x : S32x2048.Idx → EReal) (b : Fin 32) (h : Fin 32) (j : Fin 64) : EReal := x (ix2 b ⟨h.val * 64 + j.val, by omega⟩)

/-- THE RECURRENCE: the new state of head `h` of sequence `b` at `(i, j)`, from the arguments. -/
def headState (a0 a1 a2 a3 a5 : S32x2048.Idx → EReal) (a6 : S32x32x64x64.Idx → EReal) (b h : Fin 32) (i j : Fin 64) : EReal :=
  a6 (ix4 b h i j) * Ideal.exp (word a1 b h j) - (∑ k : Fin 64, a6 (ix4 b h i k) * word a0 b h k) * word a2 b h j
    + word a5 b h i * word a3 b h j

/-- The output of head `h` of sequence `b` at row `i`: the new state applied to the row `r`. -/
def headOut (a0 a1 a2 a3 a4 a5 : S32x2048.Idx → EReal) (a6 : S32x32x64x64.Idx → EReal) (b h : Fin 32) (i : Fin 64) : EReal :=
  ∑ j : Fin 64, headState a0 a1 a2 a3 a5 a6 b h i j * word a4 b h j

/-- What the body computes at point `t` in slab `p` is the recurrence of head `2 p` or `2 p + 1`, by the half the lane lies in. -/
theorem stateAt_eq (c : Dev nD) (t : Fin cfg0.N) (p : Fin 16) (i : Fin 64) (l : Fin 128) :
    stateAt (iblk m c 0 t) (iblk m c 1 t) (iblk m c 2 t) (iblk m c 3 t) (iblk m c 5 t) (iblk m c 6 t) p i l
      = headState (m ((c : Thread nD τ).loc main_arg0)) (m ((c : Thread nD τ).loc main_arg1)) (m ((c : Thread nD τ).loc main_arg2))
          (m ((c : Thread nD τ).loc main_arg3)) (m ((c : Thread nD τ).loc main_arg5)) (m ((c : Thread nD τ).loc main_arg6))
          t ⟨2 * p.val + l.val / 64, by omega⟩ i ⟨l.val % 64, by omega⟩ := by
  have e2 : ∀ (k : Fin 64) (h1), (⟨2 * p.val + (64 * (l.val / 64) + k.val) / 64, h1⟩ : Fin 32) = ⟨2 * p.val + l.val / 64, by omega⟩ := by
    intro k h1; apply Fin.ext; show 2 * p.val + (64 * (l.val / 64) + k.val) / 64 = 2 * p.val + l.val / 64; omega
  have e3 : ∀ (k : Fin 64) h1, (⟨(64 * (l.val / 64) + k.val) % 64, h1⟩ : Fin 64) = k := by
    intro k h1; apply Fin.ext; show (64 * (l.val / 64) + k.val) % 64 = k.val; omega
  have e4 : ∀ (k : Fin 64) h1, (⟨128 * p.val + (64 * (l.val / 64) + k.val), h1⟩ : Fin 2048)
      = ⟨(2 * p.val + l.val / 64) * 64 + k.val, by omega⟩ := by
    intro k h1; apply Fin.ext; show 128 * p.val + (64 * (l.val / 64) + k.val) = (2 * p.val + l.val / 64) * 64 + k.val; omega
  have e5 : ∀ h1, (⟨128 * p.val + l.val, h1⟩ : Fin 2048) = ⟨(2 * p.val + l.val / 64) * 64 + l.val % 64, by omega⟩ := by
    intro h1; apply Fin.ext; show 128 * p.val + l.val = (2 * p.val + l.val / 64) * 64 + l.val % 64; omega
  unfold stateAt headState
  simp only [lane, sameHead, word, read_row0, read_row1, read_row2, read_row3, read_row5, read_state, e2, e3, e4, e5]

theorem outAt_eq (c : Dev nD) (t : Fin cfg0.N) (p : Fin 16) (l : Fin 128) :
    outAt (iblk m c 0 t) (iblk m c 1 t) (iblk m c 2 t) (iblk m c 3 t) (iblk m c 4 t) (iblk m c 5 t) (iblk m c 6 t) p l
      = headOut (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) t ⟨2 * p.val + l.val / 64, by omega⟩ ⟨l.val % 64, by omega⟩ := by
  have e2 : ∀ (k : Fin 64) (h1), (⟨2 * p.val + (64 * (l.val / 64) + k.val) / 64, h1⟩ : Fin 32) = ⟨2 * p.val + l.val / 64, by omega⟩ := by
    intro k h1; apply Fin.ext; show 2 * p.val + (64 * (l.val / 64) + k.val) / 64 = 2 * p.val + l.val / 64; omega
  have e3 : ∀ (k : Fin 64) h1, (⟨(64 * (l.val / 64) + k.val) % 64, h1⟩ : Fin 64) = k := by
    intro k h1; apply Fin.ext; show (64 * (l.val / 64) + k.val) % 64 = k.val; omega
  have e4 : ∀ (k : Fin 64) h1, (⟨128 * p.val + (64 * (l.val / 64) + k.val), h1⟩ : Fin 2048)
      = ⟨(2 * p.val + l.val / 64) * 64 + k.val, by omega⟩ := by
    intro k h1; apply Fin.ext; show 128 * p.val + (64 * (l.val / 64) + k.val) = (2 * p.val + l.val / 64) * 64 + k.val; omega
  unfold outAt headOut
  simp only [stateAt_eq, lane, sameHead, word, read_row4, e2, e3, e4]

section Arrays

variable (c : Dev nD)

/-- The output array, from the arguments. -/
def outArray : S32x1x2048.Idx → EReal := fun y =>
  headOut (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (y 0) ⟨(y 2).val / 64, by have := (y 2).isLt; change _ < 2048 at this; omega⟩
    ⟨(y 2).val % 64, by omega⟩

/-- The packed new states, from the arguments. -/
def stateArray : S32x16x64x128.Idx → EReal := fun y =>
  headState (m ((c : Thread nD τ).loc main_arg0)) (m ((c : Thread nD τ).loc main_arg1)) (m ((c : Thread nD τ).loc main_arg2))
    (m ((c : Thread nD τ).loc main_arg3)) (m ((c : Thread nD τ).loc main_arg5)) (m ((c : Thread nD τ).loc main_arg6)) (y 0)
    ⟨2 * (y 1).val + (y 3).val / 64, by have h1 := (y 1).isLt; have h3 := (y 3).isLt; change _ < 16 at h1; change _ < 128 at h3; omega⟩ (y 2)
    ⟨(y 3).val % 64, by omega⟩

/-- Where an entry of block `t` of the output lies in the whole array. -/
theorem place7 (t : Fin cfg0.N) (y : S1x1x2048.Idx) :
    (View.emb ((cfg0.win 7).blk t).view y : S32x1x2048.Idx) = ix3 t 0 (y 2) := by
  have hi : ∀ t : Fin cfg0.N, win0_7.index t (0 : Fin 3) = t.val ∧ win0_7.index t (1 : Fin 3) = 0 ∧ win0_7.index t (2 : Fin 3) = 0 :=
    (by decide +kernel : ∀ t : Fin grid0.N, _)
  obtain ⟨h0, h1, h2⟩ := hi t
  have b0 : (y 0).val < 1 := (y 0).isLt
  have b1 : (y 1).val < 1 := (y 1).isLt
  funext a
  apply Fin.ext
  match a with
  | ⟨0, _⟩ => show win0_7.index t 0 * 1 + 1 * (y 0).val = t.val; rw [h0]; omega
  | ⟨1, _⟩ => show win0_7.index t 1 * 1 + 1 * (y 1).val = 0; rw [h1]; omega
  | ⟨2, _⟩ => show win0_7.index t 2 * 2048 + 1 * (y 2).val = (y 2).val; rw [h2]; omega

theorem place8 (t : Fin cfg0.N) (y : S1x16x64x128.Idx) :
    (View.emb ((cfg0.win 8).blk t).view y : S32x16x64x128.Idx) = ix4 t (y 1) (y 2) (y 3) := by
  have hi : ∀ t : Fin cfg0.N, win0_8.index t (0 : Fin 4) = t.val ∧ win0_8.index t (1 : Fin 4) = 0 ∧ win0_8.index t (2 : Fin 4) = 0
      ∧ win0_8.index t (3 : Fin 4) = 0 :=
    (by decide +kernel : ∀ t : Fin grid0.N, _)
  obtain ⟨h0, h1, h2, h3⟩ := hi t
  have b0 : (y 0).val < 1 := (y 0).isLt
  funext a
  apply Fin.ext
  match a with
  | ⟨0, _⟩ => show win0_8.index t 0 * 1 + 1 * (y 0).val = t.val; rw [h0]; omega
  | ⟨1, _⟩ => show win0_8.index t 1 * 16 + 1 * (y 1).val = (y 1).val; rw [h1]; omega
  | ⟨2, _⟩ => show win0_8.index t 2 * 64 + 1 * (y 2).val = (y 2).val; rw [h2]; omega
  | ⟨3, _⟩ => show win0_8.index t 3 * 128 + 1 * (y 3).val = (y 3).val; rw [h3]; omega

theorem flushed7_eq (t : Fin cfg0.N) : (dats m 0 c).flushed 7 t = ((cfg0.win 7).blk t).view.read (Elt Ideal) (outArray m c) := by
  rw [Value.flushed7_A, out_row]
  funext y
  rw [View.read_apply]
  refine Eq.trans ?_ (congrArg (outArray m c) (place7 t y)).symm
  refine (outAt_eq m c t _ _).trans ?_
  have b2 : (y 2).val < 2048 := (y 2).isLt
  refine congr (congrArg _ (Fin.ext ?_)) (Fin.ext ?_)
  · show 2 * ((y 2).val / 128) + (y 2).val % 128 / 64 = (y 2).val / 64
    omega
  · show (y 2).val % 128 % 64 = (y 2).val % 64
    omega

theorem flushed8_eq (t : Fin cfg0.N) : (dats m 0 c).flushed 8 t = ((cfg0.win 8).blk t).view.read (Elt Ideal) (stateArray m c) := by
  rw [Value.flushed8_A, out_state]
  funext y
  rw [View.read_apply]
  refine Eq.trans ?_ (congrArg (stateArray m c) (place8 t y)).symm
  exact stateAt_eq m c t _ _ _

theorem cover7 (i : S32x1x2048.Idx) : ∃ t : Fin cfg0.N, (cfg0.win 7).flush t = true ∧ i ∈ ((cfg0.win 7).blk t).view.set := by
  have h0 : (i 0).val < 32 := (i 0).isLt
  have h1 : (i 1).val < 1 := (i 1).isLt
  have hN : cfg0.N = 32 := N_0
  refine ⟨⟨(i 0).val, by omega⟩, flush0_7 _, ?_⟩
  rw [View.set, Finset.mem_map]
  refine ⟨(ix3 0 0 (i 2) : S1x1x2048.Idx), Finset.mem_univ _, ?_⟩
  refine (place7 _ _).trans ?_
  funext a
  apply Fin.ext
  match a with
  | ⟨0, _⟩ => rfl
  | ⟨1, _⟩ => show 0 = (i 1).val; omega
  | ⟨2, _⟩ => rfl

theorem cover8 (i : S32x16x64x128.Idx) : ∃ t : Fin cfg0.N, (cfg0.win 8).flush t = true ∧ i ∈ ((cfg0.win 8).blk t).view.set := by
  have h0 : (i 0).val < 32 := (i 0).isLt
  have hN : cfg0.N = 32 := N_0
  refine ⟨⟨(i 0).val, by omega⟩, flush0_8 _, ?_⟩
  rw [View.set, Finset.mem_map]
  refine ⟨(ix4 0 (i 1) (i 2) (i 3) : S1x16x64x128.Idx), Finset.mem_univ _, ?_⟩
  refine (place8 _ _).trans ?_
  funext a
  apply Fin.ext
  match a with
  | ⟨0, _⟩ => rfl
  | ⟨1, _⟩ => rfl
  | ⟨2, _⟩ => rfl
  | ⟨3, _⟩ => rfl

/-- The output array ends holding the rows of the recurrence, -/
theorem final7 : (dats m 0 c).arrAt 7 cfg0.N = outArray m c :=
  (dats m 0 c).arrAt_eq_of_cover 7 (outArray m c) (fun t _ => flushed7_eq m c t) cover7

/-- and the state array the new states. -/
theorem final8 : (dats m 0 c).arrAt 8 cfg0.N = stateArray m c :=
  (dats m 0 c).arrAt_eq_of_cover 8 (stateArray m c) (fun t _ => flushed8_eq m c t) cover8

end Arrays

/-! The same recurrence is what the reference's stages say. -/

section Reference

open Cert.ReferenceIdeal.Read

variable (a0 a1 a2 a3 a4 a5 : S32x2048.Idx → EReal) (a6 : S32x32x64x64.Idx → EReal)

theorem ref_state (b h : Fin 32) (i j : Fin 64) :
    val_main_v22 (F := Ideal) a0 a1 a2 a3 a5 a6 (ix4 b h i j) = headState a0 a1 a2 a3 a5 a6 b h i j := by
  unfold headState
  pointwise [val_main_v22, val_main_v21, val_main_v20, val_main_v19, val_main_v18, val_main_v17, val_main_v16, val_main_v15,
    val_main_v14, val_main_v13, val_main_v12, val_main_v11, val_main_v10, val_main_v9, val_main_v8, val_main_v7, val_main_v6,
    val_main_v5, val_main_v4, val_main_v3, val_main_v2, val_main_v1]

theorem ref_out (b h : Fin 32) (i : Fin 64) :
    val_main_v23 (F := Ideal) a0 a1 a2 a3 a4 a5 a6 (ix3 b h i) = headOut a0 a1 a2 a3 a4 a5 a6 b h i := by
  unfold headOut
  simp only [← ref_state]
  pointwise [val_main_v23, val_main_v0]

/-- The reference's packed state at an entry, -/
theorem ref_pack (b : Fin 32) (p : Fin 16) (i : Fin 64) (l : Fin 128) :
    val_main_v26 (F := Ideal) a0 a1 a2 a3 a5 a6 (ix4 b p i l)
      = headState a0 a1 a2 a3 a5 a6 b ⟨2 * p.val + l.val / 64, by omega⟩ i ⟨l.val % 64, by omega⟩ := by
  rw [← ref_state]
  pointwise [val_main_v26, val_main_v25, val_main_v24]
  exact congrArg (fun h => val_main_v22 (F := Ideal) a0 a1 a2 a3 a5 a6 (ix4 b h i ⟨l.val % 64, by omega⟩))
    (Fin.ext (Nat.add_right_cancel_iff.mpr (Nat.mul_comm _ _)))

/-- and its output row. -/
theorem ref_row (b : Fin 32) (j : Fin 2048) :
    val_main_v27 (F := Ideal) a0 a1 a2 a3 a4 a5 a6 (ix3 b 0 j)
      = headOut a0 a1 a2 a3 a4 a5 a6 b ⟨j.val / 64, by omega⟩ ⟨j.val % 64, by omega⟩ := by
  rw [← ref_out]
  pointwise [val_main_v27]

end Reference

/-- The output array is the reference's first result, -/
theorem outArray_eq (c : Dev nD) : outArray m c = Cert.ReferenceIdeal.Read.val_main_v27 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) := by
  funext y
  have e : y = ix3 (y 0) 0 (y 2) := by
    have h1 : (y 1).val < 1 := (y 1).isLt
    funext a
    apply Fin.ext
    match a with
    | ⟨0, _⟩ => rfl
    | ⟨1, _⟩ => show (y 1).val = 0; omega
    | ⟨2, _⟩ => rfl
  refine Eq.trans ?_ (congrArg _ e).symm
  exact (ref_row _ _ _ _ _ _ _ _ _).symm

/-- and the state array its second. -/
theorem stateArray_eq (c : Dev nD) : stateArray m c = Cert.ReferenceIdeal.Read.val_main_v26 (F := Ideal)
    (m ((c : Thread nD τ).loc main_arg0)) (m ((c : Thread nD τ).loc main_arg1)) (m ((c : Thread nD τ).loc main_arg2))
    (m ((c : Thread nD τ).loc main_arg3)) (m ((c : Thread nD τ).loc main_arg5)) (m ((c : Thread nD τ).loc main_arg6)) := by
  funext y
  have e : y = ix4 (y 0) (y 1) (y 2) (y 3) := by
    funext a
    apply Fin.ext
    match a with
    | ⟨0, _⟩ => rfl
    | ⟨1, _⟩ => rfl
    | ⟨2, _⟩ => rfl
    | ⟨3, _⟩ => rfl
  refine Eq.trans ?_ (congrArg _ e).symm
  exact (ref_pack _ _ _ _ _ _ _ _ _ _).symm

end Cert.KernelIdeal.Scan
-- ==== Proof.ScanClaims.lean ====
/-
  ONE STEP OF THE RECURRENCE, THE CLAIMS: both programs run, and end with the same rows and the same states.
-/
module

public import proofs.«01_k».proof.Defs
public import proofs.«01_k».proof.Proof.ScanArrays
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run

@[expose] public section

noncomputable section

namespace Cert.Proof.Scan

open Idealize.ShloMosaic Idealize.SL.Sem Cert.KernelIdeal.Scan

attribute [local instance] Cert.Kernel.Gen.facts Cert.KernelIdeal.Gen.facts Cert.ReferenceIdeal.Gen.facts

theorem frame_kernel : Cert.quiescent_Kernel := fun m ρ _ => Cert.Kernel.Gen.frame m ρ
theorem frame_ideal : Cert.quiescent_KernelIdeal := fun m ρ _ => Cert.KernelIdeal.Gen.frame m ρ

theorem frame_reference : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- Over the extended reals the kernel's output rows and new states are the reference's. -/
theorem algebraic : Cert.algebraic_KernelIdeal_ReferenceIdeal := by
  intro m ρ m' ρ' _ hagree
  refine ⟨fun c => outArray m c, fun c => stateArray m c, ?_, ?_⟩
  · exact (θ_run Cert.KernelIdeal.defs _ _).mono
      (fun _ h c => ⟨(h c).1.trans (final7 m c), (h c).2.1.trans (final8 m c), (h c).2.2⟩)
      (Cert.KernelIdeal.Value.run_blocks (F := Ideal) m ρ)
  · refine (θ_run Cert.ReferenceIdeal.defs _ _).mono (fun _ h c => ⟨(h c).1.trans ?_, (h c).2.1.trans ?_, (h c).2.2⟩)
      (Cert.ReferenceIdeal.Value.run (F := Ideal) m' ρ')
    · obtain ⟨e0, e1, e2, e3, e4, e5, e6⟩ := hagree c
      rw [Cert.ReferenceIdeal.Read.val_main_v27_eq, e0, e1, e2, e3, e4, e5, e6]
      exact (outArray_eq m c).symm
    · obtain ⟨e0, e1, e2, e3, e4, e5, e6⟩ := hagree c
      rw [Cert.ReferenceIdeal.Read.val_main_v26_eq, e0, e1, e2, e3, e5, e6]
      exact (stateArray_eq m c).symm

end Cert.Proof.Scan

end
-- ==== Proof.Common.lean ====
/-
  WHAT THE PROGRAMS SHARE. A load of a whole memref; and the life of an output window whose
  body stores into it only at the grid's first `n` points, a new block at each: after the last of them the block waits in the window's
  buffer, and is written when the grid ends.
-/
module

public import Idealize.ShloMosaic.Lib.VecWindow
public import Idealize.ShloMosaic.Lib.ValueIdx
public import Idealize.ShloMosaic.Lib.Pipeline.TableIdle
public import Idealize.ShloMosaic.Lib.Pipeline.FrameBody
public import Idealize.ShloMosaic.Lib.Pipeline.Value

@[expose] public section

noncomputable section

namespace Cert.Proof.Common

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

theorem zero2 : (![0, 0] : Fin 2 → ℕ) = fun _ => 0 := by funext a; fin_cases a <;> rfl
theorem zero3 : (![0, 0, 0] : Fin 3 → ℕ) = fun _ => 0 := by funext a; fin_cases a <;> rfl
theorem zero4 : (![0, 0, 0, 0] : Fin 4 → ℕ) = fun _ => 0 := by funext a; fin_cases a <;> rfl

section

variable {nD : Nat} {τ : Topo} {sig : RefSig} {Val : EltTy → Type}

/-- A load of the whole of a memref reads what it holds. -/
theorem load_full [∀ e, Nonempty (Val e)] {κ : Kind} {sp : Space} {s : Shape} {e : EltTy} (a : Memref sig κ sp s e) (h : a.IsWhole) (x : s.Idx → Val e)
    {off : Fin s.rank → ℕ} (hoff : off = fun _ => 0) (inb : ∀ i, off i + s.size i ≤ s.size i) :
    View.readAt Val a.view (Rect.unit off s.size inb).toLoadRect (h.unread x) = x := by
  rw [View.readAt_eq_ld, h.read_unread]
  exact View.ld_unit_zero hoff inb x

variable {Ix : Type} [DecidableEq Ix] {Name : Type} [DecidableEq Name] {U : Type} [URA U] {Lvl : Type}

local notation "𝕄" => MT nD τ sig Ix Val Name U Lvl

variable {Λ₀ : Labels} {cfg : Cfg sig Λ₀} {c : Dev nD} (dat : Dat τ Val Ix Name U Lvl cfg c) (w : Fin cfg.W) (n : ℕ)

/-- Nothing stored waits in the buffer while the first `n` points run: each writes its block at once, but the last. -/
theorem fresh_eq (hn : n < cfg.N) (hidle : ∀ t, cfg.idle w (cfg.grid.coords t) = decide (n ≤ t.val))
    (hflush : ∀ t, (cfg.win w).flush t = (decide (t.val + 1 < n) || decide (t.val + 1 = cfg.N))) (h0 : 0 < n) (t : Fin cfg.N) :
    cfg.fresh w t.val = decide (t.val < n) := by
  rw [cfg.fresh_tab w (fun k => decide (k < n) || decide (k = cfg.N)) (by simp [h0]) (fun t => ?_) t.val (Nat.le_of_lt t.isLt)]
  · have := t.isLt
    have h : ¬ t.val = cfg.N := by omega
    simp [h]
  · have := t.isLt
    rw [hflush, hidle, Bool.eq_iff_iff]
    simp
    omega

/-- A window the body leaves alone from point `n` on, with the same block after each of those points, holds that block before them. -/
theorem before_of_carry (hn : n < cfg.N) (h0 : 0 < n) (hidle : ∀ t, cfg.idle w (cfg.grid.coords t) = decide (n ≤ t.val))
    (hflush : ∀ t, (cfg.win w).flush t = (decide (t.val + 1 < n) || decide (t.val + 1 = cfg.N)))
    (hout : (cfg.win w).isOut = true) (hclip : ∀ (i : cfg.grid.Coords) a, (cfg.win w).clip i a = none)
    (hc : ∀ t : Fin cfg.N, n ≤ t.val → dat.after w t = dat.after w ⟨t.val - 1, by omega⟩)
    (t : Fin cfg.N) (h : n ≤ t.val) (d) : dat.before w t d = dat.after w t := by
  rw [dat.before_out_traj w hout hclip
    (fun t _ hi _ => hc t (by rw [hidle] at hi; exact of_decide_eq_true hi)) t.val t rfl d, fresh_eq w n hn hidle hflush h0,
    if_neg (by simp; omega), ← hc t h]

/-- A window left alone may be given back at what it held. -/
theorem leaves_of_after (t : Fin cfg.N) (d) (hb : dat.before w t d = dat.after w t) :
    (owns (c : Thread nD τ) ((cfg.win w).stage (cfg.slots t w)) fullShare (dat.after w t) : sProp 𝕄) ⊢ dat.leavesExact w t := by
  unfold Dat.leavesExact
  cases cfg.idle w (cfg.grid.coords t)
  · exact .rfl
  · cases (cfg.win w).flush t
    · rw [← hb]
      iintro H; iexists d; iexact H
    · exact .rfl

/-- A window stored into is given back at what was stored. -/
theorem leaves_of_store (t : Fin cfg.N) (hi : cfg.idle w (cfg.grid.coords t) = false) :
    (owns (c : Thread nD τ) ((cfg.win w).stage (cfg.slots t w)) fullShare (dat.after w t) : sProp 𝕄) ⊢ dat.leavesExact w t := by
  unfold Dat.leavesExact
  rw [hi]

end

end Cert.Proof.Common

end
-- ==== Proof.FirstRow.lean ====
/-
  A WINDOW OF THE FIRST ROW. The grid has rows of `n` points. The body stores into the window in the first row only, a new column
  block at each of its points; afterwards the last block waits in the window's buffer until the grid's last point writes it.
-/
module

public import Idealize.ShloMosaic.Lib.Pipeline.FrameBody

@[expose] public section

noncomputable section

namespace Cert.Proof.FirstRow

open Idealize.ShloMosaic

variable {N : ℕ} (n : ℕ)

/-- The point of the first row whose block the window holds after point `t`. -/
def held (t : Fin N) : Fin N := ⟨min t.val (n - 1), lt_of_le_of_lt (Nat.min_le_left _ _) t.isLt⟩

/-- From the end of the first row on, the point held does not move. -/
theorem held_pred (t : Fin N) (h : n ≤ t.val) : held n ⟨t.val - 1, by omega⟩ = held n t := by
  apply Fin.ext
  show min (t.val - 1) (n - 1) = min t.val (n - 1)
  omega

theorem held_first (t : Fin N) (h : t.val < n) : held n t = t := by
  apply Fin.ext
  show min t.val (n - 1) = t.val
  omega

/-- A window idle where a condition fails is idle from point `n` on, if the condition holds before that. -/
theorem idle_of_cond (t : ℕ) (b : BitVec 1) (h : b = 1#1 ↔ t < n) : (!(b == 1#1)) = decide (n ≤ t) := by
  by_cases hb : b = 1#1
  · have := h.mp hb
    rw [hb]; simp; omega
  · have h2 : ¬ t < n := fun ht => hb (h.mpr ht)
    rw [beq_false_of_ne hb]; simp; omega

/-- The point that writes column block `k`: the last block waits for the grid's last point. -/
def writer (hN : n ≤ N) (k : Fin n) : Fin N := ⟨if k.val + 1 = n then N - 1 else k.val, by have := k.isLt; split <;> omega⟩

theorem writer_flush (hN : n ≤ N) (k : Fin n) :
    (decide ((writer n hN k).val + 1 < n) || decide ((writer n hN k).val + 1 = N)) = true := by
  have hk := k.isLt
  by_cases h : k.val + 1 = n
  · have : N - 1 + 1 = N := by omega
    simp [writer, h, this]
  · have : k.val + 1 < n := by omega
    simp [writer, h, this]

theorem held_writer (hN : n ≤ N) (k : Fin n) : (held n (writer n hN k)).val = k.val := by
  have hk := k.isLt
  show min (if k.val + 1 = n then N - 1 else k.val) (n - 1) = k.val
  split <;> omega

/-- An entry of a view lies in the view. -/
theorem mem_of_emb {sig : RefSig} {κ : Kind} {sp : Space} {s : Shape} {e : EltTy} (v : View sig κ sp s e) {y : s.Idx} {i : v.ty.shape.Idx}
    (h : View.emb v y = i) : i ∈ v.set := by
  rw [View.set, Finset.mem_map]
  exact ⟨y, Finset.mem_univ _, h⟩

end Cert.Proof.FirstRow

end
-- ==== Proof.UpFrame.lean ====
/-
  THE GATED PRODUCT, THE RUN. The grid is 8 × 43: point `t` works on rows `1024 (t / 43) …` of the prompt and columns `256 (t % 43) …` of
  the two weights. In the first row of the grid (`t < 43`) the body also casts a block of `wd` and does the sample's rows; afterwards
  it leaves those two windows alone, and the last blocks it stored there wait in their buffers until the grid ends.
-/
module

public import proofs.«01_k».proof.Proof.Gen.Kernel2Ideal
public import proofs.«01_k».proof.Proof.Gen.Kernel2Ideal.Frame
public import proofs.«01_k».proof.Proof.Gen.Kernel2Ideal.Skeleton
public import proofs.«01_k».proof.Proof.Common
public import proofs.«01_k».proof.Proof.FirstRow
public import Idealize.ShloMosaic.Lib.Claim
public import Idealize.ShloMosaic.Lib.VecWindow
public import Idealize.ShloMosaic.Lib.Pipeline.TableIdle
public import Idealize.ShloMosaic.Lib.Pipeline.ReadBack
public import Idealize.ShloMosaic.Lib.Pipeline.ValueKit.Tiles

@[expose] public section

set_option maxRecDepth 16384

noncomputable section

namespace Cert.Kernel2Ideal.Up

open Cert.Kernel2Ideal Cert.Kernel2Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof
open Cert.Proof.Common

variable {F : FTy → Type} [FloatOps F]

local notation "𝕄" => MT nD τ sig Unit (Elt F) ℕ (UR sig nD τ) ℕ

variable (m : (ℓ : Loc nD τ sig) → Buf (Elt F) ℓ) (ρ : Dev nD → PrngReg)

section Body

variable (c : Dev nD) (i : grid0.Coords)
  (arg2 : Memref sig .tc .vmem S1024x4096 .bf16) (harg2 : arg2.IsWhole) (arg3 : Memref sig .tc .vmem S1x1x4096x256 .f32) (harg3 : arg3.IsWhole)
  (arg4 : Memref sig .tc .vmem S1x1x4096x256 .f32) (harg4 : arg4.IsWhole) (arg5 : Memref sig .tc .vmem S1x1x256x4096 .f32) (harg5 : arg5.IsWhole)
  (arg6 : Memref sig .tc .vmem S32x4096 .bf16) (harg6 : arg6.IsWhole) (arg7 : Memref sig .tc .vmem S1024x256 .bf16) (harg7 : arg7.IsWhole)
  (arg8 : Memref sig .tc .vmem S256x4096 .bf16) (harg8 : arg8.IsWhole) (arg9 : Memref sig .tc .vmem S32x256 .bf16) (harg9 : arg9.IsWhole)
  (x0 : Vec F S1024x4096 .bf16) (x1 x2 : Vec F S1x1x4096x256 .f32) (x3 : Vec F S1x1x256x4096 .f32) (x4 : Vec F S32x4096 .bf16)

set_option maxHeartbeats 1000000 in
/-- In the first row of the grid the body stores into all three outputs. -/
theorem run_first (hc : k0_cond1 i = 1#1) (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ (∃ d, owns (c : Thread nD τ) arg7 fullShare d)
        ∗ (∃ d, owns (c : Thread nD τ) arg8 fullShare d)
        ∗ (∃ d, owns (c : Thread nD τ) arg9 fullShare d)
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare (k0_pay3 x0 x1 x2)
            ∗ owns (c : Thread nD τ) arg8 fullShare (k0_pay1 x3)
            ∗ owns (c : Thread nD τ) arg9 fullShare (k0_pay2 x4 x1 x2)) -∗ K ⟨⟩))
      ⊢ wp frame (wpE (defs₀ (F := F)) Variants.none c none) E
          (cc0_ffn_up i arg2 harg2 arg3 harg3 arg4 harg4 arg5 harg5 arg6 harg6 arg7 harg7 arg8 harg8 arg9 harg9) K := by
  simp only [cc0_ffn_up_eq_skeleton]; unfold cc0_ffn_up_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  obtain rfl := harg2.eq_unread hf0; obtain rfl := harg3.eq_unread hf1; obtain rfl := harg4.eq_unread hf2
  obtain rfl := harg5.eq_unread hf3; obtain rfl := harg6.eq_unread hf4
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap
    · iexact H5
    ipureintro
    exact (View.read_writes_full _ _ _ _ _).trans
      (congr (congrArg₂ k0_pay3 (load_full arg2 harg2 x0 zero2 _) (load_full arg3 harg3 x1 zero4 _)) (load_full arg4 harg4 x2 zero4 _))
  isplitl [H6]
  · iexists _; isplitr; swap
    · iexact H6
    ipureintro
    exact (View.read_writes_full _ _ _ _ _).trans (congrArg k0_pay1 (load_full arg5 harg5 x3 zero4 _))
  iexists _; isplitr; swap
  · iexact H7
  ipureintro
  exact (View.read_writes_full _ _ _ _ _).trans
      (congr (congrArg₂ k0_pay2 (load_full arg6 harg6 x4 zero2 _) (load_full arg3 harg3 x1 zero4 _)) (load_full arg4 harg4 x2 zero4 _))

set_option maxHeartbeats 1000000 in
/-- In the other rows it stores into the prompt's output only, and does not touch the other two. -/
theorem run_later (hc : ¬ k0_cond1 i = 1#1) (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ (∃ d, owns (c : Thread nD τ) arg7 fullShare d)
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare (k0_pay3 x0 x1 x2)) -∗ K ⟨⟩))
      ⊢ wp frame (wpE (defs₀ (F := F)) Variants.none c none) E
          (cc0_ffn_up i arg2 harg2 arg3 harg3 arg4 harg4 arg5 harg5 arg6 harg6 arg7 harg7 arg8 harg8 arg9 harg9) K := by
  simp only [cc0_ffn_up_eq_skeleton]; unfold cc0_ffn_up_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  obtain rfl := harg2.eq_unread hf0; obtain rfl := harg3.eq_unread hf1; obtain rfl := harg4.eq_unread hf2
  obtain rfl := harg5.eq_unread hf3; obtain rfl := harg6.eq_unread hf4
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr; swap
  · iexact H5
  ipureintro
  exact (View.read_writes_full _ _ _ _ _).trans
      (congr (congrArg₂ k0_pay3 (load_full arg2 harg2 x0 zero2 _) (load_full arg3 harg3 x1 zero4 _)) (load_full arg4 harg4 x2 zero4 _))

end Body

/-! ## The schedule of the two windows of the first row -/

/-- The point of the first row whose blocks the two windows hold after point `t`. -/
abbrev held (t : Fin cfg0.N) : Fin cfg0.N := FirstRow.held 43 t

theorem cond_iff : ∀ t : Fin cfg0.N, k0_cond1 (grid0.coords t) = 1#1 ↔ t.val < 43 :=
  (by decide +kernel : ∀ t : Fin grid0.N, k0_cond1 (grid0.coords t) = 1#1 ↔ t.val < 43)

theorem flushF_6 : ∀ t : Fin grid0.N, win0_6.flushF t = (decide (t.val + 1 < 43) || decide (t.val + 1 = grid0.N)) := by decide +kernel
theorem flushF_7 : ∀ t : Fin grid0.N, win0_7.flushF t = (decide (t.val + 1 < 43) || decide (t.val + 1 = grid0.N)) := by decide +kernel
theorem flush_6 (t : Fin cfg0.N) : (cfg0.win 6).flush t = (decide (t.val + 1 < 43) || decide (t.val + 1 = grid0.N)) :=
  (Pipeline.Window.flush_eq_flushF win0_6 t).trans (flushF_6 t)
theorem flush_7 (t : Fin cfg0.N) : (cfg0.win 7).flush t = (decide (t.val + 1 < 43) || decide (t.val + 1 = grid0.N)) :=
  (Pipeline.Window.flush_eq_flushF win0_7 t).trans (flushF_7 t)

theorem idle_eq (w : Fin cfg0.W) (hw : w = 6 ∨ w = 7) (t : Fin cfg0.N) : cfg0.idle w (cfg0.grid.coords t) = decide (43 ≤ t.val) := by
  have h : cfg0.idle w (cfg0.grid.coords t) = !(k0_cond1 (grid0.coords t) == 1#1) := by rcases hw with rfl | rfl <;> rfl
  rw [h]
  exact FirstRow.idle_of_cond 43 t.val _ (cond_iff t)

/-! ## The proof data -/

/-- What each window's buffer holds after the body at a point: an input's block; the prompt's product; and for the two windows of
    the first row, what its point `held t` stored. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay3 (iblk m c 0 t) (iblk m c 1 t) (iblk m c 2 t)
    | ⟨6, _⟩ => k0_pay1 (iblk m c 3 (held t))
    | ⟨7, _⟩ => k0_pay2 (iblk m c 4 (held t)) (iblk m c 1 (held t)) (iblk m c 2 (held t))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) :
    (dats m 0 c).after 5 t = k0_pay3 (iblk m c 0 t) (iblk m c 1 t) (iblk m c 2 t) := by dsimp only [dats]
theorem after_6 (c : Dev nD) (t : Fin cfg0.N) : (dats m 0 c).after 6 t = k0_pay1 (iblk m c 3 (held t)) := by dsimp only [dats]
theorem after_7 (c : Dev nD) (t : Fin cfg0.N) :
    (dats m 0 c).after 7 t = k0_pay2 (iblk m c 4 (held t)) (iblk m c 1 (held t)) (iblk m c 2 (held t)) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

theorem before_6 (c : Dev nD) (t : Fin cfg0.N) (h : 43 ≤ t.val) (d) : (dats m 0 c).before 6 t d = (dats m 0 c).after 6 t :=
  before_of_carry _ 6 43 (by decide) (by decide) (idle_eq 6 (.inl rfl)) flush_6 rfl (fun _ _ => rfl)
    (fun t h => by rw [after_6, after_6, show held ⟨t.val - 1, by omega⟩ = held t from FirstRow.held_pred 43 t h]) t h d

theorem before_7 (c : Dev nD) (t : Fin cfg0.N) (h : 43 ≤ t.val) (d) : (dats m 0 c).before 7 t d = (dats m 0 c).after 7 t :=
  before_of_carry _ 7 43 (by decide) (by decide) (idle_eq 7 (.inr rfl)) flush_7 rfl (fun _ _ => rfl)
    (fun t h => by rw [after_7, after_7, show held ⟨t.val - 1, by omega⟩ = held t from FirstRow.held_pred 43 t h]) t h d

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (dats m 0 c).leavesExact 6 t ∗ (dats m 0 c).leavesExact 7 t)

set_option maxHeartbeats 800000 in
theorem sound_first (c : Dev nD) (t : Fin cfg0.N) (h : t.val < 43) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_first c (grid0.coords t) _ _ _ _ _ _ _ _ _ _ _ _ _ _ _ _ (iblk m c 0 t) (iblk m c 1 t) (iblk m c 2 t) (iblk m c 3 t) (iblk m c 4 t)
    ((cond_iff t).mpr h) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iapply (leaves_of_store (dats m 0 c) 6 t (by rw [idle_eq 6 (.inl rfl)]; simp; omega))
    rw [after_6, show held t = t from FirstRow.held_first 43 t h]; iexact H6
  iapply (leaves_of_store (dats m 0 c) 7 t (by rw [idle_eq 7 (.inr rfl)]; simp; omega))
  rw [after_7, show held t = t from FirstRow.held_first 43 t h]; iexact H7

set_option maxHeartbeats 800000 in
theorem sound_later (c : Dev nD) (t : Fin cfg0.N) (h : 43 ≤ t.val) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_later c (grid0.coords t) _ _ _ _ _ _ _ _ _ _ _ _ _ _ _ _ (iblk m c 0 t) (iblk m c 1 t) (iblk m c 2 t) (iblk m c 3 t) (iblk m c 4 t)
    (fun hc => absurd ((cond_iff t).mp hc) (by omega)) Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iapply (leaves_of_after (dats m 0 c) 6 t d6 (before_6 m c t h d6))
    rw [← before_6 m c t h d6]; iexact H6
  iapply (leaves_of_after (dats m 0 c) 7 t d7 (before_7 m c t h d7))
  rw [← before_7 m c t h d7]; iexact H7

theorem sound_body (c : Dev nD) (t : Fin cfg0.N) :
    bodyPre m c t ⊢ wp frame (wpE (defs₀ (F := F)) Variants.none c none) Set.univ (bodyAt0 t) (fun _ => bodyPost m c t) := by
  rcases Nat.lt_or_ge t.val 43 with h | h
  · exact sound_first m c t h
  · exact sound_later m c t h

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- Every execution ends, with each array at what the proof data says and every semaphore at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end as they were, and no semaphore is left up. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Kernel2Ideal.Up

end
-- ==== Proof.UpArrays.lean ====
/-
  THE GATED PRODUCT, THE ARRAYS. Column block `j` of the two weights at point `t` is `t % 43`, row block of the prompt `t / 43`; a point
  sums over the whole inner axis, so each entry of a stored block is the entry of the whole product. The blocks cover the arrays: the
  prompt's point by point, the other two by the 43 points of the grid's first row, whose last block is written when the grid ends.
-/
module

public import proofs.«01_k».proof.Proof.UpFrame
public import proofs.«01_k».proof.Proof.Gen.Reference2Ideal.Read
public import Idealize.ShloMosaic.Lib.Claim
public import Idealize.ShloMosaic.Lib.Pointwise

@[expose] public section

set_option maxRecDepth 16384

noncomputable section

namespace Cert.Kernel2Ideal.Up

open Cert.Kernel2Ideal Cert.Kernel2Ideal.Gen Idealize.ShloMosaic Idealize.ShloMosaic.TcCoe Idealize.SL.Sem
open Idealize.ShloMosaic.Pipeline (Dat)
open Idealize.ShloMosaic.Pointwise
open Cert.Proof
open Cert.Proof.Common

variable (m : (ℓ : Loc nD τ sig) → Buf (Elt Ideal) ℓ) (c : Dev nD)

/-- `silu (x · g) (x · u)` for one row `x` and one column of each weight. -/
def gated (x g u : Fin 4096 → EReal) : EReal :=
  (∑ k, x k * g k) * Ideal.logistic (∑ k, x k * g k) * ∑ k, x k * u k

/-! ## What the body stores, at an entry -/

theorem pay1_at (w : Vec Ideal S1x1x256x4096 .f32) (i : Fin 256) (j : Fin 4096) :
    k0_pay1 (F := Ideal) w (ix2 i j) = w (ix4 0 0 i j) := by
  pointwise [k0_pay1]

theorem pay2_at (x : Vec Ideal S32x4096 .bf16) (g u : Vec Ideal S1x1x4096x256 .f32) (i : Fin 32) (j : Fin 256) :
    k0_pay2 (F := Ideal) x g u (ix2 i j) = gated (fun k => x (ix2 i k)) (fun k => g (ix4 0 0 k j)) (fun k => u (ix4 0 0 k j)) := by
  pointwise [k0_pay2]
  rfl

theorem pay3_at (x : Vec Ideal S1024x4096 .bf16) (g u : Vec Ideal S1x1x4096x256 .f32) (i : Fin 1024) (j : Fin 256) :
    k0_pay3 (F := Ideal) x g u (ix2 i j) = gated (fun k => x (ix2 i k)) (fun k => g (ix4 0 0 k j)) (fun k => u (ix4 0 0 k j)) := by
  pointwise [k0_pay3]
  rfl

/-! ## The blocks of the inputs -/

/-- Row `y` of row block `t / 43` of the prompt. -/
def row (t : Fin cfg0.N) (y : Fin 1024) : Fin 8192 := ⟨1024 * (t.val / 43) + y.val, by have := t.isLt; have : cfg0.N = 344 := rfl; omega⟩
/-- Column `y` of column block `t % 43`. -/
def col (t : Fin cfg0.N) (y : Fin 256) : Fin 11008 := ⟨256 * (t.val % 43) + y.val, by omega⟩

theorem index_0 : ∀ t : Fin cfg0.N, win0_0.index t (0 : Fin 2) = t.val / 43 ∧ win0_0.index t (1 : Fin 2) = 0 :=
  (by decide +kernel : ∀ t : Fin grid0.N, _)
theorem index_1 : ∀ t : Fin cfg0.N, win0_1.index t (0 : Fin 4) = 0 ∧ win0_1.index t (1 : Fin 4) = 0 ∧ win0_1.index t (2 : Fin 4) = 0
    ∧ win0_1.index t (3 : Fin 4) = t.val % 43 := (by decide +kernel : ∀ t : Fin grid0.N, _)
theorem index_3 : ∀ t : Fin cfg0.N, win0_3.index t (0 : Fin 4) = 0 ∧ win0_3.index t (1 : Fin 4) = 0
    ∧ win0_3.index t (2 : Fin 4) = min t.val 42 ∧ win0_3.index t (3 : Fin 4) = 0 := (by decide +kernel : ∀ t : Fin grid0.N, _)
theorem index_5 : ∀ t : Fin cfg0.N, win0_5.index t (0 : Fin 2) = t.val / 43 ∧ win0_5.index t (1 : Fin 2) = t.val % 43 :=
  (by decide +kernel : ∀ t : Fin grid0.N, _)
theorem index_6 : ∀ t : Fin cfg0.N, win0_6.index t (0 : Fin 2) = min t.val 42 ∧ win0_6.index t (1 : Fin 2) = 0 :=
  (by decide +kernel : ∀ t : Fin grid0.N, _)
theorem index_7 : ∀ t : Fin cfg0.N, win0_7.index t (0 : Fin 2) = 0 ∧ win0_7.index t (1 : Fin 2) = min t.val 42 :=
  (by decide +kernel : ∀ t : Fin grid0.N, _)

theorem read_x (t : Fin cfg0.N) (i : Fin 1024) (k : Fin 4096) :
    (iblk m c 0 t : Vec Ideal S1024x4096 .bf16) (ix2 i k) = m ((c : Thread nD τ).loc main_arg0) (ix2 (row t i) k) := by
  obtain ⟨h0, h1⟩ := index_0 t
  unfold iblk
  rw [View.read_apply]
  refine congrArg (V m c main_arg0) (funext fun a => Fin.ext ?_)
  match a with
  | ⟨0, _⟩ => show win0_0.index t 0 * 1024 + 1 * i.val = 1024 * (t.val / 43) + i.val; rw [h0]; omega
  | ⟨1, _⟩ => show win0_0.index t 1 * 4096 + 1 * k.val = k.val; rw [h1]; omega

theorem read_g (t : Fin cfg0.N) (k : Fin 4096) (j : Fin 256) :
    (iblk m c 1 t : Vec Ideal S1x1x4096x256 .f32) (ix4 0 0 k j) = m ((c : Thread nD τ).loc main_arg1) (ix4 0 0 k (col t j)) := by
  obtain ⟨h0, h1, h2, h3⟩ := index_1 t
  unfold iblk
  rw [View.read_apply]
  refine congrArg (V m c main_arg1) (funext fun a => Fin.ext ?_)
  match a with
  | ⟨0, _⟩ => show win0_1.index t 0 * 1 + 1 * 0 = 0; rw [h0]
  | ⟨1, _⟩ => show win0_1.index t 1 * 1 + 1 * 0 = 0; rw [h1]
  | ⟨2, _⟩ => show win0_1.index t 2 * 4096 + 1 * k.val = k.val; rw [h2]; omega
  | ⟨3, _⟩ => show win0_1.index t 3 * 256 + 1 * j.val = 256 * (t.val % 43) + j.val; rw [h3]; omega

/-- The second weight is cut as the first. -/
theorem read_u (t : Fin cfg0.N) (k : Fin 4096) (j : Fin 256) :
    (iblk m c 2 t : Vec Ideal S1x1x4096x256 .f32) (ix4 0 0 k j) = m ((c : Thread nD τ).loc main_arg2) (ix4 0 0 k (col t j)) := by
  obtain ⟨h0, h1, h2, h3⟩ : win0_2.index t (0 : Fin 4) = 0 ∧ win0_2.index t (1 : Fin 4) = 0 ∧ win0_2.index t (2 : Fin 4) = 0
    ∧ win0_2.index t (3 : Fin 4) = t.val % 43 := index_1 t
  unfold iblk
  rw [View.read_apply]
  refine congrArg (V m c main_arg2) (funext fun a => Fin.ext ?_)
  match a with
  | ⟨0, _⟩ => show win0_2.index t 0 * 1 + 1 * 0 = 0; rw [h0]
  | ⟨1, _⟩ => show win0_2.index t 1 * 1 + 1 * 0 = 0; rw [h1]
  | ⟨2, _⟩ => show win0_2.index t 2 * 4096 + 1 * k.val = k.val; rw [h2]; omega
  | ⟨3, _⟩ => show win0_2.index t 3 * 256 + 1 * j.val = 256 * (t.val % 43) + j.val; rw [h3]; omega

/-- Column (or, of `wd`, row) `y` of the block held after point `t`. -/
def heldCol (t : Fin cfg0.N) (y : Fin 256) : Fin 11008 := ⟨256 * min t.val 42 + y.val, by omega⟩

theorem col_held (t : Fin cfg0.N) (y : Fin 256) : col (held t) y = heldCol t y := by
  apply Fin.ext
  show 256 * (min t.val 42 % 43) + y.val = 256 * min t.val 42 + y.val
  omega

theorem heldCol_held (t : Fin cfg0.N) (y : Fin 256) : heldCol (held t) y = heldCol t y := by
  apply Fin.ext
  show 256 * min (min t.val 42) 42 + y.val = 256 * min t.val 42 + y.val
  omega

theorem read_d (t : Fin cfg0.N) (i : Fin 256) (j : Fin 4096) :
    (iblk m c 3 t : Vec Ideal S1x1x256x4096 .f32) (ix4 0 0 i j) = m ((c : Thread nD τ).loc main_arg3) (ix4 0 0 (heldCol t i) j) := by
  obtain ⟨h0, h1, h2, h3⟩ := index_3 t
  unfold iblk
  rw [View.read_apply]
  refine congrArg (V m c main_arg3) (funext fun a => Fin.ext ?_)
  match a with
  | ⟨0, _⟩ => show win0_3.index t 0 * 1 + 1 * 0 = 0; rw [h0]
  | ⟨1, _⟩ => show win0_3.index t 1 * 1 + 1 * 0 = 0; rw [h1]
  | ⟨2, _⟩ => show win0_3.index t 2 * 256 + 1 * i.val = 256 * min t.val 42 + i.val; rw [h2]; omega
  | ⟨3, _⟩ => show win0_3.index t 3 * 4096 + 1 * j.val = j.val; rw [h3]; omega

theorem read_xs (t : Fin cfg0.N) (i : Fin 32) (k : Fin 4096) :
    (iblk m c 4 t : Vec Ideal S32x4096 .bf16) (ix2 i k) = m ((c : Thread nD τ).loc main_arg4) (ix2 i k) := by
  unfold iblk
  rw [View.read_apply]
  refine congrArg (V m c main_arg4) (funext fun a => Fin.ext ?_)
  match a with
  | ⟨0, _⟩ => show 0 * 32 + 1 * i.val = i.val; omega
  | ⟨1, _⟩ => show 0 * 4096 + 1 * k.val = k.val; omega

/-! ## The arrays the outputs end as -/

def upArray : S8192x11008.Idx → EReal := fun y =>
  gated (fun k => m ((c : Thread nD τ).loc main_arg0) (ix2 (y 0) k)) (fun k => m ((c : Thread nD τ).loc main_arg1) (ix4 0 0 k (y 1)))
    (fun k => m ((c : Thread nD τ).loc main_arg2) (ix4 0 0 k (y 1)))

def castArray : S11008x4096.Idx → EReal := fun y => m ((c : Thread nD τ).loc main_arg3) (ix4 0 0 (y 0) (y 1))

def sideArray : S32x11008.Idx → EReal := fun y =>
  gated (fun k => m ((c : Thread nD τ).loc main_arg4) (ix2 (y 0) k)) (fun k => m ((c : Thread nD τ).loc main_arg1) (ix4 0 0 k (y 1)))
    (fun k => m ((c : Thread nD τ).loc main_arg2) (ix4 0 0 k (y 1)))

theorem place_5 (t : Fin cfg0.N) (y : S1024x256.Idx) :
    (View.emb ((cfg0.win 5).blk t).view y : S8192x11008.Idx) = ix2 (row t (y 0)) (col t (y 1)) := by
  obtain ⟨h0, h1⟩ := index_5 t
  refine funext fun a => Fin.ext ?_
  match a with
  | ⟨0, _⟩ => show win0_5.index t 0 * 1024 + 1 * (y 0).val = 1024 * (t.val / 43) + (y 0).val; rw [h0]; omega
  | ⟨1, _⟩ => show win0_5.index t 1 * 256 + 1 * (y 1).val = 256 * (t.val % 43) + (y 1).val; rw [h1]; omega

theorem place_6 (t : Fin cfg0.N) (y : S256x4096.Idx) :
    (View.emb ((cfg0.win 6).blk t).view y : S11008x4096.Idx) = ix2 (heldCol t (y 0)) (y 1) := by
  obtain ⟨h0, h1⟩ := index_6 t
  refine funext fun a => Fin.ext ?_
  match a with
  | ⟨0, _⟩ => show win0_6.index t 0 * 256 + 1 * (y 0).val = 256 * min t.val 42 + (y 0).val; rw [h0]; omega
  | ⟨1, _⟩ => show win0_6.index t 1 * 4096 + 1 * (y 1).val = (y 1).val; rw [h1]; omega

theorem place_7 (t : Fin cfg0.N) (y : S32x256.Idx) :
    (View.emb ((cfg0.win 7).blk t).view y : S32x11008.Idx) = ix2 (y 0) (heldCol t (y 1)) := by
  obtain ⟨h0, h1⟩ := index_7 t
  refine funext fun a => Fin.ext ?_
  match a with
  | ⟨0, _⟩ => show win0_7.index t 0 * 32 + 1 * (y 0).val = (y 0).val; rw [h0]; omega
  | ⟨1, _⟩ => show win0_7.index t 1 * 256 + 1 * (y 1).val = 256 * min t.val 42 + (y 1).val; rw [h1]; omega

theorem flushed_5 (t : Fin cfg0.N) : (dats m 0 c).flushed 5 t = ((cfg0.win 5).blk t).view.read (Elt Ideal) (upArray m c) := by
  show (cfg0.win 5).cut (grid0.coords t) ((dats m 0 c).after 5 t) = _
  rw [after_5]
  funext y
  rw [View.read_apply]
  refine Eq.trans ?_ (congrArg (upArray m c) (place_5 t y)).symm
  refine ((congrArg (k0_pay3 (F := Ideal) (iblk m c 0 t) (iblk m c 1 t) (iblk m c 2 t)) (ix2_eta y).symm).trans (pay3_at _ _ _ _ _)).trans ?_
  exact congr (congrArg₂ gated (funext fun k => read_x m c t (y 0) k) (funext fun k => read_g m c t k (y 1)))
    (funext fun k => read_u m c t k (y 1))

theorem flushed_6 (t : Fin cfg0.N) : (dats m 0 c).flushed 6 t = ((cfg0.win 6).blk t).view.read (Elt Ideal) (castArray m c) := by
  show (cfg0.win 6).cut (grid0.coords t) ((dats m 0 c).after 6 t) = _
  rw [after_6]
  funext y
  rw [View.read_apply]
  refine Eq.trans ?_ (congrArg (castArray m c) (place_6 t y)).symm
  refine ((congrArg (k0_pay1 (F := Ideal) (iblk m c 3 (held t))) (ix2_eta y).symm).trans (pay1_at _ _ _)).trans ?_
  refine (read_d m c (held t) (y 0) (y 1)).trans ?_
  exact congrArg (fun r => m ((c : Thread nD τ).loc main_arg3) (ix4 0 0 r (y 1))) (heldCol_held t (y 0))

theorem flushed_7 (t : Fin cfg0.N) : (dats m 0 c).flushed 7 t = ((cfg0.win 7).blk t).view.read (Elt Ideal) (sideArray m c) := by
  show (cfg0.win 7).cut (grid0.coords t) ((dats m 0 c).after 7 t) = _
  rw [after_7]
  funext y
  rw [View.read_apply]
  refine Eq.trans ?_ (congrArg (sideArray m c) (place_7 t y)).symm
  refine ((congrArg (k0_pay2 (F := Ideal) (iblk m c 4 (held t)) (iblk m c 1 (held t)) (iblk m c 2 (held t))) (ix2_eta y).symm).trans
    (pay2_at _ _ _ _ _)).trans ?_
  refine congr (congrArg₂ gated (funext fun k => read_xs m c (held t) (y 0) k) (funext fun k => ?_)) (funext fun k => ?_)
  · exact (read_g m c (held t) k (y 1)).trans
      (congrArg (fun r => m ((c : Thread nD τ).loc main_arg1) (ix4 0 0 k r)) (col_held t (y 1)))
  · exact (read_u m c (held t) k (y 1)).trans
      (congrArg (fun r => m ((c : Thread nD τ).loc main_arg2) (ix4 0 0 k r)) (col_held t (y 1)))

/-- The point that writes column block `n` of the two windows of the first row. -/
abbrev writer (n : Fin 43) : Fin cfg0.N := FirstRow.writer 43 (by decide) n

theorem heldCol_writer (j : Fin 11008) :
    heldCol (writer ⟨j.val / 256, by omega⟩) ⟨j.val % 256, by omega⟩ = j := by
  apply Fin.ext
  show 256 * (FirstRow.held 43 (writer ⟨j.val / 256, by omega⟩)).val + j.val % 256 = j.val
  rw [FirstRow.held_writer]
  show 256 * (j.val / 256) + j.val % 256 = j.val
  omega

theorem cover_5 (i : S8192x11008.Idx) : ∃ t : Fin cfg0.N, (cfg0.win 5).flush t = true ∧ i ∈ ((cfg0.win 5).blk t).view.set := by
  have h0 : (i 0).val < 8192 := (i 0).isLt
  have h1 : (i 1).val < 11008 := (i 1).isLt
  have hN : cfg0.N = 344 := rfl
  refine ⟨⟨43 * ((i 0).val / 1024) + (i 1).val / 256, by omega⟩, flush0_5 _, ?_⟩
  rw [View.set, Finset.mem_map]
  refine ⟨(ix2 ⟨(i 0).val % 1024, by omega⟩ ⟨(i 1).val % 256, by omega⟩ : S1024x256.Idx), Finset.mem_univ _, ?_⟩
  refine (place_5 _ _).trans (funext fun a => Fin.ext ?_)
  match a with
  | ⟨0, _⟩ =>
    show 1024 * ((43 * ((i 0).val / 1024) + (i 1).val / 256) / 43) + (i 0).val % 1024 = (i 0).val
    omega
  | ⟨1, _⟩ =>
    show 256 * ((43 * ((i 0).val / 1024) + (i 1).val / 256) % 43) + (i 1).val % 256 = (i 1).val
    omega

theorem cover_6 (i : S11008x4096.Idx) : ∃ t : Fin cfg0.N, (cfg0.win 6).flush t = true ∧ i ∈ ((cfg0.win 6).blk t).view.set := by
  have h0 : (i 0).val < 11008 := (i 0).isLt
  refine ⟨writer ⟨(i 0).val / 256, by omega⟩, (flush_6 _).trans (FirstRow.writer_flush 43 (by decide) _), ?_⟩
  rw [View.set, Finset.mem_map]
  refine ⟨(ix2 ⟨(i 0).val % 256, by omega⟩ (i 1) : S256x4096.Idx), Finset.mem_univ _, ?_⟩
  refine (place_6 _ _).trans ((congrArg (fun r => (ix2 r (i 1) : S11008x4096.Idx)) (heldCol_writer (i 0))).trans (ix2_eta i))

theorem cover_7 (i : S32x11008.Idx) : ∃ t : Fin cfg0.N, (cfg0.win 7).flush t = true ∧ i ∈ ((cfg0.win 7).blk t).view.set := by
  have h1 : (i 1).val < 11008 := (i 1).isLt
  refine ⟨writer ⟨(i 1).val / 256, by omega⟩, (flush_7 _).trans (FirstRow.writer_flush 43 (by decide) _), ?_⟩
  rw [View.set, Finset.mem_map]
  refine ⟨(ix2 (i 0) ⟨(i 1).val % 256, by omega⟩ : S32x256.Idx), Finset.mem_univ _, ?_⟩
  refine (place_7 _ _).trans ((congrArg (fun r => (ix2 (i 0) r : S32x11008.Idx)) (heldCol_writer (i 1))).trans (ix2_eta i))

theorem final_5 : (dats m 0 c).arrAt 5 cfg0.N = upArray m c :=
  (dats m 0 c).arrAt_eq_of_cover 5 (upArray m c) (fun t _ => flushed_5 m c t) cover_5
theorem final_6 : (dats m 0 c).arrAt 6 cfg0.N = castArray m c :=
  (dats m 0 c).arrAt_eq_of_cover 6 (castArray m c) (fun t _ => flushed_6 m c t) cover_6
theorem final_7 : (dats m 0 c).arrAt 7 cfg0.N = sideArray m c :=
  (dats m 0 c).arrAt_eq_of_cover 7 (sideArray m c) (fun t _ => flushed_7 m c t) cover_7

/-! ## The reference's stages -/

section Reference

open Cert.Reference2Ideal.Read

theorem ref_up (x : S8192x4096.Idx → EReal) (g u : S1x2x4096x11008.Idx → EReal) (i : Fin 8192) (j : Fin 11008) :
    val_main_v9 (F := Ideal) x g u (ix2 i j) = gated (fun k => x (ix2 i k)) (fun k => g (ix4 0 0 k j)) (fun k => u (ix4 0 0 k j)) := by
  pointwise [val_main_v9, val_main_v8, val_main_v7, val_main_v6, val_main_v5, val_main_v4, val_main_v3, val_main_v2, val_main_v1,
    val_main_v0, val_main_call0_v0, val_main_call0_v1, val_main_call0_v2, val_main_call0_v3, val_main_call0_v4, val_main_call0_v5,
    val_main_call0_cst, val_main_call0_cst_0]
  rfl

theorem ref_cast (w : S1x2x11008x4096.Idx → EReal) (i : Fin 11008) (j : Fin 4096) :
    val_main_v12 (F := Ideal) w (ix2 i j) = w (ix4 0 0 i j) := by
  pointwise [val_main_v12, val_main_v11, val_main_v10]

theorem ref_side (x : S32x4096.Idx → EReal) (g u : S1x2x4096x11008.Idx → EReal) (i : Fin 32) (j : Fin 11008) :
    val_main_v18 (F := Ideal) g u x (ix2 i j) = gated (fun k => x (ix2 i k)) (fun k => g (ix4 0 0 k j)) (fun k => u (ix4 0 0 k j)) := by
  pointwise [val_main_v18, val_main_v17, val_main_v16, val_main_v15, val_main_v14, val_main_v13, val_main_v3, val_main_v2, val_main_v1,
    val_main_v0, val_main_call1_v0, val_main_call1_v1, val_main_call1_v2, val_main_call1_v3, val_main_call1_v4, val_main_call1_v5,
    val_main_call1_cst, val_main_call1_cst_0]
  rfl

theorem upArray_eq : upArray m c = val_main_v9 (F := Ideal) (m ((c : Thread nD τ).loc main_arg0)) (m ((c : Thread nD τ).loc main_arg1))
    (m ((c : Thread nD τ).loc main_arg2)) :=
  funext fun y => (ref_up _ _ _ _ _).symm.trans (congrArg _ (ix2_eta y))

theorem castArray_eq : castArray m c = val_main_v12 (F := Ideal) (m ((c : Thread nD τ).loc main_arg3)) :=
  funext fun y => (ref_cast _ _ _).symm.trans (congrArg _ (ix2_eta y))

theorem sideArray_eq : sideArray m c = val_main_v18 (F := Ideal) (m ((c : Thread nD τ).loc main_arg1)) (m ((c : Thread nD τ).loc main_arg2))
    (m ((c : Thread nD τ).loc main_arg4)) :=
  funext fun y => (ref_side _ _ _ _ _).symm.trans (congrArg _ (ix2_eta y))

end Reference

end Cert.Kernel2Ideal.Up

end
-- ==== Proof.UpClaims.lean ====
/-
  THE GATED PRODUCT, THE CLAIMS: both programs run, and end with the same three arrays.
-/
module

public import proofs.«01_k».proof.Defs
public import proofs.«01_k».proof.Proof.UpArrays
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run

@[expose] public section

set_option maxRecDepth 65536

noncomputable section

namespace Cert.Proof.Up

open Idealize.ShloMosaic Idealize.ShloMosaic.TcCoe Idealize.SL.Sem Cert.Kernel2Ideal.Up

attribute [local instance] Cert.Kernel2.Gen.facts Cert.Kernel2Ideal.Gen.facts Cert.Reference2Ideal.Gen.facts

/-! No operation was rewritten, so the program and its idealization are one text under two names: the body tables agree label by
label, and with them the runs. -/

section Names

variable {F : FTy → Type} [FloatOps F]

theorem defs₀_eq : Cert.Kernel2.defs₀ (F := F) = Cert.Kernel2Ideal.defs₀ (F := F) := by
  unfold Cert.Kernel2.defs₀ Cert.Kernel2Ideal.defs₀
  refine congrArg Defs.onTc (funext fun l => funext fun a => ?_)
  match l, a with
  | (0 : Fin 1), (t, s) =>
    dsimp only
    with_unfolding_all rfl

theorem defs_eq : Cert.Kernel2.defs (F := F) = Cert.Kernel2Ideal.defs (F := F) :=
  congrArg (Pipeline.defs Cert.Kernel2Ideal.pcfgs) defs₀_eq

end Names

theorem frame_kernel : Cert.quiescent_Kernel2 := fun m ρ _ => by
  rw [defs_eq]
  exact Cert.Kernel2Ideal.Up.frame (F := Bits) m ρ

theorem frame_ideal : Cert.quiescent_Kernel2Ideal := fun m ρ _ => Cert.Kernel2Ideal.Up.frame m ρ

theorem frame_reference : Cert.quiescent_Reference2Ideal := fun m ρ _ =>
  (θ_run Cert.Reference2Ideal.defs _ _).mono
    (fun r h => ⟨fun c => (h c).2.2.2, Idealize.ShloMosaic.sem_eq_zero_of_no_sems (by decide) r.2⟩)
    (Cert.Reference2Ideal.Value.run (F := Ideal) m ρ)

/-- Over the extended reals the prompt's product, the cast weight and the sample's product are the reference's. -/
theorem algebraic : Cert.algebraic_Kernel2Ideal_Reference2Ideal := by
  intro m ρ m' ρ' _ hagree
  refine ⟨fun c => upArray m c, fun c => castArray m c, fun c => sideArray m c, ?_, ?_⟩
  · exact (θ_run Cert.Kernel2Ideal.defs _ _).mono
      (fun _ h c => ⟨((h.1 c).1 5).trans (final_5 m c), ((h.1 c).1 6).trans (final_6 m c), ((h.1 c).1 7).trans (final_7 m c), h.2.1 c⟩)
      (θ_run_and (run_main (F := Ideal) m ρ) (Cert.Kernel2Ideal.Up.frame (F := Ideal) m ρ))
  · refine (θ_run Cert.Reference2Ideal.defs _ _).mono
      (fun _ h c => ⟨(h c).1.trans ?_, (h c).2.1.trans ?_, (h c).2.2.1.trans ?_, (h c).2.2.2⟩)
      (Cert.Reference2Ideal.Value.run (F := Ideal) m' ρ')
    · obtain ⟨e0, e1, e2, e3, e4⟩ := hagree c
      rw [Cert.Reference2Ideal.Read.val_main_v9_eq, e0, e1, e2]
      exact (upArray_eq m c).symm
    · obtain ⟨e0, e1, e2, e3, e4⟩ := hagree c
      rw [Cert.Reference2Ideal.Read.val_main_v12_eq, e3]
      exact (castArray_eq m c).symm
    · obtain ⟨e0, e1, e2, e3, e4⟩ := hagree c
      rw [Cert.Reference2Ideal.Read.val_main_v18_eq, e1, e2, e4]
      exact (sideArray_eq m c).symm

end Cert.Proof.Up

end
-- ==== Proof.DownFrame.lean ====
/-
  THE PRODUCT INTO THE RESIDUAL, THE RUN. The grid is 16 × 16: point `t` works on rows `512 (t / 16) …` of the prompt and columns
  `256 (t % 16) …` of the weight. In the first row of the grid (`t < 16`) the body also does the sample's rows; afterwards it leaves that
  window alone, and the last block it stored there waits in its buffer until the grid ends.
-/
module

public import proofs.«01_k».proof.Proof.Gen.Kernel3Ideal
public import proofs.«01_k».proof.Proof.Gen.Kernel3Ideal.Frame
public import proofs.«01_k».proof.Proof.Gen.Kernel3Ideal.Skeleton
public import proofs.«01_k».proof.Proof.Common
public import proofs.«01_k».proof.Proof.FirstRow
public import Idealize.ShloMosaic.Lib.Claim
public import Idealize.ShloMosaic.Lib.VecWindow
public import Idealize.ShloMosaic.Lib.Pipeline.TableIdle
public import Idealize.ShloMosaic.Lib.Pipeline.ReadBack
public import Idealize.ShloMosaic.Lib.Pipeline.ValueKit.Tiles

@[expose] public section

set_option maxRecDepth 16384

noncomputable section

namespace Cert.Kernel3Ideal.Down

open Cert.Kernel3Ideal Cert.Kernel3Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof
open Cert.Proof.Common

variable {F : FTy → Type} [FloatOps F]

local notation "𝕄" => MT nD τ sig Unit (Elt F) ℕ (UR sig nD τ) ℕ

variable (m : (ℓ : Loc nD τ sig) → Buf (Elt F) ℓ) (ρ : Dev nD → PrngReg)

section Body

variable (c : Dev nD) (i : grid0.Coords)
  (arg2 : Memref sig .tc .vmem S512x11008 .bf16) (harg2 : arg2.IsWhole) (arg3 : Memref sig .tc .vmem S11008x256 .bf16) (harg3 : arg3.IsWhole) (arg4 : Memref sig .tc .vmem S512x256 .f32) (harg4 : arg4.IsWhole)
  (arg5 : Memref sig .tc .vmem S1x1x256 .f32) (harg5 : arg5.IsWhole) (arg6 : Memref sig .tc .vmem S32x11008 .bf16) (harg6 : arg6.IsWhole) (arg7 : Memref sig .tc .vmem S32x256 .f32) (harg7 : arg7.IsWhole)
  (arg8 : Memref sig .tc .vmem S32x256 .f32) (harg8 : arg8.IsWhole) (arg9 : Memref sig .tc .vmem S512x256 .f32) (harg9 : arg9.IsWhole) (arg10 : Memref sig .tc .vmem S32x256 .f32) (harg10 : arg10.IsWhole)
  (x0 : Vec F S512x11008 .bf16) (x1 : Vec F S11008x256 .bf16) (x2 : Vec F S512x256 .f32) (x3 : Vec F S1x1x256 .f32) (x4 : Vec F S32x11008 .bf16) (x5 : Vec F S32x256 .f32) (x6 : Vec F S32x256 .f32)

set_option maxHeartbeats 1000000 in
/-- In the first row of the grid the body stores into both outputs. -/
theorem run_first (hc : k0_cond1 i = 1#1) (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ (∃ d, owns (c : Thread nD τ) arg9 fullShare d)
        ∗ (∃ d, owns (c : Thread nD τ) arg10 fullShare d)
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare (k0_pay2 x2 x3 x0 x1)
            ∗ owns (c : Thread nD τ) arg10 fullShare (k0_pay1 x5 x6 x4 x1)) -∗ K ⟨⟩))
      ⊢ wp frame (wpE (defs₀ (F := F)) Variants.none c none) E
          (cc0_ffn_down i arg2 harg2 arg3 harg3 arg4 harg4 arg5 harg5 arg6 harg6 arg7 harg7 arg8 harg8 arg9 harg9 arg10 harg10) K := by
  simp only [cc0_ffn_down_eq_skeleton]; unfold cc0_ffn_down_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap
    · iexact H7
    ipureintro
    exact (View.read_writes_full _ _ _ _ _).trans
      (congr (congr (congrArg₂ k0_pay2 (load_full arg4 harg4 x2 zero2 _) (load_full arg5 harg5 x3 zero3 _)) (load_full arg2 harg2 x0 zero2 _))
        (load_full arg3 harg3 x1 zero2 _))
  iexists _; isplitr; swap
  · iexact H8
  ipureintro
  exact (View.read_writes_full _ _ _ _ _).trans
      (congr (congr (congrArg₂ k0_pay1 (load_full arg7 harg7 x5 zero2 _) (load_full arg8 harg8 x6 zero2 _)) (load_full arg6 harg6 x4 zero2 _))
        (load_full arg3 harg3 x1 zero2 _))

set_option maxHeartbeats 1000000 in
/-- In the other rows it stores into the prompt's output only, and does not touch the other. -/
theorem run_later (hc : ¬ k0_cond1 i = 1#1) (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ (∃ d, owns (c : Thread nD τ) arg9 fullShare d)
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare (k0_pay2 x2 x3 x0 x1)) -∗ K ⟨⟩))
      ⊢ wp frame (wpE (defs₀ (F := F)) Variants.none c none) E
          (cc0_ffn_down i arg2 harg2 arg3 harg3 arg4 harg4 arg5 harg5 arg6 harg6 arg7 harg7 arg8 harg8 arg9 harg9 arg10 harg10) K := by
  simp only [cc0_ffn_down_eq_skeleton]; unfold cc0_ffn_down_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  iexists _; isplitr; swap
  · iexact H7
  ipureintro
  exact (View.read_writes_full _ _ _ _ _).trans
      (congr (congr (congrArg₂ k0_pay2 (load_full arg4 harg4 x2 zero2 _) (load_full arg5 harg5 x3 zero3 _)) (load_full arg2 harg2 x0 zero2 _))
        (load_full arg3 harg3 x1 zero2 _))

end Body

/-! ## The schedule of the window of the first row -/

/-- The point of the first row whose block the window holds after point `t`. -/
abbrev held (t : Fin cfg0.N) : Fin cfg0.N := FirstRow.held 16 t

theorem cond_iff : ∀ t : Fin cfg0.N, k0_cond1 (grid0.coords t) = 1#1 ↔ t.val < 16 :=
  (by decide +kernel : ∀ t : Fin grid0.N, k0_cond1 (grid0.coords t) = 1#1 ↔ t.val < 16)

theorem flushF_8 : ∀ t : Fin grid0.N, win0_8.flushF t = (decide (t.val + 1 < 16) || decide (t.val + 1 = grid0.N)) := by decide +kernel
theorem flush_8 (t : Fin cfg0.N) : (cfg0.win 8).flush t = (decide (t.val + 1 < 16) || decide (t.val + 1 = grid0.N)) :=
  (Pipeline.Window.flush_eq_flushF win0_8 t).trans (flushF_8 t)

theorem idle_eq (t : Fin cfg0.N) : cfg0.idle 8 (cfg0.grid.coords t) = decide (16 ≤ t.val) := by
  have h : cfg0.idle 8 (cfg0.grid.coords t) = !(k0_cond1 (grid0.coords t) == 1#1) := rfl
  rw [h]
  exact FirstRow.idle_of_cond 16 t.val _ (cond_iff t)

/-! ## The proof data -/

/-- What each window's buffer holds after the body at a point: an input's block; the prompt's rows; and for the window of the first
    row, what its point `held t` stored. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => k0_pay2 (iblk m c 2 t) (iblk m c 3 t) (iblk m c 0 t) (iblk m c 1 t)
    | ⟨8, _⟩ => k0_pay1 (iblk m c 5 (held t)) (iblk m c 6 (held t)) (iblk m c 4 (held t)) (iblk m c 1 (held t))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) :
    (dats m 0 c).after 7 t = k0_pay2 (iblk m c 2 t) (iblk m c 3 t) (iblk m c 0 t) (iblk m c 1 t) := by dsimp only [dats]
theorem after_8 (c : Dev nD) (t : Fin cfg0.N) : (dats m 0 c).after 8 t
    = k0_pay1 (iblk m c 5 (held t)) (iblk m c 6 (held t)) (iblk m c 4 (held t)) (iblk m c 1 (held t)) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

theorem before_8 (c : Dev nD) (t : Fin cfg0.N) (h : 16 ≤ t.val) (d) : (dats m 0 c).before 8 t d = (dats m 0 c).after 8 t :=
  before_of_carry _ 8 16 (by decide) (by decide) idle_eq flush_8 rfl (fun _ _ => rfl)
    (fun t h => by rw [after_8, after_8, show held ⟨t.val - 1, by omega⟩ = held t from FirstRow.held_pred 16 t h]) t h d

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ (dats m 0 c).leavesExact 8 t)

set_option maxHeartbeats 800000 in
theorem sound_first (c : Dev nD) (t : Fin cfg0.N) (h : t.val < 16) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_first c (grid0.coords t) _ _ _ _ _ _ _ _ _ _ _ _ _ _ _ _ _ _ (iblk m c 0 t) (iblk m c 1 t) (iblk m c 2 t) (iblk m c 3 t) (iblk m c 4 t) (iblk m c 5 t) (iblk m c 6 t)
    ((cond_iff t).mpr h) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iapply (leaves_of_store (dats m 0 c) 8 t (by rw [idle_eq]; simp; omega))
  rw [after_8, show held t = t from FirstRow.held_first 16 t h]; iexact H8

set_option maxHeartbeats 800000 in
theorem sound_later (c : Dev nD) (t : Fin cfg0.N) (h : 16 ≤ t.val) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_later c (grid0.coords t) _ _ _ _ _ _ _ _ _ _ _ _ _ _ _ _ _ _ (iblk m c 0 t) (iblk m c 1 t) (iblk m c 2 t) (iblk m c 3 t) (iblk m c 4 t) (iblk m c 5 t) (iblk m c 6 t)
    (fun hc => absurd ((cond_iff t).mp hc) (by omega)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iapply (leaves_of_after (dats m 0 c) 8 t d8 (before_8 m c t h d8))
  rw [← before_8 m c t h d8]; iexact H8

theorem sound_body (c : Dev nD) (t : Fin cfg0.N) :
    bodyPre m c t ⊢ wp frame (wpE (defs₀ (F := F)) Variants.none c none) Set.univ (bodyAt0 t) (fun _ => bodyPost m c t) := by
  rcases Nat.lt_or_ge t.val 16 with h | h
  · exact sound_first m c t h
  · exact sound_later m c t h

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- Every execution ends, with each array at what the proof data says and every semaphore at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end as they were, and no semaphore is left up. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.Kernel3Ideal.Down

end
-- ==== Proof.DownArrays.lean ====
/-
  THE PRODUCT INTO THE RESIDUAL, THE ARRAYS. Column block `j` of the weight at point `t` is `t % 16`, row block of the prompt `t / 16`,
  and the prompt's sequence `t / 64`: a sequence is four row blocks. A point sums over the whole inner axis. The blocks cover the arrays:
  the prompt's point by point, the sample's by the 16 points of the grid's first row, whose last block is written when the grid ends.
-/
module

public import proofs.«01_k».proof.Proof.DownFrame
public import proofs.«01_k».proof.Proof.Gen.Reference3Ideal.Read
public import Idealize.ShloMosaic.Lib.Claim
public import Idealize.ShloMosaic.Lib.Pointwise

@[expose] public section

set_option maxRecDepth 16384

noncomputable section

namespace Cert.Kernel3Ideal.Down

open Cert.Kernel3Ideal Cert.Kernel3Ideal.Gen Idealize.ShloMosaic Idealize.ShloMosaic.TcCoe Idealize.SL.Sem
open Idealize.ShloMosaic.Pipeline (Dat)
open Idealize.ShloMosaic.Pointwise
open Cert.Proof
open Cert.Proof.Common

variable (m : (ℓ : Loc nD τ sig) → Buf (Elt Ideal) ℓ) (c : Dev nD)

/-- One entry: the residual `x`, and half the gate `a` times row `u` of the product's left side against column `w` of the weight. -/
def stepped (x a : EReal) (u w : Fin 11008 → EReal) : EReal :=
  x + FloatOps.ofBits (F := Ideal) .f32 0x3F000000#32 * a * ∑ k, u k * w k

/-! ## What the body stores, at an entry -/

theorem pay1_at (x a : Vec Ideal S32x256 .f32) (u : Vec Ideal S32x11008 .bf16) (w : Vec Ideal S11008x256 .bf16) (i : Fin 32) (j : Fin 256) :
    k0_pay1 (F := Ideal) x a u w (ix2 i j) = stepped (x (ix2 i j)) (a (ix2 i j)) (fun k => u (ix2 i k)) (fun k => w (ix2 k j)) := by
  unfold stepped
  pointwise [k0_pay1]

theorem pay2_at (x : Vec Ideal S512x256 .f32) (a : Vec Ideal S1x1x256 .f32) (u : Vec Ideal S512x11008 .bf16) (w : Vec Ideal S11008x256 .bf16)
    (i : Fin 512) (j : Fin 256) :
    k0_pay2 (F := Ideal) x a u w (ix2 i j) = stepped (x (ix2 i j)) (a (ix3 0 0 j)) (fun k => u (ix2 i k)) (fun k => w (ix2 k j)) := by
  unfold stepped
  pointwise [k0_pay2]

/-! ## The blocks of the inputs -/

/-- Row `y` of row block `t / 16` of the prompt. -/
def row (t : Fin cfg0.N) (y : Fin 512) : Fin 8192 := ⟨512 * (t.val / 16) + y.val, by have := t.isLt; have : cfg0.N = 256 := rfl; omega⟩
/-- Column `y` of column block `t % 16`. -/
def col (t : Fin cfg0.N) (y : Fin 256) : Fin 4096 := ⟨256 * (t.val % 16) + y.val, by omega⟩
/-- Column `y` of the block held after point `t`. -/
def heldCol (t : Fin cfg0.N) (y : Fin 256) : Fin 4096 := ⟨256 * min t.val 15 + y.val, by omega⟩
/-- The sequence a row of the prompt is of. -/
def seq (r : Fin 8192) : Fin 4 := ⟨r.val / 2048, by omega⟩

theorem index_0 : ∀ t : Fin cfg0.N, win0_0.index t (0 : Fin 2) = t.val / 16 ∧ win0_0.index t (1 : Fin 2) = 0 :=
  (by decide +kernel : ∀ t : Fin grid0.N, _)
theorem index_1 : ∀ t : Fin cfg0.N, win0_1.index t (0 : Fin 2) = 0 ∧ win0_1.index t (1 : Fin 2) = t.val % 16 :=
  (by decide +kernel : ∀ t : Fin grid0.N, _)
theorem index_2 : ∀ t : Fin cfg0.N, win0_2.index t (0 : Fin 2) = t.val / 16 ∧ win0_2.index t (1 : Fin 2) = t.val % 16 :=
  (by decide +kernel : ∀ t : Fin grid0.N, _)
theorem index_3 : ∀ t : Fin cfg0.N, win0_3.index t (0 : Fin 3) = t.val / 64 ∧ win0_3.index t (1 : Fin 3) = 0
    ∧ win0_3.index t (2 : Fin 3) = t.val % 16 := (by decide +kernel : ∀ t : Fin grid0.N, _)
/-- The sample's residual, gate and output are cut alike. -/
theorem index_5 : ∀ t : Fin cfg0.N, win0_5.index t (0 : Fin 2) = 0 ∧ win0_5.index t (1 : Fin 2) = min t.val 15 :=
  (by decide +kernel : ∀ t : Fin grid0.N, _)

theorem col_held (t : Fin cfg0.N) (y : Fin 256) : col (held t) y = heldCol t y := by
  apply Fin.ext
  show 256 * (min t.val 15 % 16) + y.val = 256 * min t.val 15 + y.val
  omega

theorem heldCol_held (t : Fin cfg0.N) (y : Fin 256) : heldCol (held t) y = heldCol t y := by
  apply Fin.ext
  show 256 * min (min t.val 15) 15 + y.val = 256 * min t.val 15 + y.val
  omega

theorem seq_row (t : Fin cfg0.N) (y : Fin 512) : (seq (row t y)).val = t.val / 64 := by
  show (512 * (t.val / 16) + y.val) / 2048 = t.val / 64
  omega

theorem read_u (t : Fin cfg0.N) (i : Fin 512) (k : Fin 11008) :
    (iblk m c 0 t : Vec Ideal S512x11008 .bf16) (ix2 i k) = m ((c : Thread nD τ).loc main_arg0) (ix2 (row t i) k) := by
  obtain ⟨h0, h1⟩ := index_0 t
  unfold iblk
  rw [View.read_apply]
  refine congrArg (V m c main_arg0) (funext fun a => Fin.ext ?_)
  match a with
  | ⟨0, _⟩ => show win0_0.index t 0 * 512 + 1 * i.val = 512 * (t.val / 16) + i.val; rw [h0]; omega
  | ⟨1, _⟩ => show win0_0.index t 1 * 11008 + 1 * k.val = k.val; rw [h1]; omega

theorem read_w (t : Fin cfg0.N) (k : Fin 11008) (j : Fin 256) :
    (iblk m c 1 t : Vec Ideal S11008x256 .bf16) (ix2 k j) = m ((c : Thread nD τ).loc main_arg1) (ix2 k (col t j)) := by
  obtain ⟨h0, h1⟩ := index_1 t
  unfold iblk
  rw [View.read_apply]
  refine congrArg (V m c main_arg1) (funext fun a => Fin.ext ?_)
  match a with
  | ⟨0, _⟩ => show win0_1.index t 0 * 11008 + 1 * k.val = k.val; rw [h0]; omega
  | ⟨1, _⟩ => show win0_1.index t 1 * 256 + 1 * j.val = 256 * (t.val % 16) + j.val; rw [h1]; omega

theorem read_x (t : Fin cfg0.N) (i : Fin 512) (j : Fin 256) :
    (iblk m c 2 t : Vec Ideal S512x256 .f32) (ix2 i j) = m ((c : Thread nD τ).loc main_arg2) (ix2 (row t i) (col t j)) := by
  obtain ⟨h0, h1⟩ := index_2 t
  unfold iblk
  rw [View.read_apply]
  refine congrArg (V m c main_arg2) (funext fun a => Fin.ext ?_)
  match a with
  | ⟨0, _⟩ => show win0_2.index t 0 * 512 + 1 * i.val = 512 * (t.val / 16) + i.val; rw [h0]; omega
  | ⟨1, _⟩ => show win0_2.index t 1 * 256 + 1 * j.val = 256 * (t.val % 16) + j.val; rw [h1]; omega

theorem read_a (t : Fin cfg0.N) (i : Fin 512) (j : Fin 256) :
    (iblk m c 3 t : Vec Ideal S1x1x256 .f32) (ix3 0 0 j) = m ((c : Thread nD τ).loc main_arg3) (ix3 (seq (row t i)) 0 (col t j)) := by
  obtain ⟨h0, h1, h2⟩ := index_3 t
  unfold iblk
  rw [View.read_apply]
  refine congrArg (V m c main_arg3) (funext fun a => Fin.ext ?_)
  match a with
  | ⟨0, _⟩ => show win0_3.index t 0 * 1 + 1 * 0 = (seq (row t i)).val; rw [h0, seq_row]; omega
  | ⟨1, _⟩ => show win0_3.index t 1 * 1 + 1 * 0 = 0; rw [h1]
  | ⟨2, _⟩ => show win0_3.index t 2 * 256 + 1 * j.val = 256 * (t.val % 16) + j.val; rw [h2]; omega

theorem read_us (t : Fin cfg0.N) (i : Fin 32) (k : Fin 11008) :
    (iblk m c 4 t : Vec Ideal S32x11008 .bf16) (ix2 i k) = m ((c : Thread nD τ).loc main_arg4) (ix2 i k) := by
  unfold iblk
  rw [View.read_apply]
  refine congrArg (V m c main_arg4) (funext fun a => Fin.ext ?_)
  match a with
  | ⟨0, _⟩ => show 0 * 32 + 1 * i.val = i.val; omega
  | ⟨1, _⟩ => show 0 * 11008 + 1 * k.val = k.val; omega

/-- Where block `t` of the three windows cut alike lies. -/
theorem place_side (t : Fin cfg0.N) (y : S32x256.Idx) :
    (View.emb ((cfg0.win 8).blk t).view y : S32x4096.Idx) = ix2 (y 0) (heldCol t (y 1)) := by
  obtain ⟨h0, h1⟩ := index_5 t
  refine funext fun a => Fin.ext ?_
  match a with
  | ⟨0, _⟩ => show win0_5.index t 0 * 32 + 1 * (y 0).val = (y 0).val; rw [h0]; omega
  | ⟨1, _⟩ => show win0_5.index t 1 * 256 + 1 * (y 1).val = 256 * min t.val 15 + (y 1).val; rw [h1]; omega

theorem read_xs (t : Fin cfg0.N) (i : Fin 32) (j : Fin 256) :
    (iblk m c 5 t : Vec Ideal S32x256 .f32) (ix2 i j) = m ((c : Thread nD τ).loc main_arg5) (ix2 i (heldCol t j)) := by
  unfold iblk
  rw [View.read_apply]
  exact congrArg (V m c main_arg5) (place_side t (ix2 i j))

theorem read_as (t : Fin cfg0.N) (i : Fin 32) (j : Fin 256) :
    (iblk m c 6 t : Vec Ideal S32x256 .f32) (ix2 i j) = m ((c : Thread nD τ).loc main_arg6) (ix2 i (heldCol t j)) := by
  unfold iblk
  rw [View.read_apply]
  exact congrArg (V m c main_arg6) (place_side t (ix2 i j))

/-! ## The arrays the outputs end as -/

def downArray : S8192x4096.Idx → EReal := fun y =>
  stepped (m ((c : Thread nD τ).loc main_arg2) (ix2 (y 0) (y 1))) (m ((c : Thread nD τ).loc main_arg3) (ix3 (seq (y 0)) 0 (y 1)))
    (fun k => m ((c : Thread nD τ).loc main_arg0) (ix2 (y 0) k)) (fun k => m ((c : Thread nD τ).loc main_arg1) (ix2 k (y 1)))

def sideArray : S32x4096.Idx → EReal := fun y =>
  stepped (m ((c : Thread nD τ).loc main_arg5) (ix2 (y 0) (y 1))) (m ((c : Thread nD τ).loc main_arg6) (ix2 (y 0) (y 1)))
    (fun k => m ((c : Thread nD τ).loc main_arg4) (ix2 (y 0) k)) (fun k => m ((c : Thread nD τ).loc main_arg1) (ix2 k (y 1)))

theorem place_7 (t : Fin cfg0.N) (y : S512x256.Idx) :
    (View.emb ((cfg0.win 7).blk t).view y : S8192x4096.Idx) = ix2 (row t (y 0)) (col t (y 1)) := by
  obtain ⟨h0, h1⟩ := index_2 t
  refine funext fun a => Fin.ext ?_
  match a with
  | ⟨0, _⟩ => show win0_2.index t 0 * 512 + 1 * (y 0).val = 512 * (t.val / 16) + (y 0).val; rw [h0]; omega
  | ⟨1, _⟩ => show win0_2.index t 1 * 256 + 1 * (y 1).val = 256 * (t.val % 16) + (y 1).val; rw [h1]; omega

theorem flushed_7 (t : Fin cfg0.N) : (dats m 0 c).flushed 7 t = ((cfg0.win 7).blk t).view.read (Elt Ideal) (downArray m c) := by
  show (cfg0.win 7).cut (grid0.coords t) ((dats m 0 c).after 7 t) = _
  rw [after_7]
  funext y
  rw [View.read_apply]
  refine Eq.trans ?_ (congrArg (downArray m c) (place_7 t y)).symm
  refine ((congrArg (k0_pay2 (F := Ideal) (iblk m c 2 t) (iblk m c 3 t) (iblk m c 0 t) (iblk m c 1 t)) (ix2_eta y).symm).trans
    (pay2_at _ _ _ _ _ _)).trans ?_
  exact congr (congr (congrArg₂ stepped (read_x m c t (y 0) (y 1)) (read_a m c t (y 0) (y 1))) (funext fun k => read_u m c t (y 0) k))
    (funext fun k => read_w m c t k (y 1))

theorem flushed_8 (t : Fin cfg0.N) : (dats m 0 c).flushed 8 t = ((cfg0.win 8).blk t).view.read (Elt Ideal) (sideArray m c) := by
  show (cfg0.win 8).cut (grid0.coords t) ((dats m 0 c).after 8 t) = _
  rw [after_8]
  funext y
  rw [View.read_apply]
  refine Eq.trans ?_ (congrArg (sideArray m c) (place_side t y)).symm
  refine ((congrArg (k0_pay1 (F := Ideal) (iblk m c 5 (held t)) (iblk m c 6 (held t)) (iblk m c 4 (held t)) (iblk m c 1 (held t)))
    (ix2_eta y).symm).trans (pay1_at _ _ _ _ _ _)).trans ?_
  refine congr (congr (congrArg₂ stepped ?_ ?_) (funext fun k => read_us m c (held t) (y 0) k)) (funext fun k => ?_)
  · exact (read_xs m c (held t) (y 0) (y 1)).trans
      (congrArg (fun r => m ((c : Thread nD τ).loc main_arg5) (ix2 (y 0) r)) (heldCol_held t (y 1)))
  · exact (read_as m c (held t) (y 0) (y 1)).trans
      (congrArg (fun r => m ((c : Thread nD τ).loc main_arg6) (ix2 (y 0) r)) (heldCol_held t (y 1)))
  · exact (read_w m c (held t) k (y 1)).trans
      (congrArg (fun r => m ((c : Thread nD τ).loc main_arg1) (ix2 k r)) (col_held t (y 1)))

/-- The point that writes column block `n` of the sample's output. -/
abbrev writer (n : Fin 16) : Fin cfg0.N := FirstRow.writer 16 (by decide) n

theorem heldCol_writer (j : Fin 4096) :
    heldCol (writer ⟨j.val / 256, by omega⟩) ⟨j.val % 256, by omega⟩ = j := by
  apply Fin.ext
  show 256 * (FirstRow.held 16 (writer ⟨j.val / 256, by omega⟩)).val + j.val % 256 = j.val
  rw [FirstRow.held_writer]
  show 256 * (j.val / 256) + j.val % 256 = j.val
  omega

theorem cover_7 (i : S8192x4096.Idx) : ∃ t : Fin cfg0.N, (cfg0.win 7).flush t = true ∧ i ∈ ((cfg0.win 7).blk t).view.set := by
  have h0 : (i 0).val < 8192 := (i 0).isLt
  have h1 : (i 1).val < 4096 := (i 1).isLt
  have hN : cfg0.N = 256 := rfl
  refine ⟨⟨16 * ((i 0).val / 512) + (i 1).val / 256, by omega⟩, flush0_7 _, ?_⟩
  rw [View.set, Finset.mem_map]
  refine ⟨(ix2 ⟨(i 0).val % 512, by omega⟩ ⟨(i 1).val % 256, by omega⟩ : S512x256.Idx), Finset.mem_univ _, ?_⟩
  refine (place_7 _ _).trans (funext fun a => Fin.ext ?_)
  match a with
  | ⟨0, _⟩ =>
    show 512 * ((16 * ((i 0).val / 512) + (i 1).val / 256) / 16) + (i 0).val % 512 = (i 0).val
    omega
  | ⟨1, _⟩ =>
    show 256 * ((16 * ((i 0).val / 512) + (i 1).val / 256) % 16) + (i 1).val % 256 = (i 1).val
    omega

theorem cover_8 (i : S32x4096.Idx) : ∃ t : Fin cfg0.N, (cfg0.win 8).flush t = true ∧ i ∈ ((cfg0.win 8).blk t).view.set := by
  have h1 : (i 1).val < 4096 := (i 1).isLt
  refine ⟨writer ⟨(i 1).val / 256, by omega⟩, (flush_8 _).trans (FirstRow.writer_flush 16 (by decide) _), ?_⟩
  rw [View.set, Finset.mem_map]
  refine ⟨(ix2 (i 0) ⟨(i 1).val % 256, by omega⟩ : S32x256.Idx), Finset.mem_univ _, ?_⟩
  refine (place_side _ _).trans ((congrArg (fun r => (ix2 (i 0) r : S32x4096.Idx)) (heldCol_writer (i 1))).trans (ix2_eta i))

theorem final_7 : (dats m 0 c).arrAt 7 cfg0.N = downArray m c :=
  (dats m 0 c).arrAt_eq_of_cover 7 (downArray m c) (fun t _ => flushed_7 m c t) cover_7
theorem final_8 : (dats m 0 c).arrAt 8 cfg0.N = sideArray m c :=
  (dats m 0 c).arrAt_eq_of_cover 8 (sideArray m c) (fun t _ => flushed_8 m c t) cover_8

/-! ## The reference's stages -/

section Reference

open Cert.Reference3Ideal.Read

theorem ref_down (u : S8192x11008.Idx → EReal) (w : S11008x4096.Idx → EReal) (x : S8192x4096.Idx → EReal) (a : S4x1x4096.Idx → EReal)
    (i : Fin 8192) (j : Fin 4096) : val_main_v10 (F := Ideal) u w x a (ix2 i j)
      = stepped (x (ix2 i j)) (a (ix3 (seq i) 0 j)) (fun k => u (ix2 i k)) (fun k => w (ix2 k j)) := by
  unfold stepped
  pointwise [val_main_v10, val_main_v9, val_main_v8, val_main_v7, val_main_v6, val_main_v5, val_main_v4, val_main_v3, val_main_v2,
    val_main_v1, val_main_v0, val_main_cst]
  rfl

theorem ref_side (w : S11008x4096.Idx → EReal) (u : S32x11008.Idx → EReal) (x a : S32x4096.Idx → EReal) (i : Fin 32) (j : Fin 4096) :
    val_main_v16 (F := Ideal) w u x a (ix2 i j)
      = stepped (x (ix2 i j)) (a (ix2 i j)) (fun k => u (ix2 i k)) (fun k => w (ix2 k j)) := by
  unfold stepped
  pointwise [val_main_v16, val_main_v15, val_main_v14, val_main_v13, val_main_v12, val_main_v11, val_main_v0, val_main_cst_0]

theorem downArray_eq : downArray m c = val_main_v10 (F := Ideal) (m ((c : Thread nD τ).loc main_arg0)) (m ((c : Thread nD τ).loc main_arg1))
    (m ((c : Thread nD τ).loc main_arg2)) (m ((c : Thread nD τ).loc main_arg3)) :=
  funext fun y => (ref_down _ _ _ _ _ _).symm.trans (congrArg _ (ix2_eta y))

theorem sideArray_eq : sideArray m c = val_main_v16 (F := Ideal) (m ((c : Thread nD τ).loc main_arg1)) (m ((c : Thread nD τ).loc main_arg4))
    (m ((c : Thread nD τ).loc main_arg5)) (m ((c : Thread nD τ).loc main_arg6)) :=
  funext fun y => (ref_side _ _ _ _ _ _).symm.trans (congrArg _ (ix2_eta y))

end Reference

end Cert.Kernel3Ideal.Down

end
-- ==== Proof.DownClaims.lean ====
/-
  THE PRODUCT INTO THE RESIDUAL, THE CLAIMS: both programs run, and end with the same two arrays.
-/
module

public import proofs.«01_k».proof.Defs
public import proofs.«01_k».proof.Proof.DownArrays
public import proofs.«01_k».proof.Proof.Gen.Kernel3
public import proofs.«01_k».proof.Proof.Gen.Kernel3Ideal
public import proofs.«01_k».proof.Proof.Gen.Reference3Ideal
public import proofs.«01_k».proof.Proof.Gen.Reference3Ideal.Run

@[expose] public section

set_option maxRecDepth 65536

noncomputable section

namespace Cert.Proof.Down

open Idealize.ShloMosaic Idealize.ShloMosaic.TcCoe Idealize.SL.Sem Cert.Kernel3Ideal.Down

attribute [local instance] Cert.Kernel3.Gen.facts Cert.Kernel3Ideal.Gen.facts Cert.Reference3Ideal.Gen.facts

/-! No operation was rewritten, so the program and its idealization are one text under two names: the body tables agree label by
label, and with them the runs. -/

section Names

variable {F : FTy → Type} [FloatOps F]

theorem defs₀_eq : Cert.Kernel3.defs₀ (F := F) = Cert.Kernel3Ideal.defs₀ (F := F) := by
  unfold Cert.Kernel3.defs₀ Cert.Kernel3Ideal.defs₀
  refine congrArg Defs.onTc (funext fun l => funext fun a => ?_)
  match l, a with
  | (0 : Fin 1), (t, s) =>
    dsimp only
    with_unfolding_all rfl

theorem defs_eq : Cert.Kernel3.defs (F := F) = Cert.Kernel3Ideal.defs (F := F) :=
  congrArg (Pipeline.defs Cert.Kernel3Ideal.pcfgs) defs₀_eq

end Names

theorem frame_kernel : Cert.quiescent_Kernel3 := fun m ρ _ => by
  rw [defs_eq]
  exact Cert.Kernel3Ideal.Down.frame (F := Bits) m ρ

theorem frame_ideal : Cert.quiescent_Kernel3Ideal := fun m ρ _ => Cert.Kernel3Ideal.Down.frame m ρ

theorem frame_reference : Cert.quiescent_Reference3Ideal := fun m ρ _ =>
  (θ_run Cert.Reference3Ideal.defs _ _).mono
    (fun r h => ⟨fun c => (h c).2.2, Idealize.ShloMosaic.sem_eq_zero_of_no_sems (by decide) r.2⟩)
    (Cert.Reference3Ideal.Value.run (F := Ideal) m ρ)

/-- Over the extended reals the prompt's residual and the sample's end as the reference's. -/
theorem algebraic : Cert.algebraic_Kernel3Ideal_Reference3Ideal := by
  intro m ρ m' ρ' _ hagree
  refine ⟨fun c => downArray m c, fun c => sideArray m c, ?_, ?_⟩
  · exact (θ_run Cert.Kernel3Ideal.defs _ _).mono
      (fun _ h c => ⟨((h.1 c).1 7).trans (final_7 m c), ((h.1 c).1 8).trans (final_8 m c), h.2.1 c⟩)
      (θ_run_and (run_main (F := Ideal) m ρ) (Cert.Kernel3Ideal.Down.frame (F := Ideal) m ρ))
  · refine (θ_run Cert.Reference3Ideal.defs _ _).mono
      (fun _ h c => ⟨(h c).1.trans ?_, (h c).2.1.trans ?_, (h c).2.2⟩)
      (Cert.Reference3Ideal.Value.run (F := Ideal) m' ρ')
    · obtain ⟨e0, e1, e2, e3, e4, e5, e6⟩ := hagree c
      rw [Cert.Reference3Ideal.Read.val_main_v10_eq, e0, e1, e2, e3]
      exact (downArray_eq m c).symm
    · obtain ⟨e0, e1, e2, e3, e4, e5, e6⟩ := hagree c
      rw [Cert.Reference3Ideal.Read.val_main_v16_eq, e1, e4, e5, e6]
      exact (sideArray_eq m c).symm

end Cert.Proof.Down

end
-- ==== Proof.ProjMath.lean ====
/-
  THE INPUT PROJECTION, AT AN ENTRY, for any number of columns. The weight's columns from an offset on are cut into `n` blocks of
  512, the prompt's rows into 8 blocks of 1024; point `t` of the grid works on row block `t / n` and column block `t % n`.
-/
module

public import proofs.«01_k».proof.Proof.FirstRow
public import Idealize.ShloMosaic.Lib.Pointwise

@[expose] public section

noncomputable section

namespace Cert.Proof.Proj

open Idealize.ShloMosaic Idealize.ShloMosaic.Pointwise Cert.Proof.FirstRow

/-- The product of a row and a column. -/
def product (h w : Fin 4096 → EReal) : EReal := ∑ k, h k * w k

/-- The rows of `h` times the weight's columns that `wide` names. -/
def rowsTimes {r W : ℕ} (wide : Fin W → Fin 12288) (h : (⟨2, ![r, 4096]⟩ : Shape).Idx → EReal)
    (w : (⟨3, ![1, 4096, 12288]⟩ : Shape).Idx → EReal) : (⟨2, ![r, W]⟩ : Shape).Idx → EReal := fun y =>
  product (fun k => h (ix2 (y 0) k)) (fun k => w (ix3 0 k (wide (y 1))))

/-- A block of products of blocks is a block of the product. -/
theorem block_eq {r R W : ℕ} {wide : Fin W → Fin 12288} {h : (⟨2, ![R, 4096]⟩ : Shape).Idx → EReal}
    {w : (⟨3, ![1, 4096, 12288]⟩ : Shape).Idx → EReal} {hb : (⟨2, ![r, 4096]⟩ : Shape).Idx → EReal}
    {wb : (⟨3, ![1, 4096, 512]⟩ : Shape).Idx → EReal} {out : (⟨2, ![r, 512]⟩ : Shape).Idx → EReal} {rows : Fin r → Fin R} {cols : Fin 512 → Fin W}
    (hout : ∀ i j, out (ix2 i j) = product (fun k => hb (ix2 i k)) (fun k => wb (ix3 0 k j)))
    (hh : ∀ i k, hb (ix2 i k) = h (ix2 (rows i) k)) (hw : ∀ k j, wb (ix3 0 k j) = w (ix3 0 k (wide (cols j))))
    (y : (⟨2, ![r, 512]⟩ : Shape).Idx) : out y = rowsTimes wide h w (ix2 (rows (y 0)) (cols (y 1))) :=
  ((congrArg out (ix2_eta y).symm).trans (hout _ _)).trans
    (congrArg₂ product (funext fun k => hh (y 0) k) (funext fun k => hw k (y 1)))

/-- A function that is the rows' product at every entry is that product. -/
theorem rowsTimes_eq {r W : ℕ} {wide : Fin W → Fin 12288} {h : (⟨2, ![r, 4096]⟩ : Shape).Idx → EReal}
    {w : (⟨3, ![1, 4096, 12288]⟩ : Shape).Idx → EReal} {f : (⟨2, ![r, W]⟩ : Shape).Idx → EReal}
    (hf : ∀ i j, f (ix2 i j) = product (fun k => h (ix2 i k)) (fun k => w (ix3 0 k (wide j)))) : rowsTimes wide h w = f :=
  funext fun y => (hf _ _).symm.trans (congrArg f (ix2_eta y))

section Grid

variable {N W n : ℕ} (hN : N = 8 * n)

/-- Row `y` of row block `t / n`. -/
def row (t : Fin N) (y : Fin 1024) : Fin 8192 :=
  ⟨1024 * (t.val / n) + y.val, by have := t.isLt; have : t.val / n < 8 := Nat.div_lt_of_lt_mul (by omega); omega⟩

variable (hW : W = 512 * n)

/-- Column `y` of column block `t % n`. -/
def col (t : Fin N) (y : Fin 512) : Fin W :=
  ⟨512 * (t.val % n) + y.val, by have := t.isLt; have : t.val % n < n := Nat.mod_lt _ (by omega); omega⟩

/-- Every entry of the prompt's output lies in the block of one point. -/
theorem back (i : Fin 8192) (j : Fin W) : ∃ (t : Fin N) (y : Fin 1024) (z : Fin 512), row hN t y = i ∧ col hN hW t z = j := by
  have hi := i.isLt
  have hj := j.isLt
  have hq : j.val / 512 < n := by omega
  have hd : (n * (i.val / 1024) + j.val / 512) / n = i.val / 1024 := by
    rw [Nat.mul_add_div (by omega), Nat.div_eq_of_lt hq, Nat.add_zero]
  have hm : (n * (i.val / 1024) + j.val / 512) % n = j.val / 512 := by rw [Nat.mul_add_mod, Nat.mod_eq_of_lt hq]
  have hb : n * (i.val / 1024) ≤ n * 7 := Nat.mul_le_mul_left n (by omega)
  refine ⟨⟨n * (i.val / 1024) + j.val / 512, by omega⟩, ⟨i.val % 1024, by omega⟩, ⟨j.val % 512, by omega⟩, Fin.ext ?_, Fin.ext ?_⟩
  · show 1024 * ((n * (i.val / 1024) + j.val / 512) / n) + i.val % 1024 = i.val
    rw [hd]; omega
  · show 512 * ((n * (i.val / 1024) + j.val / 512) % n) + j.val % 512 = j.val
    rw [hm]; omega

/-- Every column of the other output is written by one point. -/
theorem side_back (j : Fin W) : ∃ (k : Fin n) (z : Fin 512), col hN hW (held n (writer n (by omega : n ≤ N) k)) z = j := by
  have hj := j.isLt
  have hq : j.val / 512 < n := by omega
  refine ⟨⟨j.val / 512, hq⟩, ⟨j.val % 512, by omega⟩, Fin.ext ?_⟩
  show 512 * ((held n (writer n _ ⟨j.val / 512, hq⟩)).val % n) + j.val % 512 = j.val
  rw [held_writer]
  show 512 * (j.val / 512 % n) + j.val % 512 = j.val
  rw [Nat.mod_eq_of_lt hq]; omega

end Grid

end Cert.Proof.Proj

end
-- ==== Proof.Rope.lean ====
/-
  THE ROTATION OF A HEAD'S 128 COLUMNS, for any number of rows. The body turns a block of 512 columns head by head: a head's
  columns times one table, plus the columns half a head away times another. The reference writes the two halves of a head apart.
-/
module

public import Idealize.ShloMosaic.Lib.Pipeline.FrameBody
public import Idealize.ShloMosaic.Lib.Pipeline.ValueKit.Tiles
public import Idealize.ShloMosaic.Lib.KernelVsHost
public import Idealize.ShloMosaic.Lib.Pointwise

@[expose] public section

noncomputable section

namespace Cert.Proof.Rope

open Idealize.ShloMosaic Idealize.ShloMosaic.Pointwise

/-- A block of four heads, and one head of it. -/
abbrev Wide (r : ℕ) : Shape := ⟨2, ![r, 512]⟩
abbrev Head (r : ℕ) : Shape := ⟨2, ![r, 128]⟩

theorem slices {r : ℕ} (o : ℕ) (ho : o + 128 ≤ 512) : (Wide r).Slices ![0, o] (Head r) :=
  ⟨rfl, fun a => match a with
    | ⟨0, _⟩ => (Nat.zero_add r).le
    | ⟨1, _⟩ => ho⟩

theorem inside {r : ℕ} (o : ℕ) (ho : o + 128 ≤ 512) : ∀ a, (![0, o] : Fin 2 → ℕ) a + (Head r).size a ≤ (Wide r).size a :=
  fun a => match a with
    | ⟨0, _⟩ => (Nat.zero_add r).le
    | ⟨1, _⟩ => ho

section Block

variable {F : FTy → Type} [FloatOps F] {r : ℕ} (hr : (Head r).Rotates 1 none)

/-- The head that begins at column `o`, turned. -/
def head (o : ℕ) (ho : o + 128 ≤ 512) (x : FVec F (Wide r) .f32) (cs sn : FVec F (Head r) .f32) : FVec F (Head r) .f32 :=
  addf (mulf (extractStridedSlice (Head r) ![0, o] x (slices o ho)) cs)
    (mulf (dynamicRotate 1 64#32 none (extractStridedSlice (Head r) ![0, o] x (slices o ho)) hr) sn)

/-- The piece a head is of the block. -/
def piece (o : ℕ) (ho : o + 128 ≤ 512) (w : FVec F (Head r) .f32) : View.Piece (Elt F) (Wide r) .f32 :=
  ⟨Rect.unit (s := Wide r) ![0, o] (Head r).size (inside o ho), w⟩

/-- The block of four heads, each turned and stored on its own. -/
def block (x : FVec F (Wide r) .f32) (cs sn : FVec F (Head r) .f32) : Vec F (Wide r) .f32 :=
  View.canon [piece 384 (by omega) (head hr 384 (by omega) x cs sn), piece 256 (by omega) (head hr 256 (by omega) x cs sn),
    piece 128 (by omega) (head hr 128 (by omega) x cs sn), piece 0 (by omega) (head hr 0 (by omega) x cs sn)]

/-- The four pieces hold every entry of the block. -/
theorem piece_cover (a b c d : FVec F (Head r) .f32) (y : (Wide r).Idx) :
    ∃ p ∈ [piece 384 (by omega) a, piece 256 (by omega) b, piece 128 (by omega) c, piece 0 (by omega) d], y ∈ p.1.set := by
  have h0 : (y 0).val < r := (y 0).isLt
  have h1 : (y 1).val < 512 := (y 1).isLt
  have mem (o : ℕ) (ho : o + 128 ≤ 512) (w : FVec F (Head r) .f32) (h : o ≤ (y 1).val ∧ (y 1).val < o + 128) : y ∈ (piece o ho w).1.set := by
    unfold piece
    rw [Rect.mem_set_unit]
    intro k
    match k with
    | ⟨0, _⟩ => exact ⟨Nat.zero_le _, by show (y 0).val < 0 + r; omega⟩
    | ⟨1, _⟩ => exact h
  rcases (by omega : 384 ≤ (y 1).val ∨ (256 ≤ (y 1).val ∧ (y 1).val < 384) ∨ (128 ≤ (y 1).val ∧ (y 1).val < 256) ∨ (y 1).val < 128)
    with h | h | h | h
  · exact ⟨_, by simp only [List.mem_cons, true_or], mem 384 (by omega) a (by omega)⟩
  · exact ⟨_, by simp only [List.mem_cons, true_or, or_true], mem 256 (by omega) b (by omega)⟩
  · exact ⟨_, by simp only [List.mem_cons, true_or, or_true], mem 128 (by omega) c (by omega)⟩
  · exact ⟨_, by simp only [List.mem_cons, true_or, or_true], mem 0 (by omega) d (by omega)⟩

end Block

/-! ## At an entry -/

section Columns

variable {W : ℕ}

/-- A column's place in its head, the column half a head away, and a place's place in its half. -/
def place (j : Fin W) : Fin 128 := ⟨j.val % 128, Nat.mod_lt _ (by omega)⟩
def mate (hW : W % 128 = 0) (j : Fin W) : Fin W := ⟨128 * (j.val / 128) + (j.val % 128 + 64) % 128, by have := j.isLt; omega⟩
def half (d : Fin 128) : Fin 64 := ⟨d.val % 64, Nat.mod_lt _ (by omega)⟩

/-- A row turned by two tables. -/
def turned (hW : W % 128 = 0) (x : Fin W → EReal) (cs sn : Fin 128 → EReal) (j : Fin W) : EReal :=
  x j * cs (place j) + x (mate hW j) * sn (place j)

/-- The two tables of a row of angles: the cosine twice; the sine twice, negated the first time. -/
def cosine (a : Fin 64 → EReal) (d : Fin 128) : EReal := a (half d)
def sine (a : Fin 64 → EReal) (d : Fin 128) : EReal := if d.val < 64 then -a (half d) else a (half d)

theorem cosine_eq (a : Fin 64 → EReal) (d : Fin 128) : (if h : d.val < 64 then a ⟨d.val, h⟩ else a ⟨d.val - 64, by omega⟩) = cosine a d := by
  have hd := d.isLt
  unfold cosine
  split
  · exact congrArg a (Fin.ext (by show d.val = d.val % 64; omega))
  · exact congrArg a (Fin.ext (by show d.val - 64 = d.val % 64; omega))

theorem sine_eq (a : Fin 64 → EReal) (d : Fin 128) : (if h : d.val < 64 then -a ⟨d.val, h⟩ else a ⟨d.val - 64, by omega⟩) = sine a d := by
  have hd := d.isLt
  unfold sine
  split
  · exact congrArg (fun e => -a e) (Fin.ext (by show d.val = d.val % 64; omega))
  · exact congrArg a (Fin.ext (by show d.val - 64 = d.val % 64; omega))

/-- The rotation of the two halves of a head, whose columns are `y`, is turning by the two tables. -/
theorem rotation (hW : W % 128 = 0) (x : Fin W → EReal) (c s : Fin 64 → EReal) (j : Fin W) (y : Fin 128 → EReal)
    (hy : ∀ e : Fin 128, y e = x ⟨128 * (j.val / 128) + e.val, by omega⟩) :
    (if h : j.val % 128 < 64 then
        y ⟨j.val % 128, by omega⟩ * c ⟨j.val % 128, h⟩ - y ⟨64 + j.val % 128, by omega⟩ * s ⟨j.val % 128, h⟩
      else y ⟨64 + (j.val % 128 - 64), by omega⟩ * c ⟨j.val % 128 - 64, by omega⟩
        + y ⟨j.val % 128 - 64, by omega⟩ * s ⟨j.val % 128 - 64, by omega⟩)
      = turned hW x (cosine c) (sine s) j := by
  have hj := j.isLt
  unfold turned
  rw [← cosine_eq, ← sine_eq]
  by_cases h : j.val % 128 < 64
  · have hp : (place j).val < 64 := h
    rw [dif_pos h, dif_pos hp, dif_pos hp, hy, hy, mul_neg, sub_eq_add_neg]
    have e1 : (⟨128 * (j.val / 128) + j.val % 128, by omega⟩ : Fin W) = j := Fin.ext (by show 128 * (j.val / 128) + j.val % 128 = j.val; omega)
    have e2 : (⟨128 * (j.val / 128) + (64 + j.val % 128), by omega⟩ : Fin W) = mate hW j :=
      Fin.ext (by show 128 * (j.val / 128) + (64 + j.val % 128) = 128 * (j.val / 128) + (j.val % 128 + 64) % 128; omega)
    rw [e1, e2]
    rfl
  · have hp : ¬ (place j).val < 64 := h
    rw [dif_neg h, dif_neg hp, dif_neg hp, hy, hy]
    have e1 : (⟨128 * (j.val / 128) + (64 + (j.val % 128 - 64)), by omega⟩ : Fin W) = j :=
      Fin.ext (by show 128 * (j.val / 128) + (64 + (j.val % 128 - 64)) = j.val; omega)
    have e2 : (⟨128 * (j.val / 128) + (j.val % 128 - 64), by omega⟩ : Fin W) = mate hW j :=
      Fin.ext (by show 128 * (j.val / 128) + (j.val % 128 - 64) = 128 * (j.val / 128) + (j.val % 128 + 64) % 128; omega)
    rw [e1, e2]
    rfl

/-- The angle of a position at a column of the half: the position times 10000 to the power of minus the column over 64. -/
def angle (p : BitVec 32) (d : Fin 64) : EReal :=
  FloatOps.sitofp (F := Ideal) .f32 p * Ideal.pow (Ideal.ofBits .f32 0x461C4000#32)
    (Ideal.div (-FloatOps.sitofp (F := Ideal) .f32 (BitVec.ofNat 32 d.val)) (Ideal.ofBits .f32 0x42800000#32))

/-- The two tables of a position. -/
def cosTable (p : BitVec 32) : Fin 128 → EReal := cosine fun d => Ideal.cos (angle p d)
def sinTable (p : BitVec 32) : Fin 128 → EReal := sine fun d => Ideal.sin (angle p d)

/-- An array each of whose rows is turned by its position's tables. -/
def rotated {R : ℕ} (hW : W % 128 = 0) (pos : Fin R → BitVec 32) (x : (⟨2, ![R, W]⟩ : Shape).Idx → EReal) : (⟨2, ![R, W]⟩ : Shape).Idx → EReal :=
  fun y => turned hW (fun k => x (ix2 (y 0) k)) (cosTable (pos (y 0))) (sinTable (pos (y 0))) (y 1)

end Columns

variable {r : ℕ} (hr : (Head r).Rotates 1 none)

theorem head_at (o : ℕ) (ho : o + 128 ≤ 512) (x : FVec Ideal (Wide r) .f32) (cs sn : FVec Ideal (Head r) .f32) (i : Fin r) (d : Fin 128) :
    head (F := Ideal) hr o ho x cs sn (ix2 i d)
      = x (ix2 i ⟨o + d.val, by omega⟩) * cs (ix2 i d) + x (ix2 i ⟨o + (d.val + 64) % 128, by omega⟩) * sn (ix2 i d) := by
  have e (k : Fin 128) : extractStridedSlice (Head r) ![0, o] x (slices o ho) (ix2 i k) = x (ix2 i ⟨o + k.val, by omega⟩) :=
    congrArg x (funext fun a => Fin.ext (match a with
      | ⟨0, _⟩ => Nat.zero_add i.val
      | ⟨1, _⟩ => rfl))
  have f : dynamicRotate 1 64#32 none (extractStridedSlice (Head r) ![0, o] x (slices o ho)) hr (ix2 i d)
      = extractStridedSlice (Head r) ![0, o] x (slices o ho) (ix2 i ⟨(d.val + 64) % 128, Nat.mod_lt _ (by omega)⟩) :=
    dynamicRotate_apply _ _ _ _ _ _ (fun b => match b with
      | ⟨0, _⟩ => rfl
      | ⟨1, _⟩ => by show (d.val + 64) % 128 = (d.val + 128 - 64) % 128; omega)
  exact congrArg₂ (· + ·) (congrArg (· * cs (ix2 i d)) (e d)) (congrArg (· * sn (ix2 i d)) (f.trans (e _)))

/-- The block at an entry is its row turned. -/
theorem block_at (x : FVec Ideal (Wide r) .f32) (cs sn : FVec Ideal (Head r) .f32) (i : Fin r) (j : Fin 512) :
    block (F := Ideal) hr x cs sn (ix2 i j)
      = turned (by decide) (fun k => x (ix2 i k)) (fun d => cs (ix2 i d)) (fun d => sn (ix2 i d)) j := by
  have tile (o : ℕ) (ho : o + 128 ≤ 512) (h128 : o % 128 = 0) :
      View.TileAt (Val := Elt Ideal) (e := .f32) (ix2 i j : (Wide r).Idx) ![0, o] (Head r).size (head (F := Ideal) hr o ho x cs sn)
        (turned (by decide) (fun k => x (ix2 i k)) (fun d => cs (ix2 i d)) (fun d => sn (ix2 i d)) j) := by
    intro y hy
    have h0 : i.val = 0 + (y 0).val := hy 0
    have h1 : j.val = o + (y 1).val := hy 1
    have hd : (y 1).val < 128 := (y 1).isLt
    have ei : (y 0 : Fin r) = i := Fin.ext (by omega)
    have ed : (y 1 : Fin 128) = place j := Fin.ext (by show (y 1).val = j.val % 128; omega)
    have ej : (⟨o + (place j).val, by have := (place j).isLt; omega⟩ : Fin 512) = j := Fin.ext (by show o + j.val % 128 = j.val; omega)
    have em : (⟨o + ((place j).val + 64) % 128, by omega⟩ : Fin 512) = mate (by decide) j :=
      Fin.ext (by show o + (j.val % 128 + 64) % 128 = 128 * (j.val / 128) + (j.val % 128 + 64) % 128; omega)
    have ey : y = (ix2 i (place j) : (Head r).Idx) := (ix2_eta y).symm.trans (congrArg₂ (fun a b => (ix2 a b : (Head r).Idx)) ei ed)
    rw [ey, head_at, ej, em]
    rfl
  unfold block
  refine View.canon_eq_of_allAt _ _ _ (piece_cover _ _ _ _ _) ?_
  exact View.allAt_cons_unit _ _ _ _ _ (tile 384 _ rfl) (View.allAt_cons_unit _ _ _ _ _ (tile 256 _ rfl)
    (View.allAt_cons_unit _ _ _ _ _ (tile 128 _ rfl) (View.allAt_cons_unit _ _ _ _ _ (tile 0 _ rfl) (View.allAt_nil _ _))))

/-- A turned block of an array is a block of the rotated array. -/
theorem block_rotated {R W : ℕ} {hW : W % 128 = 0} {pos : Fin R → BitVec 32} {X : (⟨2, ![R, W]⟩ : Shape).Idx → EReal}
    {x : FVec Ideal (Wide r) .f32} {cs sn : FVec Ideal (Head r) .f32} {rows : Fin r → Fin R} {cols : Fin 512 → Fin W}
    (hx : ∀ i k, x (ix2 i k) = X (ix2 (rows i) (cols k)))
    (hc : ∀ i d, cs (ix2 i d) = cosTable (pos (rows i)) d) (hs : ∀ i d, sn (ix2 i d) = sinTable (pos (rows i)) d)
    (hcol : ∃ o, o % 128 = 0 ∧ ∀ k, (cols k).val = o + k.val) (y : (Wide r).Idx) :
    block (F := Ideal) hr x cs sn y = rotated hW pos X (ix2 (rows (y 0)) (cols (y 1))) := by
  obtain ⟨o, ho, hk⟩ := hcol
  have hp (j : Fin 512) : place (cols j) = place j := Fin.ext (by show (cols j).val % 128 = j.val % 128; rw [hk]; omega)
  have hm (j : Fin 512) : mate hW (cols j) = cols (mate (by decide) j) := Fin.ext (by
    show 128 * ((cols j).val / 128) + ((cols j).val % 128 + 64) % 128 = (cols (mate _ j)).val
    rw [hk, hk]
    show 128 * ((o + j.val) / 128) + ((o + j.val) % 128 + 64) % 128 = o + (128 * (j.val / 128) + (j.val % 128 + 64) % 128)
    omega)
  have key (i : Fin r) (j : Fin 512) : block (F := Ideal) hr x cs sn (ix2 i j) = rotated hW pos X (ix2 (rows i) (cols j)) := by
    refine (block_at hr x cs sn i j).trans ?_
    show x (ix2 i j) * cs (ix2 i (place j)) + x (ix2 i (mate _ j)) * sn (ix2 i (place j))
      = X (ix2 (rows i) (cols j)) * cosTable (pos (rows i)) (place (cols j))
        + X (ix2 (rows i) (mate hW (cols j))) * sinTable (pos (rows i)) (place (cols j))
    rw [hp, hm, hx, hx, hc, hs]
  exact (congrArg (block (F := Ideal) hr x cs sn) (ix2_eta y).symm).trans (key (y 0) (y 1))

/-- A function that is the turned row at every entry is the rotated array. -/
theorem rotated_eq {R W : ℕ} {hW : W % 128 = 0} {pos : Fin R → BitVec 32} {X f : (⟨2, ![R, W]⟩ : Shape).Idx → EReal}
    (hf : ∀ i j, f (ix2 i j) = turned hW (fun k => X (ix2 i k)) (cosTable (pos i)) (sinTable (pos i)) j) : rotated hW pos X = f :=
  funext fun y => (hf _ _).symm.trans (congrArg f (ix2_eta y))

end Cert.Proof.Rope

end
-- ==== Proof.ProjK.lean ====
/-
  THE INPUT PROJECTION OF THE KEYS, 2048 columns of the weight, with the rotation. The grid is 8 × 4: point `t` works on rows
  `1024 (t / 4) …` of the prompt and columns `512 (t % 4) …` of the result, four heads, each turned and stored on its own. In the
  first row of the grid (`t < 4`) the body also does the rows that ride along; afterwards it leaves that window alone, and the last
  block it stored there waits in its buffer until the grid ends.
-/
module

public import proofs.«01_k».proof.Defs
public import proofs.«01_k».proof.Proof.Common
public import proofs.«01_k».proof.Proof.FirstRow
public import proofs.«01_k».proof.Proof.ProjMath
public import proofs.«01_k».proof.Proof.Rope
public import proofs.«01_k».proof.Proof.Gen.Kernel5
public import proofs.«01_k».proof.Proof.Gen.Kernel5.Launch
public import proofs.«01_k».proof.Proof.Gen.Kernel5Ideal
public import proofs.«01_k».proof.Proof.Gen.Kernel5Ideal.Frame
public import proofs.«01_k».proof.Proof.Gen.Kernel5Ideal.Skeleton
public import proofs.«01_k».proof.Proof.Gen.Reference5Ideal
public import proofs.«01_k».proof.Proof.Gen.Reference5Ideal.Run
public import proofs.«01_k».proof.Proof.Gen.Reference5Ideal.Read
public import Idealize.ShloMosaic.Lib.Claim
public import Idealize.ShloMosaic.Lib.Pointwise
public import Idealize.ShloMosaic.Lib.VecWindow
public import Idealize.ShloMosaic.Lib.Pipeline.TableIdle
public import Idealize.ShloMosaic.Lib.Pipeline.ReadBack
public import Idealize.ShloMosaic.Lib.Pipeline.ValueKit.Tiles

@[expose] public section

set_option maxRecDepth 16384

noncomputable section

namespace Cert.Kernel5Ideal.ProjK

open Cert.Kernel5Ideal Cert.Kernel5Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pointwise
open Cert.Proof.Common Cert.Proof.Proj Cert.Proof.FirstRow Cert.Proof

/-! ## The run -/

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body stores -/

/-- The prompt's block: the product, turned. -/
def stored (h : Vec F S1024x4096 .bf16) (w : Vec F S1x4096x512 .f32) (cs sn : Vec F S1024x128 .f32) : Vec F S1024x512 .f32 :=
  Rope.block rotates_S1024x128_d1 (k0_pay9 h w) (k0_pay10 cs) (k0_pay11 sn)

/-- The block of the rows that ride along. -/
def storedSide (h : Vec F S80x4096 .bf16) (w : Vec F S1x4096x512 .f32) (cs sn : Vec F S80x128 .f32) : Vec F S80x512 .f32 :=
  Rope.block rotates_S80x128_d1 (k0_pay2 h w) (k0_pay3 cs) (k0_pay4 sn)

/-- The four stores of the prompt's block, read back. -/
theorem stored_of (v : View sig .tc .vmem S1024x512 .f32) (f : v.ty.Contents (Elt F)) (h : Vec F S1024x4096 .bf16) (w : Vec F S1x4096x512 .f32) (cs sn : Vec F S1024x128 .f32) :
    v.read (Elt F) (v.writes (Elt F) f
      [⟨Rect.unit (s := S1024x512) ![0, 384] S1024x128.size inb_S1024x512_S1024x128_0_384, k0_pay1 (k0_pay11 sn) (k0_pay15 h w) (k0_pay16 h w cs) 64#32⟩,
       ⟨Rect.unit (s := S1024x512) ![0, 256] S1024x128.size inb_S1024x512_S1024x128_0_256, k0_pay14 h w cs sn⟩,
       ⟨Rect.unit (s := S1024x512) ![0, 128] S1024x128.size inb_S1024x512_S1024x128_0_128, k0_pay13 h w cs sn⟩,
       ⟨Rect.unit (s := S1024x512) ![0, 0] S1024x128.size inb_S1024x512_S1024x128_0_0, k0_pay12 h w cs sn⟩]) = stored h w cs sn :=
  View.read_writes_eq_canon v f _ (Rope.piece_cover _ _ _ _)

/-- The four stores of the other block, read back. -/
theorem storedSide_of (v : View sig .tc .vmem S80x512 .f32) (f : v.ty.Contents (Elt F)) (h : Vec F S80x4096 .bf16) (w : Vec F S1x4096x512 .f32) (cs sn : Vec F S80x128 .f32) :
    v.read (Elt F) (v.writes (Elt F) f
      [⟨Rect.unit (s := S80x512) ![0, 384] S80x128.size inb_S80x512_S80x128_0_384, k0_pay8 h w cs sn⟩,
       ⟨Rect.unit (s := S80x512) ![0, 256] S80x128.size inb_S80x512_S80x128_0_256, k0_pay7 h w cs sn⟩,
       ⟨Rect.unit (s := S80x512) ![0, 128] S80x128.size inb_S80x512_S80x128_0_128, k0_pay6 h w cs sn⟩,
       ⟨Rect.unit (s := S80x512) ![0, 0] S80x128.size inb_S80x512_S80x128_0_0, k0_pay5 h w cs sn⟩]) = storedSide h w cs sn :=
  View.read_writes_eq_canon v f _ (Rope.piece_cover _ _ _ _)

theorem stored_congr {h h' : Vec F S1024x4096 .bf16} {w w' : Vec F S1x4096x512 .f32} {cs cs' sn sn' : Vec F S1024x128 .f32}
    (e0 : h = h') (e1 : w = w') (e2 : cs = cs') (e3 : sn = sn') : stored h w cs sn = stored h' w' cs' sn' := by
  rw [e0, e1, e2, e3]

theorem storedSide_congr {h h' : Vec F S80x4096 .bf16} {w w' : Vec F S1x4096x512 .f32} {cs cs' sn sn' : Vec F S80x128 .f32}
    (e0 : h = h') (e1 : w = w') (e2 : cs = cs') (e3 : sn = sn') : storedSide h w cs sn = storedSide h' w' cs' sn' := by
  rw [e0, e1, e2, e3]

/-! ## The schedule of the window of the first row -/

theorem cond_iff : ∀ t : Fin cfg0.N, k0_cond1 (grid0.coords t) = 1#1 ↔ t.val < 4 :=
  (by decide +kernel : ∀ t : Fin grid0.N, k0_cond1 (grid0.coords t) = 1#1 ↔ t.val < 4)

theorem flushF_8 : ∀ t : Fin grid0.N, win0_8.flushF t = (decide (t.val + 1 < 4) || decide (t.val + 1 = grid0.N)) := by decide +kernel
theorem flush_8 (t : Fin cfg0.N) : (cfg0.win 8).flush t = (decide (t.val + 1 < 4) || decide (t.val + 1 = grid0.N)) :=
  (Pipeline.Window.flush_eq_flushF win0_8 t).trans (flushF_8 t)

theorem idle_eq (t : Fin cfg0.N) : cfg0.idle 8 (cfg0.grid.coords t) = decide (4 ≤ t.val) := by
  have h : cfg0.idle 8 (cfg0.grid.coords t) = !(k0_cond1 (grid0.coords t) == 1#1) := rfl
  rw [h]
  exact idle_of_cond 4 t.val _ (cond_iff t)

/-! ## The proof data -/

/-- What each window's buffer holds after the body at a point: an input's block; the prompt's rows; and for the window of the first
    row, what its point `held t` stored. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => stored (iblk m c 0 t) (iblk m c 1 t) (iblk m c 2 t) (iblk m c 3 t)
    | ⟨8, _⟩ => storedSide (iblk m c 4 (held 4 t)) (iblk m c 1 (held 4 t)) (iblk m c 5 (held 4 t)) (iblk m c 6 (held 4 t))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) :
    (dats m 0 c).after 7 t = stored (iblk m c 0 t) (iblk m c 1 t) (iblk m c 2 t) (iblk m c 3 t) := by dsimp only [dats]
theorem after_8 (c : Dev nD) (t : Fin cfg0.N) : (dats m 0 c).after 8 t
    = storedSide (iblk m c 4 (held 4 t)) (iblk m c 1 (held 4 t)) (iblk m c 5 (held 4 t)) (iblk m c 6 (held 4 t)) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

theorem before_8 (c : Dev nD) (t : Fin cfg0.N) (h : 4 ≤ t.val) (d) : (dats m 0 c).before 8 t d = (dats m 0 c).after 8 t :=
  before_of_carry _ 8 4 (by decide) (by decide) idle_eq flush_8 rfl (fun _ _ => rfl)
    (fun t h => by rw [after_8, after_8, held_pred 4 t h]) t h d

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ (dats m 0 c).leavesExact 8 t)

/-- What a buffer reads is what it holds. -/
theorem keep {s : Shape} {e : EltTy} (c : Dev nD) (v : View sig .tc .vmem s e) (f : v.ty.Contents (Elt F)) (x : Vec F s e)
    (hx : v.read (Elt F) f = x) :
    (iprop(View.loc (c : Thread nD τ) v ↦[v.set]{fullShare} f) : sProp 𝕄)
      ⊢ iprop(∃ f, ⌜v.read (Elt F) f = x⌝ ∗ View.loc (c : Thread nD τ) v ↦[v.set]{fullShare} f) := by
  iintro H
  iexists _; isplitr; swap
  · iexact H
  ipureintro
  exact hx

theorem rest (c : Dev nD) (t : Fin cfg0.N) : (dats m 0 c).Φ t.succ = (dats m 0 c).Φ t.castSucc := rfl

set_option maxHeartbeats 1000000 in
theorem sound_first (c : Dev nD) (t : Fin cfg0.N) (h : t.val < 4) :
    bodyPre m c t ⊢ wp frame (wpE (defs₀ (F := F)) Variants.none c none) Set.univ (bodyAt0 t) (fun _ => bodyPost m c t) := by
  have hw0 := hstage0_0 ((cfg0.slots t 0).cast nbuf0_0)
  have hw1 := hstage0_1 ((cfg0.slots t 1).cast nbuf0_1)
  have hw2 := hstage0_2 ((cfg0.slots t 2).cast nbuf0_2)
  have hw3 := hstage0_3 ((cfg0.slots t 3).cast nbuf0_3)
  have hw4 := hstage0_4 ((cfg0.slots t 4).cast nbuf0_4)
  have hw5 := hstage0_5 ((cfg0.slots t 5).cast nbuf0_5)
  have hw6 := hstage0_6 ((cfg0.slots t 6).cast nbuf0_6)
  have hc := (cond_iff t).mpr h
  unfold bodyPre bodyPost bodyAt0
  rw [cc0_in_proj_rope_eq_skeleton]
  unfold cc0_in_proj_rope_skel
  rw [k0_part1_eq_skeleton]
  unfold k0_part1_skel
  simp only [before_0, before_1, before_2, before_3, before_4, before_5, before_6]
  rw [after_0, after_1, after_2, after_3, after_4, after_5, after_6, after_7, rest]
  unfold owns
  iintro ⟨HΦ, HO, ⟨%e0, %f0, %hf0, H0⟩, ⟨%e1, %f1, %hf1, H1⟩, ⟨%e2, %f2, %hf2, H2⟩, ⟨%e3, %f3, %hf3, H3⟩, ⟨%e4, %f4, %hf4, H4⟩, ⟨%e5, %f5, %hf5, H5⟩, ⟨%e6, %f6, %hf6, H6⟩, ⟨%d7, %f7, -, H7⟩, ⟨%d8, %f8, -, H8⟩⟩
  obtain rfl := hw0.eq_unread hf0; obtain rfl := hw1.eq_unread hf1; obtain rfl := hw2.eq_unread hf2; obtain rfl := hw3.eq_unread hf3
  obtain rfl := hw4.eq_unread hf4; obtain rfl := hw5.eq_unread hf5; obtain rfl := hw6.eq_unread hf6
  sl_exec (disch := first | sl_exact hc)
  sl_step
  isplitl [HΦ]; · iexact HΦ
  isplitl [HO]; · iexact HO
  isplitl [H0]; · iapply (keep c _ _ _ (hw0.read_unread _)); iexact H0
  isplitl [H1]; · iapply (keep c _ _ _ (hw1.read_unread _)); iexact H1
  isplitl [H2]; · iapply (keep c _ _ _ (hw2.read_unread _)); iexact H2
  isplitl [H3]; · iapply (keep c _ _ _ (hw3.read_unread _)); iexact H3
  isplitl [H4]; · iapply (keep c _ _ _ (hw4.read_unread _)); iexact H4
  isplitl [H5]; · iapply (keep c _ _ _ (hw5.read_unread _)); iexact H5
  isplitl [H6]; · iapply (keep c _ _ _ (hw6.read_unread _)); iexact H6
  isplitl [H7]
  · iapply (keep c _ _ _ ((stored_of _ _ _ _ _ _).trans (stored_congr (load_full _ hw0 _ zero2 _) (load_full _ hw1 _ zero3 _)
      (load_full _ hw2 _ zero2 _) (load_full _ hw3 _ zero2 _))))
    iexact H7
  iapply (leaves_of_store (dats m 0 c) 8 t (by rw [idle_eq]; simp; omega))
  rw [after_8, held_first 4 t h]
  unfold owns
  iapply (keep c _ _ _ ((storedSide_of _ _ _ _ _ _).trans (storedSide_congr (load_full _ hw4 _ zero2 _) (load_full _ hw1 _ zero3 _)
    (load_full _ hw5 _ zero2 _) (load_full _ hw6 _ zero2 _))))
  iexact H8

set_option maxHeartbeats 1000000 in
theorem sound_later (c : Dev nD) (t : Fin cfg0.N) (h : 4 ≤ t.val) :
    bodyPre m c t ⊢ wp frame (wpE (defs₀ (F := F)) Variants.none c none) Set.univ (bodyAt0 t) (fun _ => bodyPost m c t) := by
  have hw0 := hstage0_0 ((cfg0.slots t 0).cast nbuf0_0)
  have hw1 := hstage0_1 ((cfg0.slots t 1).cast nbuf0_1)
  have hw2 := hstage0_2 ((cfg0.slots t 2).cast nbuf0_2)
  have hw3 := hstage0_3 ((cfg0.slots t 3).cast nbuf0_3)
  have hc : ¬ k0_cond1 (grid0.coords t) = 1#1 := fun hc => absurd ((cond_iff t).mp hc) (by omega)
  unfold bodyPre bodyPost bodyAt0
  rw [cc0_in_proj_rope_eq_skeleton]
  unfold cc0_in_proj_rope_skel
  rw [k0_part1_eq_skeleton]
  unfold k0_part1_skel
  simp only [before_0, before_1, before_2, before_3, before_4, before_5, before_6]
  rw [after_0, after_1, after_2, after_3, after_4, after_5, after_6, after_7, rest]
  iintro ⟨HΦ, HO, ⟨%e0, H0⟩, ⟨%e1, H1⟩, ⟨%e2, H2⟩, ⟨%e3, H3⟩, ⟨%e4, H4⟩, ⟨%e5, H5⟩, ⟨%e6, H6⟩, ⟨%d7, H7⟩, ⟨%d8, H8⟩⟩
  unfold owns
  icases H0 with ⟨%f0, %hf0, H0⟩
  icases H1 with ⟨%f1, %hf1, H1⟩
  icases H2 with ⟨%f2, %hf2, H2⟩
  icases H3 with ⟨%f3, %hf3, H3⟩
  icases H7 with ⟨%f7, -, H7⟩
  obtain rfl := hw0.eq_unread hf0; obtain rfl := hw1.eq_unread hf1; obtain rfl := hw2.eq_unread hf2; obtain rfl := hw3.eq_unread hf3
  sl_exec (disch := first | sl_exact hc)
  sl_step
  isplitl [HΦ]; · iexact HΦ
  isplitl [HO]; · iexact HO
  isplitl [H0]; · iapply (keep c _ _ _ (hw0.read_unread _)); iexact H0
  isplitl [H1]; · iapply (keep c _ _ _ (hw1.read_unread _)); iexact H1
  isplitl [H2]; · iapply (keep c _ _ _ (hw2.read_unread _)); iexact H2
  isplitl [H3]; · iapply (keep c _ _ _ (hw3.read_unread _)); iexact H3
  isplitl [H4]; · iexact H4
  isplitl [H5]; · iexact H5
  isplitl [H6]; · iexact H6
  isplitl [H7]
  · iapply (keep c _ _ _ ((stored_of _ _ _ _ _ _).trans (stored_congr (load_full _ hw0 _ zero2 _) (load_full _ hw1 _ zero3 _)
      (load_full _ hw2 _ zero2 _) (load_full _ hw3 _ zero2 _))))
    iexact H7
  iapply (leaves_of_after (dats m 0 c) 8 t d8 (before_8 m c t h d8))
  rw [← before_8 m c t h d8]
  unfold owns
  iexact H8

theorem sound_body (c : Dev nD) (t : Fin cfg0.N) :
    bodyPre m c t ⊢ wp frame (wpE (defs₀ (F := F)) Variants.none c none) Set.univ (bodyAt0 t) (fun _ => bodyPost m c t) := by
  rcases Nat.lt_or_ge t.val 4 with h | h
  · exact sound_first m c t h
  · exact sound_later m c t h

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every execution ends, with each array at what the proof data says and every semaphore at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end as they were, and no semaphore is left up. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Run

/-! ## What the body stores, at an entry -/

variable (m : (ℓ : Loc nD τ sig) → Buf (Elt Ideal) ℓ) (c : Dev nD)

theorem pay2_at (h : Vec Ideal S80x4096 .bf16) (w : Vec Ideal S1x4096x512 .f32) (i : Fin 80) (j : Fin 512) :
    k0_pay2 (F := Ideal) h w (ix2 i j) = product (fun k => h (ix2 i k)) (fun k => w (ix3 0 k j)) := by
  unfold product
  pointwise [k0_pay2]

theorem pay9_at (h : Vec Ideal S1024x4096 .bf16) (w : Vec Ideal S1x4096x512 .f32) (i : Fin 1024) (j : Fin 512) :
    k0_pay9 (F := Ideal) h w (ix2 i j) = product (fun k => h (ix2 i k)) (fun k => w (ix3 0 k j)) := by
  unfold product
  pointwise [k0_pay9]

/-! ## The blocks of the inputs -/

/-- The row and the column of the array that an entry of a block is. -/
abbrev row (t : Fin cfg0.N) : Fin 1024 → Fin 8192 := Cert.Proof.Proj.row (n := 4) rfl t
abbrev col (t : Fin cfg0.N) : Fin 512 → Fin 2048 := Cert.Proof.Proj.col (n := 4) rfl rfl t
/-- The weight's column for column `j` of the outputs. -/
def wide (j : Fin 2048) : Fin 12288 := ⟨2048 + j.val, by omega⟩

theorem index_at : ∀ t : Fin cfg0.N, win0_0.index t (0 : Fin 2) = t.val / 4 ∧ win0_0.index t (1 : Fin 2) = 0
    ∧ win0_1.index t (0 : Fin 3) = 0 ∧ win0_1.index t (1 : Fin 3) = 0 ∧ win0_1.index t (2 : Fin 3) = t.val % 4 + 4
    ∧ win0_2.index t (0 : Fin 2) = t.val / 4 ∧ win0_2.index t (1 : Fin 2) = 0
    ∧ win0_3.index t (0 : Fin 2) = t.val / 4 ∧ win0_3.index t (1 : Fin 2) = 0
    ∧ win0_7.index t (0 : Fin 2) = t.val / 4 ∧ win0_7.index t (1 : Fin 2) = t.val % 4
    ∧ win0_8.index t (0 : Fin 2) = 0 ∧ win0_8.index t (1 : Fin 2) = min t.val 3 :=
  (by decide +kernel : ∀ t : Fin grid0.N, _)

theorem read_h (t : Fin cfg0.N) (i : Fin 1024) (k : Fin 4096) :
    (iblk m c 0 t : Vec Ideal S1024x4096 .bf16) (ix2 i k) = m ((c : Thread nD τ).loc main_arg0) (ix2 (row t i) k) := by
  obtain ⟨h0, h1, _⟩ := index_at t
  unfold iblk
  rw [View.read_apply]
  refine congrArg (V m c main_arg0) (funext fun a => Fin.ext ?_)
  match a with
  | ⟨0, _⟩ => show win0_0.index t 0 * 1024 + 1 * i.val = 1024 * (t.val / 4) + i.val; rw [h0]; omega
  | ⟨1, _⟩ => show win0_0.index t 1 * 4096 + 1 * k.val = k.val; rw [h1]; omega

theorem read_w (t : Fin cfg0.N) (k : Fin 4096) (j : Fin 512) :
    (iblk m c 1 t : Vec Ideal S1x4096x512 .f32) (ix3 0 k j) = m ((c : Thread nD τ).loc main_arg1) (ix3 0 k (wide (col t j))) := by
  obtain ⟨_, _, h0, h1, h2, _⟩ := index_at t
  unfold iblk
  rw [View.read_apply]
  refine congrArg (V m c main_arg1) (funext fun a => Fin.ext ?_)
  match a with
  | ⟨0, _⟩ => show win0_1.index t 0 * 1 + 1 * 0 = 0; rw [h0]
  | ⟨1, _⟩ => show win0_1.index t 1 * 4096 + 1 * k.val = k.val; rw [h1]; omega
  | ⟨2, _⟩ => show win0_1.index t 2 * 512 + 1 * j.val = 2048 + (512 * (t.val % 4) + j.val); rw [h2]; omega

theorem read_hs (t : Fin cfg0.N) (i : Fin 80) (k : Fin 4096) :
    (iblk m c 4 t : Vec Ideal S80x4096 .bf16) (ix2 i k) = m ((c : Thread nD τ).loc main_arg2) (ix2 i k) := by
  unfold iblk
  rw [View.read_apply]
  refine congrArg (V m c main_arg2) (funext fun a => Fin.ext ?_)
  match a with
  | ⟨0, _⟩ => show 0 * 80 + 1 * i.val = i.val; omega
  | ⟨1, _⟩ => show 0 * 4096 + 1 * k.val = k.val; omega

/-! ## The tables -/

/-- The position of a row of the prompt, and of a row that rides along. -/
def pos (i : Fin 8192) : BitVec 32 := BitVec.ofNat 32 (i.val % 2048)
def sidePos (_ : Fin 80) : BitVec 32 := 8192#32

theorem table_2 (i : Fin 8192) (d : Fin 128) : (V m c main_v20 : S8192x128.Idx → EReal) (ix2 i d) = Rope.cosTable (pos i) d := by
  refine Eq.trans ?_ (Rope.cosine_eq _ d)
  entry_read
  pointwise []
  rfl

theorem table_3 (i : Fin 8192) (d : Fin 128) : (V m c main_v23 : S8192x128.Idx → EReal) (ix2 i d) = Rope.sinTable (pos i) d := by
  refine Eq.trans ?_ (Rope.sine_eq _ d)
  entry_read
  pointwise []
  rfl

theorem table_5 (i : Fin 80) (d : Fin 128) : (V m c main_v41 : S80x128.Idx → EReal) (ix2 i d) = Rope.cosTable (sidePos i) d := by
  refine Eq.trans ?_ (Rope.cosine_eq _ d)
  entry_read
  pointwise []
  rfl

theorem table_6 (i : Fin 80) (d : Fin 128) : (V m c main_v42 : S80x128.Idx → EReal) (ix2 i d) = Rope.sinTable (sidePos i) d := by
  refine Eq.trans ?_ (Rope.sine_eq _ d)
  entry_read
  pointwise []
  rfl

theorem read_2 (t : Fin cfg0.N) (i : Fin 1024) (d : Fin 128) :
    k0_pay10 (F := Ideal) (iblk m c 2 t) (ix2 i d) = Rope.cosTable (pos (row t i)) d := by
  obtain ⟨_, _, _, _, _, h0, h1, _⟩ := index_at t
  refine Eq.trans ?_ (table_2 m c (row t i) d)
  pointwise [k0_pay10]
  unfold iblk
  rw [View.read_apply]
  refine congrArg (V m c main_v20) (funext fun a => Fin.ext ?_)
  match a with
  | ⟨0, _⟩ => show win0_2.index t 0 * 1024 + 1 * i.val = 1024 * (t.val / 4) + i.val; rw [h0]; omega
  | ⟨1, _⟩ => show win0_2.index t 1 * 128 + 1 * d.val = d.val; rw [h1]; omega

theorem read_3 (t : Fin cfg0.N) (i : Fin 1024) (d : Fin 128) :
    k0_pay11 (F := Ideal) (iblk m c 3 t) (ix2 i d) = Rope.sinTable (pos (row t i)) d := by
  obtain ⟨_, _, _, _, _, _, _, h0, h1, _⟩ := index_at t
  refine Eq.trans ?_ (table_3 m c (row t i) d)
  pointwise [k0_pay11]
  unfold iblk
  rw [View.read_apply]
  refine congrArg (V m c main_v23) (funext fun a => Fin.ext ?_)
  match a with
  | ⟨0, _⟩ => show win0_3.index t 0 * 1024 + 1 * i.val = 1024 * (t.val / 4) + i.val; rw [h0]; omega
  | ⟨1, _⟩ => show win0_3.index t 1 * 128 + 1 * d.val = d.val; rw [h1]; omega

/-- The one block of a riders' table is the table. -/
theorem place_5 (t : Fin cfg0.N) (i : Fin 80) (d : Fin 128) :
    (View.emb ((cfg0.win 5).blk t).view (ix2 i d : S80x128.Idx) : S80x128.Idx) = ix2 i d :=
  funext fun a => Fin.ext (match a with
    | ⟨0, _⟩ => by show 0 * 80 + 1 * i.val = i.val; omega
    | ⟨1, _⟩ => by show 0 * 128 + 1 * d.val = d.val; omega)

theorem read_5 (t : Fin cfg0.N) (i : Fin 80) (d : Fin 128) :
    k0_pay3 (F := Ideal) (iblk m c 5 t) (ix2 i d) = Rope.cosTable (sidePos i) d := by
  refine Eq.trans ?_ (table_5 m c i d)
  pointwise [k0_pay3]
  unfold iblk
  rw [View.read_apply]
  exact congrArg (V m c main_v41) (place_5 t i d)

theorem read_6 (t : Fin cfg0.N) (i : Fin 80) (d : Fin 128) :
    k0_pay4 (F := Ideal) (iblk m c 6 t) (ix2 i d) = Rope.sinTable (sidePos i) d := by
  refine Eq.trans ?_ (table_6 m c i d)
  pointwise [k0_pay4]
  unfold iblk
  rw [View.read_apply]
  exact congrArg (V m c main_v42) (place_5 t i d)

/-! ## The arrays the outputs end as -/

/-- The prompt's product, and that of the rows that ride along. -/
def prod : S8192x2048.Idx → EReal := rowsTimes wide (m ((c : Thread nD τ).loc main_arg0)) (m ((c : Thread nD τ).loc main_arg1))
def sideProd : S80x2048.Idx → EReal := rowsTimes wide (m ((c : Thread nD τ).loc main_arg2)) (m ((c : Thread nD τ).loc main_arg1))

/-- Each of them turned by its rows' positions. -/
def array : S8192x2048.Idx → EReal := Rope.rotated rfl pos (prod m c)
def sideArray : S80x2048.Idx → EReal := Rope.rotated rfl sidePos (sideProd m c)

theorem cols_at (t : Fin cfg0.N) : ∃ o, o % 128 = 0 ∧ ∀ k, (col t k).val = o + k.val := ⟨512 * (t.val % 4), by omega, fun _ => rfl⟩

theorem place_7 (t : Fin cfg0.N) (y : S1024x512.Idx) :
    (View.emb ((cfg0.win 7).blk t).view y : S8192x2048.Idx) = ix2 (row t (y 0)) (col t (y 1)) := by
  obtain ⟨_, _, _, _, _, _, _, _, _, h0, h1, _⟩ := index_at t
  refine funext fun a => Fin.ext ?_
  match a with
  | ⟨0, _⟩ => show win0_7.index t 0 * 1024 + 1 * (y 0).val = 1024 * (t.val / 4) + (y 0).val; rw [h0]; omega
  | ⟨1, _⟩ => show win0_7.index t 1 * 512 + 1 * (y 1).val = 512 * (t.val % 4) + (y 1).val; rw [h1]; omega

theorem place_8 (t : Fin cfg0.N) (y : S80x512.Idx) :
    (View.emb ((cfg0.win 8).blk t).view y : S80x2048.Idx) = ix2 (y 0) (col (held 4 t) (y 1)) := by
  obtain ⟨_, _, _, _, _, _, _, _, _, _, _, h0, h1⟩ := index_at t
  refine funext fun a => Fin.ext ?_
  match a with
  | ⟨0, _⟩ => show win0_8.index t 0 * 80 + 1 * (y 0).val = (y 0).val; rw [h0]; omega
  | ⟨1, _⟩ => show win0_8.index t 1 * 512 + 1 * (y 1).val = 512 * (min t.val 3 % 4) + (y 1).val; rw [h1]; omega

theorem flushed_7 (t : Fin cfg0.N) : (dats m 0 c).flushed 7 t = ((cfg0.win 7).blk t).view.read (Elt Ideal) (array m c) := by
  show (cfg0.win 7).cut (grid0.coords t) ((dats m 0 c).after 7 t) = _
  rw [after_7]
  funext y
  rw [View.read_apply]
  refine Eq.trans ?_ (congrArg (array m c) (place_7 t y)).symm
  exact Rope.block_rotated _ (fun i k => block_eq (pay9_at _ _) (read_h m c t) (read_w m c t) (ix2 i k)) (read_2 m c t) (read_3 m c t)
    (cols_at t) y

theorem flushed_8 (t : Fin cfg0.N) : (dats m 0 c).flushed 8 t = ((cfg0.win 8).blk t).view.read (Elt Ideal) (sideArray m c) := by
  show (cfg0.win 8).cut (grid0.coords t) ((dats m 0 c).after 8 t) = _
  rw [after_8]
  funext y
  rw [View.read_apply]
  refine Eq.trans ?_ (congrArg (sideArray m c) (place_8 t y)).symm
  exact Rope.block_rotated (rows := id) _ (fun i k => block_eq (rows := id) (pay2_at _ _) (read_hs m c (held 4 t)) (read_w m c (held 4 t)) (ix2 i k))
    (read_5 m c (held 4 t)) (read_6 m c (held 4 t)) (cols_at (held 4 t)) y

theorem cover_7 (i : S8192x2048.Idx) : ∃ t : Fin cfg0.N, (cfg0.win 7).flush t = true ∧ i ∈ ((cfg0.win 7).blk t).view.set := by
  obtain ⟨t, y, z, hy, hz⟩ := back (N := cfg0.N) (n := 4) rfl rfl (i 0) (i 1)
  refine ⟨t, flush0_7 t, mem_of_emb _ (y := (ix2 y z : S1024x512.Idx)) ((place_7 t _).trans ?_)⟩
  exact (congrArg₂ (fun a b => (ix2 a b : S8192x2048.Idx)) hy hz).trans (ix2_eta i)

theorem cover_8 (i : S80x2048.Idx) : ∃ t : Fin cfg0.N, (cfg0.win 8).flush t = true ∧ i ∈ ((cfg0.win 8).blk t).view.set := by
  obtain ⟨k, z, hz⟩ := side_back (N := cfg0.N) (n := 4) rfl rfl (i 1)
  have h4 : 4 ≤ cfg0.N := by show 4 ≤ grid0.N; rw [N_0]; decide
  refine ⟨writer 4 h4 k, (flush_8 _).trans (writer_flush 4 h4 k), mem_of_emb _ (y := (ix2 (i 0) z : S80x512.Idx)) ((place_8 _ _).trans ?_)⟩
  exact (congrArg (fun b => (ix2 (i 0) b : S80x2048.Idx)) hz).trans (ix2_eta i)

theorem final_7 : (dats m 0 c).arrAt 7 cfg0.N = array m c :=
  (dats m 0 c).arrAt_eq_of_cover 7 (array m c) (fun t _ => flushed_7 m c t) cover_7
theorem final_8 : (dats m 0 c).arrAt 8 cfg0.N = sideArray m c :=
  (dats m 0 c).arrAt_eq_of_cover 8 (sideArray m c) (fun t _ => flushed_8 m c t) cover_8

/-! ## The reference's stages -/

section Reference

open Cert.Reference5Ideal.Read

theorem wide_head (q : Fin 16) (e : Fin 128) : (⟨2048 + (q.val * 128 + e.val), by omega⟩ : Fin 12288) = wide ⟨128 * q.val + e.val, by omega⟩ :=
  Fin.ext (by show 2048 + (q.val * 128 + e.val) = 2048 + (128 * q.val + e.val); omega)

/-- The reference's columns of a head, of a row of the prompt. -/
theorem ref_heads (h : S8192x4096.Idx → EReal) (w : S1x4096x12288.Idx → EReal) (i : Fin 8192) (q : Fin 16) (e : Fin 128) :
    val_main_v4 (F := Ideal) h w (ix4 ⟨i.val / 2048, by omega⟩ ⟨i.val % 2048, by omega⟩ q e)
      = rowsTimes wide h w (ix2 i (⟨128 * q.val + e.val, by omega⟩ : Fin 2048)) := by
  unfold rowsTimes product
  pointwise [val_main_v4, val_main_v3, val_main_v2, val_main_v1, val_main_v0]
  exact Finset.sum_congr rfl fun k _ => congrArg (fun z => h (ix2 i k) * w (ix3 0 k z)) (wide_head q e)

theorem ref_at (h : S8192x4096.Idx → EReal) (w : S1x4096x12288.Idx → EReal) (i : Fin 8192) (j : Fin 2048) :
    val_main_v69 (F := Ideal) h w (ix2 i j)
      = Rope.turned rfl (fun k => rowsTimes wide h w (ix2 i k)) (Rope.cosTable (pos i)) (Rope.sinTable (pos i)) j := by
  refine Eq.trans ?_ (Rope.rotation rfl _ (fun d => Ideal.cos (Rope.angle (pos i) d)) (fun d => Ideal.sin (Rope.angle (pos i) d)) j
    (fun e => val_main_v4 (F := Ideal) h w (ix4 ⟨i.val / 2048, by omega⟩ ⟨i.val % 2048, by omega⟩ ⟨j.val / 128, by omega⟩ e))
    (fun e => ref_heads h w i _ e))
  pointwise [val_main_v69, val_main_v34, val_main_v28, val_main_v33, val_main_v25, val_main_v27, val_main_v30, val_main_v32, val_main_v24,
    val_main_v26, val_main_v29, val_main_v31, val_main_v22, val_main_v23, val_main_v19, val_main_v21, val_main_v18, val_main_v20, val_main_v17,
    val_main_v16, val_main_v15, val_main_v14, val_main_v13, val_main_v12, val_main_v11, val_main_v10, val_main_v9, val_main_v8, val_main_v7,
    val_main_v6, val_main_v5, val_main_cst, val_main_cst_0]
  rfl

/-- The same of a row that rides along. -/
theorem ref_side_heads (w : S1x4096x12288.Idx → EReal) (h : S80x4096.Idx → EReal) (i : Fin 80) (q : Fin 16) (e : Fin 128) :
    val_main_v37 (F := Ideal) w h (ix4 i 0 q e) = rowsTimes wide h w (ix2 i (⟨128 * q.val + e.val, by omega⟩ : Fin 2048)) := by
  unfold rowsTimes product
  pointwise [val_main_v37, val_main_v36, val_main_v35, val_main_v1, val_main_v0]
  exact Finset.sum_congr rfl fun k _ => congrArg (fun z => h (ix2 i k) * w (ix3 0 k z)) (wide_head q e)

theorem ref_side (w : S1x4096x12288.Idx → EReal) (h : S80x4096.Idx → EReal) (i : Fin 80) (j : Fin 2048) :
    val_main_v70 (F := Ideal) w h (ix2 i j)
      = Rope.turned rfl (fun k => rowsTimes wide h w (ix2 i k)) (Rope.cosTable (sidePos i)) (Rope.sinTable (sidePos i)) j := by
  refine Eq.trans ?_ (Rope.rotation rfl _ (fun d => Ideal.cos (Rope.angle (sidePos i) d)) (fun d => Ideal.sin (Rope.angle (sidePos i) d)) j
    (fun e => val_main_v37 (F := Ideal) w h (ix4 i 0 ⟨j.val / 128, by omega⟩ e)) (fun e => ref_side_heads w h i _ e))
  pointwise [val_main_v70, val_main_v68, val_main_v62, val_main_v67, val_main_v59, val_main_v61, val_main_v64, val_main_v66, val_main_v58,
    val_main_v60, val_main_v63, val_main_v65, val_main_v56, val_main_v57, val_main_v55, val_main_v54, val_main_v53, val_main_v52, val_main_v51,
    val_main_v50, val_main_v49, val_main_v48, val_main_v47, val_main_v46, val_main_v45, val_main_v44, val_main_v43, val_main_v42, val_main_v41,
    val_main_v40, val_main_v39, val_main_v38, val_main_c, val_main_cst_1, val_main_cst_2]
  rfl

theorem array_eq : array m c = val_main_v69 (F := Ideal) (m ((c : Thread nD τ).loc main_arg0)) (m ((c : Thread nD τ).loc main_arg1)) :=
  Rope.rotated_eq (ref_at _ _)

theorem sideArray_eq : sideArray m c = val_main_v70 (F := Ideal) (m ((c : Thread nD τ).loc main_arg1)) (m ((c : Thread nD τ).loc main_arg2)) :=
  Rope.rotated_eq (ref_side _ _)

end Reference

end Cert.Kernel5Ideal.ProjK

namespace Cert.Proof.ProjK

open Idealize.ShloMosaic Idealize.ShloMosaic.TcCoe Idealize.SL.Sem Cert.Kernel5Ideal.ProjK

attribute [local instance] Cert.Kernel5.Gen.facts Cert.Kernel5Ideal.Gen.facts Cert.Reference5Ideal.Gen.facts

section Names

variable {F : FTy → Type} [FloatOps F]

/-- No operation was rewritten: the program and its idealization are one text under two names. -/
theorem defs₀_eq : Cert.Kernel5.defs₀ (F := F) = Cert.Kernel5Ideal.defs₀ (F := F) := by
  unfold Cert.Kernel5.defs₀ Cert.Kernel5Ideal.defs₀
  refine congrArg Defs.onTc (funext fun l => funext fun a => ?_)
  match l, a with
  | (0 : Fin 1), (t, s) =>
    dsimp only
    with_unfolding_all rfl

theorem defs_eq : Cert.Kernel5.defs (F := F) = Cert.Kernel5Ideal.defs (F := F) :=
  congrArg (Pipeline.defs Cert.Kernel5Ideal.pcfgs) defs₀_eq

set_option maxHeartbeats 1000000 in
/-- The host's operations are the same ones. -/
theorem ops_eq : Cert.Kernel5.Gen.hostOps0 (F := F) = Cert.Kernel5Ideal.Gen.hostOps0 (F := F) := by
  repeat' refine congrArg₂ List.cons (by with_unfolding_all rfl) ?_
  rfl

theorem main_eq : Cert.Kernel5.main (F := F) = Cert.Kernel5Ideal.main (F := F) := by
  funext c
  rw [Cert.Kernel5.Gen.main_chain c, Cert.Kernel5Ideal.Gen.main_chain c]
  exact congrArg (fun l => (Pipeline.chain [StableHlo.seq l, Prog.lift (.customCall (Pipeline.entry 0) ())] :
    Prog (TpuEff Cert.Kernel5Ideal.nD Cert.Kernel5Ideal.τ Cert.Kernel5Ideal.sig (Elt F)
      (Pipeline.Sig Cert.Kernel5Ideal.Λ₀ (Fin 1) fun p => (Cert.Kernel5Ideal.pcfgs (F := F) p).Adm) .tc) PUnit)) ops_eq

end Names

theorem frame_kernel : Cert.quiescent_Kernel5 := fun m ρ _ => by
  rw [defs_eq, main_eq]
  exact Cert.Kernel5Ideal.ProjK.frame (F := Bits) m ρ

theorem frame_ideal : Cert.quiescent_Kernel5Ideal := fun m ρ _ => Cert.Kernel5Ideal.ProjK.frame m ρ

theorem frame_reference : Cert.quiescent_Reference5Ideal := fun m ρ _ =>
  (θ_run Cert.Reference5Ideal.defs _ _).mono
    (fun r h => ⟨fun c => (h c).2.2, Idealize.ShloMosaic.sem_eq_zero_of_no_sems (by decide) r.2⟩)
    (Cert.Reference5Ideal.Value.run (F := Ideal) m ρ)

/-- Over the extended reals both results are the reference's. -/
theorem algebraic : Cert.algebraic_Kernel5Ideal_Reference5Ideal := by
  intro m ρ m' ρ' _ hagree
  refine ⟨fun c => array m c, fun c => sideArray m c, ?_, ?_⟩
  · exact (θ_run Cert.Kernel5Ideal.defs _ _).mono
      (fun _ h c => ⟨((h.1 c).1 7).trans (final_7 m c), ((h.1 c).1 8).trans (final_8 m c), h.2.1 c⟩)
      (θ_run_and (run_main (F := Ideal) m ρ) (Cert.Kernel5Ideal.ProjK.frame (F := Ideal) m ρ))
  · refine (θ_run Cert.Reference5Ideal.defs _ _).mono
      (fun _ h c => ⟨(h c).1.trans ?_, (h c).2.1.trans ?_, (h c).2.2⟩)
      (Cert.Reference5Ideal.Value.run (F := Ideal) m' ρ')
    · obtain ⟨e0, e1, e2⟩ := hagree c
      refine (Cert.Reference5Ideal.Read.val_main_v69_eq (F := Ideal) _ _).trans ?_
      rw [e0, e1]
      exact (array_eq m c).symm
    · obtain ⟨e0, e1, e2⟩ := hagree c
      refine (Cert.Reference5Ideal.Read.val_main_v70_eq (F := Ideal) _ _).trans ?_
      rw [e1, e2]
      exact (sideArray_eq m c).symm

end Cert.Proof.ProjK

end
-- ==== Proof.ProjRun.lean ====
/-
  ONE POINT OF AN INPUT PROJECTION, for any program that runs it. The body multiplies the prompt's block by the weight's block;
  where a condition on the point holds, it first does the rows that ride along. Both are stated for whole buffers of any
  signature, so that a program only has to name its own buffers.
-/
module

public import proofs.«01_k».proof.Proof.Common
public import Idealize.ShloMosaic.Lib.VecWindow
public import Idealize.ShloMosaic.Lib.Pipeline.TableIdle
public import Idealize.ShloMosaic.Lib.Pipeline.Kit
public import Idealize.ShloMosaic.Lib.Pipeline.ReadBack
public import Idealize.ShloMosaic.Lib.Pipeline.ValueKit.Tiles

@[expose] public section

set_option maxRecDepth 16384

noncomputable section

namespace Cert.Proof.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Common

variable {F : FTy → Type} [FloatOps F] {nD : ℕ} {τ : Topo} {sig : RefSig} {Λ : Labels}

/-- The shapes of the blocks: the prompt's rows, the weight's columns, the rows that ride along, and what is stored of each. -/
abbrev SRows : Shape := ⟨2, ![1024, 4096]⟩
abbrev SWeight : Shape := ⟨3, ![1, 4096, 512]⟩
abbrev SSide : Shape := ⟨2, ![80, 4096]⟩
abbrev SOut : Shape := ⟨2, ![1024, 512]⟩
abbrev SSideOut : Shape := ⟨2, ![80, 512]⟩

section Body

variable (cond : BitVec 1)
  (pay1 : Vec F SSide .bf16 → Vec F SWeight .f32 → FVec F SSideOut .f32) (pay2 : Vec F SRows .bf16 → Vec F SWeight .f32 → FVec F SOut .f32)
  (arg2 : Memref sig .tc .vmem SRows .bf16) (harg2 : arg2.IsWhole)
  (arg3 : Memref sig .tc .vmem SWeight .f32) (harg3 : arg3.IsWhole)
  (arg4 : Memref sig .tc .vmem SSide .bf16) (harg4 : arg4.IsWhole)
  (arg5 : Memref sig .tc .vmem SOut .f32)
  (arg6 : Memref sig .tc .vmem SSideOut .f32)

/-- The body: the rows that ride along where the condition holds, then the prompt's rows. -/
def point : Prog (TpuEff nD τ sig (Elt F) Λ .tc) PUnit := do
  if _h : cond = 1#1 then do
    let v9 : Vec F SSide .bf16 ← Prog.lift (.load arg4 (Rect.unit (s := SSide) ![0, 0] SSide.size (by decide)).toLoadRect (View.loadsAt_vmem (by decide)))
    let v10 : Vec F SWeight .f32 ← Prog.lift (.load arg3 (Rect.unit (s := SWeight) ![0, 0, 0] SWeight.size (by decide)).toLoadRect (View.loadsAt_vmem (by decide)))
    let _v14 : Vec F SSideOut .f32 ← Prog.lift (.load arg6 (Rect.unit (s := SSideOut) ![0, 0] SSideOut.size (by decide)).toLoadRect (View.loadsAt_vmem (by decide)))
    Prog.lift (.store arg6 (Rect.unit (s := SSideOut) ![0, 0] SSideOut.size (by decide)) (pay1 v9 v10) Finset.univ (View.stores_vmem_bits_univ (by decide) rfl) (.inl rfl))
    pure ⟨⟩
  else do
    pure ⟨⟩
  let v3 : Vec F SRows .bf16 ← Prog.lift (.load arg2 (Rect.unit (s := SRows) ![0, 0] SRows.size (by decide)).toLoadRect (View.loadsAt_vmem (by decide)))
  let v4 : Vec F SWeight .f32 ← Prog.lift (.load arg3 (Rect.unit (s := SWeight) ![0, 0, 0] SWeight.size (by decide)).toLoadRect (View.loadsAt_vmem (by decide)))
  let _v8 : Vec F SOut .f32 ← Prog.lift (.load arg5 (Rect.unit (s := SOut) ![0, 0] SOut.size (by decide)).toLoadRect (View.loadsAt_vmem (by decide)))
  Prog.lift (.store arg5 (Rect.unit (s := SOut) ![0, 0] SOut.size (by decide)) (pay2 v3 v4) Finset.univ (View.stores_vmem_bits_univ (by decide) rfl) (.inl rfl))
  pure ⟨⟩

local notation "𝕄" => MT nD τ sig Unit (Elt F) ℕ (UR sig nD τ) ℕ

variable (defs : Defs nD τ sig (Elt F) Λ) (c : Dev nD)
  (x0 : Vec F SRows .bf16) (x1 : Vec F SWeight .f32) (x2 : Vec F SSide .bf16)
  {D0 D1 D2 D3 D4 : Type} {in0 : D0 → Vec F SRows .bf16} {in1 : D1 → Vec F SWeight .f32} {in2 : D2 → Vec F SSide .bf16}
  (h0 : ∀ d, in0 d = x0) (h1 : ∀ d, in1 d = x1) (h2 : ∀ d, in2 d = x2)
  {old : D3 → Vec F SOut .f32} {old' : D4 → Vec F SSideOut .f32}

include harg2 harg3 harg4 h0 h1 h2

set_option maxHeartbeats 1000000 in
/-- Where the condition holds the body stores into both outputs. -/
theorem point_first (hc : cond = 1#1)
    (Φ O L : sProp 𝕄) (hL : owns (c : Thread nD τ) arg6 fullShare (pay1 x2 x1) ⊢ L) :
    iprop(Φ
        ∗ O
        ∗ (∃ d, owns (c : Thread nD τ) arg2 fullShare (in0 d))
        ∗ (∃ d, owns (c : Thread nD τ) arg3 fullShare (in1 d))
        ∗ (∃ d, owns (c : Thread nD τ) arg4 fullShare (in2 d))
        ∗ (∃ d, owns (c : Thread nD τ) arg5 fullShare (old d))
        ∗ (∃ d, owns (c : Thread nD τ) arg6 fullShare (old' d)))
      ⊢ wp frame (wpE defs Variants.none c none) Set.univ (point cond pay1 pay2 arg2 arg3 arg4 arg5 arg6)
        (fun _ => iprop(Φ
        ∗ O
        ∗ owns (c : Thread nD τ) arg2 fullShare x0
        ∗ owns (c : Thread nD τ) arg3 fullShare x1
        ∗ owns (c : Thread nD τ) arg4 fullShare x2
        ∗ owns (c : Thread nD τ) arg5 fullShare (pay2 x0 x1)
        ∗ L)) := by
  simp only [h0, h1, h2]
  unfold point owns
  iintro ⟨HΦ, HO, ⟨%e0, %f0, %hf0, H0⟩, ⟨%e1, %f1, %hf1, H1⟩, ⟨%e2, %f2, %hf2, H2⟩, ⟨%d3, %f3, -, H3⟩, ⟨%d4, %f4, -, H4⟩⟩
  obtain rfl := harg2.eq_unread hf0; obtain rfl := harg3.eq_unread hf1; obtain rfl := harg4.eq_unread hf2
  sl_exec (disch := first | sl_exact hc)
  sl_step
  isplitl [HΦ]; · iexact HΦ
  isplitl [HO]; · iexact HO
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap
    · iexact H3
    ipureintro
    exact (View.read_writes_full _ _ _ _ _).trans (congrArg₂ pay2 (load_full arg2 harg2 x0 zero2 _) (load_full arg3 harg3 x1 zero3 _))
  iapply hL
  unfold owns
  iexists _; isplitr; swap
  · iexact H4
  ipureintro
  exact (View.read_writes_full _ _ _ _ _).trans (congrArg₂ pay1 (load_full arg4 harg4 x2 zero2 _) (load_full arg3 harg3 x1 zero3 _))

set_option maxHeartbeats 1000000 in
/-- Elsewhere it stores into the prompt's output only, and does not touch the other. -/
theorem point_later (hc : ¬ cond = 1#1)
    (Φ O L₀ L : sProp 𝕄) (hL : L₀ ⊢ L) :
    iprop(Φ
        ∗ O
        ∗ (∃ d, owns (c : Thread nD τ) arg2 fullShare (in0 d))
        ∗ (∃ d, owns (c : Thread nD τ) arg3 fullShare (in1 d))
        ∗ (∃ d, owns (c : Thread nD τ) arg4 fullShare (in2 d))
        ∗ (∃ d, owns (c : Thread nD τ) arg5 fullShare (old d))
        ∗ L₀)
      ⊢ wp frame (wpE defs Variants.none c none) Set.univ (point cond pay1 pay2 arg2 arg3 arg4 arg5 arg6)
        (fun _ => iprop(Φ
        ∗ O
        ∗ owns (c : Thread nD τ) arg2 fullShare x0
        ∗ owns (c : Thread nD τ) arg3 fullShare x1
        ∗ owns (c : Thread nD τ) arg4 fullShare x2
        ∗ owns (c : Thread nD τ) arg5 fullShare (pay2 x0 x1)
        ∗ L)) := by
  simp only [h0, h1, h2]
  unfold point owns
  iintro ⟨HΦ, HO, ⟨%e0, %f0, %hf0, H0⟩, ⟨%e1, %f1, %hf1, H1⟩, ⟨%e2, %f2, %hf2, H2⟩, ⟨%d3, %f3, -, H3⟩, H4⟩
  obtain rfl := harg2.eq_unread hf0; obtain rfl := harg3.eq_unread hf1; obtain rfl := harg4.eq_unread hf2
  sl_exec (disch := first | sl_exact hc)
  sl_step
  isplitl [HΦ]; · iexact HΦ
  isplitl [HO]; · iexact HO
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap
    · iexact H3
    ipureintro
    exact (View.read_writes_full _ _ _ _ _).trans (congrArg₂ pay2 (load_full arg2 harg2 x0 zero2 _) (load_full arg3 harg3 x1 zero3 _))
  iapply hL; iexact H4

end Body

end Cert.Proof.Proj

end
-- ==== Proof.ProjV.lean ====
/-
  THE INPUT PROJECTION OF THE VALUES, 2048 columns of the weight. The grid is 8 × 4: point `t` works on rows `1024 (t / 4) …` of
  the prompt and columns `512 (t % 4) …` of the result. In the first row of the grid (`t < 4`) the body also does the rows that
  ride along; afterwards it leaves that window alone, and the last block it stored there waits in its buffer until the grid ends.
-/
module

public import proofs.«01_k».proof.Defs
public import proofs.«01_k».proof.Proof.Common
public import proofs.«01_k».proof.Proof.FirstRow
public import proofs.«01_k».proof.Proof.ProjMath
public import proofs.«01_k».proof.Proof.ProjRun
public import proofs.«01_k».proof.Proof.Gen.Kernel4
public import proofs.«01_k».proof.Proof.Gen.Kernel4Ideal
public import proofs.«01_k».proof.Proof.Gen.Kernel4Ideal.Frame
public import proofs.«01_k».proof.Proof.Gen.Kernel4Ideal.Skeleton
public import proofs.«01_k».proof.Proof.Gen.Reference4Ideal
public import proofs.«01_k».proof.Proof.Gen.Reference4Ideal.Run
public import proofs.«01_k».proof.Proof.Gen.Reference4Ideal.Read
public import Idealize.ShloMosaic.Lib.Claim
public import Idealize.ShloMosaic.Lib.Pointwise
public import Idealize.ShloMosaic.Lib.VecWindow
public import Idealize.ShloMosaic.Lib.Pipeline.TableIdle
public import Idealize.ShloMosaic.Lib.Pipeline.ReadBack
public import Idealize.ShloMosaic.Lib.Pipeline.ValueKit.Tiles

@[expose] public section

set_option maxRecDepth 16384

noncomputable section

namespace Cert.Kernel4Ideal.ProjV

open Cert.Kernel4Ideal Cert.Kernel4Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pointwise
open Cert.Proof.Common Cert.Proof.Proj Cert.Proof.FirstRow

/-! ## The run -/

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at a point is the projection's, over this program's buffers. -/
theorem body_eq (t : Fin cfg0.N) : bodyAt0 (F := F) t
    = point (k0_cond1 (grid0.coords t)) k0_pay1 k0_pay2 (st0_0 t) (st0_1 t) (st0_2 t) (st0_3 t) (st0_4 t) := by
  unfold bodyAt0
  rw [cc0_in_proj_eq_skeleton]
  rfl

/-! ## The schedule of the window of the first row -/

theorem cond_iff : ∀ t : Fin cfg0.N, k0_cond1 (grid0.coords t) = 1#1 ↔ t.val < 4 :=
  (by decide +kernel : ∀ t : Fin grid0.N, k0_cond1 (grid0.coords t) = 1#1 ↔ t.val < 4)

theorem flushF_4 : ∀ t : Fin grid0.N, win0_4.flushF t = (decide (t.val + 1 < 4) || decide (t.val + 1 = grid0.N)) := by decide +kernel
theorem flush_4 (t : Fin cfg0.N) : (cfg0.win 4).flush t = (decide (t.val + 1 < 4) || decide (t.val + 1 = grid0.N)) :=
  (Pipeline.Window.flush_eq_flushF win0_4 t).trans (flushF_4 t)

theorem idle_eq (t : Fin cfg0.N) : cfg0.idle 4 (cfg0.grid.coords t) = decide (4 ≤ t.val) := by
  have h : cfg0.idle 4 (cfg0.grid.coords t) = !(k0_cond1 (grid0.coords t) == 1#1) := rfl
  rw [h]
  exact idle_of_cond 4 t.val _ (cond_iff t)

/-! ## The proof data -/

/-- What each window's buffer holds after the body at a point: an input's block; the prompt's rows; and for the window of the first
    row, what its point `held t` stored. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay2 (iblk m c 0 t) (iblk m c 1 t)
    | ⟨4, _⟩ => k0_pay1 (iblk m c 2 (held 4 t)) (iblk m c 1 (held 4 t))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = k0_pay2 (iblk m c 0 t) (iblk m c 1 t) := by dsimp only [dats]
theorem after_4 (c : Dev nD) (t : Fin cfg0.N) : (dats m 0 c).after 4 t = k0_pay1 (iblk m c 2 (held 4 t)) (iblk m c 1 (held 4 t)) := by
  dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

theorem before_4 (c : Dev nD) (t : Fin cfg0.N) (h : 4 ≤ t.val) (d) : (dats m 0 c).before 4 t d = (dats m 0 c).after 4 t :=
  before_of_carry _ 4 4 (by decide) (by decide) idle_eq flush_4 rfl (fun _ _ => rfl)
    (fun t h => by rw [after_4, after_4, held_pred 4 t h]) t h d

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (dats m 0 c).leavesExact 4 t)

theorem sound_first (c : Dev nD) (t : Fin cfg0.N) (h : t.val < 4) :
    bodyPre m c t ⊢ wp frame (wpE (defs₀ (F := F)) Variants.none c none) Set.univ (bodyAt0 t) (fun _ => bodyPost m c t) := by
  unfold bodyPre bodyPost
  rw [body_eq]
  rw [after_0, after_1, after_2, after_3]
  refine point_first _ _ _ _ (hstage0_0 ((cfg0.slots t 0).cast nbuf0_0)) _ (hstage0_1 ((cfg0.slots t 1).cast nbuf0_1)) _
    (hstage0_2 ((cfg0.slots t 2).cast nbuf0_2)) _ _ _ c _ _ _ (before_0 m c t) (before_1 m c t) (before_2 m c t) ((cond_iff t).mpr h) _ _ _ ?_
  refine .trans ?_ (leaves_of_store (dats m 0 c) 4 t (by rw [idle_eq]; simp; omega))
  rw [after_4, held_first 4 t h]

theorem sound_later (c : Dev nD) (t : Fin cfg0.N) (h : 4 ≤ t.val) :
    bodyPre m c t ⊢ wp frame (wpE (defs₀ (F := F)) Variants.none c none) Set.univ (bodyAt0 t) (fun _ => bodyPost m c t) := by
  unfold bodyPre bodyPost
  rw [body_eq]
  rw [after_0, after_1, after_2, after_3]
  refine point_later _ _ _ _ (hstage0_0 ((cfg0.slots t 0).cast nbuf0_0)) _ (hstage0_1 ((cfg0.slots t 1).cast nbuf0_1)) _
    (hstage0_2 ((cfg0.slots t 2).cast nbuf0_2)) _ _ _ c _ _ _ (before_0 m c t) (before_1 m c t) (before_2 m c t)
    (fun hc => absurd ((cond_iff t).mp hc) (by omega)) _ _ _ _ ?_
  iintro ⟨%d, H⟩
  iapply (leaves_of_after (dats m 0 c) 4 t d (before_4 m c t h d))
  rw [← before_4 m c t h d]; iexact H

theorem sound_body (c : Dev nD) (t : Fin cfg0.N) :
    bodyPre m c t ⊢ wp frame (wpE (defs₀ (F := F)) Variants.none c none) Set.univ (bodyAt0 t) (fun _ => bodyPost m c t) := by
  rcases Nat.lt_or_ge t.val 4 with h | h
  · exact sound_first m c t h
  · exact sound_later m c t h

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every execution ends, with each array at what the proof data says and every semaphore at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end as they were, and no semaphore is left up. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Run

/-! ## What the body stores, at an entry -/

variable (m : (ℓ : Loc nD τ sig) → Buf (Elt Ideal) ℓ) (c : Dev nD)

theorem pay1_at (h : Vec Ideal S80x4096 .bf16) (w : Vec Ideal S1x4096x512 .f32) (i : Fin 80) (j : Fin 512) :
    k0_pay1 (F := Ideal) h w (ix2 i j) = product (fun k => h (ix2 i k)) (fun k => w (ix3 0 k j)) := by
  unfold product
  pointwise [k0_pay1]

theorem pay2_at (h : Vec Ideal S1024x4096 .bf16) (w : Vec Ideal S1x4096x512 .f32) (i : Fin 1024) (j : Fin 512) :
    k0_pay2 (F := Ideal) h w (ix2 i j) = product (fun k => h (ix2 i k)) (fun k => w (ix3 0 k j)) := by
  unfold product
  pointwise [k0_pay2]

/-! ## The blocks of the inputs -/

/-- The row and the column of the array that an entry of a block is. -/
abbrev row (t : Fin cfg0.N) : Fin 1024 → Fin 8192 := Cert.Proof.Proj.row (n := 4) rfl t
abbrev col (t : Fin cfg0.N) : Fin 512 → Fin 2048 := Cert.Proof.Proj.col (n := 4) rfl rfl t
/-- The weight's column for column `j` of the outputs. -/
def wide (j : Fin 2048) : Fin 12288 := ⟨4096 + j.val, by omega⟩

theorem index_at : ∀ t : Fin cfg0.N, win0_0.index t (0 : Fin 2) = t.val / 4 ∧ win0_0.index t (1 : Fin 2) = 0
    ∧ win0_1.index t (0 : Fin 3) = 0 ∧ win0_1.index t (1 : Fin 3) = 0 ∧ win0_1.index t (2 : Fin 3) = t.val % 4 + 8
    ∧ win0_3.index t (0 : Fin 2) = t.val / 4 ∧ win0_3.index t (1 : Fin 2) = t.val % 4
    ∧ win0_4.index t (0 : Fin 2) = 0 ∧ win0_4.index t (1 : Fin 2) = min t.val 3 :=
  (by decide +kernel : ∀ t : Fin grid0.N, _)

theorem read_h (t : Fin cfg0.N) (i : Fin 1024) (k : Fin 4096) :
    (iblk m c 0 t : Vec Ideal S1024x4096 .bf16) (ix2 i k) = m ((c : Thread nD τ).loc main_arg0) (ix2 (row t i) k) := by
  obtain ⟨h0, h1, _⟩ := index_at t
  unfold iblk
  rw [View.read_apply]
  refine congrArg (V m c main_arg0) (funext fun a => Fin.ext ?_)
  match a with
  | ⟨0, _⟩ => show win0_0.index t 0 * 1024 + 1 * i.val = 1024 * (t.val / 4) + i.val; rw [h0]; omega
  | ⟨1, _⟩ => show win0_0.index t 1 * 4096 + 1 * k.val = k.val; rw [h1]; omega

theorem read_w (t : Fin cfg0.N) (k : Fin 4096) (j : Fin 512) :
    (iblk m c 1 t : Vec Ideal S1x4096x512 .f32) (ix3 0 k j) = m ((c : Thread nD τ).loc main_arg1) (ix3 0 k (wide (col t j))) := by
  obtain ⟨_, _, h0, h1, h2, _⟩ := index_at t
  unfold iblk
  rw [View.read_apply]
  refine congrArg (V m c main_arg1) (funext fun a => Fin.ext ?_)
  match a with
  | ⟨0, _⟩ => show win0_1.index t 0 * 1 + 1 * 0 = 0; rw [h0]
  | ⟨1, _⟩ => show win0_1.index t 1 * 4096 + 1 * k.val = k.val; rw [h1]; omega
  | ⟨2, _⟩ => show win0_1.index t 2 * 512 + 1 * j.val = 4096 + (512 * (t.val % 4) + j.val); rw [h2]; omega

theorem read_hs (t : Fin cfg0.N) (i : Fin 80) (k : Fin 4096) :
    (iblk m c 2 t : Vec Ideal S80x4096 .bf16) (ix2 i k) = m ((c : Thread nD τ).loc main_arg2) (ix2 i k) := by
  unfold iblk
  rw [View.read_apply]
  refine congrArg (V m c main_arg2) (funext fun a => Fin.ext ?_)
  match a with
  | ⟨0, _⟩ => show 0 * 80 + 1 * i.val = i.val; omega
  | ⟨1, _⟩ => show 0 * 4096 + 1 * k.val = k.val; omega

/-! ## The arrays the outputs end as -/

/-- The prompt's product. -/
def array : S8192x2048.Idx → EReal := rowsTimes wide (m ((c : Thread nD τ).loc main_arg0)) (m ((c : Thread nD τ).loc main_arg1))

/-- The product of the rows that ride along. -/
def sideArray : S80x2048.Idx → EReal := rowsTimes wide (m ((c : Thread nD τ).loc main_arg2)) (m ((c : Thread nD τ).loc main_arg1))

theorem place_3 (t : Fin cfg0.N) (y : S1024x512.Idx) :
    (View.emb ((cfg0.win 3).blk t).view y : S8192x2048.Idx) = ix2 (row t (y 0)) (col t (y 1)) := by
  obtain ⟨_, _, _, _, _, h0, h1, _⟩ := index_at t
  refine funext fun a => Fin.ext ?_
  match a with
  | ⟨0, _⟩ => show win0_3.index t 0 * 1024 + 1 * (y 0).val = 1024 * (t.val / 4) + (y 0).val; rw [h0]; omega
  | ⟨1, _⟩ => show win0_3.index t 1 * 512 + 1 * (y 1).val = 512 * (t.val % 4) + (y 1).val; rw [h1]; omega

theorem place_4 (t : Fin cfg0.N) (y : S80x512.Idx) :
    (View.emb ((cfg0.win 4).blk t).view y : S80x2048.Idx) = ix2 (y 0) (col (held 4 t) (y 1)) := by
  obtain ⟨_, _, _, _, _, _, _, h0, h1⟩ := index_at t
  refine funext fun a => Fin.ext ?_
  match a with
  | ⟨0, _⟩ => show win0_4.index t 0 * 80 + 1 * (y 0).val = (y 0).val; rw [h0]; omega
  | ⟨1, _⟩ => show win0_4.index t 1 * 512 + 1 * (y 1).val = 512 * (min t.val 3 % 4) + (y 1).val; rw [h1]; omega

theorem flushed_3 (t : Fin cfg0.N) : (dats m 0 c).flushed 3 t = ((cfg0.win 3).blk t).view.read (Elt Ideal) (array m c) := by
  show (cfg0.win 3).cut (grid0.coords t) ((dats m 0 c).after 3 t) = _
  rw [after_3]
  funext y
  rw [View.read_apply]
  refine Eq.trans ?_ (congrArg (array m c) (place_3 t y)).symm
  exact block_eq (pay2_at _ _) (read_h m c t) (read_w m c t) y

theorem flushed_4 (t : Fin cfg0.N) : (dats m 0 c).flushed 4 t = ((cfg0.win 4).blk t).view.read (Elt Ideal) (sideArray m c) := by
  show (cfg0.win 4).cut (grid0.coords t) ((dats m 0 c).after 4 t) = _
  rw [after_4]
  funext y
  rw [View.read_apply]
  refine Eq.trans ?_ (congrArg (sideArray m c) (place_4 t y)).symm
  exact block_eq (rows := id) (pay1_at _ _) (read_hs m c (held 4 t)) (read_w m c (held 4 t)) y

theorem cover_3 (i : S8192x2048.Idx) : ∃ t : Fin cfg0.N, (cfg0.win 3).flush t = true ∧ i ∈ ((cfg0.win 3).blk t).view.set := by
  obtain ⟨t, y, z, hy, hz⟩ := back (N := cfg0.N) (n := 4) rfl rfl (i 0) (i 1)
  refine ⟨t, flush0_3 t, mem_of_emb _ (y := (ix2 y z : S1024x512.Idx)) ((place_3 t _).trans ?_)⟩
  exact (congrArg₂ (fun a b => (ix2 a b : S8192x2048.Idx)) hy hz).trans (ix2_eta i)

theorem cover_4 (i : S80x2048.Idx) : ∃ t : Fin cfg0.N, (cfg0.win 4).flush t = true ∧ i ∈ ((cfg0.win 4).blk t).view.set := by
  obtain ⟨k, z, hz⟩ := side_back (N := cfg0.N) (n := 4) rfl rfl (i 1)
  refine ⟨_, (flush_4 _).trans (writer_flush 4 (by decide) k), mem_of_emb _ (y := (ix2 (i 0) z : S80x512.Idx)) ((place_4 _ _).trans ?_)⟩
  exact (congrArg (fun b => (ix2 (i 0) b : S80x2048.Idx)) hz).trans (ix2_eta i)

theorem final_3 : (dats m 0 c).arrAt 3 cfg0.N = array m c :=
  (dats m 0 c).arrAt_eq_of_cover 3 (array m c) (fun t _ => flushed_3 m c t) cover_3
theorem final_4 : (dats m 0 c).arrAt 4 cfg0.N = sideArray m c :=
  (dats m 0 c).arrAt_eq_of_cover 4 (sideArray m c) (fun t _ => flushed_4 m c t) cover_4

/-! ## The reference's stages -/

section Reference

open Cert.Reference4Ideal.Read

theorem ref_at (h : S8192x4096.Idx → EReal) (w : S1x4096x12288.Idx → EReal) (i : Fin 8192) (j : Fin 2048) :
    val_main_v3 (F := Ideal) h w (ix2 i j) = product (fun k => h (ix2 i k)) (fun k => w (ix3 0 k (wide j))) := by
  unfold product
  pointwise [val_main_v3, val_main_v2, val_main_v1, val_main_v0]
  rfl

theorem ref_side (w : S1x4096x12288.Idx → EReal) (h : S80x4096.Idx → EReal) (i : Fin 80) (j : Fin 2048) :
    val_main_v5 (F := Ideal) w h (ix2 i j) = product (fun k => h (ix2 i k)) (fun k => w (ix3 0 k (wide j))) := by
  unfold product
  pointwise [val_main_v5, val_main_v4, val_main_v1, val_main_v0]
  rfl

theorem array_eq : array m c = val_main_v3 (F := Ideal) (m ((c : Thread nD τ).loc main_arg0)) (m ((c : Thread nD τ).loc main_arg1)) :=
  rowsTimes_eq (ref_at _ _)

theorem sideArray_eq : sideArray m c = val_main_v5 (F := Ideal) (m ((c : Thread nD τ).loc main_arg1)) (m ((c : Thread nD τ).loc main_arg2)) :=
  rowsTimes_eq (ref_side _ _)

end Reference

end Cert.Kernel4Ideal.ProjV

namespace Cert.Proof.ProjV

open Idealize.ShloMosaic Idealize.ShloMosaic.TcCoe Idealize.SL.Sem Cert.Kernel4Ideal.ProjV

attribute [local instance] Cert.Kernel4.Gen.facts Cert.Kernel4Ideal.Gen.facts Cert.Reference4Ideal.Gen.facts

section Names

variable {F : FTy → Type} [FloatOps F]

/-- No operation was rewritten: the program and its idealization are one text under two names. -/
theorem defs₀_eq : Cert.Kernel4.defs₀ (F := F) = Cert.Kernel4Ideal.defs₀ (F := F) := by
  unfold Cert.Kernel4.defs₀ Cert.Kernel4Ideal.defs₀
  refine congrArg Defs.onTc (funext fun l => funext fun a => ?_)
  match l, a with
  | (0 : Fin 1), (t, s) =>
    dsimp only
    with_unfolding_all rfl

theorem defs_eq : Cert.Kernel4.defs (F := F) = Cert.Kernel4Ideal.defs (F := F) :=
  congrArg (Pipeline.defs Cert.Kernel4Ideal.pcfgs) defs₀_eq

end Names

theorem frame_kernel : Cert.quiescent_Kernel4 := fun m ρ _ => by
  rw [defs_eq]
  exact Cert.Kernel4Ideal.ProjV.frame (F := Bits) m ρ

theorem frame_ideal : Cert.quiescent_Kernel4Ideal := fun m ρ _ => Cert.Kernel4Ideal.ProjV.frame m ρ

theorem frame_reference : Cert.quiescent_Reference4Ideal := fun m ρ _ =>
  (θ_run Cert.Reference4Ideal.defs _ _).mono
    (fun r h => ⟨fun c => (h c).2.2, Idealize.ShloMosaic.sem_eq_zero_of_no_sems (by decide) r.2⟩)
    (Cert.Reference4Ideal.Value.run (F := Ideal) m ρ)

/-- Over the extended reals both products are the reference's. -/
theorem algebraic : Cert.algebraic_Kernel4Ideal_Reference4Ideal := by
  intro m ρ m' ρ' _ hagree
  refine ⟨fun c => array m c, fun c => sideArray m c, ?_, ?_⟩
  · exact (θ_run Cert.Kernel4Ideal.defs _ _).mono
      (fun _ h c => ⟨((h.1 c).1 3).trans (final_3 m c), ((h.1 c).1 4).trans (final_4 m c), h.2.1 c⟩)
      (θ_run_and (run_main (F := Ideal) m ρ) (Cert.Kernel4Ideal.ProjV.frame (F := Ideal) m ρ))
  · refine (θ_run Cert.Reference4Ideal.defs _ _).mono
      (fun _ h c => ⟨(h c).1.trans ?_, (h c).2.1.trans ?_, (h c).2.2⟩)
      (Cert.Reference4Ideal.Value.run (F := Ideal) m' ρ')
    · obtain ⟨e0, e1, e2⟩ := hagree c
      refine (Cert.Reference4Ideal.Read.val_main_v3_eq (F := Ideal) _ _).trans ?_
      rw [e0, e1]
      exact (array_eq m c).symm
    · obtain ⟨e0, e1, e2⟩ := hagree c
      refine (Cert.Reference4Ideal.Read.val_main_v5_eq (F := Ideal) _ _).trans ?_
      rw [e1, e2]
      exact (sideArray_eq m c).symm

end Cert.Proof.ProjV

end
-- ==== Proof.ProjR.lean ====
/-
  THE INPUT PROJECTION OF THE RECURRENCE'S INPUTS, 6144 columns of the weight. The grid is 8 × 12: point `t` works on rows `1024 (t / 12) …` of
  the prompt and columns `512 (t % 12) …` of the result. In the first row of the grid (`t < 12`) the body also does the rows that
  ride along; afterwards it leaves that window alone, and the last block it stored there waits in its buffer until the grid ends.
-/
module

public import proofs.«01_k».proof.Defs
public import proofs.«01_k».proof.Proof.Common
public import proofs.«01_k».proof.Proof.FirstRow
public import proofs.«01_k».proof.Proof.ProjMath
public import proofs.«01_k».proof.Proof.ProjRun
public import proofs.«01_k».proof.Proof.Gen.Kernel11
public import proofs.«01_k».proof.Proof.Gen.Kernel11Ideal
public import proofs.«01_k».proof.Proof.Gen.Kernel11Ideal.Frame
public import proofs.«01_k».proof.Proof.Gen.Kernel11Ideal.Skeleton
public import proofs.«01_k».proof.Proof.Gen.Reference11Ideal
public import proofs.«01_k».proof.Proof.Gen.Reference11Ideal.Run
public import proofs.«01_k».proof.Proof.Gen.Reference11Ideal.Read
public import Idealize.ShloMosaic.Lib.Claim
public import Idealize.ShloMosaic.Lib.Pointwise
public import Idealize.ShloMosaic.Lib.VecWindow
public import Idealize.ShloMosaic.Lib.Pipeline.TableIdle
public import Idealize.ShloMosaic.Lib.Pipeline.ReadBack
public import Idealize.ShloMosaic.Lib.Pipeline.ValueKit.Tiles

@[expose] public section

set_option maxRecDepth 16384

noncomputable section

namespace Cert.Kernel11Ideal.ProjR

open Cert.Kernel11Ideal Cert.Kernel11Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pointwise
open Cert.Proof.Common Cert.Proof.Proj Cert.Proof.FirstRow

/-! ## The run -/

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at a point is the projection's, over this program's buffers. -/
theorem body_eq (t : Fin cfg0.N) : bodyAt0 (F := F) t
    = point (k0_cond1 (grid0.coords t)) k0_pay1 k0_pay2 (st0_0 t) (st0_1 t) (st0_2 t) (st0_3 t) (st0_4 t) := by
  unfold bodyAt0
  rw [cc0_in_proj_eq_skeleton]
  rfl

/-! ## The schedule of the window of the first row -/

theorem cond_iff : ∀ t : Fin cfg0.N, k0_cond1 (grid0.coords t) = 1#1 ↔ t.val < 12 :=
  (by decide +kernel : ∀ t : Fin grid0.N, k0_cond1 (grid0.coords t) = 1#1 ↔ t.val < 12)

theorem flushF_4 : ∀ t : Fin grid0.N, win0_4.flushF t = (decide (t.val + 1 < 12) || decide (t.val + 1 = grid0.N)) := by decide +kernel
theorem flush_4 (t : Fin cfg0.N) : (cfg0.win 4).flush t = (decide (t.val + 1 < 12) || decide (t.val + 1 = grid0.N)) :=
  (Pipeline.Window.flush_eq_flushF win0_4 t).trans (flushF_4 t)

theorem idle_eq (t : Fin cfg0.N) : cfg0.idle 4 (cfg0.grid.coords t) = decide (12 ≤ t.val) := by
  have h : cfg0.idle 4 (cfg0.grid.coords t) = !(k0_cond1 (grid0.coords t) == 1#1) := rfl
  rw [h]
  exact idle_of_cond 12 t.val _ (cond_iff t)

/-! ## The proof data -/

/-- What each window's buffer holds after the body at a point: an input's block; the prompt's rows; and for the window of the first
    row, what its point `held t` stored. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay2 (iblk m c 0 t) (iblk m c 1 t)
    | ⟨4, _⟩ => k0_pay1 (iblk m c 2 (held 12 t)) (iblk m c 1 (held 12 t))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = k0_pay2 (iblk m c 0 t) (iblk m c 1 t) := by dsimp only [dats]
theorem after_4 (c : Dev nD) (t : Fin cfg0.N) : (dats m 0 c).after 4 t = k0_pay1 (iblk m c 2 (held 12 t)) (iblk m c 1 (held 12 t)) := by
  dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

theorem before_4 (c : Dev nD) (t : Fin cfg0.N) (h : 12 ≤ t.val) (d) : (dats m 0 c).before 4 t d = (dats m 0 c).after 4 t :=
  before_of_carry _ 4 12 (by decide) (by decide) idle_eq flush_4 rfl (fun _ _ => rfl)
    (fun t h => by rw [after_4, after_4, held_pred 12 t h]) t h d

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (dats m 0 c).leavesExact 4 t)

theorem sound_first (c : Dev nD) (t : Fin cfg0.N) (h : t.val < 12) :
    bodyPre m c t ⊢ wp frame (wpE (defs₀ (F := F)) Variants.none c none) Set.univ (bodyAt0 t) (fun _ => bodyPost m c t) := by
  unfold bodyPre bodyPost
  rw [body_eq]
  rw [after_0, after_1, after_2, after_3]
  refine point_first _ _ _ _ (hstage0_0 ((cfg0.slots t 0).cast nbuf0_0)) _ (hstage0_1 ((cfg0.slots t 1).cast nbuf0_1)) _
    (hstage0_2 ((cfg0.slots t 2).cast nbuf0_2)) _ _ _ c _ _ _ (before_0 m c t) (before_1 m c t) (before_2 m c t) ((cond_iff t).mpr h) _ _ _ ?_
  refine .trans ?_ (leaves_of_store (dats m 0 c) 4 t (by rw [idle_eq]; simp; omega))
  rw [after_4, held_first 12 t h]

theorem sound_later (c : Dev nD) (t : Fin cfg0.N) (h : 12 ≤ t.val) :
    bodyPre m c t ⊢ wp frame (wpE (defs₀ (F := F)) Variants.none c none) Set.univ (bodyAt0 t) (fun _ => bodyPost m c t) := by
  unfold bodyPre bodyPost
  rw [body_eq]
  rw [after_0, after_1, after_2, after_3]
  refine point_later _ _ _ _ (hstage0_0 ((cfg0.slots t 0).cast nbuf0_0)) _ (hstage0_1 ((cfg0.slots t 1).cast nbuf0_1)) _
    (hstage0_2 ((cfg0.slots t 2).cast nbuf0_2)) _ _ _ c _ _ _ (before_0 m c t) (before_1 m c t) (before_2 m c t)
    (fun hc => absurd ((cond_iff t).mp hc) (by omega)) _ _ _ _ ?_
  iintro ⟨%d, H⟩
  iapply (leaves_of_after (dats m 0 c) 4 t d (before_4 m c t h d))
  rw [← before_4 m c t h d]; iexact H

theorem sound_body (c : Dev nD) (t : Fin cfg0.N) :
    bodyPre m c t ⊢ wp frame (wpE (defs₀ (F := F)) Variants.none c none) Set.univ (bodyAt0 t) (fun _ => bodyPost m c t) := by
  rcases Nat.lt_or_ge t.val 12 with h | h
  · exact sound_first m c t h
  · exact sound_later m c t h

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every execution ends, with each array at what the proof data says and every semaphore at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end as they were, and no semaphore is left up. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Run

/-! ## What the body stores, at an entry -/

variable (m : (ℓ : Loc nD τ sig) → Buf (Elt Ideal) ℓ) (c : Dev nD)

theorem pay1_at (h : Vec Ideal S80x4096 .bf16) (w : Vec Ideal S1x4096x512 .f32) (i : Fin 80) (j : Fin 512) :
    k0_pay1 (F := Ideal) h w (ix2 i j) = product (fun k => h (ix2 i k)) (fun k => w (ix3 0 k j)) := by
  unfold product
  pointwise [k0_pay1]

theorem pay2_at (h : Vec Ideal S1024x4096 .bf16) (w : Vec Ideal S1x4096x512 .f32) (i : Fin 1024) (j : Fin 512) :
    k0_pay2 (F := Ideal) h w (ix2 i j) = product (fun k => h (ix2 i k)) (fun k => w (ix3 0 k j)) := by
  unfold product
  pointwise [k0_pay2]

/-! ## The blocks of the inputs -/

/-- The row and the column of the array that an entry of a block is. -/
abbrev row (t : Fin cfg0.N) : Fin 1024 → Fin 8192 := Cert.Proof.Proj.row (n := 12) rfl t
abbrev col (t : Fin cfg0.N) : Fin 512 → Fin 6144 := Cert.Proof.Proj.col (n := 12) rfl rfl t
/-- The weight's column for column `j` of the outputs. -/
def wide (j : Fin 6144) : Fin 12288 := ⟨6144 + j.val, by omega⟩

theorem index_at : ∀ t : Fin cfg0.N, win0_0.index t (0 : Fin 2) = t.val / 12 ∧ win0_0.index t (1 : Fin 2) = 0
    ∧ win0_1.index t (0 : Fin 3) = 0 ∧ win0_1.index t (1 : Fin 3) = 0 ∧ win0_1.index t (2 : Fin 3) = t.val % 12 + 12
    ∧ win0_3.index t (0 : Fin 2) = t.val / 12 ∧ win0_3.index t (1 : Fin 2) = t.val % 12
    ∧ win0_4.index t (0 : Fin 2) = 0 ∧ win0_4.index t (1 : Fin 2) = min t.val 11 :=
  (by decide +kernel : ∀ t : Fin grid0.N, _)

theorem read_h (t : Fin cfg0.N) (i : Fin 1024) (k : Fin 4096) :
    (iblk m c 0 t : Vec Ideal S1024x4096 .bf16) (ix2 i k) = m ((c : Thread nD τ).loc main_arg0) (ix2 (row t i) k) := by
  obtain ⟨h0, h1, _⟩ := index_at t
  unfold iblk
  rw [View.read_apply]
  refine congrArg (V m c main_arg0) (funext fun a => Fin.ext ?_)
  match a with
  | ⟨0, _⟩ => show win0_0.index t 0 * 1024 + 1 * i.val = 1024 * (t.val / 12) + i.val; rw [h0]; omega
  | ⟨1, _⟩ => show win0_0.index t 1 * 4096 + 1 * k.val = k.val; rw [h1]; omega

theorem read_w (t : Fin cfg0.N) (k : Fin 4096) (j : Fin 512) :
    (iblk m c 1 t : Vec Ideal S1x4096x512 .f32) (ix3 0 k j) = m ((c : Thread nD τ).loc main_arg1) (ix3 0 k (wide (col t j))) := by
  obtain ⟨_, _, h0, h1, h2, _⟩ := index_at t
  unfold iblk
  rw [View.read_apply]
  refine congrArg (V m c main_arg1) (funext fun a => Fin.ext ?_)
  match a with
  | ⟨0, _⟩ => show win0_1.index t 0 * 1 + 1 * 0 = 0; rw [h0]
  | ⟨1, _⟩ => show win0_1.index t 1 * 4096 + 1 * k.val = k.val; rw [h1]; omega
  | ⟨2, _⟩ => show win0_1.index t 2 * 512 + 1 * j.val = 6144 + (512 * (t.val % 12) + j.val); rw [h2]; omega

theorem read_hs (t : Fin cfg0.N) (i : Fin 80) (k : Fin 4096) :
    (iblk m c 2 t : Vec Ideal S80x4096 .bf16) (ix2 i k) = m ((c : Thread nD τ).loc main_arg2) (ix2 i k) := by
  unfold iblk
  rw [View.read_apply]
  refine congrArg (V m c main_arg2) (funext fun a => Fin.ext ?_)
  match a with
  | ⟨0, _⟩ => show 0 * 80 + 1 * i.val = i.val; omega
  | ⟨1, _⟩ => show 0 * 4096 + 1 * k.val = k.val; omega

/-! ## The arrays the outputs end as -/

/-- The prompt's product. -/
def array : S8192x6144.Idx → EReal := rowsTimes wide (m ((c : Thread nD τ).loc main_arg0)) (m ((c : Thread nD τ).loc main_arg1))

/-- The product of the rows that ride along. -/
def sideArray : S80x6144.Idx → EReal := rowsTimes wide (m ((c : Thread nD τ).loc main_arg2)) (m ((c : Thread nD τ).loc main_arg1))

theorem place_3 (t : Fin cfg0.N) (y : S1024x512.Idx) :
    (View.emb ((cfg0.win 3).blk t).view y : S8192x6144.Idx) = ix2 (row t (y 0)) (col t (y 1)) := by
  obtain ⟨_, _, _, _, _, h0, h1, _⟩ := index_at t
  refine funext fun a => Fin.ext ?_
  match a with
  | ⟨0, _⟩ => show win0_3.index t 0 * 1024 + 1 * (y 0).val = 1024 * (t.val / 12) + (y 0).val; rw [h0]; omega
  | ⟨1, _⟩ => show win0_3.index t 1 * 512 + 1 * (y 1).val = 512 * (t.val % 12) + (y 1).val; rw [h1]; omega

theorem place_4 (t : Fin cfg0.N) (y : S80x512.Idx) :
    (View.emb ((cfg0.win 4).blk t).view y : S80x6144.Idx) = ix2 (y 0) (col (held 12 t) (y 1)) := by
  obtain ⟨_, _, _, _, _, _, _, h0, h1⟩ := index_at t
  refine funext fun a => Fin.ext ?_
  match a with
  | ⟨0, _⟩ => show win0_4.index t 0 * 80 + 1 * (y 0).val = (y 0).val; rw [h0]; omega
  | ⟨1, _⟩ => show win0_4.index t 1 * 512 + 1 * (y 1).val = 512 * (min t.val 11 % 12) + (y 1).val; rw [h1]; omega

theorem flushed_3 (t : Fin cfg0.N) : (dats m 0 c).flushed 3 t = ((cfg0.win 3).blk t).view.read (Elt Ideal) (array m c) := by
  show (cfg0.win 3).cut (grid0.coords t) ((dats m 0 c).after 3 t) = _
  rw [after_3]
  funext y
  rw [View.read_apply]
  refine Eq.trans ?_ (congrArg (array m c) (place_3 t y)).symm
  exact block_eq (pay2_at _ _) (read_h m c t) (read_w m c t) y

theorem flushed_4 (t : Fin cfg0.N) : (dats m 0 c).flushed 4 t = ((cfg0.win 4).blk t).view.read (Elt Ideal) (sideArray m c) := by
  show (cfg0.win 4).cut (grid0.coords t) ((dats m 0 c).after 4 t) = _
  rw [after_4]
  funext y
  rw [View.read_apply]
  refine Eq.trans ?_ (congrArg (sideArray m c) (place_4 t y)).symm
  exact block_eq (rows := id) (pay1_at _ _) (read_hs m c (held 12 t)) (read_w m c (held 12 t)) y

theorem cover_3 (i : S8192x6144.Idx) : ∃ t : Fin cfg0.N, (cfg0.win 3).flush t = true ∧ i ∈ ((cfg0.win 3).blk t).view.set := by
  obtain ⟨t, y, z, hy, hz⟩ := back (N := cfg0.N) (n := 12) rfl rfl (i 0) (i 1)
  refine ⟨t, flush0_3 t, mem_of_emb _ (y := (ix2 y z : S1024x512.Idx)) ((place_3 t _).trans ?_)⟩
  exact (congrArg₂ (fun a b => (ix2 a b : S8192x6144.Idx)) hy hz).trans (ix2_eta i)

theorem cover_4 (i : S80x6144.Idx) : ∃ t : Fin cfg0.N, (cfg0.win 4).flush t = true ∧ i ∈ ((cfg0.win 4).blk t).view.set := by
  obtain ⟨k, z, hz⟩ := side_back (N := cfg0.N) (n := 12) rfl rfl (i 1)
  refine ⟨_, (flush_4 _).trans (writer_flush 12 (by decide) k), mem_of_emb _ (y := (ix2 (i 0) z : S80x512.Idx)) ((place_4 _ _).trans ?_)⟩
  exact (congrArg (fun b => (ix2 (i 0) b : S80x6144.Idx)) hz).trans (ix2_eta i)

theorem final_3 : (dats m 0 c).arrAt 3 cfg0.N = array m c :=
  (dats m 0 c).arrAt_eq_of_cover 3 (array m c) (fun t _ => flushed_3 m c t) cover_3
theorem final_4 : (dats m 0 c).arrAt 4 cfg0.N = sideArray m c :=
  (dats m 0 c).arrAt_eq_of_cover 4 (sideArray m c) (fun t _ => flushed_4 m c t) cover_4

/-! ## The reference's stages -/

section Reference

open Cert.Reference11Ideal.Read

theorem ref_at (h : S8192x4096.Idx → EReal) (w : S1x4096x12288.Idx → EReal) (i : Fin 8192) (j : Fin 6144) :
    val_main_v3 (F := Ideal) h w (ix2 i j) = product (fun k => h (ix2 i k)) (fun k => w (ix3 0 k (wide j))) := by
  unfold product
  pointwise [val_main_v3, val_main_v2, val_main_v1, val_main_v0]
  rfl

theorem ref_side (w : S1x4096x12288.Idx → EReal) (h : S80x4096.Idx → EReal) (i : Fin 80) (j : Fin 6144) :
    val_main_v5 (F := Ideal) w h (ix2 i j) = product (fun k => h (ix2 i k)) (fun k => w (ix3 0 k (wide j))) := by
  unfold product
  pointwise [val_main_v5, val_main_v4, val_main_v1, val_main_v0]
  rfl

theorem array_eq : array m c = val_main_v3 (F := Ideal) (m ((c : Thread nD τ).loc main_arg0)) (m ((c : Thread nD τ).loc main_arg1)) :=
  rowsTimes_eq (ref_at _ _)

theorem sideArray_eq : sideArray m c = val_main_v5 (F := Ideal) (m ((c : Thread nD τ).loc main_arg1)) (m ((c : Thread nD τ).loc main_arg2)) :=
  rowsTimes_eq (ref_side _ _)

end Reference

end Cert.Kernel11Ideal.ProjR

namespace Cert.Proof.ProjR

open Idealize.ShloMosaic Idealize.ShloMosaic.TcCoe Idealize.SL.Sem Cert.Kernel11Ideal.ProjR

attribute [local instance] Cert.Kernel11.Gen.facts Cert.Kernel11Ideal.Gen.facts Cert.Reference11Ideal.Gen.facts

section Names

variable {F : FTy → Type} [FloatOps F]

/-- No operation was rewritten: the program and its idealization are one text under two names. -/
theorem defs₀_eq : Cert.Kernel11.defs₀ (F := F) = Cert.Kernel11Ideal.defs₀ (F := F) := by
  unfold Cert.Kernel11.defs₀ Cert.Kernel11Ideal.defs₀
  refine congrArg Defs.onTc (funext fun l => funext fun a => ?_)
  match l, a with
  | (0 : Fin 1), (t, s) =>
    dsimp only
    with_unfolding_all rfl

theorem defs_eq : Cert.Kernel11.defs (F := F) = Cert.Kernel11Ideal.defs (F := F) :=
  congrArg (Pipeline.defs Cert.Kernel11Ideal.pcfgs) defs₀_eq

end Names

theorem frame_kernel : Cert.quiescent_Kernel11 := fun m ρ _ => by
  rw [defs_eq]
  exact Cert.Kernel11Ideal.ProjR.frame (F := Bits) m ρ

theorem frame_ideal : Cert.quiescent_Kernel11Ideal := fun m ρ _ => Cert.Kernel11Ideal.ProjR.frame m ρ

theorem frame_reference : Cert.quiescent_Reference11Ideal := fun m ρ _ =>
  (θ_run Cert.Reference11Ideal.defs _ _).mono
    (fun r h => ⟨fun c => (h c).2.2, Idealize.ShloMosaic.sem_eq_zero_of_no_sems (by decide) r.2⟩)
    (Cert.Reference11Ideal.Value.run (F := Ideal) m ρ)

/-- Over the extended reals both products are the reference's. -/
theorem algebraic : Cert.algebraic_Kernel11Ideal_Reference11Ideal := by
  intro m ρ m' ρ' _ hagree
  refine ⟨fun c => array m c, fun c => sideArray m c, ?_, ?_⟩
  · exact (θ_run Cert.Kernel11Ideal.defs _ _).mono
      (fun _ h c => ⟨((h.1 c).1 3).trans (final_3 m c), ((h.1 c).1 4).trans (final_4 m c), h.2.1 c⟩)
      (θ_run_and (run_main (F := Ideal) m ρ) (Cert.Kernel11Ideal.ProjR.frame (F := Ideal) m ρ))
  · refine (θ_run Cert.Reference11Ideal.defs _ _).mono
      (fun _ h c => ⟨(h c).1.trans ?_, (h c).2.1.trans ?_, (h c).2.2⟩)
      (Cert.Reference11Ideal.Value.run (F := Ideal) m' ρ')
    · obtain ⟨e0, e1, e2⟩ := hagree c
      refine (Cert.Reference11Ideal.Read.val_main_v3_eq (F := Ideal) _ _).trans ?_
      rw [e0, e1]
      exact (array_eq m c).symm
    · obtain ⟨e0, e1, e2⟩ := hagree c
      refine (Cert.Reference11Ideal.Read.val_main_v5_eq (F := Ideal) _ _).trans ?_
      rw [e1, e2]
      exact (sideArray_eq m c).symm

end Cert.Proof.ProjR

end
-- ==== Proof.ZeroPad.lean ====
/-
  PADDING WITH ZERO. The host pads with the integer zero, converted.
-/
module

public import Idealize.ShloMosaic.Lib.Claim
public import Idealize.ShloMosaic.Lib.Pointwise

@[expose] public section

noncomputable section

namespace Cert.Proof.ZeroPad

open Idealize.ShloMosaic

theorem zero_word : (FloatOps.sitofp (F := Ideal) .f32 (0#32 : BitVec 32) : EReal) = 0 := by
  simp [FloatOps.sitofp]

end Cert.Proof.ZeroPad

end
-- ==== Proof.NormMath.lean ====
/-
  THE NORMS, AT AN ENTRY: a row over the root of its mean square, times a weight; and the same with a scale and a shift.
-/
module

public import Idealize.ShloMosaic.Lib.Pointwise

@[expose] public section

noncomputable section

namespace Cert.Proof.Norm

open Idealize.ShloMosaic

/-- Entry `j` of the row `x` over the root of its mean square, times the weight `g`. -/
def normed (x : Fin 4096 → EReal) (g : EReal) (j : Fin 4096) : EReal :=
  x j * Ideal.rsqrt (Ideal.div (∑ k, x k * x k) (FloatOps.ofBits (F := Ideal) .f32 0x45800000#32)
    + FloatOps.ofBits (F := Ideal) .f32 0x358637BD#32) * g

/-- The same, scaled by `1 + s` and shifted by `b`. -/
def modulated (x : Fin 4096 → EReal) (g s b : EReal) (j : Fin 4096) : EReal :=
  normed x g j * (FloatOps.ofBits (F := Ideal) .f32 0x3F800000#32 + s) + b

/-- The sequence a row of the prompt is of. -/
def seq (r : Fin 8192) : Fin 4 := ⟨r.val / 2048, by omega⟩

/-- Row `y` of row block `t`, of 16 blocks of 512 rows. -/
def row {N : ℕ} (hN : N = 16) (t : Fin N) (y : Fin 512) : Fin 8192 := ⟨512 * t.val + y.val, by have := t.isLt; omega⟩

/-- Every row lies in one row block. -/
theorem row_back {N : ℕ} (hN : N = 16) (i : Fin 8192) : ∃ (t : Fin N) (y : Fin 512), row hN t y = i := by
  have hi := i.isLt
  refine ⟨⟨i.val / 512, by omega⟩, ⟨i.val % 512, by omega⟩, Fin.ext ?_⟩
  show 512 * (i.val / 512) + i.val % 512 = i.val
  omega

end Cert.Proof.Norm

end
-- ==== Proof.Lora.lean ====
/-
  THE LOW-RANK PRODUCTS: 32 blocks of 256 rows. Each row is mixed with the row before it (the first row of a sequence with the
  state), in three mixtures, and each mixture is multiplied with its weight. The first two weights have 96 columns, of which the
  kernel computes 128, the last 32 with zeros.
-/
module

public import proofs.«01_k».proof.Defs
public import proofs.«01_k».proof.Proof.Common
public import proofs.«01_k».proof.Proof.FirstRow
public import proofs.«01_k».proof.Proof.ZeroPad
public import proofs.«01_k».proof.Proof.NormMath
public import proofs.«01_k».proof.Proof.Gen.Kernel12.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import Idealize.ShloMosaic.Lib.Claim
public import Idealize.ShloMosaic.Lib.Pointwise

@[expose] public section

set_option maxRecDepth 16384

noncomputable section

namespace Cert.Kernel12Ideal.Lora

open Cert.Kernel12Ideal Cert.Kernel12Ideal.Gen Idealize.ShloMosaic Idealize.ShloMosaic.TcCoe Idealize.SL.Sem
open Idealize.ShloMosaic.Pipeline (Dat)
open Idealize.ShloMosaic.Pointwise
open Cert.Proof.Common
open Cert.Proof.FirstRow (mem_of_emb)
open Cert.Proof.ZeroPad (zero_word)
open Cert.Proof.Norm (seq)

variable (m : (ℓ : Loc nD τ sig) → Buf (Elt Ideal) ℓ) (c : Dev nD)

/-- The entry before row `r`'s, in its sequence. -/
def before (h : S8192x4096.Idx → EReal) (s : S4x1x4096.Idx → EReal) (r : Fin 8192) (k : Fin 4096) : EReal :=
  if r.val % 2048 = 0 then s (ix3 (seq r) 0 k) else h (ix2 ⟨r.val - 1, by omega⟩ k)

/-- From row `r`'s entry to the one before it. -/
def change (h : S8192x4096.Idx → EReal) (s : S4x1x4096.Idx → EReal) (r : Fin 8192) (k : Fin 4096) : EReal := before h s r k - h (ix2 r k)

/-- `x` moved by the part `μ` of `d`. -/
def moved (x d μ : EReal) : EReal := x + d * μ

/-- The `a`th mixture. -/
def mixed (h : S8192x4096.Idx → EReal) (s : S4x1x4096.Idx → EReal) (μ : S1x3x4096.Idx → EReal) (a : Fin 3) (r : Fin 8192) (k : Fin 4096) : EReal :=
  moved (h (ix2 r k)) (change h s r k) (μ (ix3 0 a k))

/-- A row with a column. -/
def dot (x w : Fin 4096 → EReal) : EReal := ∑ k, x k * w k

/-- A weight of 96 columns, with 32 columns of zeros after them. -/
def padded (w : S1x4096x96.Idx → EReal) (k : Fin 4096) (j : Fin 128) : EReal := if h : j.val < 96 then w (ix3 0 k ⟨j.val, h⟩) else 0

/-! ## The body's values -/

theorem start_word (n : Fin 32) (i : Fin 256) :
    IntOp.cmpi CmpIPredicate.eq (IntOp.addi (BitVec.ofNat 32 i.val) (Scalar.remsi (Scalar.muli (BitVec.ofNat 32 n.val) 256#32) 2048#32)) 0#32
      = if (256 * n.val + i.val) % 2048 = 0 then 1#1 else 0#1 := by
  revert n i; decide +kernel

theorem first_word (i : Fin 256) :
    IntOp.cmpi CmpIPredicate.eq (BitVec.ofNat 32 i.val) 0#32 = if i.val = 0 then 1#1 else 0#1 := by
  revert i; decide +kernel

theorem change_at (n : grid0.Coords) (x : Vec Ideal S256x4096 .f32) (p : Vec Ideal S1x4096 .f32) (q : Vec Ideal S1x1x4096 .f32)
    (i : Fin 256) (k : Fin 4096) :
    k0_pay4 (F := Ideal) n x p q (ix2 i k)
      = (if (256 * (n 0).val + i.val) % 2048 = 0 then q (ix3 0 0 k) else if i.val = 0 then p (ix2 0 k)
          else x (ix2 ⟨i.val - 1, by omega⟩ k)) - x (ix2 i k) := by
  pointwise [k0_pay4]
  rw [start_word ⟨(n 0).val, (n 0).isLt⟩ i, first_word i]
  refine congrArg (· - x (ix2 i k)) ?_
  show Scalar.select (if (256 * (n 0).val + i.val) % 2048 = 0 then 1#1 else 0#1) _ _ = _
  by_cases h : (256 * (n 0).val + i.val) % 2048 = 0
  · rw [if_pos h, if_pos h]; rfl
  · rw [if_neg h, if_neg h]
    by_cases h' : i.val = 0
    · rw [if_pos h', if_pos h']; rfl
    · rw [if_neg h', if_neg h']
      refine congrArg (fun a => x (ix2 a k)) (Fin.ext ?_)
      show (i.val + 256 - 1) % 256 = i.val - 1
      omega

theorem pay1_at (x : Vec Ideal S256x4096 .bf16) (w : Vec Ideal S4096x128 .bf16) (i : Fin 256) (j : Fin 128) :
    k0_pay1 (F := Ideal) x w (ix2 i j) = Ideal.tanh (dot (fun k => x (ix2 i k)) (fun k => w (ix2 k j))) := by
  unfold dot
  pointwise [k0_pay1]

theorem pay2_at (x : Vec Ideal S256x4096 .bf16) (w : Vec Ideal S4096x128 .bf16) (i : Fin 256) (j : Fin 128) :
    k0_pay2 (F := Ideal) x w (ix2 i j) = dot (fun k => x (ix2 i k)) (fun k => w (ix2 k j)) := by
  unfold dot
  pointwise [k0_pay2]

theorem pay3_at (x : Vec Ideal S256x4096 .bf16) (w : Vec Ideal S4096x256 .bf16) (i j : Fin 256) :
    k0_pay3 (F := Ideal) x w (ix2 i j) = Ideal.logistic (dot (fun k => x (ix2 i k)) (fun k => w (ix2 k j))) := by
  unfold dot
  pointwise [k0_pay3]

theorem pay6_at (n : grid0.Coords) (x : Vec Ideal S256x4096 .f32) (p : Vec Ideal S1x4096 .f32) (q : Vec Ideal S1x1x4096 .f32)
    (u : Vec Ideal S8x4096 .f32) (i : Fin 256) (k : Fin 4096) :
    k0_pay6 (F := Ideal) n x p q u (ix2 i k) = moved (x (ix2 i k)) (k0_pay4 (F := Ideal) n x p q (ix2 i k)) (u (ix2 0 k)) := by
  unfold moved
  pointwise [k0_pay6, k0_pay5]

theorem pay7_at (n : grid0.Coords) (x : Vec Ideal S256x4096 .f32) (p : Vec Ideal S1x4096 .f32) (q : Vec Ideal S1x1x4096 .f32)
    (u : Vec Ideal S8x4096 .f32) (i : Fin 256) (k : Fin 4096) :
    k0_pay7 (F := Ideal) n x p q u (ix2 i k) = moved (x (ix2 i k)) (k0_pay4 (F := Ideal) n x p q (ix2 i k)) (u (ix2 1 k)) := by
  unfold moved
  pointwise [k0_pay7, k0_pay5]

theorem pay8_at (n : grid0.Coords) (x : Vec Ideal S256x4096 .f32) (p : Vec Ideal S1x4096 .f32) (q : Vec Ideal S1x1x4096 .f32)
    (u : Vec Ideal S8x4096 .f32) (i : Fin 256) (k : Fin 4096) :
    k0_pay8 (F := Ideal) n x p q u (ix2 i k) = moved (x (ix2 i k)) (k0_pay4 (F := Ideal) n x p q (ix2 i k)) (u (ix2 2 k)) := by
  unfold moved
  pointwise [k0_pay8, k0_pay5]

/-! ## The arrays that the host prepares -/

/-- The rates as the host pads them. -/
theorem rates_padded (μ : S1x3x4096.Idx → EReal) (a : Fin 3) (k : Fin 4096) :
    (pad S8x4096 ![0, 0] ![5, 0] ![0, 0] (shapeCast S3x4096 μ shapeCasts_S1x3x4096_S3x4096)
      (sitofp (F := Ideal) .f32 (constantI S_ 32 0#32)) pads_S3x4096_S8x4096_050_000 h_S_ : S8x4096.Idx → EReal) (ix2 ⟨a.val, by omega⟩ k)
      = μ (ix3 0 a k) := by
  pointwise []

theorem rates_at (a : Fin 3) (k : Fin 4096) :
    (V m c main_v1 : S8x4096.Idx → EReal) (ix2 ⟨a.val, by omega⟩ k) = m ((c : Thread nD τ).loc main_arg2) (ix3 0 a k) := by
  simp only [V, hostOps0, hostOps0_1, hostOps0_2, hostOps0_3, hostOps0_4, hostOps0_5, hostOps0_6, List.flatten_cons, List.flatten_nil, List.append_nil, List.cons_append, List.nil_append]
  entry_read
  exact rates_padded _ a k

/-- A weight as the host pads it. -/
theorem padded_at (w : S1x4096x96.Idx → EReal) (k : Fin 4096) (j : Fin 128) :
    (truncf (F := Ideal) .bf16 (pad S4096x128 ![0, 0] ![0, 32] ![0, 0] (shapeCast S4096x96 w shapeCasts_S1x4096x96_S4096x96)
      (sitofp (F := Ideal) .f32 (constantI S_ 32 0#32)) pads_S4096x96_S4096x128_000_0320 h_S_) bitsLt_bf16_f32 : S4096x128.Idx → EReal) (ix2 k j)
      = padded w k j := by
  pointwise []
  rw [zero_word]
  unfold padded
  rfl

theorem weight1_at (k : Fin 4096) (j : Fin 128) :
    (V m c main_v4 : S4096x128.Idx → EReal) (ix2 k j) = padded (m ((c : Thread nD τ).loc main_arg3)) k j := by
  simp only [V, hostOps0, hostOps0_1, hostOps0_2, hostOps0_3, hostOps0_4, hostOps0_5, hostOps0_6, List.flatten_cons, List.flatten_nil, List.append_nil, List.cons_append, List.nil_append]
  entry_read
  exact padded_at _ k j

theorem weight2_at (k : Fin 4096) (j : Fin 128) :
    (V m c main_v7 : S4096x128.Idx → EReal) (ix2 k j) = padded (m ((c : Thread nD τ).loc main_arg4)) k j := by
  simp only [V, hostOps0, hostOps0_1, hostOps0_2, hostOps0_3, hostOps0_4, hostOps0_5, hostOps0_6, List.flatten_cons, List.flatten_nil, List.append_nil, List.cons_append, List.nil_append]
  entry_read
  exact padded_at _ k j

theorem weight3_at (k : Fin 4096) (j : Fin 256) :
    (V m c main_v9 : S4096x256.Idx → EReal) (ix2 k j) = m ((c : Thread nD τ).loc main_arg5) (ix3 0 k j) := by
  simp only [V, hostOps0, hostOps0_1, hostOps0_2, hostOps0_3, hostOps0_4, hostOps0_5, hostOps0_6, List.flatten_cons, List.flatten_nil, List.append_nil, List.cons_append, List.nil_append]
  entry_read
  pointwise []

/-! ## What each point reads -/

/-- Row `i` of point `t`'s block. -/
def row (t : Fin cfg0.N) (i : Fin 256) : Fin 8192 := ⟨256 * t.val + i.val, by have := t.isLt; have : cfg0.N = 32 := rfl; omega⟩

theorem point_at : ∀ t : Fin cfg0.N, (grid0.coords t 0).val = t.val :=
  (by decide +kernel : ∀ t : Fin grid0.N, _)

theorem index_at : ∀ t : Fin cfg0.N, win0_0.index t (0 : Fin 2) = t.val ∧ win0_0.index t (1 : Fin 2) = 0
    ∧ win0_1.index t (0 : Fin 2) = 32 * t.val - 1 ∧ win0_1.index t (1 : Fin 2) = 0
    ∧ win0_2.index t (0 : Fin 3) = t.val / 8 ∧ win0_2.index t (1 : Fin 3) = 0 ∧ win0_2.index t (2 : Fin 3) = 0 :=
  (by decide +kernel : ∀ t : Fin grid0.N, _)

theorem out_index : ∀ t : Fin cfg0.N, win0_7.index t (0 : Fin 2) = t.val ∧ win0_7.index t (1 : Fin 2) = 0
    ∧ win0_9.index t (0 : Fin 2) = t.val ∧ win0_9.index t (1 : Fin 2) = 0 :=
  (by decide +kernel : ∀ t : Fin grid0.N, _)

theorem read_x (t : Fin cfg0.N) (i : Fin 256) (k : Fin 4096) :
    (iblk m c 0 t : Vec Ideal S256x4096 .f32) (ix2 i k) = m ((c : Thread nD τ).loc main_arg0) (ix2 (row t i) k) := by
  obtain ⟨h0, h1, _⟩ := index_at t
  unfold iblk
  rw [View.read_apply]
  refine Eq.trans (congrArg (V m c main_arg0) (funext fun a => Fin.ext ?_)) (congrFun (V_main_arg0 m c) (ix2 (row t i) k))
  match a with
  | ⟨0, _⟩ => show win0_0.index t 0 * 256 + 1 * i.val = 256 * t.val + i.val; rw [h0]; omega
  | ⟨1, _⟩ => show win0_0.index t 1 * 4096 + 1 * k.val = k.val; rw [h1]; omega

/-- The row before the block, if there is one. -/
theorem read_p (t : Fin cfg0.N) (h : 0 < t.val) (k : Fin 4096) :
    View.ld (iblk m c 1 t : Vec Ideal S8x4096 .f32) r0_1 (ix2 0 k)
      = m ((c : Thread nD τ).loc main_arg0) (ix2 ⟨256 * t.val - 1, by have := t.isLt; have : cfg0.N = 32 := rfl; omega⟩ k) := by
  obtain ⟨_, _, h0, h1, _⟩ := index_at t
  show (iblk m c 1 t : Vec Ideal S8x4096 .f32) (r0_1.idx (ix2 0 k)) = _
  unfold iblk
  rw [View.read_apply]
  refine Eq.trans (congrArg (V m c main_arg0) (funext fun a => Fin.ext ?_)) (congrFun (V_main_arg0 m c) (ix2 _ k))
  match a with
  | ⟨0, _⟩ => show win0_1.index t 0 * 8 + 1 * (7 + 1 * 0) = 256 * t.val - 1; rw [h0]; omega
  | ⟨1, _⟩ => show win0_1.index t 1 * 4096 + 1 * (0 + 1 * k.val) = k.val; rw [h1]; omega

/-- The state of the block's sequence. -/
theorem read_q (t : Fin cfg0.N) (i : Fin 256) (k : Fin 4096) :
    (iblk m c 2 t : Vec Ideal S1x1x4096 .f32) (ix3 0 0 k) = m ((c : Thread nD τ).loc main_arg1) (ix3 (seq (row t i)) 0 k) := by
  obtain ⟨_, _, _, _, h0, h1, h2⟩ := index_at t
  have hi := i.isLt
  unfold iblk
  rw [View.read_apply]
  refine Eq.trans (congrArg (V m c main_arg1) (funext fun a => Fin.ext ?_)) (congrFun (V_main_arg1 m c) (ix3 (seq (row t i)) 0 k))
  match a with
  | ⟨0, _⟩ => show win0_2.index t 0 * 1 + 1 * 0 = (256 * t.val + i.val) / 2048; rw [h0]; omega
  | ⟨1, _⟩ => show win0_2.index t 1 * 1 + 1 * 0 = 0; rw [h1]
  | ⟨2, _⟩ => show win0_2.index t 2 * 4096 + 1 * k.val = k.val; rw [h2]; omega

theorem read_u (t : Fin cfg0.N) (a : Fin 3) (k : Fin 4096) :
    (iblk m c 3 t : Vec Ideal S8x4096 .f32) (ix2 ⟨a.val, by omega⟩ k) = m ((c : Thread nD τ).loc main_arg2) (ix3 0 a k) := by
  unfold iblk
  rw [View.read_apply]
  refine Eq.trans (congrArg (V m c main_v1) (funext fun b => Fin.ext ?_)) (rates_at m c a k)
  match b with
  | ⟨0, _⟩ => show 0 * 8 + 1 * a.val = a.val; omega
  | ⟨1, _⟩ => show 0 * 4096 + 1 * k.val = k.val; omega

theorem read_w1 (t : Fin cfg0.N) (k : Fin 4096) (j : Fin 128) :
    (iblk m c 4 t : Vec Ideal S4096x128 .bf16) (ix2 k j) = padded (m ((c : Thread nD τ).loc main_arg3)) k j := by
  unfold iblk
  rw [View.read_apply]
  refine Eq.trans (congrArg (V m c main_v4) (funext fun b => Fin.ext ?_)) (weight1_at m c k j)
  match b with
  | ⟨0, _⟩ => show 0 * 4096 + 1 * k.val = k.val; omega
  | ⟨1, _⟩ => show 0 * 128 + 1 * j.val = j.val; omega

theorem read_w2 (t : Fin cfg0.N) (k : Fin 4096) (j : Fin 128) :
    (iblk m c 5 t : Vec Ideal S4096x128 .bf16) (ix2 k j) = padded (m ((c : Thread nD τ).loc main_arg4)) k j := by
  unfold iblk
  rw [View.read_apply]
  refine Eq.trans (congrArg (V m c main_v7) (funext fun b => Fin.ext ?_)) (weight2_at m c k j)
  match b with
  | ⟨0, _⟩ => show 0 * 4096 + 1 * k.val = k.val; omega
  | ⟨1, _⟩ => show 0 * 128 + 1 * j.val = j.val; omega

theorem read_w3 (t : Fin cfg0.N) (k : Fin 4096) (j : Fin 256) :
    (iblk m c 6 t : Vec Ideal S4096x256 .bf16) (ix2 k j) = m ((c : Thread nD τ).loc main_arg5) (ix3 0 k j) := by
  unfold iblk
  rw [View.read_apply]
  refine Eq.trans (congrArg (V m c main_v9) (funext fun b => Fin.ext ?_)) (weight3_at m c k j)
  match b with
  | ⟨0, _⟩ => show 0 * 4096 + 1 * k.val = k.val; omega
  | ⟨1, _⟩ => show 0 * 256 + 1 * j.val = j.val; omega

/-- The change from a row to the one before it. -/
theorem change_eq (t : Fin cfg0.N) (i : Fin 256) (k : Fin 4096) :
    k0_pay4 (F := Ideal) (grid0.coords t) (iblk m c 0 t) (View.ld (iblk m c 1 t : Vec Ideal S8x4096 .f32) r0_1) (iblk m c 2 t) (ix2 i k)
      = change (m ((c : Thread nD τ).loc main_arg0)) (m ((c : Thread nD τ).loc main_arg1)) (row t i) k := by
  refine (change_at _ _ _ _ i k).trans ?_
  unfold change before
  refine congrArg₂ (fun x y : EReal => x - y) ?_ (read_x m c t i k)
  rw [point_at]
  show _ = if (256 * t.val + i.val) % 2048 = 0 then _ else _
  by_cases h : (256 * t.val + i.val) % 2048 = 0
  · rw [if_pos h, if_pos h]
    exact read_q m c t i k
  · rw [if_neg h, if_neg h]
    by_cases h' : i.val = 0
    · rw [if_pos h', read_p m c t (by omega)]
      refine congrArg (fun a => m ((c : Thread nD τ).loc main_arg0) (ix2 a k)) (Fin.ext ?_)
      show 256 * t.val - 1 = 256 * t.val + i.val - 1
      omega
    · rw [if_neg h', read_x]
      refine congrArg (fun a => m ((c : Thread nD τ).loc main_arg0) (ix2 a k)) (Fin.ext ?_)
      show 256 * t.val + (i.val - 1) = 256 * t.val + i.val - 1
      omega

/-- The `a`th mixture of every row, of the arguments. -/
abbrev mixes (a : Fin 3) (r : Fin 8192) : Fin 4096 → EReal :=
  mixed (m ((c : Thread nD τ).loc main_arg0)) (m ((c : Thread nD τ).loc main_arg1)) (m ((c : Thread nD τ).loc main_arg2)) a r

/-- The mixture with row `a` of the rates. -/
theorem mixture (t : Fin cfg0.N) (a : Fin 3) (i : Fin 256) (k : Fin 4096) :
    moved ((iblk m c 0 t : Vec Ideal S256x4096 .f32) (ix2 i k))
      (k0_pay4 (F := Ideal) (grid0.coords t) (iblk m c 0 t) (View.ld (iblk m c 1 t : Vec Ideal S8x4096 .f32) r0_1) (iblk m c 2 t) (ix2 i k))
      ((iblk m c 3 t : Vec Ideal S8x4096 .f32) (ix2 ⟨a.val, by omega⟩ k))
      = mixes m c a (row t i) k :=
  congr (congrArg₂ moved (read_x m c t i k) (change_eq m c t i k)) (read_u m c t a k)

/-! ## The three results -/

def array1 : S8192x128.Idx → EReal := fun y =>
  Ideal.tanh (dot (mixes m c 0 (y 0)) fun k => padded (m ((c : Thread nD τ).loc main_arg3)) k (y 1))
def array2 : S8192x128.Idx → EReal := fun y => dot (mixes m c 1 (y 0)) fun k => padded (m ((c : Thread nD τ).loc main_arg4)) k (y 1)
def array3 : S8192x256.Idx → EReal := fun y =>
  Ideal.logistic (dot (mixes m c 2 (y 0)) fun k => m ((c : Thread nD τ).loc main_arg5) (ix3 0 k (y 1)))

/-- Where point `t`'s blocks of the results lie, of the first two as of the third. -/
theorem place (t : Fin cfg0.N) (y : S256x128.Idx) :
    (View.emb ((cfg0.win 7).blk t).view y : S8192x128.Idx) = ix2 (row t (y 0)) (y 1) := by
  obtain ⟨h0, h1, _⟩ := out_index t
  refine funext fun a => Fin.ext ?_
  match a with
  | ⟨0, _⟩ => show win0_7.index t 0 * 256 + 1 * (y 0).val = 256 * t.val + (y 0).val; rw [h0]; omega
  | ⟨1, _⟩ => show win0_7.index t 1 * 128 + 1 * (y 1).val = (y 1).val; rw [h1]; omega

theorem place3 (t : Fin cfg0.N) (y : S256x256.Idx) :
    (View.emb ((cfg0.win 9).blk t).view y : S8192x256.Idx) = ix2 (row t (y 0)) (y 1) := by
  obtain ⟨_, _, h0, h1⟩ := out_index t
  refine funext fun a => Fin.ext ?_
  match a with
  | ⟨0, _⟩ => show win0_9.index t 0 * 256 + 1 * (y 0).val = 256 * t.val + (y 0).val; rw [h0]; omega
  | ⟨1, _⟩ => show win0_9.index t 1 * 256 + 1 * (y 1).val = (y 1).val; rw [h1]; omega

theorem flushed_7 (t : Fin cfg0.N) : (dats m 0 c).flushed 7 t = ((cfg0.win 7).blk t).view.read (Elt Ideal) (array1 m c) := by
  rw [Value.flushed7]
  unfold out0_7
  rw [View.canon_unit_zero zero2, View.ld_unit_zero zero2, View.ld_unit_zero zero3, View.ld_unit_zero zero2, View.ld_unit_zero zero2]
  funext y
  rw [View.read_apply]
  refine Eq.trans ?_ (congrArg (array1 m c) (place t y)).symm
  refine (congrArg (k0_pay1 (F := Ideal) _ (iblk m c 4 t)) (ix2_eta y).symm).trans ((pay1_at _ _ _ _).trans ?_)
  exact congrArg Ideal.tanh (congrArg₂ dot (funext fun k => (pay6_at _ _ _ _ _ _ _).trans (mixture m c t 0 (y 0) k))
    (funext fun k => read_w1 m c t k (y 1)))

theorem flushed_8 (t : Fin cfg0.N) : (dats m 0 c).flushed 8 t = ((cfg0.win 8).blk t).view.read (Elt Ideal) (array2 m c) := by
  rw [Value.flushed8]
  unfold out0_8
  rw [View.canon_unit_zero zero2, View.ld_unit_zero zero2, View.ld_unit_zero zero3, View.ld_unit_zero zero2, View.ld_unit_zero zero2]
  funext y
  rw [View.read_apply]
  refine Eq.trans ?_ (congrArg (array2 m c) (place t y)).symm
  refine (congrArg (k0_pay2 (F := Ideal) _ (iblk m c 5 t)) (ix2_eta y).symm).trans ((pay2_at _ _ _ _).trans ?_)
  exact congrArg₂ dot (funext fun k => (pay7_at _ _ _ _ _ _ _).trans (mixture m c t 1 (y 0) k)) (funext fun k => read_w2 m c t k (y 1))

theorem flushed_9 (t : Fin cfg0.N) : (dats m 0 c).flushed 9 t = ((cfg0.win 9).blk t).view.read (Elt Ideal) (array3 m c) := by
  rw [Value.flushed9]
  unfold out0_9
  rw [View.canon_unit_zero zero2, View.ld_unit_zero zero2, View.ld_unit_zero zero3, View.ld_unit_zero zero2, View.ld_unit_zero zero2]
  funext y
  rw [View.read_apply]
  refine Eq.trans ?_ (congrArg (array3 m c) (place3 t y)).symm
  refine (congrArg (k0_pay3 (F := Ideal) _ (iblk m c 6 t)) (ix2_eta y).symm).trans ((pay3_at _ _ _ _).trans ?_)
  exact congrArg Ideal.logistic (congrArg₂ dot (funext fun k => (pay8_at _ _ _ _ _ _ _).trans (mixture m c t 2 (y 0) k))
    (funext fun k => read_w3 m c t k (y 1)))

/-- Every row lies in the block of one point. -/
theorem row_back (i : Fin 8192) : ∃ (t : Fin cfg0.N) (y : Fin 256), row t y = i := by
  have hi := i.isLt
  have hN : cfg0.N = 32 := rfl
  refine ⟨⟨i.val / 256, by omega⟩, ⟨i.val % 256, by omega⟩, Fin.ext ?_⟩
  show 256 * (i.val / 256) + i.val % 256 = i.val
  omega

theorem place_back (i : S8192x128.Idx) : ∃ (t : Fin cfg0.N) (y : S256x128.Idx), (View.emb ((cfg0.win 7).blk t).view y : S8192x128.Idx) = i := by
  obtain ⟨t, y, h⟩ := row_back (i 0)
  exact ⟨t, ix2 y (i 1), (place t _).trans ((congrArg (fun r => (ix2 r (i 1) : S8192x128.Idx)) h).trans (ix2_eta i))⟩

theorem final_7 : (dats m 0 c).arrAt 7 cfg0.N = array1 m c :=
  (dats m 0 c).arrAt_eq_of_cover 7 (array1 m c) (fun t _ => flushed_7 m c t) fun i => by
    obtain ⟨t, y, h⟩ := place_back i
    exact ⟨t, flush0_7 t, mem_of_emb _ h⟩

theorem final_8 : (dats m 0 c).arrAt 8 cfg0.N = array2 m c :=
  (dats m 0 c).arrAt_eq_of_cover 8 (array2 m c) (fun t _ => flushed_8 m c t) fun i => by
    obtain ⟨t, y, h⟩ := place_back i
    exact ⟨t, flush0_8 t, mem_of_emb _ h⟩

theorem final_9 : (dats m 0 c).arrAt 9 cfg0.N = array3 m c :=
  (dats m 0 c).arrAt_eq_of_cover 9 (array3 m c) (fun t _ => flushed_9 m c t) fun i => by
    obtain ⟨t, y, h⟩ := row_back (i 0)
    exact ⟨t, flush0_9 t, mem_of_emb _ ((place3 t (ix2 y (i 1))).trans
      ((congrArg (fun r => (ix2 r (i 1) : S8192x256.Idx)) h).trans (ix2_eta i)))⟩

section Reference

open Cert.Reference12Ideal.Read

variable (h : S8192x4096.Idx → EReal) (s : S4x1x4096.Idx → EReal) (μ : S1x3x4096.Idx → EReal)

/-- Row `p` of sequence `b`. -/
def flat (b : Fin 4) (p : Fin 2048) : Fin 8192 := ⟨b.val * 2048 + p.val, by omega⟩

theorem ref_row (b : Fin 4) (p : Fin 2048) (k : Fin 4096) : val_main_v0 (F := Ideal) h (ix3 b p k) = h (ix2 (flat b p) k) := by
  pointwise [val_main_v0]
  rfl

theorem ref_before (b : Fin 4) (p : Fin 2048) (k : Fin 4096) : val_main_v2 (F := Ideal) h s (ix3 b p k) = before h s (flat b p) k := by
  have hp := p.isLt
  pointwise [val_main_v2, val_main_v1, val_main_v0]
  unfold before
  show _ = if (b.val * 2048 + p.val) % 2048 = 0 then _ else _
  by_cases h0 : p.val < 1
  · have h1 : (b.val * 2048 + p.val) % 2048 = 0 := by omega
    rw [dif_pos h0]
    refine Eq.trans ?_ (if_pos h1).symm
    refine congrArg s (funext fun a => Fin.ext ?_)
    match a with
    | ⟨0, _⟩ => show b.val = (b.val * 2048 + p.val) / 2048; omega
    | ⟨1, _⟩ => show p.val = 0; omega
    | ⟨2, _⟩ => rfl
  · have h1 : ¬ (b.val * 2048 + p.val) % 2048 = 0 := by omega
    rw [dif_neg h0]
    refine Eq.trans ?_ (if_neg h1).symm
    refine congrArg (fun a => h (ix2 a k)) (Fin.ext ?_)
    show b.val * 2048 + (p.val - 1) = b.val * 2048 + p.val - 1
    omega

theorem ref_mixed1 (b : Fin 4) (p : Fin 2048) (k : Fin 4096) : val_main_v9 (F := Ideal) h s μ (ix3 b p k) = mixed h s μ 0 (flat b p) k := by
  unfold mixed moved change
  rw [← ref_row h, ← ref_before h s]
  pointwise [val_main_v9, val_main_v8, val_main_v7, val_main_v6, val_main_v5, val_main_v4, val_main_v3]

theorem ref_mixed2 (b : Fin 4) (p : Fin 2048) (k : Fin 4096) : val_main_v19 (F := Ideal) h s μ (ix3 b p k) = mixed h s μ 1 (flat b p) k := by
  unfold mixed moved change
  rw [← ref_row h, ← ref_before h s]
  pointwise [val_main_v19, val_main_v18, val_main_v17, val_main_v16, val_main_v15, val_main_v14, val_main_v3]

theorem ref_mixed3 (b : Fin 4) (p : Fin 2048) (k : Fin 4096) : val_main_v28 (F := Ideal) h s μ (ix3 b p k) = mixed h s μ 2 (flat b p) k := by
  unfold mixed moved change
  rw [← ref_row h, ← ref_before h s]
  pointwise [val_main_v28, val_main_v27, val_main_v26, val_main_v25, val_main_v24, val_main_v23, val_main_v3]

/-- A product with a column of zeros. -/
theorem dot_zero (x : Fin 4096 → EReal) : dot x (fun _ => 0) = 0 := by
  unfold dot
  simp

theorem tanh_zero : Ideal.tanh 0 = 0 := by
  show ((Real.tanh 0 : ℝ) : EReal) = 0
  simp

/-- The row at a sequence and a position is the row there. -/
theorem flat_back (r : Fin 8192) : flat ⟨r.val / 2048, by omega⟩ ⟨r.val % 2048, by omega⟩ = r := by
  apply Fin.ext
  show r.val / 2048 * 2048 + r.val % 2048 = r.val
  omega

/-- The product of a row with the padded weight is the product with the weight, padded. -/
theorem dot_padded (x : Fin 4096 → EReal) (w : S1x4096x96.Idx → EReal) (j : Fin 128) :
    dot x (fun k => padded w k j) = if h : j.val < 96 then dot x fun k => w (ix3 0 k ⟨j.val, h⟩) else 0 := by
  unfold padded
  split
  · rfl
  · exact dot_zero x

theorem ref1_at (w : S1x4096x96.Idx → EReal) (r : Fin 8192) (j : Fin 128) :
    val_main_v40 (F := Ideal) h s μ w (ix2 r j) = Ideal.tanh (dot (mixed h s μ 0 r) fun k => padded w k j) := by
  have e : mixed h s μ 0 r = fun k => val_main_v9 (F := Ideal) h s μ (ix3 ⟨r.val / 2048, by omega⟩ ⟨r.val % 2048, by omega⟩ k) :=
    funext fun k => ((ref_mixed1 h s μ _ _ k).trans (congrArg (fun r => mixed h s μ 0 r k) (flat_back r))).symm
  rw [e]
  unfold val_main_v40 val_main_v38 val_main_v13 val_main_v12 val_main_v11
  generalize val_main_v9 (F := Ideal) h s μ = f
  pointwise [val_main_v10, val_main_call0_v0, val_main_c]
  rw [zero_word, dot_padded]
  by_cases hj : j.val < 96
  · rw [dif_pos hj, dif_pos hj]; rfl
  · rw [dif_neg hj, dif_neg hj, tanh_zero]

theorem ref2_at (w : S1x4096x96.Idx → EReal) (r : Fin 8192) (j : Fin 128) :
    val_main_v41 (F := Ideal) h s μ w (ix2 r j) = dot (mixed h s μ 1 r) fun k => padded w k j := by
  have e : mixed h s μ 1 r = fun k => val_main_v19 (F := Ideal) h s μ (ix3 ⟨r.val / 2048, by omega⟩ ⟨r.val % 2048, by omega⟩ k) :=
    funext fun k => ((ref_mixed2 h s μ _ _ k).trans (congrArg (fun r => mixed h s μ 1 r k) (flat_back r))).symm
  rw [e]
  unfold val_main_v41 val_main_v39 val_main_v22 val_main_v21
  generalize val_main_v19 (F := Ideal) h s μ = f
  pointwise [val_main_v20, val_main_call1_v0, val_main_c_1]
  rw [zero_word, dot_padded]
  rfl

theorem ref3_at (w : S1x4096x256.Idx → EReal) (r : Fin 8192) (j : Fin 256) :
    val_main_v42 (F := Ideal) h s μ w (ix2 r j) = Ideal.logistic (dot (mixed h s μ 2 r) fun k => w (ix3 0 k j)) := by
  have e : mixed h s μ 2 r = fun k => val_main_v28 (F := Ideal) h s μ (ix3 ⟨r.val / 2048, by omega⟩ ⟨r.val % 2048, by omega⟩ k) :=
    funext fun k => ((ref_mixed3 h s μ _ _ k).trans (congrArg (fun r => mixed h s μ 2 r k) (flat_back r))).symm
  rw [e]
  unfold val_main_v42 val_main_v37 val_main_v36 val_main_v34 val_main_v32 val_main_v31 val_main_v30
  generalize val_main_v28 (F := Ideal) h s μ = f
  unfold dot
  pointwise [val_main_v29, val_main_v33, val_main_v35, val_main_cst, val_main_cst_0]
  rfl

theorem array1_eq : array1 m c = val_main_v40 (F := Ideal) (m ((c : Thread nD τ).loc main_arg0)) (m ((c : Thread nD τ).loc main_arg1))
    (m ((c : Thread nD τ).loc main_arg2)) (m ((c : Thread nD τ).loc main_arg3)) :=
  funext fun y => (ref1_at _ _ _ _ _ _).symm.trans (congrArg _ (ix2_eta y))

theorem array2_eq : array2 m c = val_main_v41 (F := Ideal) (m ((c : Thread nD τ).loc main_arg0)) (m ((c : Thread nD τ).loc main_arg1))
    (m ((c : Thread nD τ).loc main_arg2)) (m ((c : Thread nD τ).loc main_arg4)) :=
  funext fun y => (ref2_at _ _ _ _ _ _).symm.trans (congrArg _ (ix2_eta y))

theorem array3_eq : array3 m c = val_main_v42 (F := Ideal) (m ((c : Thread nD τ).loc main_arg0)) (m ((c : Thread nD τ).loc main_arg1))
    (m ((c : Thread nD τ).loc main_arg2)) (m ((c : Thread nD τ).loc main_arg5)) :=
  funext fun y => (ref3_at _ _ _ _ _ _).symm.trans (congrArg _ (ix2_eta y))

end Reference

end Cert.Kernel12Ideal.Lora

namespace Cert.Proof.Lora

open Idealize.ShloMosaic Idealize.SL.Sem Cert.Kernel12Ideal.Lora

attribute [local instance] Cert.Kernel12.Gen.facts Cert.Kernel12Ideal.Gen.facts Cert.Reference12Ideal.Gen.facts

theorem frame_kernel : Cert.quiescent_Kernel12 := fun m ρ _ => Cert.Kernel12.Gen.frame m ρ
theorem frame_ideal : Cert.quiescent_Kernel12Ideal := fun m ρ _ => Cert.Kernel12Ideal.Gen.frame m ρ

theorem frame_reference : Cert.quiescent_Reference12Ideal := fun m ρ _ =>
  (θ_run Cert.Reference12Ideal.defs _ _).mono
    (fun r h => ⟨fun c => (h c).2.2.2, Idealize.ShloMosaic.sem_eq_zero_of_no_sems (by decide) r.2⟩)
    (Cert.Reference12Ideal.Value.run (F := Ideal) m ρ)

/-- Over the extended reals the three results are the reference's. -/
theorem algebraic : Cert.algebraic_Kernel12Ideal_Reference12Ideal := by
  intro m ρ m' ρ' _ hagree
  refine ⟨fun c => array1 m c, fun c => array2 m c, fun c => array3 m c, ?_, ?_⟩
  · exact (θ_run Cert.Kernel12Ideal.defs _ _).mono
      (fun _ h c => ⟨(h c).1.trans (final_7 m c), (h c).2.1.trans (final_8 m c), (h c).2.2.1.trans (final_9 m c), (h c).2.2.2⟩)
      (Cert.Kernel12Ideal.Value.run_blocks (F := Ideal) m ρ)
  · refine (θ_run Cert.Reference12Ideal.defs _ _).mono
      (fun _ h c => ⟨(h c).1.trans ?_, (h c).2.1.trans ?_, (h c).2.2.1.trans ?_, (h c).2.2.2⟩)
      (Cert.Reference12Ideal.Value.run (F := Ideal) m' ρ')
    all_goals obtain ⟨e0, e1, e2, e3, e4, e5⟩ := hagree c
    · refine (Cert.Reference12Ideal.Read.val_main_v40_eq (F := Ideal) _ _ _ _).trans ?_
      rw [e0, e1, e2, e3]
      exact (array1_eq m c).symm
    · refine (Cert.Reference12Ideal.Read.val_main_v41_eq (F := Ideal) _ _ _ _).trans ?_
      rw [e0, e1, e2, e4]
      exact (array2_eq m c).symm
    · refine (Cert.Reference12Ideal.Read.val_main_v42_eq (F := Ideal) _ _ _ _).trans ?_
      rw [e0, e1, e2, e5]
      exact (array3_eq m c).symm

end Cert.Proof.Lora

end
-- ==== Proof.Prep.lean ====
/-
  WHAT THE RECURRENCE READS: 64 blocks of 128 rows. Each row of the three projections is mixed with the row before it (the first
  row of a sequence with the state), the low-rank products get their second factor, and from them come the decay, the gate and
  the keys. Two of the second factors have 96 rows, of which the kernel multiplies 128, the last 32 with zeros.
-/
module

public import proofs.«01_k».proof.Defs
public import proofs.«01_k».proof.Proof.Common
public import proofs.«01_k».proof.Proof.FirstRow
public import proofs.«01_k».proof.Proof.ZeroPad
public import proofs.«01_k».proof.Proof.NormMath
public import proofs.«01_k».proof.Proof.Lora
public import proofs.«01_k».proof.Proof.Gen.Kernel14.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import Idealize.ShloMosaic.Lib.Claim
public import Idealize.ShloMosaic.Lib.Pointwise

@[expose] public section

set_option maxRecDepth 16384

noncomputable section

namespace Cert.Kernel14Ideal.Prep

open Cert.Kernel14Ideal Cert.Kernel14Ideal.Gen Idealize.ShloMosaic Idealize.ShloMosaic.TcCoe Idealize.SL.Sem
open Idealize.ShloMosaic.Pipeline (Dat)
open Idealize.ShloMosaic.Pointwise
open Cert.Proof.Common
open Cert.Proof.FirstRow (mem_of_emb)
open Cert.Proof.ZeroPad (zero_word)
open Cert.Proof.Norm (seq)

variable (m : (ℓ : Loc nD τ sig) → Buf (Elt Ideal) ℓ) (c : Dev nD)

/-- Column `k` of the `a`th projection. -/
def col (a : Fin 3) (k : Fin 2048) : Fin 6144 := ⟨2048 * a.val + k.val, by omega⟩

theorem col_zero (k : Fin 2048) : col 0 k = ⟨k.val, by omega⟩ := Fin.ext (show 2048 * 0 + k.val = k.val by omega)

/-- The entry before row `r`'s, in its sequence. -/
def before (p : S8192x6144.Idx → EReal) (s : S4x1x6144.Idx → EReal) (r : Fin 8192) (k : Fin 6144) : EReal :=
  if r.val % 2048 = 0 then s (ix3 (seq r) 0 k) else p (ix2 ⟨r.val - 1, by omega⟩ k)

/-- `x` moved towards `b` by the part `μ`. -/
def toward (x b μ : EReal) : EReal := x + (b - x) * μ

/-- The `a`th mixture. -/
def mixed (p : S8192x6144.Idx → EReal) (s : S4x1x6144.Idx → EReal) (μ : S1x3x2048.Idx → EReal) (a : Fin 3) (r : Fin 8192) (k : Fin 2048) : EReal :=
  toward (p (ix2 r (col a k))) (before p s r (col a k)) (μ (ix3 0 a k))

/-- A row with a column. -/
def dot {n : ℕ} (x w : Fin n → EReal) : EReal := ∑ k, x k * w k

/-- A second factor of 96 rows, with 32 rows of zeros after them. -/
def padded (w : S1x96x2048.Idx → EReal) (j : Fin 128) (k : Fin 2048) : EReal := if h : j.val < 96 then w (ix3 0 ⟨j.val, h⟩ k) else 0

/-- Rows of zeros add nothing. -/
theorem dot_padded (x : Fin 128 → EReal) (w : S1x96x2048.Idx → EReal) (k : Fin 2048) :
    dot x (fun j => padded w j k) = dot (fun j : Fin 96 => x ⟨j.val, by omega⟩) (fun j => w (ix3 0 j k)) := by
  unfold dot padded
  refine (Fin.sum_univ_add (a := 96) (b := 32) _).trans ?_
  refine (congrArg₂ (fun a b : EReal => a + b) (Finset.sum_congr rfl fun j _ => ?_) (Finset.sum_eq_zero fun j _ => ?_)).trans (add_zero _)
  · exact congrArg (fun a => x _ * a) (dif_pos (show (Fin.castAdd 32 j).val < 96 from j.isLt))
  · exact (congrArg (fun a => x _ * a) (dif_neg (show ¬ (Fin.natAdd 96 j).val < 96 by show ¬ 96 + j.val < 96; omega))).trans (mul_zero _)

/-- A vector's entry and a product. -/
def plus (a b : EReal) : EReal := a + b

/-- The decay at `z`. -/
def decay (z : EReal) : EReal :=
  -Ideal.exp (-(max (-z) 0 + Ideal.log1p (Ideal.exp (-(FloatOps.absf (F := Ideal) (φ := .f32) (-z) : EReal))))
    - Ideal.ofBits .f32 0x3F000000#32)

/-- A key with its gate. -/
def gated (x z κ : EReal) : EReal :=
  x * (FloatOps.ofBits (F := Ideal) .f32 0x3F800000#32 + (Ideal.logistic z - FloatOps.ofBits (F := Ideal) .f32 0x3F800000#32) * κ)

/-! ## The body's values -/

theorem start_word (n : Fin 64) (i : Fin 128) :
    IntOp.cmpi CmpIPredicate.eq (IntOp.addi (BitVec.ofNat 32 i.val) (Scalar.remsi (Scalar.muli (BitVec.ofNat 32 n.val) 128#32) 2048#32)) 0#32
      = if (128 * n.val + i.val) % 2048 = 0 then 1#1 else 0#1 := by
  revert n i; decide +kernel

theorem first_word (i : Fin 128) :
    IntOp.cmpi CmpIPredicate.eq (BitVec.ofNat 32 i.val) 0#32 = if i.val = 0 then 1#1 else 0#1 := by
  revert i; decide +kernel

theorem before_at (n : Fin 64) (x : Vec Ideal S128x6144 .f32) (p : Vec Ideal S1x6144 .f32) (q : Vec Ideal S1x1x6144 .f32)
    (i : Fin 128) (k : Fin 6144) :
    k0_pay16 (F := Ideal) (k0_pay13 x p) (k0_pay14 (BitVec.ofNat 32 n.val)) (k0_pay15 q) (ix2 i k)
      = (if (128 * n.val + i.val) % 2048 = 0 then q (ix3 0 0 k) else if i.val = 0 then p (ix2 0 k)
          else x (ix2 ⟨i.val - 1, by omega⟩ k)) := by
  pointwise [k0_pay16, k0_pay13, k0_pay14, k0_pay15]
  rw [start_word n i, first_word i]
  by_cases h : (128 * n.val + i.val) % 2048 = 0
  · rw [if_pos h, if_pos h]; rfl
  · rw [if_neg h, if_neg h]
    by_cases h' : i.val = 0
    · rw [if_pos h', if_pos h']; rfl
    · rw [if_neg h', if_neg h']
      refine congrArg (fun a => x (ix2 a k)) (Fin.ext ?_)
      show (i.val + 128 - 1) % 128 = i.val - 1
      omega

variable (u : Vec Ideal S8x2048 .f32) (x a : FVec Ideal S128x6144 .f32) (b : IVec S128x6144 1) (d : FVec Ideal S128x6144 .f32)

theorem pay17_at (i : Fin 128) (k : Fin 2048) :
    k0_pay17 (F := Ideal) (k0_pay6 u) x a b d (ix2 i k) = toward (x (ix2 i (col 0 k))) (k0_pay16 (F := Ideal) a b d (ix2 i (col 0 k))) (u (ix2 0 k)) := by
  rw [col_zero]
  unfold toward k0_pay17
  generalize k0_pay16 (F := Ideal) a b d = e
  pointwise [k0_pay6]

theorem pay18_at (i : Fin 128) (k : Fin 2048) :
    k0_pay18 (F := Ideal) (k0_pay6 u) x a b d (ix2 i k) = toward (x (ix2 i (col 1 k))) (k0_pay16 (F := Ideal) a b d (ix2 i (col 1 k))) (u (ix2 1 k)) := by
  unfold toward k0_pay18
  generalize k0_pay16 (F := Ideal) a b d = e
  pointwise [k0_pay6]
  rfl

theorem pay19_at (i : Fin 128) (k : Fin 2048) :
    k0_pay19 (F := Ideal) (k0_pay6 u) x a b d (ix2 i k) = toward (x (ix2 i (col 2 k))) (k0_pay16 (F := Ideal) a b d (ix2 i (col 2 k))) (u (ix2 2 k)) := by
  unfold toward k0_pay19
  generalize k0_pay16 (F := Ideal) a b d = e
  pointwise [k0_pay6]
  rfl

theorem decay_at (w : Vec Ideal S128x2048 .bf16) (y : Vec Ideal S128x128 .bf16) (i : Fin 128) (k : Fin 2048) :
    k0_pay21 (F := Ideal) (k0_pay20 (k0_pay8 u) y w) (Scalar.ofBits .f32 0x00000000#32) (ix2 i k)
      = decay (plus (u (ix2 0 k)) (dot (fun j => y (ix2 i j)) (fun j => w (ix2 j k)))) := by
  unfold dot plus
  pointwise [k0_pay21, k0_pay20, k0_pay8, k0_pay7]
  simp only [ne_eq, not_true_eq_false, if_false, zero_sub]
  rfl

theorem key_at (w : Vec Ideal S128x2048 .bf16) (y : Vec Ideal S128x128 .bf16) (z : FVec Ideal S128x2048 .f32) (i : Fin 128) (k : Fin 2048) :
    k0_pay25 (F := Ideal) (k0_pay9 u) (k0_pay11 u) z y w (ix2 i k)
      = gated (z (ix2 i k)) (plus (u (ix2 1 k)) (dot (fun j => y (ix2 i j)) (fun j => w (ix2 j k)))) (u (ix2 3 k)) := by
  unfold dot plus gated
  pointwise [k0_pay25, k0_pay22, k0_pay9, k0_pay11, k0_pay7]

theorem out_at (w : Vec Ideal S256x2048 .bf16) (y : Vec Ideal S128x256 .bf16) (i : Fin 128) (k : Fin 2048) :
    k0_pay23 (F := Ideal) y w (ix2 i k) = dot (fun j => y (ix2 i j)) (fun j => w (ix2 j k)) := by
  unfold dot
  pointwise [k0_pay23]

/-! ## The arrays that the host prepares -/

/-- The rates as the host pads them. -/
theorem rates_padded (μ : S1x3x2048.Idx → EReal) (a : Fin 3) (k : Fin 2048) :
    (pad S8x2048 ![0, 0] ![5, 0] ![0, 0] (shapeCast S3x2048 μ shapeCasts_S1x3x2048_S3x2048)
      (sitofp (F := Ideal) .f32 (constantI S_ 32 0#32)) pads_S3x2048_S8x2048_050_000 h_S_ : S8x2048.Idx → EReal) (ix2 ⟨a.val, by omega⟩ k)
      = μ (ix3 0 a k) := by
  pointwise []

theorem rates_at (a : Fin 3) (k : Fin 2048) :
    (V m c main_v20 : S8x2048.Idx → EReal) (ix2 ⟨a.val, by omega⟩ k) = m ((c : Thread nD τ).loc main_arg8) (ix3 0 a k) := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  exact rates_padded _ a k

/-- A second factor as the host pads it. -/
theorem padded_at (w : S1x96x2048.Idx → EReal) (j : Fin 128) (k : Fin 2048) :
    (truncf (F := Ideal) .bf16 (pad S128x2048 ![0, 0] ![32, 0] ![0, 0] (shapeCast S96x2048 w shapeCasts_S1x96x2048_S96x2048)
      (sitofp (F := Ideal) .f32 (constantI S_ 32 0#32)) pads_S96x2048_S128x2048_0320_000 h_S_) bitsLt_bf16_f32 : S128x2048.Idx → EReal) (ix2 j k)
      = padded w j k := by
  pointwise []
  rw [zero_word]
  unfold padded
  rfl

theorem weight1_at (j : Fin 128) (k : Fin 2048) :
    (V m c main_v2 : S128x2048.Idx → EReal) (ix2 j k) = padded (m ((c : Thread nD τ).loc main_arg5)) j k := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  exact padded_at _ j k

theorem weight2_at (j : Fin 128) (k : Fin 2048) :
    (V m c main_v5 : S128x2048.Idx → EReal) (ix2 j k) = padded (m ((c : Thread nD τ).loc main_arg6)) j k := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  exact padded_at _ j k

theorem weight3_at (j : Fin 256) (k : Fin 2048) :
    (V m c main_v22 : S256x2048.Idx → EReal) (ix2 j k) = m ((c : Thread nD τ).loc main_arg7) (ix3 0 j k) := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  pointwise []

/-- A vector as the host stacks it. -/
abbrev layer (v : S1x2048.Idx → EReal) : S1x2048.Idx → EReal :=
  broadcastInDim S1x2048 ![1] bcast_S2048_S1x2048_1 (shapeCast S2048 v shapeCasts_S1x2048_S2048 : S2048.Idx → EReal)

/-- The five vectors as the host stacks and pads them. -/
abbrev stack (v0 v1 v2 v3 v4 : S1x2048.Idx → EReal) : S8x2048.Idx → EReal :=
  pad S8x2048 ![0, 0] ![3, 0] ![0, 0]
    (concatenate S5x2048 0 [⟨S1x2048, v0⟩, ⟨S1x2048, v1⟩, ⟨S1x2048, v2⟩, ⟨S1x2048, v3⟩, ⟨S1x2048, v4⟩]
      concatenates_S1x2048_S1x2048_S1x2048_S1x2048_S1x2048_S5x2048_d0)
    (sitofp (F := Ideal) .f32 (constantI S_ 32 0#32)) pads_S5x2048_S8x2048_030_000 h_S_

theorem layer_at (v : S1x2048.Idx → EReal) (k : Fin 2048) : layer v (ix2 0 k) = v (ix2 0 k) := by
  unfold layer
  pointwise []

theorem stack_at (v0 v1 v2 v3 v4 : S1x2048.Idx → EReal) (k : Fin 2048) :
    stack v0 v1 v2 v3 v4 (ix2 0 k) = v0 (ix2 0 k) ∧ stack v0 v1 v2 v3 v4 (ix2 1 k) = v1 (ix2 0 k)
      ∧ stack v0 v1 v2 v3 v4 (ix2 3 k) = v3 (ix2 0 k) := by
  unfold stack
  refine ⟨?_, ?_, ?_⟩ <;> pointwise []

/-- A line run in two parts. -/
theorem after_parts (n : Nat) (l : List (HloOp τ sig (Elt Ideal))) (W : Valuation τ sig (Elt Ideal)) :
    StableHlo.after l W = StableHlo.after (l.drop n) (StableHlo.after (l.take n) W) := by
  rw [← StableHlo.after_append, List.take_append_drop]

section
variable (W : Valuation τ sig (Elt Ideal))

/-- The vectors with their padding, from the five rows and the fill. -/
theorem padded_rows :
    (StableHlo.after ([hostOps0_5, hostOps0_6, hostOps0_7, hostOps0_8].flatten) W main_v18 : S8x2048.Idx → EReal)
      = pad S8x2048 ![0, 0] ![3, 0] ![0, 0] (W main_v17 : S5x2048.Idx → EReal) (sitofp (F := Ideal) .f32 (W main_c_1 : S_.Idx → BitVec 32)) pads_S5x2048_S8x2048_030_000 h_S_ := by
  simp only [hostOps0_5, hostOps0_6, hostOps0_7, hostOps0_8, List.flatten_cons, List.flatten_nil, List.append_nil, List.cons_append, List.nil_append]
  entry_read
  rfl

/-- The five rows one below the other. -/
theorem five_rows :
    (StableHlo.after ((hostOps0_4 : List (HloOp τ sig (Elt Ideal))).drop 12) W main_v17 : S5x2048.Idx → EReal)
      = concatenate S5x2048 0 [⟨S1x2048, W main_v12⟩, ⟨S1x2048, W main_v13⟩, ⟨S1x2048, W main_v14⟩, ⟨S1x2048, W main_v15⟩, ⟨S1x2048, W main_v16⟩]
          concatenates_S1x2048_S1x2048_S1x2048_S1x2048_S1x2048_S5x2048_d0 := by
  simp only [hostOps0_4, List.drop_succ_cons, List.drop_zero, StableHlo.after_cons, StableHlo.after_nil]
  rw [StableHlo.nullary_result_ne' (h := by decide), StableHlo.nary_result']
  rfl

/-- The fill is zero. -/
theorem fill_read :
    (StableHlo.after ((hostOps0_4 : List (HloOp τ sig (Elt Ideal))).drop 12) W main_c_1 : S_.Idx → BitVec 32) = constantI S_ 32 0#32 := by
  simp only [hostOps0_4, List.drop_succ_cons, List.drop_zero, StableHlo.after_cons, StableHlo.after_nil]
  rw [StableHlo.nullary_result']

/-- Three of the rows, each a vector of the layer. -/
theorem rows_read :
    (StableHlo.after ((hostOps0_4 : List (HloOp τ sig (Elt Ideal))).take 12) W main_v12 : S1x2048.Idx → EReal) = layer (W main_arg9)
    ∧ (StableHlo.after ((hostOps0_4 : List (HloOp τ sig (Elt Ideal))).take 12) W main_v13 : S1x2048.Idx → EReal) = layer (W main_arg10)
    ∧ (StableHlo.after ((hostOps0_4 : List (HloOp τ sig (Elt Ideal))).take 12) W main_v15 : S1x2048.Idx → EReal) = layer (W main_arg12) := by
  simp only [hostOps0_4, List.take_succ_cons, List.take_zero]
  refine ⟨?_, ?_, ?_⟩ <;> entry_read <;> rfl

/-- What is prepared before the rows leaves the vectors alone. -/
theorem start_read :
    (StableHlo.after ([hostOps0, hostOps0_1, hostOps0_2, hostOps0_3].flatten) W main_arg9 : S1x2048.Idx → EReal) = W main_arg9
    ∧ (StableHlo.after ([hostOps0, hostOps0_1, hostOps0_2, hostOps0_3].flatten) W main_arg10 : S1x2048.Idx → EReal) = W main_arg10
    ∧ (StableHlo.after ([hostOps0, hostOps0_1, hostOps0_2, hostOps0_3].flatten) W main_arg12 : S1x2048.Idx → EReal) = W main_arg12 := by
  simp only [hostOps0, hostOps0_1, hostOps0_2, hostOps0_3, List.flatten_cons, List.flatten_nil, List.append_nil, List.cons_append, List.nil_append]
  refine ⟨?_, ?_, ?_⟩ <;> entry_read <;> rfl

end

/-- The three vectors of the claimed results, in rows 0, 1 and 3. -/
theorem vectors_at (k : Fin 2048) :
    (V m c main_v18 : S8x2048.Idx → EReal) (ix2 0 k) = m ((c : Thread nD τ).loc main_arg9) (ix2 0 k)
      ∧ (V m c main_v18 : S8x2048.Idx → EReal) (ix2 1 k) = m ((c : Thread nD τ).loc main_arg10) (ix2 0 k)
      ∧ (V m c main_v18 : S8x2048.Idx → EReal) (ix2 3 k) = m ((c : Thread nD τ).loc main_arg12) (ix2 0 k) := by
  let W0 : Valuation τ sig (Elt Ideal) := fun b => m (c, b)
  let W1 := StableHlo.after ([hostOps0, hostOps0_1, hostOps0_2, hostOps0_3].flatten) W0
  let W2 := StableHlo.after ((hostOps0_4 : List (HloOp τ sig (Elt Ideal))).take 12) W1
  have read : (V m c main_v18 : S8x2048.Idx → EReal) = stack (W2 main_v12) (W2 main_v13) (W2 main_v14) (W2 main_v15) (W2 main_v16) := by
    have parts : (V m c main_v18 : S8x2048.Idx → EReal)
        = StableHlo.after ([hostOps0_5, hostOps0_6, hostOps0_7, hostOps0_8].flatten) (StableHlo.after hostOps0_4 W1) main_v18 := by
      unfold W1
      rw [← StableHlo.after_append, ← StableHlo.after_append]
      rfl
    rw [parts, padded_rows, after_parts 12, five_rows, fill_read]
  obtain ⟨h0, h1, h3⟩ := stack_at (W2 main_v12) (W2 main_v13) (W2 main_v14) (W2 main_v15) (W2 main_v16) k
  obtain ⟨r0, r1, r3⟩ := rows_read W1
  obtain ⟨s0, s1, s3⟩ := start_read W0
  rw [read, h0, h1, h3]
  refine ⟨?_, ?_, ?_⟩
  · exact (congrFun r0 _).trans ((layer_at _ k).trans (congrFun s0 _))
  · exact (congrFun r1 _).trans ((layer_at _ k).trans (congrFun s1 _))
  · exact (congrFun r3 _).trans ((layer_at _ k).trans (congrFun s3 _))

/-! ## What each point reads -/

/-- Row `i` of point `t`'s block. -/
def row (t : Fin cfg0.N) (i : Fin 128) : Fin 8192 := ⟨128 * t.val + i.val, by have := t.isLt; have : cfg0.N = 64 := rfl; omega⟩

theorem point_at : ∀ t : Fin cfg0.N, (grid0.coords t 0).val = t.val :=
  (by decide +kernel : ∀ t : Fin grid0.N, _)

theorem index_x : ∀ t : Fin cfg0.N, win0_0.index t (0 : Fin 2) = t.val ∧ win0_0.index t (1 : Fin 2) = 0 :=
  (by decide +kernel : ∀ t : Fin grid0.N, _)

theorem index_p : ∀ t : Fin cfg0.N, win0_1.index t (0 : Fin 2) = 16 * t.val - 1 ∧ win0_1.index t (1 : Fin 2) = 0 :=
  (by decide +kernel : ∀ t : Fin grid0.N, _)

theorem index_q : ∀ t : Fin cfg0.N, win0_2.index t (0 : Fin 3) = t.val / 16 ∧ win0_2.index t (1 : Fin 3) = 0 ∧ win0_2.index t (2 : Fin 3) = 0 :=
  (by decide +kernel : ∀ t : Fin grid0.N, _)

theorem index_w : ∀ t : Fin cfg0.N, win0_3.index t (0 : Fin 2) = t.val ∧ win0_3.index t (1 : Fin 2) = 0 :=
  (by decide +kernel : ∀ t : Fin grid0.N, _)

theorem index_a : ∀ t : Fin cfg0.N, win0_4.index t (0 : Fin 2) = t.val ∧ win0_4.index t (1 : Fin 2) = 0 :=
  (by decide +kernel : ∀ t : Fin grid0.N, _)

theorem index_g : ∀ t : Fin cfg0.N, win0_5.index t (0 : Fin 2) = t.val ∧ win0_5.index t (1 : Fin 2) = 0 :=
  (by decide +kernel : ∀ t : Fin grid0.N, _)

theorem out_index : ∀ t : Fin cfg0.N, win0_11.index t (0 : Fin 2) = t.val ∧ win0_11.index t (1 : Fin 2) = 0 :=
  (by decide +kernel : ∀ t : Fin grid0.N, _)

theorem read_x (t : Fin cfg0.N) (i : Fin 128) (k : Fin 6144) :
    (iblk m c 0 t : Vec Ideal S128x6144 .f32) (ix2 i k) = m ((c : Thread nD τ).loc main_arg0) (ix2 (row t i) k) := by
  obtain ⟨h0, h1⟩ := index_x t
  unfold iblk
  rw [View.read_apply]
  refine Eq.trans (congrArg (V m c main_arg0) (funext fun a => Fin.ext ?_)) (congrFun (V_main_arg0 m c) (ix2 (row t i) k))
  match a with
  | ⟨0, _⟩ => show win0_0.index t 0 * 128 + 1 * i.val = 128 * t.val + i.val; rw [h0]; omega
  | ⟨1, _⟩ => show win0_0.index t 1 * 6144 + 1 * k.val = k.val; rw [h1]; omega

/-- The row before the block, if there is one. -/
theorem read_p (t : Fin cfg0.N) (h : 0 < t.val) (k : Fin 6144) :
    View.ld (iblk m c 1 t : Vec Ideal S8x6144 .f32) r0_2 (ix2 0 k)
      = m ((c : Thread nD τ).loc main_arg0) (ix2 ⟨128 * t.val - 1, by have := t.isLt; have : cfg0.N = 64 := rfl; omega⟩ k) := by
  obtain ⟨h0, h1⟩ := index_p t
  show (iblk m c 1 t : Vec Ideal S8x6144 .f32) (r0_2.idx (ix2 0 k)) = _
  unfold iblk
  rw [View.read_apply]
  refine Eq.trans (congrArg (V m c main_arg0) (funext fun a => Fin.ext ?_)) (congrFun (V_main_arg0 m c) (ix2 _ k))
  match a with
  | ⟨0, _⟩ => show win0_1.index t 0 * 8 + 1 * (7 + 1 * 0) = 128 * t.val - 1; rw [h0]; omega
  | ⟨1, _⟩ => show win0_1.index t 1 * 6144 + 1 * (0 + 1 * k.val) = k.val; rw [h1]; omega

/-- The state of the block's sequence. -/
theorem read_q (t : Fin cfg0.N) (i : Fin 128) (k : Fin 6144) :
    (iblk m c 2 t : Vec Ideal S1x1x6144 .f32) (ix3 0 0 k) = m ((c : Thread nD τ).loc main_arg1) (ix3 (seq (row t i)) 0 k) := by
  obtain ⟨h0, h1, h2⟩ := index_q t
  have hi := i.isLt
  unfold iblk
  rw [View.read_apply]
  refine Eq.trans (congrArg (V m c main_arg1) (funext fun a => Fin.ext ?_)) (congrFun (V_main_arg1 m c) (ix3 (seq (row t i)) 0 k))
  match a with
  | ⟨0, _⟩ => show win0_2.index t 0 * 1 + 1 * 0 = (128 * t.val + i.val) / 2048; rw [h0]; omega
  | ⟨1, _⟩ => show win0_2.index t 1 * 1 + 1 * 0 = 0; rw [h1]
  | ⟨2, _⟩ => show win0_2.index t 2 * 6144 + 1 * k.val = k.val; rw [h2]; omega

theorem read_w (t : Fin cfg0.N) (i : Fin 128) (k : Fin 128) :
    (iblk m c 3 t : Vec Ideal S128x128 .bf16) (ix2 i k) = m ((c : Thread nD τ).loc main_arg2) (ix2 (row t i) k) := by
  obtain ⟨h0, h1⟩ := index_w t
  unfold iblk
  rw [View.read_apply]
  refine Eq.trans (congrArg (V m c main_arg2) (funext fun a => Fin.ext ?_)) (congrFun (V_main_arg2 m c) (ix2 (row t i) k))
  match a with
  | ⟨0, _⟩ => show win0_3.index t 0 * 128 + 1 * i.val = 128 * t.val + i.val; rw [h0]; omega
  | ⟨1, _⟩ => show win0_3.index t 1 * 128 + 1 * k.val = k.val; rw [h1]; omega

theorem read_a (t : Fin cfg0.N) (i : Fin 128) (k : Fin 128) :
    (iblk m c 4 t : Vec Ideal S128x128 .bf16) (ix2 i k) = m ((c : Thread nD τ).loc main_arg3) (ix2 (row t i) k) := by
  obtain ⟨h0, h1⟩ := index_a t
  unfold iblk
  rw [View.read_apply]
  refine Eq.trans (congrArg (V m c main_arg3) (funext fun a => Fin.ext ?_)) (congrFun (V_main_arg3 m c) (ix2 (row t i) k))
  match a with
  | ⟨0, _⟩ => show win0_4.index t 0 * 128 + 1 * i.val = 128 * t.val + i.val; rw [h0]; omega
  | ⟨1, _⟩ => show win0_4.index t 1 * 128 + 1 * k.val = k.val; rw [h1]; omega

theorem read_g (t : Fin cfg0.N) (i : Fin 128) (k : Fin 256) :
    (iblk m c 5 t : Vec Ideal S128x256 .bf16) (ix2 i k) = m ((c : Thread nD τ).loc main_arg4) (ix2 (row t i) k) := by
  obtain ⟨h0, h1⟩ := index_g t
  unfold iblk
  rw [View.read_apply]
  refine Eq.trans (congrArg (V m c main_arg4) (funext fun a => Fin.ext ?_)) (congrFun (V_main_arg4 m c) (ix2 (row t i) k))
  match a with
  | ⟨0, _⟩ => show win0_5.index t 0 * 128 + 1 * i.val = 128 * t.val + i.val; rw [h0]; omega
  | ⟨1, _⟩ => show win0_5.index t 1 * 256 + 1 * k.val = k.val; rw [h1]; omega

theorem read_w2 (t : Fin cfg0.N) (j : Fin 128) (k : Fin 2048) :
    (iblk m c 6 t : Vec Ideal S128x2048 .bf16) (ix2 j k) = padded (m ((c : Thread nD τ).loc main_arg5)) j k := by
  unfold iblk
  rw [View.read_apply]
  refine Eq.trans (congrArg (V m c main_v2) (funext fun b => Fin.ext ?_)) (weight1_at m c j k)
  match b with
  | ⟨0, _⟩ => show 0 * 128 + 1 * j.val = j.val; omega
  | ⟨1, _⟩ => show 0 * 2048 + 1 * k.val = k.val; omega

theorem read_a2 (t : Fin cfg0.N) (j : Fin 128) (k : Fin 2048) :
    (iblk m c 7 t : Vec Ideal S128x2048 .bf16) (ix2 j k) = padded (m ((c : Thread nD τ).loc main_arg6)) j k := by
  unfold iblk
  rw [View.read_apply]
  refine Eq.trans (congrArg (V m c main_v5) (funext fun b => Fin.ext ?_)) (weight2_at m c j k)
  match b with
  | ⟨0, _⟩ => show 0 * 128 + 1 * j.val = j.val; omega
  | ⟨1, _⟩ => show 0 * 2048 + 1 * k.val = k.val; omega

theorem read_g2 (t : Fin cfg0.N) (j : Fin 256) (k : Fin 2048) :
    (iblk m c 8 t : Vec Ideal S256x2048 .bf16) (ix2 j k) = m ((c : Thread nD τ).loc main_arg7) (ix3 0 j k) := by
  unfold iblk
  rw [View.read_apply]
  refine Eq.trans (congrArg (V m c main_v22) (funext fun b => Fin.ext ?_)) (weight3_at m c j k)
  match b with
  | ⟨0, _⟩ => show 0 * 256 + 1 * j.val = j.val; omega
  | ⟨1, _⟩ => show 0 * 2048 + 1 * k.val = k.val; omega

theorem read_u (t : Fin cfg0.N) (a : Fin 3) (k : Fin 2048) :
    (iblk m c 9 t : Vec Ideal S8x2048 .f32) (ix2 ⟨a.val, by omega⟩ k) = m ((c : Thread nD τ).loc main_arg8) (ix3 0 a k) := by
  unfold iblk
  rw [View.read_apply]
  refine Eq.trans (congrArg (V m c main_v20) (funext fun b => Fin.ext ?_)) (rates_at m c a k)
  match b with
  | ⟨0, _⟩ => show 0 * 8 + 1 * a.val = a.val; omega
  | ⟨1, _⟩ => show 0 * 2048 + 1 * k.val = k.val; omega

theorem read_v (t : Fin cfg0.N) (a : Fin 8) (k : Fin 2048) :
    (iblk m c 10 t : Vec Ideal S8x2048 .f32) (ix2 a k) = (V m c main_v18 : S8x2048.Idx → EReal) (ix2 a k) := by
  unfold iblk
  rw [View.read_apply]
  refine Eq.trans (congrArg (V m c main_v18) (funext fun b => Fin.ext ?_)) (rfl)
  match b with
  | ⟨0, _⟩ => show 0 * 8 + 1 * a.val = a.val; omega
  | ⟨1, _⟩ => show 0 * 2048 + 1 * k.val = k.val; omega

/-- The row before. -/
theorem before_eq (t : Fin cfg0.N) (i : Fin 128) (k : Fin 6144) :
    k0_pay16 (F := Ideal) (k0_pay13 (iblk m c 0 t) (View.ld (iblk m c 1 t : Vec Ideal S8x6144 .f32) r0_2))
      (k0_pay14 (BitVec.ofNat 32 (grid0.coords t 0).val)) (k0_pay15 (iblk m c 2 t)) (ix2 i k)
      = before (m ((c : Thread nD τ).loc main_arg0)) (m ((c : Thread nD τ).loc main_arg1)) (row t i) k := by
  refine (before_at ⟨(grid0.coords t 0).val, (grid0.coords t 0).isLt⟩ _ _ _ i k).trans ?_
  unfold before
  show (if (128 * (grid0.coords t 0).val + i.val) % 2048 = 0 then _ else _) = if (128 * t.val + i.val) % 2048 = 0 then _ else _
  rw [point_at]
  by_cases h : (128 * t.val + i.val) % 2048 = 0
  · rw [if_pos h, if_pos h]
    exact read_q m c t i k
  · rw [if_neg h, if_neg h]
    by_cases h' : i.val = 0
    · rw [if_pos h', read_p m c t (by omega)]
      refine congrArg (fun a => m ((c : Thread nD τ).loc main_arg0) (ix2 a k)) (Fin.ext ?_)
      show 128 * t.val - 1 = 128 * t.val + i.val - 1
      omega
    · rw [if_neg h', read_x]
      refine congrArg (fun a => m ((c : Thread nD τ).loc main_arg0) (ix2 a k)) (Fin.ext ?_)
      show 128 * t.val + (i.val - 1) = 128 * t.val + i.val - 1
      omega

/-- The `a`th mixture of every row, of the arguments. -/
abbrev mixes (a : Fin 3) (r : Fin 8192) : Fin 2048 → EReal := mixed (m ((c : Thread nD τ).loc main_arg0)) (m ((c : Thread nD τ).loc main_arg1)) (m ((c : Thread nD τ).loc main_arg8)) a r

/-- The mixture with row `a` of the rates. -/
theorem mixture (t : Fin cfg0.N) (a : Fin 3) (i : Fin 128) (k : Fin 2048) :
    toward ((iblk m c 0 t : Vec Ideal S128x6144 .f32) (ix2 i (col a k)))
      (k0_pay16 (F := Ideal) (k0_pay13 (iblk m c 0 t) (View.ld (iblk m c 1 t : Vec Ideal S8x6144 .f32) r0_2))
        (k0_pay14 (BitVec.ofNat 32 (grid0.coords t 0).val)) (k0_pay15 (iblk m c 2 t)) (ix2 i (col a k)))
      ((iblk m c 9 t : Vec Ideal S8x2048 .f32) (ix2 ⟨a.val, by omega⟩ k))
      = mixes m c a (row t i) k :=
  congr (congrArg₂ toward (read_x m c t i (col a k)) (before_eq m c t i (col a k))) (read_u m c t a k)

/-! ## The five results -/

/-- The low-rank part of the decay. -/
def rankW (r : Fin 8192) (k : Fin 2048) : EReal :=
  plus (m ((c : Thread nD τ).loc main_arg9) (ix2 0 k)) (dot (fun j => m ((c : Thread nD τ).loc main_arg2) (ix2 r j)) (fun j => padded (m ((c : Thread nD τ).loc main_arg5)) j k))

/-- The low-rank part of the gate. -/
def rankA (r : Fin 8192) (k : Fin 2048) : EReal :=
  plus (m ((c : Thread nD τ).loc main_arg10) (ix2 0 k)) (dot (fun j => m ((c : Thread nD τ).loc main_arg3) (ix2 r j)) (fun j => padded (m ((c : Thread nD τ).loc main_arg6)) j k))

def array1 : S8192x2048.Idx → EReal := fun y => mixes m c 0 (y 0) (y 1)
def array2 : S8192x2048.Idx → EReal := fun y => decay (rankW m c (y 0) (y 1))
def array3 : S8192x2048.Idx → EReal := fun y =>
  gated (mixes m c 1 (y 0) (y 1)) (rankA m c (y 0) (y 1)) (m ((c : Thread nD τ).loc main_arg12) (ix2 0 (y 1)))
def array4 : S8192x2048.Idx → EReal := fun y => mixes m c 2 (y 0) (y 1)
def array5 : S8192x2048.Idx → EReal := fun y =>
  dot (fun j => m ((c : Thread nD τ).loc main_arg4) (ix2 (y 0) j)) (fun j => m ((c : Thread nD τ).loc main_arg7) (ix3 0 j (y 1)))

/-- Where point `t`'s block of a result lies. -/
theorem place (t : Fin cfg0.N) (y : S128x2048.Idx) :
    (View.emb ((cfg0.win 11).blk t).view y : S8192x2048.Idx) = ix2 (row t (y 0)) (y 1) := by
  obtain ⟨h0, h1⟩ := out_index t
  refine funext fun a => Fin.ext ?_
  match a with
  | ⟨0, _⟩ => show win0_11.index t 0 * 128 + 1 * (y 0).val = 128 * t.val + (y 0).val; rw [h0]; omega
  | ⟨1, _⟩ => show win0_11.index t 1 * 2048 + 1 * (y 1).val = (y 1).val; rw [h1]; omega

theorem flushed_11 (t : Fin cfg0.N) : (dats m 0 c).flushed 11 t = ((cfg0.win 11).blk t).view.read (Elt Ideal) (array1 m c) := by
  rw [Value.flushed11]
  unfold out0_11 k0_pay124 k0_pay123 k0_pay122 k0_pay121 k0_pay117
  rw [View.canon_unit_zero zero2, View.ld_unit_zero zero2, View.ld_unit_zero zero2, View.ld_unit_zero zero3]
  funext y
  rw [View.read_apply]
  refine Eq.trans ?_ (congrArg (array1 m c) (place t y)).symm
  refine (congrArg (_ : S128x2048.Idx → EReal) (ix2_eta y).symm).trans ?_
  exact (pay17_at _ _ _ _ _ _ _).trans (mixture m c t 0 (y 0) (y 1))

theorem flushed_12 (t : Fin cfg0.N) : (dats m 0 c).flushed 12 t = ((cfg0.win 12).blk t).view.read (Elt Ideal) (array2 m c) := by
  rw [Value.flushed12]
  unfold out0_12
  rw [View.canon_unit_zero zero2, View.ld_unit_zero zero2, View.ld_unit_zero zero2, View.ld_unit_zero zero2]
  funext y
  rw [View.read_apply]
  refine Eq.trans ?_ (congrArg (array2 m c) (place t y)).symm
  refine (congrArg (_ : S128x2048.Idx → EReal) (ix2_eta y).symm).trans ?_
  refine (decay_at _ _ _ _ _).trans (congrArg decay (congrArg₂ plus ?_ (congrArg₂ dot ?_ ?_)))
  · exact (read_v m c t 0 (y 1)).trans (vectors_at m c (y 1)).1
  · exact funext fun j => read_w m c t (y 0) j
  · exact funext fun j => read_w2 m c t j (y 1)

theorem flushed_13 (t : Fin cfg0.N) : (dats m 0 c).flushed 13 t = ((cfg0.win 13).blk t).view.read (Elt Ideal) (array3 m c) := by
  rw [Value.flushed13]
  unfold out0_13 k0_pay125 k0_pay123 k0_pay122 k0_pay121 k0_pay120 k0_pay118 k0_pay117
  rw [View.canon_unit_zero zero2, View.ld_unit_zero zero2, View.ld_unit_zero zero2, View.ld_unit_zero zero2, View.ld_unit_zero zero3, View.ld_unit_zero zero2, View.ld_unit_zero zero2]
  funext y
  rw [View.read_apply]
  refine Eq.trans ?_ (congrArg (array3 m c) (place t y)).symm
  refine (congrArg (_ : S128x2048.Idx → EReal) (ix2_eta y).symm).trans ?_
  refine (key_at _ _ _ _ _ _).trans (congr (congrArg₂ gated ?_ (congrArg₂ plus ?_ (congrArg₂ dot ?_ ?_))) ?_)
  · exact (pay18_at _ _ _ _ _ _ _).trans (mixture m c t 1 (y 0) (y 1))
  · exact (read_v m c t 1 (y 1)).trans (vectors_at m c (y 1)).2.1
  · exact funext fun j => read_a m c t (y 0) j
  · exact funext fun j => read_a2 m c t j (y 1)
  · exact (read_v m c t 3 (y 1)).trans (vectors_at m c (y 1)).2.2

theorem flushed_14 (t : Fin cfg0.N) : (dats m 0 c).flushed 14 t = ((cfg0.win 14).blk t).view.read (Elt Ideal) (array4 m c) := by
  rw [Value.flushed14]
  unfold out0_14 k0_pay126 k0_pay123 k0_pay122 k0_pay121 k0_pay117
  rw [View.canon_unit_zero zero2, View.ld_unit_zero zero2, View.ld_unit_zero zero2, View.ld_unit_zero zero3]
  funext y
  rw [View.read_apply]
  refine Eq.trans ?_ (congrArg (array4 m c) (place t y)).symm
  refine (congrArg (_ : S128x2048.Idx → EReal) (ix2_eta y).symm).trans ?_
  exact (pay19_at _ _ _ _ _ _ _).trans (mixture m c t 2 (y 0) (y 1))

theorem flushed_17 (t : Fin cfg0.N) : (dats m 0 c).flushed 17 t = ((cfg0.win 17).blk t).view.read (Elt Ideal) (array5 m c) := by
  rw [Value.flushed17]
  unfold out0_17
  rw [View.canon_unit_zero zero2, View.ld_unit_zero zero2, View.ld_unit_zero zero2]
  funext y
  rw [View.read_apply]
  refine Eq.trans ?_ (congrArg (array5 m c) (place t y)).symm
  refine (congrArg (_ : S128x2048.Idx → EReal) (ix2_eta y).symm).trans ?_
  refine (out_at _ _ _ _).trans (congrArg₂ dot ?_ ?_)
  · exact funext fun j => read_g m c t (y 0) j
  · exact funext fun j => read_g2 m c t j (y 1)

/-- Every entry of a result lies in the block of one point. -/
theorem place_back (i : S8192x2048.Idx) : ∃ (t : Fin cfg0.N) (y : S128x2048.Idx), (View.emb ((cfg0.win 11).blk t).view y : S8192x2048.Idx) = i := by
  have hi : (i 0).val < 8192 := (i 0).isLt
  have hN : cfg0.N = 64 := rfl
  refine ⟨⟨(i 0).val / 128, by omega⟩, ix2 ⟨(i 0).val % 128, by omega⟩ (i 1), (place _ _).trans (Eq.trans ?_ (ix2_eta i))⟩
  refine congrArg (fun r => (ix2 r (i 1) : S8192x2048.Idx)) (Fin.ext ?_)
  show 128 * ((i 0).val / 128) + (i 0).val % 128 = (i 0).val
  omega

theorem final_11 : (dats m 0 c).arrAt 11 cfg0.N = array1 m c :=
  (dats m 0 c).arrAt_eq_of_cover 11 (array1 m c) (fun t _ => flushed_11 m c t) fun i => by
    obtain ⟨t, y, h⟩ := place_back i
    exact ⟨t, flush0_11 t, mem_of_emb _ h⟩

theorem final_12 : (dats m 0 c).arrAt 12 cfg0.N = array2 m c :=
  (dats m 0 c).arrAt_eq_of_cover 12 (array2 m c) (fun t _ => flushed_12 m c t) fun i => by
    obtain ⟨t, y, h⟩ := place_back i
    exact ⟨t, flush0_12 t, mem_of_emb _ h⟩

theorem final_13 : (dats m 0 c).arrAt 13 cfg0.N = array3 m c :=
  (dats m 0 c).arrAt_eq_of_cover 13 (array3 m c) (fun t _ => flushed_13 m c t) fun i => by
    obtain ⟨t, y, h⟩ := place_back i
    exact ⟨t, flush0_13 t, mem_of_emb _ h⟩

theorem final_14 : (dats m 0 c).arrAt 14 cfg0.N = array4 m c :=
  (dats m 0 c).arrAt_eq_of_cover 14 (array4 m c) (fun t _ => flushed_14 m c t) fun i => by
    obtain ⟨t, y, h⟩ := place_back i
    exact ⟨t, flush0_14 t, mem_of_emb _ h⟩

theorem final_17 : (dats m 0 c).arrAt 17 cfg0.N = array5 m c :=
  (dats m 0 c).arrAt_eq_of_cover 17 (array5 m c) (fun t _ => flushed_17 m c t) fun i => by
    obtain ⟨t, y, h⟩ := place_back i
    exact ⟨t, flush0_17 t, mem_of_emb _ h⟩

section Reference

open Cert.Reference14Ideal.Read

variable (h : S8192x6144.Idx → EReal) (s : S4x1x6144.Idx → EReal) (μ : S1x3x2048.Idx → EReal)

open Cert.Kernel12Ideal.Lora (flat flat_back)

theorem ref_row (b : Fin 4) (p : Fin 2048) (k : Fin 6144) : val_main_v0 (F := Ideal) h (ix3 b p k) = h (ix2 (flat b p) k) := by
  pointwise [val_main_v0]
  rfl

theorem ref_before (b : Fin 4) (p : Fin 2048) (k : Fin 6144) : val_main_v2 (F := Ideal) h s (ix3 b p k) = before h s (flat b p) k := by
  have hp := p.isLt
  pointwise [val_main_v2, val_main_v1, val_main_v0]
  unfold before
  show _ = if (b.val * 2048 + p.val) % 2048 = 0 then _ else _
  by_cases h0 : p.val < 1
  · have h1 : (b.val * 2048 + p.val) % 2048 = 0 := by omega
    rw [dif_pos h0]
    refine Eq.trans ?_ (if_pos h1).symm
    refine congrArg s (funext fun a => Fin.ext ?_)
    match a with
    | ⟨0, _⟩ => show b.val = (b.val * 2048 + p.val) / 2048; omega
    | ⟨1, _⟩ => show p.val = 0; omega
    | ⟨2, _⟩ => rfl
  · have h1 : ¬ (b.val * 2048 + p.val) % 2048 = 0 := by omega
    rw [dif_neg h0]
    refine Eq.trans ?_ (if_neg h1).symm
    refine congrArg (fun a => h (ix2 a k)) (Fin.ext ?_)
    show b.val * 2048 + (p.val - 1) = b.val * 2048 + p.val - 1
    omega

/-- The rates stand one after the other. -/
theorem ref_rate (b : Fin 4) (p : Fin 2048) (a : Fin 3) (k : Fin 2048) :
    val_main_v7 (F := Ideal) μ (ix3 b p (col a k)) = μ (ix3 0 a k) := by
  pointwise [val_main_v7, val_main_v6, val_main_v5, val_main_v4]
  refine congrArg μ (funext fun e => Fin.ext ?_)
  match e with
  | ⟨0, _⟩ => rfl
  | ⟨1, _⟩ => show (2048 * a.val + k.val) / 2048 = a.val; omega
  | ⟨2, _⟩ => show (2048 * a.val + k.val) % 2048 = k.val; omega

theorem ref_mixed (r : Fin 8192) (a : Fin 3) (k : Fin 2048) :
    val_main_v10 (F := Ideal) h s μ (ix2 r (col a k)) = mixed h s μ a r k := by
  have e : val_main_v10 (F := Ideal) h s μ (ix2 r (col a k))
      = val_main_v9 (F := Ideal) h s μ (ix3 ⟨r.val / 2048, by omega⟩ ⟨r.val % 2048, by omega⟩ (col a k)) := by
    unfold val_main_v10
    generalize val_main_v9 (F := Ideal) h s μ = f
    pointwise []
  rw [e]
  refine (Eq.trans ?_ (congr (congrArg₂ toward (ref_row h ⟨r.val / 2048, by omega⟩ ⟨r.val % 2048, by omega⟩ (col a k)) (ref_before h s _ _ (col a k)))
    (ref_rate μ ⟨r.val / 2048, by omega⟩ ⟨r.val % 2048, by omega⟩ a k))).trans (congrArg (fun r => mixed h s μ a r k) (flat_back r))
  unfold toward
  pointwise [val_main_v9, val_main_v8, val_main_v3]

theorem ref_decay (y : S8192x128.Idx → EReal) (w : S1x96x2048.Idx → EReal) (v : S1x2048.Idx → EReal) (r : Fin 8192) (k : Fin 2048) :
    val_main_v45 (F := Ideal) y w v (ix2 r k) = decay (plus (v (ix2 0 k)) (dot (fun j : Fin 96 => y (ix2 r ⟨j.val, by omega⟩)) (fun j => w (ix3 0 j k)))) := by
  unfold dot plus
  pointwise [val_main_v45, val_main_v44, val_main_v26, val_main_v25, val_main_cst, val_main_v24, val_main_v23, val_main_call0_v11,
    val_main_call0_v10, val_main_call0_v9, val_main_call0_v8, val_main_call0_v7, val_main_call0_v6, val_main_call0_v5, val_main_call0_v4,
    val_main_call0_v3, val_main_call0_v2, val_main_call0_v1, val_main_call0_v0, val_main_call0_cst, val_main_v22, val_main_v21,
    val_main_v20, val_main_v19, val_main_v18, val_main_v17, val_main_v16, val_main_v15, val_main_v14]
  simp only [ne_eq, not_true_eq_false, if_false]
  rfl

theorem ref_key (y : S8192x128.Idx → EReal) (w : S1x96x2048.Idx → EReal) (v κ : S1x2048.Idx → EReal) (r : Fin 8192) (k : Fin 2048) :
    val_main_v54 (F := Ideal) h s y w μ v κ (ix2 r k)
      = gated (mixed h s μ 1 r k) (plus (v (ix2 0 k)) (dot (fun j : Fin 96 => y (ix2 r ⟨j.val, by omega⟩)) (fun j => w (ix3 0 j k)))) (κ (ix2 0 k)) := by
  rw [← ref_mixed]
  unfold dot plus gated val_main_v54 val_main_v12
  generalize val_main_v10 (F := Ideal) h s μ = f
  pointwise [val_main_v53, val_main_v52, val_main_cst_3, val_main_v51, val_main_v50, val_main_v49, val_main_v48, val_main_v47,
    val_main_v46, val_main_cst_2, val_main_v40, val_main_v39, val_main_cst_1, val_main_v38, val_main_v37, val_main_cst_0, val_main_v36,
    val_main_v35, val_main_v34, val_main_v33, val_main_v32, val_main_v31, val_main_v30, val_main_v29, val_main_v28, val_main_v27]
  rfl

theorem ref_first (r : Fin 8192) (k : Fin 2048) : val_main_v11 (F := Ideal) h s μ (ix2 r k) = mixed h s μ 0 r k := by
  rw [← ref_mixed, col_zero]
  unfold val_main_v11
  generalize val_main_v10 (F := Ideal) h s μ = f
  pointwise []

theorem ref_third (r : Fin 8192) (k : Fin 2048) : val_main_v13 (F := Ideal) h s μ (ix2 r k) = mixed h s μ 2 r k := by
  rw [← ref_mixed]
  unfold val_main_v13
  generalize val_main_v10 (F := Ideal) h s μ = f
  pointwise []
  rfl

theorem ref_out (y : S8192x256.Idx → EReal) (w : S1x256x2048.Idx → EReal) (r : Fin 8192) (k : Fin 2048) :
    val_main_v43 (F := Ideal) y w (ix2 r k) = dot (fun j => y (ix2 r j)) (fun j => w (ix3 0 j k)) := by
  unfold dot
  pointwise [val_main_v43, val_main_v42, val_main_v41]

theorem array1_eq : array1 m c = val_main_v11 (F := Ideal) (m ((c : Thread nD τ).loc main_arg0)) (m ((c : Thread nD τ).loc main_arg1)) (m ((c : Thread nD τ).loc main_arg8)) := by
  refine Eq.trans (funext fun y => ?_) (funext fun y => congrArg (val_main_v11 (F := Ideal) (m ((c : Thread nD τ).loc main_arg0)) (m ((c : Thread nD τ).loc main_arg1)) (m ((c : Thread nD τ).loc main_arg8))) (ix2_eta y))
  exact (ref_first _ _ _ (y 0) (y 1)).symm

theorem array2_eq : array2 m c = val_main_v45 (F := Ideal) (m ((c : Thread nD τ).loc main_arg2)) (m ((c : Thread nD τ).loc main_arg5)) (m ((c : Thread nD τ).loc main_arg9)) := by
  refine Eq.trans (funext fun y => ?_) (funext fun y => congrArg (val_main_v45 (F := Ideal) (m ((c : Thread nD τ).loc main_arg2)) (m ((c : Thread nD τ).loc main_arg5)) (m ((c : Thread nD τ).loc main_arg9))) (ix2_eta y))
  exact (congrArg (fun d : EReal => decay (plus _ d)) (dot_padded _ _ (y 1))).trans (ref_decay _ _ _ (y 0) (y 1)).symm

theorem array3_eq : array3 m c = val_main_v54 (F := Ideal) (m ((c : Thread nD τ).loc main_arg0)) (m ((c : Thread nD τ).loc main_arg1)) (m ((c : Thread nD τ).loc main_arg3)) (m ((c : Thread nD τ).loc main_arg6)) (m ((c : Thread nD τ).loc main_arg8)) (m ((c : Thread nD τ).loc main_arg10)) (m ((c : Thread nD τ).loc main_arg12)) := by
  refine Eq.trans (funext fun y => ?_) (funext fun y => congrArg (val_main_v54 (F := Ideal) (m ((c : Thread nD τ).loc main_arg0)) (m ((c : Thread nD τ).loc main_arg1)) (m ((c : Thread nD τ).loc main_arg3)) (m ((c : Thread nD τ).loc main_arg6)) (m ((c : Thread nD τ).loc main_arg8)) (m ((c : Thread nD τ).loc main_arg10)) (m ((c : Thread nD τ).loc main_arg12))) (ix2_eta y))
  exact (congrArg (fun d : EReal => gated _ (plus _ d) _) (dot_padded _ _ (y 1))).trans (ref_key _ _ _ _ _ _ _ (y 0) (y 1)).symm

theorem array4_eq : array4 m c = val_main_v13 (F := Ideal) (m ((c : Thread nD τ).loc main_arg0)) (m ((c : Thread nD τ).loc main_arg1)) (m ((c : Thread nD τ).loc main_arg8)) := by
  refine Eq.trans (funext fun y => ?_) (funext fun y => congrArg (val_main_v13 (F := Ideal) (m ((c : Thread nD τ).loc main_arg0)) (m ((c : Thread nD τ).loc main_arg1)) (m ((c : Thread nD τ).loc main_arg8))) (ix2_eta y))
  exact (ref_third _ _ _ (y 0) (y 1)).symm

theorem array5_eq : array5 m c = val_main_v43 (F := Ideal) (m ((c : Thread nD τ).loc main_arg4)) (m ((c : Thread nD τ).loc main_arg7)) := by
  refine Eq.trans (funext fun y => ?_) (funext fun y => congrArg (val_main_v43 (F := Ideal) (m ((c : Thread nD τ).loc main_arg4)) (m ((c : Thread nD τ).loc main_arg7))) (ix2_eta y))
  exact (ref_out _ _ (y 0) (y 1)).symm

end Reference

end Cert.Kernel14Ideal.Prep

namespace Cert.Proof.Prep

open Idealize.ShloMosaic Idealize.SL.Sem Cert.Kernel14Ideal.Prep

attribute [local instance] Cert.Kernel14.Gen.facts Cert.Kernel14Ideal.Gen.facts Cert.Reference14Ideal.Gen.facts

theorem frame_kernel : Cert.quiescent_Kernel14 := fun m ρ _ => Cert.Kernel14.Gen.frame m ρ
theorem frame_ideal : Cert.quiescent_Kernel14Ideal := fun m ρ _ => Cert.Kernel14Ideal.Gen.frame m ρ

theorem frame_reference : Cert.quiescent_Reference14Ideal := fun m ρ _ =>
  (θ_run Cert.Reference14Ideal.defs _ _).mono
    (fun r h => ⟨fun c => (h c).2.2.2.2.2, Idealize.ShloMosaic.sem_eq_zero_of_no_sems (by decide) r.2⟩)
    (Cert.Reference14Ideal.Value.run (F := Ideal) m ρ)

/-- Over the extended reals the five results are the reference's. -/
theorem algebraic : Cert.algebraic_Kernel14Ideal_Reference14Ideal := by
  intro m ρ m' ρ' _ hagree
  refine ⟨fun c => array1 m c, fun c => array2 m c, fun c => array3 m c, fun c => array4 m c, fun c => array5 m c, ?_, ?_⟩
  · exact (θ_run Cert.Kernel14Ideal.defs _ _).mono
      (fun _ h c => ⟨(h c).1.trans (final_11 m c), (h c).2.1.trans (final_12 m c), (h c).2.2.1.trans (final_13 m c),
        (h c).2.2.2.1.trans (final_14 m c), (h c).2.2.2.2.2.2.1.trans (final_17 m c), (h c).2.2.2.2.2.2.2.2⟩)
      (Cert.Kernel14Ideal.Value.run_blocks (F := Ideal) m ρ)
  · refine (θ_run Cert.Reference14Ideal.defs _ _).mono
      (fun _ h c => ⟨(h c).1.trans ?_, (h c).2.1.trans ?_, (h c).2.2.1.trans ?_, (h c).2.2.2.1.trans ?_, (h c).2.2.2.2.1.trans ?_,
        (h c).2.2.2.2.2⟩)
      (Cert.Reference14Ideal.Value.run (F := Ideal) m' ρ')
    all_goals obtain ⟨e0, e1, e2, e3, e4, e5, e6, e7, e8, e9, e10, _, e12, _⟩ := hagree c
    · refine (Cert.Reference14Ideal.Read.val_main_v11_eq (F := Ideal) _ _ _).trans ?_
      rw [e0, e1, e8]
      exact (array1_eq m c).symm
    · refine (Cert.Reference14Ideal.Read.val_main_v45_eq (F := Ideal) _ _ _).trans ?_
      rw [e2, e5, e9]
      exact (array2_eq m c).symm
    · refine (Cert.Reference14Ideal.Read.val_main_v54_eq (F := Ideal) _ _ _ _ _ _ _).trans ?_
      rw [e0, e1, e3, e6, e8, e10, e12]
      exact (array3_eq m c).symm
    · refine (Cert.Reference14Ideal.Read.val_main_v13_eq (F := Ideal) _ _ _).trans ?_
      rw [e0, e1, e8]
      exact (array4_eq m c).symm
    · refine (Cert.Reference14Ideal.Read.val_main_v43_eq (F := Ideal) _ _).trans ?_
      rw [e4, e7]
      exact (array5_eq m c).symm

end Cert.Proof.Prep

end
-- ==== Proof.Ada.lean ====
/-
  THE CONDITIONING: 72 blocks of 512 columns, each the product of all 40 rows, after silu, with the block's columns of the weight,
  plus its part of the bias. The rows are the prompt's four, the sample's 32, and four of zeros.
-/
module

public import proofs.«01_k».proof.Defs
public import proofs.«01_k».proof.Proof.Common
public import proofs.«01_k».proof.Proof.FirstRow
public import proofs.«01_k».proof.Proof.ZeroPad
public import proofs.«01_k».proof.Proof.Gen.Kernel13.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import Idealize.ShloMosaic.Lib.Claim
public import Idealize.ShloMosaic.Lib.Pointwise

@[expose] public section

set_option maxRecDepth 16384

noncomputable section

namespace Cert.Kernel13Ideal.Ada

open Cert.Kernel13Ideal Cert.Kernel13Ideal.Gen Idealize.ShloMosaic Idealize.ShloMosaic.TcCoe Idealize.SL.Sem
open Idealize.ShloMosaic.Pipeline (Dat)
open Idealize.ShloMosaic.Pointwise
open Cert.Proof.Common
open Cert.Proof.FirstRow (mem_of_emb)
open Cert.Proof.ZeroPad (zero_word)

variable (m : (ℓ : Loc nD τ sig) → Buf (Elt Ideal) ℓ) (c : Dev nD)

/-- `silu x · w + b` for one row `x` and one column `w`. -/
def conditioned (x w : Fin 4096 → EReal) (b : EReal) : EReal := ∑ k, x k * Ideal.logistic (x k) * w k + b

/-- The 40 rows: the prompt's, the sample's, zeros. -/
def signal (p : S4x4096.Idx → EReal) (s : S32x4096.Idx → EReal) (i : Fin 40) (k : Fin 4096) : EReal :=
  if h : i.val < 4 then p (ix2 ⟨i.val, h⟩ k) else if h' : i.val - 4 < 32 then s (ix2 ⟨i.val - 4, h'⟩ k) else 0

theorem pay_at (x : Vec Ideal S40x4096 .f32) (w : Vec Ideal S4096x512 .f32) (b : Vec Ideal S1x512 .f32) (i : Fin 40) (j : Fin 512) :
    k0_pay1 (F := Ideal) x w b (ix2 i j) = conditioned (fun k => x (ix2 i k)) (fun k => w (ix2 k j)) (b (ix2 0 j)) := by
  unfold conditioned
  pointwise [k0_pay1]

/-! ## The arrays that the host prepares -/

theorem rows_at (i : Fin 40) (k : Fin 4096) :
    (V m c main_v1 : S40x4096.Idx → EReal) (ix2 i k) = signal (m ((c : Thread nD τ).loc main_arg0)) (m ((c : Thread nD τ).loc main_arg1)) i k := by
  simp only [V, hostOps0, hostOps0_1, hostOps0_2, List.flatten_cons, List.flatten_nil, List.append_nil, List.cons_append, List.nil_append]
  entry_read
  show pad S40x4096 ![0, 0] ![4, 0] ![0, 0]
    (concatenate S36x4096 0 [⟨S4x4096, m ((c : Thread nD τ).loc main_arg0)⟩, ⟨S32x4096, m ((c : Thread nD τ).loc main_arg1)⟩]
      concatenates_S4x4096_S32x4096_S36x4096_d0) (sitofp (F := Ideal) .f32 (constantI S_ 32 0#32)) pads_S36x4096_S40x4096_040_000 h_S_ (ix2 i k) = _
  pointwise []
  rw [zero_word]
  unfold signal
  by_cases h : i.val < 4
  · rw [dif_pos h, dif_pos (by omega), dif_pos h]
  · rw [dif_neg h]
    by_cases h' : i.val - 4 < 32
    · rw [dif_pos h', dif_pos (by omega), dif_neg h]
    · rw [dif_neg h', dif_neg (by omega)]

theorem weight_at (k : Fin 4096) (j : Fin 36864) :
    (V m c main_v2 : S4096x36864.Idx → EReal) (ix2 k j) = m ((c : Thread nD τ).loc main_arg2) (ix3 0 k j) := by
  simp only [V, hostOps0, hostOps0_1, hostOps0_2, List.flatten_cons, List.flatten_nil, List.append_nil, List.cons_append, List.nil_append]
  entry_read
  pointwise []

theorem bias_at (j : Fin 36864) :
    (V m c main_v4 : S1x36864.Idx → EReal) (ix2 0 j) = m ((c : Thread nD τ).loc main_arg3) (ix2 0 j) := by
  simp only [V, hostOps0, hostOps0_1, hostOps0_2, List.flatten_cons, List.flatten_nil, List.append_nil, List.cons_append, List.nil_append]
  entry_read
  pointwise []

/-- Column `y` of point `t`'s block. -/
def col (t : Fin cfg0.N) (y : Fin 512) : Fin 36864 := ⟨512 * t.val + y.val, by have := t.isLt; have : cfg0.N = 72 := rfl; omega⟩

theorem index_at : ∀ t : Fin cfg0.N, win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

theorem read_x (t : Fin cfg0.N) (i : Fin 40) (k : Fin 4096) :
    (iblk m c 0 t : Vec Ideal S40x4096 .f32) (ix2 i k)
      = signal (m ((c : Thread nD τ).loc main_arg0)) (m ((c : Thread nD τ).loc main_arg1)) i k := by
  unfold iblk
  rw [View.read_apply]
  refine Eq.trans (congrArg (V m c main_v1) (funext fun a => Fin.ext ?_)) (rows_at m c i k)
  match a with
  | ⟨0, _⟩ => show 0 * 40 + 1 * i.val = i.val; omega
  | ⟨1, _⟩ => show 0 * 4096 + 1 * k.val = k.val; omega

theorem read_w (t : Fin cfg0.N) (k : Fin 4096) (j : Fin 512) :
    (iblk m c 1 t : Vec Ideal S4096x512 .f32) (ix2 k j) = m ((c : Thread nD τ).loc main_arg2) (ix3 0 k (col t j)) := by
  obtain ⟨h0, h1, _⟩ := index_at t
  unfold iblk
  rw [View.read_apply]
  refine Eq.trans (congrArg (V m c main_v2) (funext fun a => Fin.ext ?_)) (weight_at m c k (col t j))
  match a with
  | ⟨0, _⟩ => show win0_1.index t 0 * 4096 + 1 * k.val = k.val; rw [h0]; omega
  | ⟨1, _⟩ => show win0_1.index t 1 * 512 + 1 * j.val = 512 * t.val + j.val; rw [h1]; omega

theorem read_b (t : Fin cfg0.N) (j : Fin 512) :
    (iblk m c 2 t : Vec Ideal S1x512 .f32) (ix2 0 j) = m ((c : Thread nD τ).loc main_arg3) (ix2 0 (col t j)) := by
  obtain ⟨_, _, h0, h1, _⟩ := index_at t
  unfold iblk
  rw [View.read_apply]
  refine Eq.trans (congrArg (V m c main_v4) (funext fun a => Fin.ext ?_)) (bias_at m c (col t j))
  match a with
  | ⟨0, _⟩ => show win0_2.index t 0 * 1 + 1 * 0 = 0; rw [h0]
  | ⟨1, _⟩ => show win0_2.index t 1 * 512 + 1 * j.val = 512 * t.val + j.val; rw [h1]; omega

/-- Where point `t`'s block of the result lies. -/
theorem place (t : Fin cfg0.N) (y : S40x512.Idx) :
    (View.emb ((cfg0.win 3).blk t).view y : S40x36864.Idx) = ix2 (y 0) (col t (y 1)) := by
  obtain ⟨_, _, _, _, h0, h1⟩ := index_at t
  refine funext fun a => Fin.ext ?_
  match a with
  | ⟨0, _⟩ => show win0_3.index t 0 * 40 + 1 * (y 0).val = (y 0).val; rw [h0]; omega
  | ⟨1, _⟩ => show win0_3.index t 1 * 512 + 1 * (y 1).val = 512 * t.val + (y 1).val; rw [h1]; omega

/-- The conditioning of every row. -/
def array : S40x36864.Idx → EReal := fun y =>
  conditioned (signal (m ((c : Thread nD τ).loc main_arg0)) (m ((c : Thread nD τ).loc main_arg1)) (y 0))
    (fun k => m ((c : Thread nD τ).loc main_arg2) (ix3 0 k (y 1))) (m ((c : Thread nD τ).loc main_arg3) (ix2 0 (y 1)))

theorem flushed (t : Fin cfg0.N) : (dats m 0 c).flushed 3 t = ((cfg0.win 3).blk t).view.read (Elt Ideal) (array m c) := by
  rw [Value.flushed3]
  unfold out0_3
  rw [View.canon_unit_zero zero2, View.ld_unit_zero zero2, View.ld_unit_zero zero2, View.ld_unit_zero zero2]
  funext y
  rw [View.read_apply]
  refine Eq.trans ?_ (congrArg (array m c) (place t y)).symm
  refine (congrArg (k0_pay1 (F := Ideal) (iblk m c 0 t) (iblk m c 1 t) (iblk m c 2 t)) (ix2_eta y).symm).trans ((pay_at _ _ _ _ _).trans ?_)
  exact congr (congrArg₂ conditioned (funext fun k => read_x m c t (y 0) k) (funext fun k => read_w m c t k (y 1))) (read_b m c t (y 1))

theorem cover (i : S40x36864.Idx) : ∃ t : Fin cfg0.N, (cfg0.win 3).flush t = true ∧ i ∈ ((cfg0.win 3).blk t).view.set := by
  have h1 : (i 1).val < 36864 := (i 1).isLt
  have hN : cfg0.N = 72 := rfl
  refine ⟨⟨(i 1).val / 512, by omega⟩, flush0_3 _,
    mem_of_emb (y := (ix2 (i 0) ⟨(i 1).val % 512, by omega⟩ : S40x512.Idx)) _ ((place _ _).trans (funext fun a => Fin.ext ?_))⟩
  match a with
  | ⟨0, _⟩ => rfl
  | ⟨1, _⟩ => show 512 * ((i 1).val / 512) + (i 1).val % 512 = (i 1).val; omega

theorem final_3 : (dats m 0 c).arrAt 3 cfg0.N = array m c :=
  (dats m 0 c).arrAt_eq_of_cover 3 (array m c) (fun t _ => flushed m c t) cover

section Reference

open Cert.Reference13Ideal.Read

theorem ref_rows (p : S4x4096.Idx → EReal) (s : S32x4096.Idx → EReal) (i : Fin 40) (k : Fin 4096) :
    val_main_v1 (F := Ideal) p s (ix2 i k) = signal p s i k := by
  pointwise [val_main_v1, val_main_v0, val_main_cst]
  rfl

theorem ref_at (p : S4x4096.Idx → EReal) (s : S32x4096.Idx → EReal) (w : S1x4096x36864.Idx → EReal) (b : S1x36864.Idx → EReal)
    (i : Fin 40) (j : Fin 36864) :
    val_main_v8 (F := Ideal) p s w b (ix2 i j) = conditioned (signal p s i) (fun k => w (ix3 0 k j)) (b (ix2 0 j)) := by
  have h : signal p s i = fun k => val_main_v1 (F := Ideal) p s (ix2 i k) := funext fun k => (ref_rows p s i k).symm
  rw [h]
  unfold conditioned val_main_v8 val_main_v4 val_main_v2 val_main_call0_v5 val_main_call0_v3 val_main_call0_v1 val_main_call0_v0
  generalize val_main_v1 (F := Ideal) p s = f
  pointwise [val_main_v7, val_main_v6, val_main_v5, val_main_v3, val_main_call0_v2, val_main_call0_v4, val_main_call0_cst, val_main_call0_cst_0]
  rfl

theorem array_eq : array m c = val_main_v8 (F := Ideal) (m ((c : Thread nD τ).loc main_arg0)) (m ((c : Thread nD τ).loc main_arg1))
    (m ((c : Thread nD τ).loc main_arg2)) (m ((c : Thread nD τ).loc main_arg3)) :=
  funext fun y => (ref_at _ _ _ _ _ _).symm.trans (congrArg _ (ix2_eta y))

end Reference

end Cert.Kernel13Ideal.Ada

namespace Cert.Proof.Ada

open Idealize.ShloMosaic Idealize.SL.Sem Cert.Kernel13Ideal.Ada

attribute [local instance] Cert.Kernel13.Gen.facts Cert.Kernel13Ideal.Gen.facts Cert.Reference13Ideal.Gen.facts

theorem frame_kernel : Cert.quiescent_Kernel13 := fun m ρ _ => Cert.Kernel13.Gen.frame m ρ
theorem frame_ideal : Cert.quiescent_Kernel13Ideal := fun m ρ _ => Cert.Kernel13Ideal.Gen.frame m ρ

theorem frame_reference : Cert.quiescent_Reference13Ideal := fun m ρ _ =>
  (θ_run Cert.Reference13Ideal.defs _ _).mono
    (fun r h => ⟨fun c => (h c).2, Idealize.ShloMosaic.sem_eq_zero_of_no_sems (by decide) r.2⟩)
    (Cert.Reference13Ideal.Value.run (F := Ideal) m ρ)

/-- Over the extended reals the conditioning is the reference's. -/
theorem algebraic : Cert.algebraic_Kernel13Ideal_Reference13Ideal := by
  intro m ρ m' ρ' _ hagree
  refine ⟨fun c => array m c, ?_, ?_⟩
  · exact (θ_run Cert.Kernel13Ideal.defs _ _).mono (fun _ h c => ⟨(h c).1.trans (final_3 m c), (h c).2⟩)
      (Cert.Kernel13Ideal.Value.run_blocks (F := Ideal) m ρ)
  · refine (θ_run Cert.Reference13Ideal.defs _ _).mono (fun _ h c => ⟨(h c).1.trans ?_, (h c).2⟩)
      (Cert.Reference13Ideal.Value.run (F := Ideal) m' ρ')
    · obtain ⟨e0, e1, e2, e3⟩ := hagree c
      refine (Cert.Reference13Ideal.Read.val_main_v8_eq (F := Ideal) _ _ _ _).trans ?_
      rw [e0, e1, e2, e3]
      exact (array_eq m c).symm

end Cert.Proof.Ada

end
-- ==== Proof.Out.lean ====
/-
  THE OUTPUT PROJECTION: an 8 × 8 grid of blocks of 1024 rows and 512 columns, each the attention's product plus the
  recurrence's, gated, plus the stream.
-/
module

public import proofs.«01_k».proof.Defs
public import proofs.«01_k».proof.Proof.Common
public import proofs.«01_k».proof.Proof.NormMath
public import proofs.«01_k».proof.Proof.Gen.Kernel6.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import Idealize.ShloMosaic.Lib.Claim
public import Idealize.ShloMosaic.Lib.Pointwise

@[expose] public section

set_option maxRecDepth 16384

noncomputable section

namespace Cert.Kernel6Ideal.Out

open Cert.Kernel6Ideal Cert.Kernel6Ideal.Gen Idealize.ShloMosaic Idealize.ShloMosaic.TcCoe Idealize.SL.Sem
open Idealize.ShloMosaic.Pipeline (Dat)
open Idealize.ShloMosaic.Pointwise
open Cert.Proof.Common Cert.Proof.Norm

variable (m : (ℓ : Loc nD τ sig) → Buf (Elt Ideal) ℓ) (c : Dev nD)

/-- An entry after the projection: `x` plus the gate times the attention's part of the product and the recurrence's. -/
def projected (x a : EReal) (p u q w : Fin 2048 → EReal) : EReal := x + a * (∑ k, p k * u k + ∑ k, q k * w k)

/-- Column `k` of the attention's half of the heads, and of the recurrence's. -/
def first (k : Fin 2048) : Fin 4096 := ⟨k.val, by omega⟩
@[inherit_doc first] def second (k : Fin 2048) : Fin 4096 := ⟨2048 + k.val, by omega⟩

theorem pay_at (p : Vec Ideal S1024x2048 .bf16) (u : Vec Ideal S2048x512 .bf16) (q : Vec Ideal S1024x2048 .bf16) (w : Vec Ideal S2048x512 .bf16)
    (x : Vec Ideal S1024x512 .f32) (a : Vec Ideal S1x1x512 .f32) (i : Fin 1024) (j : Fin 512) :
    k0_pay1 (F := Ideal) p u q w x a (ix2 i j) = projected (x (ix2 i j)) (a (ix3 0 0 j)) (fun k => p (ix2 i k)) (fun k => u (ix2 k j))
      (fun k => q (ix2 i k)) (fun k => w (ix2 k j)) := by
  unfold projected
  pointwise [k0_pay1]

/-- Row `y` of point `t`'s row block. -/
def row (t : Fin cfg0.N) (y : Fin 1024) : Fin 8192 := ⟨1024 * (t.val / 8) + y.val, by have := t.isLt; have : cfg0.N = 64 := rfl; omega⟩

/-- Column `y` of point `t`'s column block. -/
def col (t : Fin cfg0.N) (y : Fin 512) : Fin 4096 := ⟨512 * (t.val % 8) + y.val, by omega⟩

theorem index_at : ∀ t : Fin cfg0.N, win0_0.index t (0 : Fin 2) = t.val / 8 ∧ win0_0.index t (1 : Fin 2) = 0
    ∧ win0_2.index t (0 : Fin 2) = 0 ∧ win0_2.index t (1 : Fin 2) = t.val % 8
    ∧ win0_3.index t (0 : Fin 2) = 1 ∧ win0_3.index t (1 : Fin 2) = t.val % 8
    ∧ win0_4.index t (0 : Fin 2) = t.val / 8 ∧ win0_4.index t (1 : Fin 2) = t.val % 8
    ∧ win0_5.index t (0 : Fin 3) = t.val / 16 ∧ win0_5.index t (1 : Fin 3) = 0 ∧ win0_5.index t (2 : Fin 3) = t.val % 8 :=
  (by decide +kernel : ∀ t : Fin grid0.N, _)

/-- Where point `t`'s rows of heads lie. -/
theorem place_heads (t : Fin cfg0.N) (y : S1024x2048.Idx) :
    (View.emb ((cfg0.win 0).blk t).view y : S8192x2048.Idx) = ix2 (row t (y 0)) (y 1) := by
  obtain ⟨h0, h1, _⟩ := index_at t
  refine funext fun a => Fin.ext ?_
  match a with
  | ⟨0, _⟩ => show win0_0.index t 0 * 1024 + 1 * (y 0).val = 1024 * (t.val / 8) + (y 0).val; rw [h0]; omega
  | ⟨1, _⟩ => show win0_0.index t 1 * 2048 + 1 * (y 1).val = (y 1).val; rw [h1]; omega

/-- Where point `t`'s block lies, of the stream as of the output. -/
theorem place (t : Fin cfg0.N) (y : S1024x512.Idx) :
    (View.emb ((cfg0.win 4).blk t).view y : S8192x4096.Idx) = ix2 (row t (y 0)) (col t (y 1)) := by
  obtain ⟨_, _, _, _, _, _, h0, h1, _⟩ := index_at t
  refine funext fun a => Fin.ext ?_
  match a with
  | ⟨0, _⟩ => show win0_4.index t 0 * 1024 + 1 * (y 0).val = 1024 * (t.val / 8) + (y 0).val; rw [h0]; omega
  | ⟨1, _⟩ => show win0_4.index t 1 * 512 + 1 * (y 1).val = 512 * (t.val % 8) + (y 1).val; rw [h1]; omega

theorem read_p (t : Fin cfg0.N) (i : Fin 1024) (k : Fin 2048) :
    (iblk m c 0 t : Vec Ideal S1024x2048 .bf16) (ix2 i k) = m ((c : Thread nD τ).loc main_arg0) (ix2 (row t i) k) := by
  unfold iblk
  rw [View.read_apply]
  exact (congrArg (V m c main_arg0) (place_heads t (ix2 i k))).trans (congrFun (V_main_arg0 m c) _)

theorem read_q (t : Fin cfg0.N) (i : Fin 1024) (k : Fin 2048) :
    (iblk m c 1 t : Vec Ideal S1024x2048 .bf16) (ix2 i k) = m ((c : Thread nD τ).loc main_arg1) (ix2 (row t i) k) := by
  unfold iblk
  rw [View.read_apply]
  exact (congrArg (V m c main_arg1) (place_heads t (ix2 i k))).trans (congrFun (V_main_arg1 m c) _)

/-- The weight as the host casts it. -/
theorem weight (i j : Fin 4096) :
    (V m c main_v1 : S4096x4096.Idx → EReal) (ix2 i j) = m ((c : Thread nD τ).loc main_arg2) (ix3 0 i j) := by
  entry_read
  pointwise []

theorem read_u (t : Fin cfg0.N) (k : Fin 2048) (j : Fin 512) :
    (iblk m c 2 t : Vec Ideal S2048x512 .bf16) (ix2 k j) = m ((c : Thread nD τ).loc main_arg2) (ix3 0 (first k) (col t j)) := by
  obtain ⟨_, _, h0, h1, _⟩ := index_at t
  unfold iblk
  rw [View.read_apply]
  refine Eq.trans (congrArg (V m c main_v1) (funext fun a => Fin.ext ?_)) (weight m c (first k) (col t j))
  match a with
  | ⟨0, _⟩ => show win0_2.index t 0 * 2048 + 1 * k.val = k.val; rw [h0]; omega
  | ⟨1, _⟩ => show win0_2.index t 1 * 512 + 1 * j.val = 512 * (t.val % 8) + j.val; rw [h1]; omega

theorem read_w (t : Fin cfg0.N) (k : Fin 2048) (j : Fin 512) :
    (iblk m c 3 t : Vec Ideal S2048x512 .bf16) (ix2 k j) = m ((c : Thread nD τ).loc main_arg2) (ix3 0 (second k) (col t j)) := by
  obtain ⟨_, _, _, _, h0, h1, _⟩ := index_at t
  unfold iblk
  rw [View.read_apply]
  refine Eq.trans (congrArg (V m c main_v1) (funext fun a => Fin.ext ?_)) (weight m c (second k) (col t j))
  match a with
  | ⟨0, _⟩ => show win0_3.index t 0 * 2048 + 1 * k.val = 2048 + k.val; rw [h0]; omega
  | ⟨1, _⟩ => show win0_3.index t 1 * 512 + 1 * j.val = 512 * (t.val % 8) + j.val; rw [h1]; omega

theorem read_x (t : Fin cfg0.N) (y : S1024x512.Idx) :
    (iblk m c 4 t : Vec Ideal S1024x512 .f32) y = m ((c : Thread nD τ).loc main_arg3) (ix2 (row t (y 0)) (col t (y 1))) := by
  unfold iblk
  rw [View.read_apply]
  exact (congrArg (V m c main_arg3) (place t y)).trans (congrFun (V_main_arg3 m c) _)

theorem read_a (t : Fin cfg0.N) (i : Fin 1024) (j : Fin 512) :
    (iblk m c 5 t : Vec Ideal S1x1x512 .f32) (ix3 0 0 j) = m ((c : Thread nD τ).loc main_arg4) (ix3 (seq (row t i)) 0 (col t j)) := by
  obtain ⟨_, _, _, _, _, _, _, _, h0, h1, h2⟩ := index_at t
  have hi : i.val < 1024 := i.isLt
  unfold iblk
  rw [View.read_apply]
  refine Eq.trans (congrArg (V m c main_arg4) (funext fun a => Fin.ext ?_)) (congrFun (V_main_arg4 m c) (ix3 (seq (row t i)) 0 (col t j)))
  match a with
  | ⟨0, _⟩ =>
    show win0_5.index t 0 * 1 + 1 * 0 = (1024 * (t.val / 8) + i.val) / 2048
    rw [h0]; omega
  | ⟨1, _⟩ => show win0_5.index t 1 * 1 + 1 * 0 = 0; rw [h1]
  | ⟨2, _⟩ => show win0_5.index t 2 * 512 + 1 * j.val = 512 * (t.val % 8) + j.val; rw [h2]; omega

/-- The projected array. -/
def array : S8192x4096.Idx → EReal := fun y =>
  projected (m ((c : Thread nD τ).loc main_arg3) (ix2 (y 0) (y 1))) (m ((c : Thread nD τ).loc main_arg4) (ix3 (seq (y 0)) 0 (y 1)))
    (fun k => m ((c : Thread nD τ).loc main_arg0) (ix2 (y 0) k)) (fun k => m ((c : Thread nD τ).loc main_arg2) (ix3 0 (first k) (y 1)))
    (fun k => m ((c : Thread nD τ).loc main_arg1) (ix2 (y 0) k)) (fun k => m ((c : Thread nD τ).loc main_arg2) (ix3 0 (second k) (y 1)))

theorem flushed (t : Fin cfg0.N) : (dats m 0 c).flushed 6 t = ((cfg0.win 6).blk t).view.read (Elt Ideal) (array m c) := by
  rw [Value.flushed6]
  unfold out0_6
  rw [View.canon_unit_zero zero2, View.ld_unit_zero zero2, View.ld_unit_zero zero2, View.ld_unit_zero zero2, View.ld_unit_zero zero2,
    View.ld_unit_zero zero2, View.ld_unit_zero zero3]
  funext y
  rw [View.read_apply]
  refine Eq.trans ?_ (congrArg (array m c) (place t y)).symm
  refine (congrArg (k0_pay1 (F := Ideal) (iblk m c 0 t) (iblk m c 2 t) (iblk m c 1 t) (iblk m c 3 t) (iblk m c 4 t) (iblk m c 5 t))
    (ix2_eta y).symm).trans ((pay_at _ _ _ _ _ _ _ _).trans ?_)
  exact congr (congr (congr (congr (congrArg₂ projected (read_x m c t (ix2 (y 0) (y 1))) (read_a m c t (y 0) (y 1)))
    (funext fun k => read_p m c t (y 0) k)) (funext fun k => read_u m c t k (y 1)))
    (funext fun k => read_q m c t (y 0) k)) (funext fun k => read_w m c t k (y 1))

/-- Every entry lies in the block of one point. -/
theorem place_back (i : S8192x4096.Idx) : ∃ (t : Fin cfg0.N) (y : S1024x512.Idx), (View.emb ((cfg0.win 4).blk t).view y : S8192x4096.Idx) = i := by
  have h0 : (i 0).val < 8192 := (i 0).isLt
  have h1 : (i 1).val < 4096 := (i 1).isLt
  have hN : cfg0.N = 64 := rfl
  refine ⟨⟨8 * ((i 0).val / 1024) + (i 1).val / 512, by omega⟩, ix2 ⟨(i 0).val % 1024, by omega⟩ ⟨(i 1).val % 512, by omega⟩,
    (place _ _).trans (funext fun a => Fin.ext ?_)⟩
  match a with
  | ⟨0, _⟩ => show 1024 * ((8 * ((i 0).val / 1024) + (i 1).val / 512) / 8) + (i 0).val % 1024 = (i 0).val; omega
  | ⟨1, _⟩ => show 512 * ((8 * ((i 0).val / 1024) + (i 1).val / 512) % 8) + (i 1).val % 512 = (i 1).val; omega

theorem cover (i : S8192x4096.Idx) : ∃ t : Fin cfg0.N, (cfg0.win 6).flush t = true ∧ i ∈ ((cfg0.win 6).blk t).view.set := by
  obtain ⟨t, y, h⟩ := place_back i
  refine ⟨t, flush0_6 t, ?_⟩
  rw [View.set, Finset.mem_map]
  exact ⟨y, Finset.mem_univ _, h⟩

theorem final_6 : (dats m 0 c).arrAt 6 cfg0.N = array m c :=
  (dats m 0 c).arrAt_eq_of_cover 6 (array m c) (fun t _ => flushed m c t) cover

section Reference

open Cert.Reference6Ideal.Read

theorem heads_first (p q : S8192x2048.Idx → EReal) (i : Fin 8192) (k : Fin 2048) :
    val_main_v1 (F := Ideal) p q (ix2 i (first k)) = p (ix2 i k) := by
  have h : (first k).val < 2048 := k.isLt
  pointwise [val_main_v1, val_main_v0]
  rw [dif_pos h]
  rfl

theorem heads_second (p q : S8192x2048.Idx → EReal) (i : Fin 8192) (k : Fin 2048) :
    val_main_v1 (F := Ideal) p q (ix2 i (second k)) = q (ix2 i k) := by
  have h : ¬ (second k).val < 2048 := by show ¬ 2048 + k.val < 2048; omega
  pointwise [val_main_v1, val_main_v0]
  rw [dif_neg h]
  exact congrArg q (congrArg (ix2 i) (Fin.ext (by show 2048 + k.val - 2048 = k.val; omega)))

/-- The product over all the heads is the sum of the products over its halves. -/
theorem product_at (p q : S8192x2048.Idx → EReal) (w : S1x4096x4096.Idx → EReal) (i : Fin 8192) (j : Fin 4096) :
    val_main_v3 (F := Ideal) p q w (ix2 i j)
      = ∑ k, p (ix2 i k) * w (ix3 0 (first k) j) + ∑ k, q (ix2 i k) * w (ix3 0 (second k) j) := by
  have h : val_main_v3 (F := Ideal) p q w (ix2 i j) = ∑ k, val_main_v1 (F := Ideal) p q (ix2 i k) * w (ix3 0 k j) := by
    unfold val_main_v3
    generalize val_main_v1 (F := Ideal) p q = f
    pointwise [val_main_v2]
  refine h.trans ((Fin.sum_univ_add (a := 2048) (b := 2048) (fun k : Fin 4096 => val_main_v1 (F := Ideal) p q (ix2 i k) * w (ix3 0 k j))).trans ?_)
  exact congrArg₂ (· + ·) (Finset.sum_congr rfl fun k _ => congrArg (· * _) (heads_first p q i k))
    (Finset.sum_congr rfl fun k _ => congrArg (· * _) (heads_second p q i k))

theorem ref_at (p q : S8192x2048.Idx → EReal) (w : S1x4096x4096.Idx → EReal) (x : S8192x4096.Idx → EReal) (a : S4x1x4096.Idx → EReal)
    (i : Fin 8192) (j : Fin 4096) :
    val_main_v9 (F := Ideal) p q w x a (ix2 i j) = projected (x (ix2 i j)) (a (ix3 (seq i) 0 j)) (fun k => p (ix2 i k))
      (fun k => w (ix3 0 (first k) j)) (fun k => q (ix2 i k)) (fun k => w (ix3 0 (second k) j)) := by
  unfold projected
  rw [← product_at]
  unfold val_main_v9 val_main_v8 val_main_v7 val_main_v4
  generalize val_main_v3 (F := Ideal) p q w = f
  pointwise [val_main_v6, val_main_v5]
  rfl

theorem array_eq : array m c = val_main_v9 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) :=
  funext fun y => (ref_at _ _ _ _ _ _ _).symm.trans (congrArg _ (ix2_eta y))

end Reference

end Cert.Kernel6Ideal.Out

namespace Cert.Proof.Out

open Idealize.ShloMosaic Idealize.SL.Sem Cert.Kernel6Ideal.Out

attribute [local instance] Cert.Kernel6.Gen.facts Cert.Kernel6Ideal.Gen.facts Cert.Reference6Ideal.Gen.facts

theorem frame_kernel : Cert.quiescent_Kernel6 := fun m ρ _ => Cert.Kernel6.Gen.frame m ρ
theorem frame_ideal : Cert.quiescent_Kernel6Ideal := fun m ρ _ => Cert.Kernel6Ideal.Gen.frame m ρ

theorem frame_reference : Cert.quiescent_Reference6Ideal := fun m ρ _ =>
  (θ_run Cert.Reference6Ideal.defs _ _).mono
    (fun r h => ⟨fun c => (h c).2, Idealize.ShloMosaic.sem_eq_zero_of_no_sems (by decide) r.2⟩)
    (Cert.Reference6Ideal.Value.run (F := Ideal) m ρ)

/-- Over the extended reals the projected stream is the reference's: a sum over all the heads is the sum over its halves. -/
theorem algebraic : Cert.algebraic_Kernel6Ideal_Reference6Ideal := by
  intro m ρ m' ρ' _ hagree
  refine ⟨fun c => array m c, ?_, ?_⟩
  · exact (θ_run Cert.Kernel6Ideal.defs _ _).mono (fun _ h c => ⟨(h c).1.trans (final_6 m c), (h c).2⟩)
      (Cert.Kernel6Ideal.Value.run_blocks (F := Ideal) m ρ)
  · refine (θ_run Cert.Reference6Ideal.defs _ _).mono (fun _ h c => ⟨(h c).1.trans ?_, (h c).2⟩)
      (Cert.Reference6Ideal.Value.run (F := Ideal) m' ρ')
    · obtain ⟨e0, e1, e2, e3, e4⟩ := hagree c
      refine (Cert.Reference6Ideal.Read.val_main_v9_eq (F := Ideal) _ _ _ _ _).trans ?_
      rw [e0, e1, e2, e3, e4]
      exact (array_eq m c).symm

end Cert.Proof.Out

end
-- ==== Proof.Modulate.lean ====
/-
  THE NORM WITH SCALE AND SHIFT, OF THE PROMPT: 16 blocks of 512 rows, stored in bf16 and in f32; scale and shift are one row
  for each sequence.
-/
module

public import proofs.«01_k».proof.Defs
public import proofs.«01_k».proof.Proof.Common
public import proofs.«01_k».proof.Proof.FirstRow
public import proofs.«01_k».proof.Proof.NormMath
public import proofs.«01_k».proof.Proof.Gen.Kernel7.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import Idealize.ShloMosaic.Lib.Claim
public import Idealize.ShloMosaic.Lib.Pointwise

@[expose] public section

set_option maxRecDepth 16384

noncomputable section

namespace Cert.Kernel7Ideal.Modulate

open Cert.Kernel7Ideal Cert.Kernel7Ideal.Gen Idealize.ShloMosaic Idealize.ShloMosaic.TcCoe Idealize.SL.Sem
open Idealize.ShloMosaic.Pipeline (Dat)
open Idealize.ShloMosaic.Pointwise
open Cert.Proof.Common Cert.Proof.Norm
open Cert.Proof.FirstRow (mem_of_emb)

variable (m : (ℓ : Loc nD τ sig) → Buf (Elt Ideal) ℓ) (c : Dev nD)

theorem pay_at (x : Vec Ideal S512x4096 .f32) (g : Vec Ideal S1x4096 .f32) (s b : Vec Ideal S1x1x4096 .f32) (i : Fin 512) (j : Fin 4096) :
    k0_pay1 (F := Ideal) x g s b (ix2 i j) = modulated (fun k => x (ix2 i k)) (g (ix2 0 j)) (s (ix3 0 0 j)) (b (ix3 0 0 j)) j := by
  unfold modulated normed
  pointwise [k0_pay1]

/-- The block in bf16 has the same entries. -/
theorem pay_cast (x : Vec Ideal S512x4096 .f32) (g : Vec Ideal S1x4096 .f32) (s b : Vec Ideal S1x1x4096 .f32) (i : Fin 512) (j : Fin 4096) :
    k0_pay2 (F := Ideal) x g s b (ix2 i j) = modulated (fun k => x (ix2 i k)) (g (ix2 0 j)) (s (ix3 0 0 j)) (b (ix3 0 0 j)) j := pay_at x g s b i j

/-- The row of the array that row `y` of block `t` is. -/
abbrev row (t : Fin cfg0.N) : Fin 512 → Fin 8192 := Cert.Proof.Norm.row rfl t

theorem index_at : ∀ t : Fin cfg0.N, win0_0.index t (0 : Fin 2) = t.val ∧ win0_0.index t (1 : Fin 2) = 0
    ∧ win0_2.index t (0 : Fin 3) = t.val / 4 ∧ win0_2.index t (1 : Fin 3) = 0 ∧ win0_2.index t (2 : Fin 3) = 0 :=
  (by decide +kernel : ∀ t : Fin grid0.N, _)

/-- Where row block `t` lies, of the input as of both outputs. -/
theorem place (t : Fin cfg0.N) (y : S512x4096.Idx) :
    (View.emb ((cfg0.win 0).blk t).view y : S8192x4096.Idx) = ix2 (row t (y 0)) (y 1) := by
  obtain ⟨h0, h1, _⟩ := index_at t
  refine funext fun a => Fin.ext ?_
  match a with
  | ⟨0, _⟩ => show win0_0.index t 0 * 512 + 1 * (y 0).val = 512 * t.val + (y 0).val; rw [h0]; omega
  | ⟨1, _⟩ => show win0_0.index t 1 * 4096 + 1 * (y 1).val = (y 1).val; rw [h1]; omega

/-- The scale's and the shift's row for row block `t`. -/
theorem place_seq (t : Fin cfg0.N) (i : Fin 512) (j : Fin 4096) :
    (View.emb ((cfg0.win 2).blk t).view (ix3 0 0 j) : S4x1x4096.Idx) = ix3 (seq (row t i)) 0 j := by
  obtain ⟨_, _, h0, h1, h2⟩ := index_at t
  have hi : i.val < 512 := i.isLt
  refine funext fun a => Fin.ext ?_
  match a with
  | ⟨0, _⟩ =>
    show win0_2.index t 0 * 1 + 1 * 0 = (512 * t.val + i.val) / 2048
    rw [h0]; omega
  | ⟨1, _⟩ => show win0_2.index t 1 * 1 + 1 * 0 = 0; rw [h1]
  | ⟨2, _⟩ => show win0_2.index t 2 * 4096 + 1 * j.val = j.val; rw [h2]; omega

theorem read_x (t : Fin cfg0.N) (i : Fin 512) (j : Fin 4096) :
    (iblk m c 0 t : Vec Ideal S512x4096 .f32) (ix2 i j) = m ((c : Thread nD τ).loc main_arg0) (ix2 (row t i) j) := by
  unfold iblk
  rw [View.read_apply]
  exact (congrArg (V m c main_arg0) (place t (ix2 i j))).trans (congrFun (V_main_arg0 m c) _)

theorem read_g (t : Fin cfg0.N) (j : Fin 4096) :
    (iblk m c 1 t : Vec Ideal S1x4096 .f32) (ix2 0 j) = m ((c : Thread nD τ).loc main_arg1) (ix1 j) := by
  unfold iblk
  rw [View.read_apply]
  show V m c main_v0 _ = _
  have e : (View.emb ((cfg0.win 1).blk t).view (ix2 0 j) : S1x4096.Idx) = ix2 0 j := by
    refine funext fun a => Fin.ext ?_
    match a with
    | ⟨0, _⟩ => rfl
    | ⟨1, _⟩ => show 0 * 4096 + 1 * j.val = j.val; omega
  refine (congrArg (V m c main_v0) e).trans ?_
  entry_read
  pointwise []

theorem read_b (t : Fin cfg0.N) (i : Fin 512) (j : Fin 4096) :
    (iblk m c 2 t : Vec Ideal S1x1x4096 .f32) (ix3 0 0 j) = m ((c : Thread nD τ).loc main_arg2) (ix3 (seq (row t i)) 0 j) := by
  unfold iblk
  rw [View.read_apply]
  exact (congrArg (V m c main_arg2) (place_seq t i j)).trans (congrFun (V_main_arg2 m c) _)

theorem read_s (t : Fin cfg0.N) (i : Fin 512) (j : Fin 4096) :
    (iblk m c 3 t : Vec Ideal S1x1x4096 .f32) (ix3 0 0 j) = m ((c : Thread nD τ).loc main_arg3) (ix3 (seq (row t i)) 0 j) := by
  unfold iblk
  rw [View.read_apply]
  exact (congrArg (V m c main_arg3) (place_seq t i j)).trans (congrFun (V_main_arg3 m c) _)

/-- The modulated array. -/
def array : S8192x4096.Idx → EReal := fun y =>
  modulated (fun k => m ((c : Thread nD τ).loc main_arg0) (ix2 (y 0) k)) (m ((c : Thread nD τ).loc main_arg1) (ix1 (y 1)))
    (m ((c : Thread nD τ).loc main_arg3) (ix3 (seq (y 0)) 0 (y 1))) (m ((c : Thread nD τ).loc main_arg2) (ix3 (seq (y 0)) 0 (y 1))) (y 1)

/-- What point `t` computes at an entry. -/
theorem computed (t : Fin cfg0.N) (y : S512x4096.Idx) :
    modulated (fun k => (iblk m c 0 t : Vec Ideal S512x4096 .f32) (ix2 (y 0) k)) ((iblk m c 1 t : Vec Ideal S1x4096 .f32) (ix2 0 (y 1)))
      ((iblk m c 3 t : Vec Ideal S1x1x4096 .f32) (ix3 0 0 (y 1))) ((iblk m c 2 t : Vec Ideal S1x1x4096 .f32) (ix3 0 0 (y 1))) (y 1)
      = array m c (ix2 (row t (y 0)) (y 1)) :=
  congrFun (congr (congr (congrArg₂ modulated (funext fun k => read_x m c t (y 0) k) (read_g m c t (y 1)))
    (read_s m c t (y 0) (y 1))) (read_b m c t (y 0) (y 1))) (y 1)

theorem flushed_4 (t : Fin cfg0.N) : (dats m 0 c).flushed 4 t = ((cfg0.win 4).blk t).view.read (Elt Ideal) (array m c) := by
  rw [Value.flushed4]
  unfold out0_4
  rw [View.canon_unit_zero zero2, View.ld_unit_zero zero2, View.ld_unit_zero zero2, View.ld_unit_zero zero3, View.ld_unit_zero zero3]
  funext y
  rw [View.read_apply]
  refine Eq.trans ?_ (congrArg (array m c) (place t y)).symm
  refine (congrArg (k0_pay2 (F := Ideal) (iblk m c 0 t) (iblk m c 1 t) (iblk m c 3 t) (iblk m c 2 t)) (ix2_eta y).symm).trans ?_
  exact (pay_cast _ _ _ _ _ _).trans (computed m c t y)

theorem flushed_5 (t : Fin cfg0.N) : (dats m 0 c).flushed 5 t = ((cfg0.win 5).blk t).view.read (Elt Ideal) (array m c) := by
  rw [Value.flushed5]
  unfold out0_5
  rw [View.canon_unit_zero zero2, View.ld_unit_zero zero2, View.ld_unit_zero zero2, View.ld_unit_zero zero3, View.ld_unit_zero zero3]
  funext y
  rw [View.read_apply]
  refine Eq.trans ?_ (congrArg (array m c) (place t y)).symm
  refine (congrArg (k0_pay1 (F := Ideal) (iblk m c 0 t) (iblk m c 1 t) (iblk m c 3 t) (iblk m c 2 t)) (ix2_eta y).symm).trans ?_
  exact (pay_at _ _ _ _ _ _).trans (computed m c t y)

/-- Every row lies in the block of one point. -/
theorem place_back (i : S8192x4096.Idx) : ∃ (t : Fin cfg0.N) (y : S512x4096.Idx), (View.emb ((cfg0.win 0).blk t).view y : S8192x4096.Idx) = i := by
  obtain ⟨t, y, h⟩ := row_back (N := cfg0.N) rfl (i 0)
  exact ⟨t, ix2 y (i 1), (place t _).trans ((congrArg (fun r => (ix2 r (i 1) : S8192x4096.Idx)) h).trans (ix2_eta i))⟩

theorem cover_4 (i : S8192x4096.Idx) : ∃ t : Fin cfg0.N, (cfg0.win 4).flush t = true ∧ i ∈ ((cfg0.win 4).blk t).view.set := by
  obtain ⟨t, y, h⟩ := place_back i
  exact ⟨t, flush0_4 t, mem_of_emb _ h⟩

theorem cover_5 (i : S8192x4096.Idx) : ∃ t : Fin cfg0.N, (cfg0.win 5).flush t = true ∧ i ∈ ((cfg0.win 5).blk t).view.set := by
  obtain ⟨t, y, h⟩ := place_back i
  exact ⟨t, flush0_5 t, mem_of_emb _ h⟩

theorem final_4 : (dats m 0 c).arrAt 4 cfg0.N = array m c :=
  (dats m 0 c).arrAt_eq_of_cover 4 (array m c) (fun t _ => flushed_4 m c t) cover_4

theorem final_5 : (dats m 0 c).arrAt 5 cfg0.N = array m c :=
  (dats m 0 c).arrAt_eq_of_cover 5 (array m c) (fun t _ => flushed_5 m c t) cover_5

section Reference

open Cert.Reference7Ideal.Read

theorem ref_at (x : S8192x4096.Idx → EReal) (g : S4096.Idx → EReal) (b s : S4x1x4096.Idx → EReal) (i : Fin 8192) (j : Fin 4096) :
    val_main_v20 (F := Ideal) x g b s (ix2 i j) = modulated (fun k => x (ix2 i k)) (g (ix1 j)) (s (ix3 (seq i) 0 j)) (b (ix3 (seq i) 0 j)) j := by
  unfold modulated normed
  pointwise [val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  rfl

theorem array_eq : array m c = val_main_v20 (F := Ideal) (m ((c : Thread nD τ).loc main_arg0)) (m ((c : Thread nD τ).loc main_arg1))
    (m ((c : Thread nD τ).loc main_arg2)) (m ((c : Thread nD τ).loc main_arg3)) :=
  funext fun y => (ref_at _ _ _ _ _ _).symm.trans (congrArg _ (ix2_eta y))

end Reference

end Cert.Kernel7Ideal.Modulate

namespace Cert.Proof.Modulate

open Idealize.ShloMosaic Idealize.SL.Sem Cert.Kernel7Ideal.Modulate

attribute [local instance] Cert.Kernel7.Gen.facts Cert.Kernel7Ideal.Gen.facts Cert.Reference7Ideal.Gen.facts

theorem frame_kernel : Cert.quiescent_Kernel7 := fun m ρ _ => Cert.Kernel7.Gen.frame m ρ
theorem frame_ideal : Cert.quiescent_Kernel7Ideal := fun m ρ _ => Cert.Kernel7Ideal.Gen.frame m ρ

theorem frame_reference : Cert.quiescent_Reference7Ideal := fun m ρ _ =>
  (θ_run Cert.Reference7Ideal.defs _ _).mono
    (fun r h => ⟨fun c => (h c).2.2, Idealize.ShloMosaic.sem_eq_zero_of_no_sems (by decide) r.2⟩)
    (Cert.Reference7Ideal.Value.run (F := Ideal) m ρ)

/-- Over the extended reals both arrays are the reference's: the cast to bf16 changes no entry. -/
theorem algebraic : Cert.algebraic_Kernel7Ideal_Reference7Ideal := by
  intro m ρ m' ρ' _ hagree
  refine ⟨fun c => array m c, fun c => array m c, ?_, ?_⟩
  · exact (θ_run Cert.Kernel7Ideal.defs _ _).mono (fun _ h c => ⟨(h c).1.trans (final_4 m c), (h c).2.1.trans (final_5 m c), (h c).2.2⟩)
      (Cert.Kernel7Ideal.Value.run_blocks (F := Ideal) m ρ)
  · refine (θ_run Cert.Reference7Ideal.defs _ _).mono (fun _ h c => ⟨(h c).1.trans ?_, (h c).2.1.trans ?_, (h c).2.2⟩)
      (Cert.Reference7Ideal.Value.run (F := Ideal) m' ρ')
    · obtain ⟨e0, e1, e2, e3⟩ := hagree c
      refine (Cert.Reference7Ideal.Read.val_main_v21_eq (F := Ideal) _ _ _ _).trans ?_
      rw [e0, e1, e2, e3]
      exact (array_eq m c).symm
    · obtain ⟨e0, e1, e2, e3⟩ := hagree c
      refine (Cert.Reference7Ideal.Read.val_main_v20_eq (F := Ideal) _ _ _ _).trans ?_
      rw [e0, e1, e2, e3]
      exact (array_eq m c).symm

end Cert.Proof.Modulate

end
-- ==== Proof.ModulateSample.lean ====
/-
  THE NORM WITH SCALE AND SHIFT, OF THE SAMPLE: one block of 32 rows, stored in bf16 and in f32; every row has its own scale
  and shift.
-/
module

public import proofs.«01_k».proof.Defs
public import proofs.«01_k».proof.Proof.Common
public import proofs.«01_k».proof.Proof.FirstRow
public import proofs.«01_k».proof.Proof.NormMath
public import proofs.«01_k».proof.Proof.Gen.Kernel8.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import Idealize.ShloMosaic.Lib.Claim
public import Idealize.ShloMosaic.Lib.Pointwise

@[expose] public section

set_option maxRecDepth 16384

noncomputable section

namespace Cert.Kernel8Ideal.ModulateSample

open Cert.Kernel8Ideal Cert.Kernel8Ideal.Gen Idealize.ShloMosaic Idealize.ShloMosaic.TcCoe Idealize.SL.Sem
open Idealize.ShloMosaic.Pipeline (Dat)
open Idealize.ShloMosaic.Pointwise
open Cert.Proof.Common Cert.Proof.Norm
open Cert.Proof.FirstRow (mem_of_emb)

variable (m : (ℓ : Loc nD τ sig) → Buf (Elt Ideal) ℓ) (c : Dev nD)

theorem pay_at (x : Vec Ideal S32x4096 .f32) (g : Vec Ideal S1x4096 .f32) (s b : Vec Ideal S1x32x4096 .f32) (i : Fin 32) (j : Fin 4096) :
    k0_pay1 (F := Ideal) x g s b (ix2 i j) = modulated (fun k => x (ix2 i k)) (g (ix2 0 j)) (s (ix3 0 i j)) (b (ix3 0 i j)) j := by
  unfold modulated normed
  pointwise [k0_pay1]

/-- The block in bf16 has the same entries. -/
theorem pay_cast (x : Vec Ideal S32x4096 .f32) (g : Vec Ideal S1x4096 .f32) (s b : Vec Ideal S1x32x4096 .f32) (i : Fin 32) (j : Fin 4096) :
    k0_pay2 (F := Ideal) x g s b (ix2 i j) = modulated (fun k => x (ix2 i k)) (g (ix2 0 j)) (s (ix3 0 i j)) (b (ix3 0 i j)) j := pay_at x g s b i j

/-- The one block is the array. -/
theorem place (t : Fin cfg0.N) (y : S32x4096.Idx) : (View.emb ((cfg0.win 0).blk t).view y : S32x4096.Idx) = y := by
  have hi : ∀ t : Fin cfg0.N, win0_0.index t (0 : Fin 2) = 0 ∧ win0_0.index t (1 : Fin 2) = 0 := (by decide +kernel : ∀ t : Fin grid0.N, _)
  obtain ⟨h0, h1⟩ := hi t
  refine funext fun a => Fin.ext ?_
  match a with
  | ⟨0, _⟩ => show win0_0.index t 0 * 32 + 1 * (y 0).val = (y 0).val; rw [h0]; omega
  | ⟨1, _⟩ => show win0_0.index t 1 * 4096 + 1 * (y 1).val = (y 1).val; rw [h1]; omega

/-- The one block of the scale, or of the shift, is the array. -/
theorem place_rows (t : Fin cfg0.N) (y : S1x32x4096.Idx) : (View.emb ((cfg0.win 2).blk t).view y : S1x32x4096.Idx) = y := by
  refine funext fun a => Fin.ext ?_
  match a with
  | ⟨0, _⟩ => show 0 * 1 + 1 * (y 0).val = (y 0).val; omega
  | ⟨1, _⟩ => show 0 * 32 + 1 * (y 1).val = (y 1).val; omega
  | ⟨2, _⟩ => show 0 * 4096 + 1 * (y 2).val = (y 2).val; omega

theorem read_x (t : Fin cfg0.N) (i : Fin 32) (j : Fin 4096) :
    (iblk m c 0 t : Vec Ideal S32x4096 .f32) (ix2 i j) = m ((c : Thread nD τ).loc main_arg0) (ix2 i j) := by
  unfold iblk
  rw [View.read_apply]
  exact (congrArg (V m c main_arg0) (place t (ix2 i j))).trans (congrFun (V_main_arg0 m c) _)

theorem read_g (t : Fin cfg0.N) (j : Fin 4096) :
    (iblk m c 1 t : Vec Ideal S1x4096 .f32) (ix2 0 j) = m ((c : Thread nD τ).loc main_arg1) (ix1 j) := by
  unfold iblk
  rw [View.read_apply]
  show V m c main_v0 _ = _
  have e : (View.emb ((cfg0.win 1).blk t).view (ix2 0 j) : S1x4096.Idx) = ix2 0 j := by
    refine funext fun a => Fin.ext ?_
    match a with
    | ⟨0, _⟩ => rfl
    | ⟨1, _⟩ => show 0 * 4096 + 1 * j.val = j.val; omega
  refine (congrArg (V m c main_v0) e).trans ?_
  entry_read
  pointwise []

theorem read_b (t : Fin cfg0.N) (i : Fin 32) (j : Fin 4096) :
    (iblk m c 2 t : Vec Ideal S1x32x4096 .f32) (ix3 0 i j) = m ((c : Thread nD τ).loc main_arg2) (ix3 0 i j) := by
  unfold iblk
  rw [View.read_apply]
  exact (congrArg (V m c main_arg2) (place_rows t (ix3 0 i j))).trans (congrFun (V_main_arg2 m c) _)

theorem read_s (t : Fin cfg0.N) (i : Fin 32) (j : Fin 4096) :
    (iblk m c 3 t : Vec Ideal S1x32x4096 .f32) (ix3 0 i j) = m ((c : Thread nD τ).loc main_arg3) (ix3 0 i j) := by
  unfold iblk
  rw [View.read_apply]
  exact (congrArg (V m c main_arg3) (place_rows t (ix3 0 i j))).trans (congrFun (V_main_arg3 m c) _)

/-- The modulated array. -/
def array : S32x4096.Idx → EReal := fun y =>
  modulated (fun k => m ((c : Thread nD τ).loc main_arg0) (ix2 (y 0) k)) (m ((c : Thread nD τ).loc main_arg1) (ix1 (y 1)))
    (m ((c : Thread nD τ).loc main_arg3) (ix3 0 (y 0) (y 1))) (m ((c : Thread nD τ).loc main_arg2) (ix3 0 (y 0) (y 1))) (y 1)

/-- What point `t` computes at an entry. -/
theorem computed (t : Fin cfg0.N) (y : S32x4096.Idx) :
    modulated (fun k => (iblk m c 0 t : Vec Ideal S32x4096 .f32) (ix2 (y 0) k)) ((iblk m c 1 t : Vec Ideal S1x4096 .f32) (ix2 0 (y 1)))
      ((iblk m c 3 t : Vec Ideal S1x32x4096 .f32) (ix3 0 (y 0) (y 1))) ((iblk m c 2 t : Vec Ideal S1x32x4096 .f32) (ix3 0 (y 0) (y 1))) (y 1)
      = array m c y :=
  congrFun (congr (congr (congrArg₂ modulated (funext fun k => read_x m c t (y 0) k) (read_g m c t (y 1)))
    (read_s m c t (y 0) (y 1))) (read_b m c t (y 0) (y 1))) (y 1)

theorem flushed_4 (t : Fin cfg0.N) : (dats m 0 c).flushed 4 t = ((cfg0.win 4).blk t).view.read (Elt Ideal) (array m c) := by
  rw [Value.flushed4]
  unfold out0_4
  rw [View.canon_unit_zero zero2, View.ld_unit_zero zero2, View.ld_unit_zero zero2, View.ld_unit_zero zero3, View.ld_unit_zero zero3]
  funext y
  rw [View.read_apply]
  refine Eq.trans ?_ (congrArg (array m c) (place t y)).symm
  refine (congrArg (k0_pay2 (F := Ideal) (iblk m c 0 t) (iblk m c 1 t) (iblk m c 3 t) (iblk m c 2 t)) (ix2_eta y).symm).trans ?_
  exact (pay_cast _ _ _ _ _ _).trans (computed m c t y)

theorem flushed_5 (t : Fin cfg0.N) : (dats m 0 c).flushed 5 t = ((cfg0.win 5).blk t).view.read (Elt Ideal) (array m c) := by
  rw [Value.flushed5]
  unfold out0_5
  rw [View.canon_unit_zero zero2, View.ld_unit_zero zero2, View.ld_unit_zero zero2, View.ld_unit_zero zero3, View.ld_unit_zero zero3]
  funext y
  rw [View.read_apply]
  refine Eq.trans ?_ (congrArg (array m c) (place t y)).symm
  refine (congrArg (k0_pay1 (F := Ideal) (iblk m c 0 t) (iblk m c 1 t) (iblk m c 3 t) (iblk m c 2 t)) (ix2_eta y).symm).trans ?_
  exact (pay_at _ _ _ _ _ _).trans (computed m c t y)

/-- Every entry lies in the one block. -/
theorem place_back (i : S32x4096.Idx) : ∃ (t : Fin cfg0.N) (y : S32x4096.Idx), (View.emb ((cfg0.win 0).blk t).view y : S32x4096.Idx) = i :=
  ⟨⟨0, by decide⟩, i, place _ _⟩

theorem cover_4 (i : S32x4096.Idx) : ∃ t : Fin cfg0.N, (cfg0.win 4).flush t = true ∧ i ∈ ((cfg0.win 4).blk t).view.set := by
  obtain ⟨t, y, h⟩ := place_back i
  exact ⟨t, flush0_4 t, mem_of_emb _ h⟩

theorem cover_5 (i : S32x4096.Idx) : ∃ t : Fin cfg0.N, (cfg0.win 5).flush t = true ∧ i ∈ ((cfg0.win 5).blk t).view.set := by
  obtain ⟨t, y, h⟩ := place_back i
  exact ⟨t, flush0_5 t, mem_of_emb _ h⟩

theorem final_4 : (dats m 0 c).arrAt 4 cfg0.N = array m c :=
  (dats m 0 c).arrAt_eq_of_cover 4 (array m c) (fun t _ => flushed_4 m c t) cover_4

theorem final_5 : (dats m 0 c).arrAt 5 cfg0.N = array m c :=
  (dats m 0 c).arrAt_eq_of_cover 5 (array m c) (fun t _ => flushed_5 m c t) cover_5

section Reference

open Cert.Reference8Ideal.Read

theorem ref_at (x : S32x4096.Idx → EReal) (g : S4096.Idx → EReal) (b s : S1x32x4096.Idx → EReal) (i : Fin 32) (j : Fin 4096) :
    val_main_v18 (F := Ideal) x g b s (ix2 i j) = modulated (fun k => x (ix2 i k)) (g (ix1 j)) (s (ix3 0 i j)) (b (ix3 0 i j)) j := by
  unfold modulated normed
  pointwise [val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]

theorem array_eq : array m c = val_main_v18 (F := Ideal) (m ((c : Thread nD τ).loc main_arg0)) (m ((c : Thread nD τ).loc main_arg1))
    (m ((c : Thread nD τ).loc main_arg2)) (m ((c : Thread nD τ).loc main_arg3)) :=
  funext fun y => (ref_at _ _ _ _ _ _).symm.trans (congrArg _ (ix2_eta y))

end Reference

end Cert.Kernel8Ideal.ModulateSample

namespace Cert.Proof.ModulateSample

open Idealize.ShloMosaic Idealize.SL.Sem Cert.Kernel8Ideal.ModulateSample

attribute [local instance] Cert.Kernel8.Gen.facts Cert.Kernel8Ideal.Gen.facts Cert.Reference8Ideal.Gen.facts

theorem frame_kernel : Cert.quiescent_Kernel8 := fun m ρ _ => Cert.Kernel8.Gen.frame m ρ
theorem frame_ideal : Cert.quiescent_Kernel8Ideal := fun m ρ _ => Cert.Kernel8Ideal.Gen.frame m ρ

theorem frame_reference : Cert.quiescent_Reference8Ideal := fun m ρ _ =>
  (θ_run Cert.Reference8Ideal.defs _ _).mono
    (fun r h => ⟨fun c => (h c).2.2, Idealize.ShloMosaic.sem_eq_zero_of_no_sems (by decide) r.2⟩)
    (Cert.Reference8Ideal.Value.run (F := Ideal) m ρ)

/-- Over the extended reals both arrays are the reference's: the cast to bf16 changes no entry. -/
theorem algebraic : Cert.algebraic_Kernel8Ideal_Reference8Ideal := by
  intro m ρ m' ρ' _ hagree
  refine ⟨fun c => array m c, fun c => array m c, ?_, ?_⟩
  · exact (θ_run Cert.Kernel8Ideal.defs _ _).mono (fun _ h c => ⟨(h c).1.trans (final_4 m c), (h c).2.1.trans (final_5 m c), (h c).2.2⟩)
      (Cert.Kernel8Ideal.Value.run_blocks (F := Ideal) m ρ)
  · refine (θ_run Cert.Reference8Ideal.defs _ _).mono (fun _ h c => ⟨(h c).1.trans ?_, (h c).2.1.trans ?_, (h c).2.2⟩)
      (Cert.Reference8Ideal.Value.run (F := Ideal) m' ρ')
    · obtain ⟨e0, e1, e2, e3⟩ := hagree c
      refine (Cert.Reference8Ideal.Read.val_main_v19_eq (F := Ideal) _ _ _ _).trans ?_
      rw [e0, e1, e2, e3]
      exact (array_eq m c).symm
    · obtain ⟨e0, e1, e2, e3⟩ := hagree c
      refine (Cert.Reference8Ideal.Read.val_main_v18_eq (F := Ideal) _ _ _ _).trans ?_
      rw [e0, e1, e2, e3]
      exact (array_eq m c).symm

end Cert.Proof.ModulateSample

end
-- ==== Proof.LastNorm.lean ====
/-
  THE LAST NORM OF THE PROMPT: 16 blocks of 512 rows, each row normed on its own.
-/
module

public import proofs.«01_k».proof.Defs
public import proofs.«01_k».proof.Proof.Common
public import proofs.«01_k».proof.Proof.FirstRow
public import proofs.«01_k».proof.Proof.NormMath
public import proofs.«01_k».proof.Proof.Gen.Kernel9.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import Idealize.ShloMosaic.Lib.Claim
public import Idealize.ShloMosaic.Lib.Pointwise

@[expose] public section

set_option maxRecDepth 16384

noncomputable section

namespace Cert.Kernel9Ideal.LastNorm

open Cert.Kernel9Ideal Cert.Kernel9Ideal.Gen Idealize.ShloMosaic Idealize.ShloMosaic.TcCoe Idealize.SL.Sem
open Idealize.ShloMosaic.Pipeline (Dat)
open Idealize.ShloMosaic.Pointwise
open Cert.Proof.Common Cert.Proof.Norm
open Cert.Proof.FirstRow (mem_of_emb)

variable (m : (ℓ : Loc nD τ sig) → Buf (Elt Ideal) ℓ) (c : Dev nD)

theorem pay_at (x : Vec Ideal S512x4096 .f32) (g : Vec Ideal S1x4096 .f32) (i : Fin 512) (j : Fin 4096) :
    k0_pay1 (F := Ideal) x g (ix2 i j) = normed (fun k => x (ix2 i k)) (g (ix2 0 j)) j := by
  unfold normed
  pointwise [k0_pay1]

/-- The row of the array that row `y` of block `t` is. -/
abbrev row (t : Fin cfg0.N) : Fin 512 → Fin 8192 := Cert.Proof.Norm.row rfl t

theorem index_0 : ∀ t : Fin cfg0.N, win0_0.index t (0 : Fin 2) = t.val ∧ win0_0.index t (1 : Fin 2) = 0 :=
  (by decide +kernel : ∀ t : Fin grid0.N, _)

/-- Where row block `t` lies, of the input as of the output. -/
theorem place (t : Fin cfg0.N) (y : S512x4096.Idx) :
    (View.emb ((cfg0.win 2).blk t).view y : S8192x4096.Idx) = ix2 (row t (y 0)) (y 1) := by
  obtain ⟨h0, h1⟩ := index_0 t
  refine funext fun a => Fin.ext ?_
  match a with
  | ⟨0, _⟩ => show win0_0.index t 0 * 512 + 1 * (y 0).val = 512 * t.val + (y 0).val; rw [h0]; omega
  | ⟨1, _⟩ => show win0_0.index t 1 * 4096 + 1 * (y 1).val = (y 1).val; rw [h1]; omega

theorem read_x (t : Fin cfg0.N) (i : Fin 512) (j : Fin 4096) :
    (iblk m c 0 t : Vec Ideal S512x4096 .f32) (ix2 i j) = m ((c : Thread nD τ).loc main_arg0) (ix2 (row t i) j) := by
  unfold iblk
  rw [View.read_apply]
  exact (congrArg (V m c main_arg0) (place t (ix2 i j))).trans (congrFun (V_main_arg0 m c) _)

theorem read_g (t : Fin cfg0.N) (j : Fin 4096) :
    (iblk m c 1 t : Vec Ideal S1x4096 .f32) (ix2 0 j) = m ((c : Thread nD τ).loc main_arg1) (ix1 j) := by
  unfold iblk
  rw [View.read_apply]
  show V m c main_v0 _ = _
  have e : (View.emb ((cfg0.win 1).blk t).view (ix2 0 j) : S1x4096.Idx) = ix2 0 j := by
    refine funext fun a => Fin.ext ?_
    match a with
    | ⟨0, _⟩ => rfl
    | ⟨1, _⟩ => show 0 * 4096 + 1 * j.val = j.val; omega
  refine (congrArg (V m c main_v0) e).trans ?_
  entry_read
  pointwise []

/-- The normed array. -/
def array : S8192x4096.Idx → EReal := fun y =>
  normed (fun k => m ((c : Thread nD τ).loc main_arg0) (ix2 (y 0) k)) (m ((c : Thread nD τ).loc main_arg1) (ix1 (y 1))) (y 1)

theorem flushed (t : Fin cfg0.N) : (dats m 0 c).flushed 2 t = ((cfg0.win 2).blk t).view.read (Elt Ideal) (array m c) := by
  rw [Value.flushed2]
  unfold out0_2
  rw [View.canon_unit_zero zero2, View.ld_unit_zero zero2, View.ld_unit_zero zero2]
  funext y
  rw [View.read_apply]
  refine Eq.trans ?_ (congrArg (array m c) (place t y)).symm
  refine ((congrArg (k0_pay1 (F := Ideal) (iblk m c 0 t) (iblk m c 1 t)) (ix2_eta y).symm).trans (pay_at _ _ _ _)).trans ?_
  exact congrFun (congrArg₂ normed (funext fun k => read_x m c t (y 0) k) (read_g m c t (y 1))) (y 1)

theorem cover (i : S8192x4096.Idx) : ∃ t : Fin cfg0.N, (cfg0.win 2).flush t = true ∧ i ∈ ((cfg0.win 2).blk t).view.set := by
  obtain ⟨t, y, h⟩ := row_back (N := cfg0.N) rfl (i 0)
  refine ⟨t, flush0_2 t, mem_of_emb _ (y := (ix2 y (i 1) : S512x4096.Idx)) ((place t _).trans ?_)⟩
  exact (congrArg (fun r => (ix2 r (i 1) : S8192x4096.Idx)) h).trans (ix2_eta i)

theorem final_2 : (dats m 0 c).arrAt 2 cfg0.N = array m c :=
  (dats m 0 c).arrAt_eq_of_cover 2 (array m c) (fun t _ => flushed m c t) cover

section Reference

open Cert.Reference9Ideal.Read

theorem ref_at (x : S8192x4096.Idx → EReal) (g : S4096.Idx → EReal) (i : Fin 8192) (j : Fin 4096) :
    val_main_v12 (F := Ideal) x g (ix2 i j) = normed (fun k => x (ix2 i k)) (g (ix1 j)) j := by
  unfold normed
  pointwise [val_main_v12, val_main_v11, val_main_v10, val_main_v9, val_main_v8, val_main_v7, val_main_v6, val_main_v5, val_main_v4, val_main_v3, val_main_v2, val_main_v1, val_main_v0, val_main_cst, val_main_cst_0, val_main_cst_1]

theorem array_eq : array m c = val_main_v12 (F := Ideal) (m ((c : Thread nD τ).loc main_arg0)) (m ((c : Thread nD τ).loc main_arg1)) :=
  funext fun y => (ref_at _ _ _ _).symm.trans (congrArg _ (ix2_eta y))

end Reference

end Cert.Kernel9Ideal.LastNorm

namespace Cert.Proof.LastNorm

open Idealize.ShloMosaic Idealize.SL.Sem Cert.Kernel9Ideal.LastNorm

attribute [local instance] Cert.Kernel9.Gen.facts Cert.Kernel9Ideal.Gen.facts Cert.Reference9Ideal.Gen.facts

theorem frame_kernel : Cert.quiescent_Kernel9 := fun m ρ _ => Cert.Kernel9.Gen.frame m ρ
theorem frame_ideal : Cert.quiescent_Kernel9Ideal := fun m ρ _ => Cert.Kernel9Ideal.Gen.frame m ρ

theorem frame_reference : Cert.quiescent_Reference9Ideal := fun m ρ _ =>
  (θ_run Cert.Reference9Ideal.defs _ _).mono
    (fun r h => ⟨fun c => (h c).2, Idealize.ShloMosaic.sem_eq_zero_of_no_sems (by decide) r.2⟩)
    (Cert.Reference9Ideal.Value.run (F := Ideal) m ρ)

/-- Over the extended reals the normed rows are the reference's. -/
theorem algebraic : Cert.algebraic_Kernel9Ideal_Reference9Ideal := by
  intro m ρ m' ρ' _ hagree
  refine ⟨fun c => array m c, ?_, ?_⟩
  · exact (θ_run Cert.Kernel9Ideal.defs _ _).mono (fun _ h c => ⟨(h c).1.trans (final_2 m c), (h c).2⟩)
      (Cert.Kernel9Ideal.Value.run_blocks (F := Ideal) m ρ)
  · refine (θ_run Cert.Reference9Ideal.defs _ _).mono (fun _ h c => ⟨(h c).1.trans ?_, (h c).2⟩)
      (Cert.Reference9Ideal.Value.run (F := Ideal) m' ρ')
    · obtain ⟨e0, e1⟩ := hagree c
      refine (Cert.Reference9Ideal.Read.val_main_v12_eq (F := Ideal) _ _).trans ?_
      rw [e0, e1]
      exact (array_eq m c).symm

end Cert.Proof.LastNorm

end
-- ==== Proof.LastNormSample.lean ====
/-
  THE LAST NORM OF THE SAMPLE: one block of 32 rows.
-/
module

public import proofs.«01_k».proof.Defs
public import proofs.«01_k».proof.Proof.Common
public import proofs.«01_k».proof.Proof.FirstRow
public import proofs.«01_k».proof.Proof.NormMath
public import proofs.«01_k».proof.Proof.Gen.Kernel10.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import Idealize.ShloMosaic.Lib.Claim
public import Idealize.ShloMosaic.Lib.Pointwise

@[expose] public section

set_option maxRecDepth 16384

noncomputable section

namespace Cert.Kernel10Ideal.LastNormSample

open Cert.Kernel10Ideal Cert.Kernel10Ideal.Gen Idealize.ShloMosaic Idealize.ShloMosaic.TcCoe Idealize.SL.Sem
open Idealize.ShloMosaic.Pipeline (Dat)
open Idealize.ShloMosaic.Pointwise
open Cert.Proof.Common Cert.Proof.Norm
open Cert.Proof.FirstRow (mem_of_emb)

variable (m : (ℓ : Loc nD τ sig) → Buf (Elt Ideal) ℓ) (c : Dev nD)

theorem pay_at (x : Vec Ideal S32x4096 .f32) (g : Vec Ideal S1x4096 .f32) (i : Fin 32) (j : Fin 4096) :
    k0_pay1 (F := Ideal) x g (ix2 i j) = normed (fun k => x (ix2 i k)) (g (ix2 0 j)) j := by
  unfold normed
  pointwise [k0_pay1]

/-- The one block is the array. -/
theorem place (t : Fin cfg0.N) (y : S32x4096.Idx) : (View.emb ((cfg0.win 2).blk t).view y : S32x4096.Idx) = y := by
  have hi : ∀ t : Fin cfg0.N, win0_0.index t (0 : Fin 2) = 0 ∧ win0_0.index t (1 : Fin 2) = 0 := (by decide +kernel : ∀ t : Fin grid0.N, _)
  obtain ⟨h0, h1⟩ := hi t
  refine funext fun a => Fin.ext ?_
  match a with
  | ⟨0, _⟩ => show win0_0.index t 0 * 32 + 1 * (y 0).val = (y 0).val; rw [h0]; omega
  | ⟨1, _⟩ => show win0_0.index t 1 * 4096 + 1 * (y 1).val = (y 1).val; rw [h1]; omega

theorem read_x (t : Fin cfg0.N) (i : Fin 32) (j : Fin 4096) :
    (iblk m c 0 t : Vec Ideal S32x4096 .f32) (ix2 i j) = m ((c : Thread nD τ).loc main_arg0) (ix2 i j) := by
  unfold iblk
  rw [View.read_apply]
  exact (congrArg (V m c main_arg0) (place t (ix2 i j))).trans (congrFun (V_main_arg0 m c) _)

theorem read_g (t : Fin cfg0.N) (j : Fin 4096) :
    (iblk m c 1 t : Vec Ideal S1x4096 .f32) (ix2 0 j) = m ((c : Thread nD τ).loc main_arg1) (ix1 j) := by
  unfold iblk
  rw [View.read_apply]
  show V m c main_v0 _ = _
  have e : (View.emb ((cfg0.win 1).blk t).view (ix2 0 j) : S1x4096.Idx) = ix2 0 j := by
    refine funext fun a => Fin.ext ?_
    match a with
    | ⟨0, _⟩ => rfl
    | ⟨1, _⟩ => show 0 * 4096 + 1 * j.val = j.val; omega
  refine (congrArg (V m c main_v0) e).trans ?_
  entry_read
  pointwise []

/-- The normed array. -/
def array : S32x4096.Idx → EReal := fun y =>
  normed (fun k => m ((c : Thread nD τ).loc main_arg0) (ix2 (y 0) k)) (m ((c : Thread nD τ).loc main_arg1) (ix1 (y 1))) (y 1)

theorem flushed (t : Fin cfg0.N) : (dats m 0 c).flushed 2 t = ((cfg0.win 2).blk t).view.read (Elt Ideal) (array m c) := by
  rw [Value.flushed2]
  unfold out0_2
  rw [View.canon_unit_zero zero2, View.ld_unit_zero zero2, View.ld_unit_zero zero2]
  funext y
  rw [View.read_apply]
  refine Eq.trans ?_ (congrArg (array m c) (place t y)).symm
  refine ((congrArg (k0_pay1 (F := Ideal) (iblk m c 0 t) (iblk m c 1 t)) (ix2_eta y).symm).trans (pay_at _ _ _ _)).trans ?_
  exact congrFun (congrArg₂ normed (funext fun k => read_x m c t (y 0) k) (read_g m c t (y 1))) (y 1)

theorem cover (i : S32x4096.Idx) : ∃ t : Fin cfg0.N, (cfg0.win 2).flush t = true ∧ i ∈ ((cfg0.win 2).blk t).view.set := by
  exact ⟨⟨0, by decide⟩, flush0_2 _, mem_of_emb _ (place _ _)⟩

theorem final_2 : (dats m 0 c).arrAt 2 cfg0.N = array m c :=
  (dats m 0 c).arrAt_eq_of_cover 2 (array m c) (fun t _ => flushed m c t) cover

section Reference

open Cert.Reference10Ideal.Read

theorem ref_at (x : S32x4096.Idx → EReal) (g : S4096.Idx → EReal) (i : Fin 32) (j : Fin 4096) :
    val_main_v12 (F := Ideal) x g (ix2 i j) = normed (fun k => x (ix2 i k)) (g (ix1 j)) j := by
  unfold normed
  pointwise [val_main_v12, val_main_v11, val_main_v10, val_main_v9, val_main_v8, val_main_v7, val_main_v6, val_main_v5, val_main_v4, val_main_v3, val_main_v2, val_main_v1, val_main_v0, val_main_cst, val_main_cst_0, val_main_cst_1]

theorem array_eq : array m c = val_main_v12 (F := Ideal) (m ((c : Thread nD τ).loc main_arg0)) (m ((c : Thread nD τ).loc main_arg1)) :=
  funext fun y => (ref_at _ _ _ _).symm.trans (congrArg _ (ix2_eta y))

end Reference

end Cert.Kernel10Ideal.LastNormSample

namespace Cert.Proof.LastNormSample

open Idealize.ShloMosaic Idealize.SL.Sem Cert.Kernel10Ideal.LastNormSample

attribute [local instance] Cert.Kernel10.Gen.facts Cert.Kernel10Ideal.Gen.facts Cert.Reference10Ideal.Gen.facts

theorem frame_kernel : Cert.quiescent_Kernel10 := fun m ρ _ => Cert.Kernel10.Gen.frame m ρ
theorem frame_ideal : Cert.quiescent_Kernel10Ideal := fun m ρ _ => Cert.Kernel10Ideal.Gen.frame m ρ

theorem frame_reference : Cert.quiescent_Reference10Ideal := fun m ρ _ =>
  (θ_run Cert.Reference10Ideal.defs _ _).mono
    (fun r h => ⟨fun c => (h c).2, Idealize.ShloMosaic.sem_eq_zero_of_no_sems (by decide) r.2⟩)
    (Cert.Reference10Ideal.Value.run (F := Ideal) m ρ)

/-- Over the extended reals the normed rows are the reference's. -/
theorem algebraic : Cert.algebraic_Kernel10Ideal_Reference10Ideal := by
  intro m ρ m' ρ' _ hagree
  refine ⟨fun c => array m c, ?_, ?_⟩
  · exact (θ_run Cert.Kernel10Ideal.defs _ _).mono (fun _ h c => ⟨(h c).1.trans (final_2 m c), (h c).2⟩)
      (Cert.Kernel10Ideal.Value.run_blocks (F := Ideal) m ρ)
  · refine (θ_run Cert.Reference10Ideal.defs _ _).mono (fun _ h c => ⟨(h c).1.trans ?_, (h c).2⟩)
      (Cert.Reference10Ideal.Value.run (F := Ideal) m' ρ')
    · obtain ⟨e0, e1⟩ := hagree c
      refine (Cert.Reference10Ideal.Read.val_main_v12_eq (F := Ideal) _ _).trans ?_
      rw [e0, e1]
      exact (array_eq m c).symm

end Cert.Proof.LastNormSample

end
-- ==== Proof.lean ====
/-
  THE PROOF OF `Cert.Claim`: the claims of each program, proved in its own module, put together.
-/
module

public import proofs.«01_k».proof.Defs
public import proofs.«01_k».proof.Proof.Gen.Kernel
public import proofs.«01_k».proof.Proof.Gen.KernelIdeal
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.ScanClaims
public import proofs.«01_k».proof.Proof.UpClaims
public import proofs.«01_k».proof.Proof.DownClaims
public import proofs.«01_k».proof.Proof.ProjK
public import proofs.«01_k».proof.Proof.ProjV
public import proofs.«01_k».proof.Proof.ProjR
public import proofs.«01_k».proof.Proof.Lora
public import proofs.«01_k».proof.Proof.Prep
public import proofs.«01_k».proof.Proof.Ada
public import proofs.«01_k».proof.Proof.Out
public import proofs.«01_k».proof.Proof.Modulate
public import proofs.«01_k».proof.Proof.ModulateSample
public import proofs.«01_k».proof.Proof.LastNorm
public import proofs.«01_k».proof.Proof.LastNormSample
public import Idealize.ShloMosaic.Adequacy
public import Idealize.ShloMosaic.Init

@[expose] public section

noncomputable section

namespace Cert.Proof

open Idealize.ShloMosaic Idealize.SL.Sem

/-- Every claim of the certificate. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Scan.frame_kernel, Scan.frame_ideal, Scan.frame_reference,
    Up.frame_kernel, Up.frame_ideal, Up.frame_reference,
    Down.frame_kernel, Down.frame_ideal, Down.frame_reference,
    ProjV.frame_kernel, ProjV.frame_ideal, ProjV.frame_reference,
    ProjK.frame_kernel, ProjK.frame_ideal, ProjK.frame_reference,
    Out.frame_kernel, Out.frame_ideal, Out.frame_reference,
    Modulate.frame_kernel, Modulate.frame_ideal, Modulate.frame_reference,
    ModulateSample.frame_kernel, ModulateSample.frame_ideal, ModulateSample.frame_reference,
    LastNorm.frame_kernel, LastNorm.frame_ideal, LastNorm.frame_reference,
    LastNormSample.frame_kernel, LastNormSample.frame_ideal, LastNormSample.frame_reference,
    ProjR.frame_kernel, ProjR.frame_ideal, ProjR.frame_reference,
    Lora.frame_kernel, Lora.frame_ideal, Lora.frame_reference,
    Ada.frame_kernel, Ada.frame_ideal, Ada.frame_reference,
    Prep.frame_kernel, Prep.frame_ideal, Prep.frame_reference,
    trivial, Scan.algebraic,
    trivial, Up.algebraic,
    trivial, Down.algebraic,
    trivial, ProjV.algebraic,
    trivial, ProjK.algebraic,
    trivial, Out.algebraic,
    trivial, Modulate.algebraic,
    trivial, ModulateSample.algebraic,
    trivial, LastNorm.algebraic,
    trivial, LastNormSample.algebraic,
    trivial, ProjR.algebraic,
    trivial, Lora.algebraic,
    trivial, Ada.algebraic,
    trivial, Prep.algebraic⟩

end Cert.Proof

end
